-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = Layout.block ⟨2, ![512, 64]⟩ ⟨2, ![512, 2048]⟩ 1 32 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![64, 512]⟩ ⟨2, ![2048, 512]⟩ 0 32 c (m' (((0 : Dev Cert.ReferenceIdeal.nD).tc : Thread Cert.ReferenceIdeal.nD Cert.ReferenceIdeal.τ).loc Cert.ReferenceIdeal.main_arg8))) →
    ∃ (v0 : Buf (Elt Ideal) (((0 : Dev Cert.ReferenceIdeal.nD).tc : Thread Cert.ReferenceIdeal.nD Cert.ReferenceIdeal.τ).loc Cert.ReferenceIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v101) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S256x512 : Shape := ⟨2, ![256, 512]⟩
abbrev S2x128 : Shape := ⟨2, ![2, 128]⟩
abbrev S128x3072 : Shape := ⟨2, ![128, 3072]⟩
abbrev S512x64 : Shape := ⟨2, ![512, 64]⟩
abbrev S64x512 : Shape := ⟨2, ![64, 512]⟩
abbrev S512x512 : Shape := ⟨2, ![512, 512]⟩
abbrev S32x16x512 : Shape := ⟨3, ![32, 16, 512]⟩
abbrev S32 : Shape := ⟨1, ![32]⟩
abbrev S_ : Shape := ⟨0, ![]⟩
abbrev S2x3072 : Shape := ⟨2, ![2, 3072]⟩
abbrev S2x512 : Shape := ⟨2, ![2, 512]⟩
abbrev S2x256 : Shape := ⟨2, ![2, 256]⟩
abbrev S2x256x1 : Shape := ⟨3, ![2, 256, 1]⟩
abbrev S2x1x512 : Shape := ⟨3, ![2, 1, 512]⟩
abbrev S256x64 : Shape := ⟨2, ![256, 64]⟩
abbrev S64x256 : Shape := ⟨2, ![64, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x16x512 : Shape := ⟨3, ![1, 16, 512]⟩
abbrev S16x512 : Shape := ⟨2, ![16, 512]⟩
abbrev S8x16x512 : Shape := ⟨3, ![8, 16, 512]⟩
abbrev S128x512 : Shape := ⟨2, ![128, 512]⟩
abbrev S1x512 : Shape := ⟨2, ![1, 512]⟩
abbrev S128 : Shape := ⟨1, ![128]⟩
abbrev S128x1 : Shape := ⟨2, ![128, 1]⟩
abbrev S128x64 : Shape := ⟨2, ![128, 64]⟩
abbrev S1x128x512 : Shape := ⟨3, ![1, 128, 512]⟩

abbrev nBuf : Space → Nat
  | .hbm => 10
  | .vmem => 14
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S512x256, .bf16⟩
  | .hbm, ⟨3, _⟩ => ⟨S512x256, .bf16⟩
  | .hbm, ⟨4, _⟩ => ⟨S256x512, .bf16⟩
  | .hbm, ⟨5, _⟩ => ⟨S2x128, .bf16⟩
  | .hbm, ⟨6, _⟩ => ⟨S128x3072, .bf16⟩
  | .hbm, ⟨7, _⟩ => ⟨S512x64, .bf16⟩
  | .hbm, ⟨8, _⟩ => ⟨S64x512, .bf16⟩
  | .hbm, ⟨9, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S256x512, .bf16⟩
  | .local _ .vmem, ⟨5, _⟩ => ⟨S2x128, .bf16⟩
  | .local _ .vmem, ⟨6, _⟩ => ⟨S128x3072, .bf16⟩
  | .local _ .vmem, ⟨7, _⟩ => ⟨S512x64, .bf16⟩
  | .local _ .vmem, ⟨8, _⟩ => ⟨S64x512, .bf16⟩
  | .local _ .vmem, ⟨9, _⟩ => ⟨S2x256x512, .f32⟩
  | .local _ .vmem, ⟨10, _⟩ => ⟨S512x256, .f32⟩
  | .local _ .vmem, ⟨11, _⟩ => ⟨S512x512, .bf16⟩
  | .local _ .vmem, ⟨12, _⟩ => ⟨S512x512, .f32⟩
  | .local _ .vmem, ⟨13, _⟩ => ⟨S32x16x512, .bf16⟩
  | _, _ => ⟨S2x256x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 138 → Bool
  | ⟨i, _⟩ => dmaSemScopedAt i

abbrev sig : RefSig :=
  (ofTc nBuf bufTy 1 138 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_333 : BitVec 32 := 0#32
  let v567 : BitVec 1 := Scalar.cmpi .ne v2 c0_i32_333
  let v568 : BitVec 32 := Scalar.extui v567
  let c0_i32_334 : BitVec 32 := 0#32
  let v569 : BitVec 1 := Scalar.cmpi .ne v568 c0_i32_334
  v569

def k0_off1 (d0 : Dev nD) : Fin 1 → Nat :=
  let c0_i32_4482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c0_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off2 (d0 : Dev nD) : Fin 3 → Nat :=
  let c0_i32_4482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c0_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev32 : Nat :=
  let c0_i32_4491 : BitVec 32 := 0#32
  let c0_i32_4489 : BitVec 32 := 0#32
  let c1_i32_4490 : BitVec 32 := 1#32
  let v5964 : BitVec 32 := Scalar.muli c0_i32_4489 c1_i32_4490
  let v5965 : BitVec 32 := Scalar.addi c0_i32_4491 v5964
  v5965.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_335 : BitVec 32 := 1#32
  let v570 : BitVec 1 := Scalar.cmpi .ne v2 c1_i32_335
  let v571 : BitVec 32 := Scalar.extui v570
  let c0_i32_336 : BitVec 32 := 0#32
  let v572 : BitVec 1 := Scalar.cmpi .ne v571 c0_i32_336
  v572

def k0_off3 (d0 : Dev nD) : Fin 1 → Nat :=
  let c1_i32_4482 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c1_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off4 (d0 : Dev nD) : Fin 3 → Nat :=
  let c1_i32_4482 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c1_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev33 : Nat :=
  let c0_i32_4491 : BitVec 32 := 0#32
  let c1_i32_4489 : BitVec 32 := 1#32
  let c1_i32_4490 : BitVec 32 := 1#32
  let v5964 : BitVec 32 := Scalar.muli c1_i32_4489 c1_i32_4490
  let v5965 : BitVec 32 := Scalar.addi c0_i32_4491 v5964
  v5965.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_337 : BitVec 32 := 2#32
  let v573 : BitVec 1 := Scalar.cmpi .ne v2 c2_i32_337
  let v574 : BitVec 32 := Scalar.extui v573
  let c0_i32_338 : BitVec 32 := 0#32
  let v575 : BitVec 1 := Scalar.cmpi .ne v574 c0_i32_338
  v575

def k0_off5 (d0 : Dev nD) : Fin 1 → Nat :=
  let c2_i32_4482 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c2_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off6 (d0 : Dev nD) : Fin 3 → Nat :=
  let c2_i32_4482 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c2_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev34 : Nat :=
  let c0_i32_4491 : BitVec 32 := 0#32
  let c2_i32_4489 : BitVec 32 := 2#32
  let c1_i32_4490 : BitVec 32 := 1#32
  let v5964 : BitVec 32 := Scalar.muli c2_i32_4489 c1_i32_4490
  let v5965 : BitVec 32 := Scalar.addi c0_i32_4491 v5964
  v5965.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_339 : BitVec 32 := 3#32
  let v576 : BitVec 1 := Scalar.cmpi .ne v2 c3_i32_339
  let v577 : BitVec 32 := Scalar.extui v576
  let c0_i32_340 : BitVec 32 := 0#32
  let v578 : BitVec 1 := Scalar.cmpi .ne v577 c0_i32_340
  v578

def k0_off7 (d0 : Dev nD) : Fin 1 → Nat :=
  let c3_i32_4482 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c3_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off8 (d0 : Dev nD) : Fin 3 → Nat :=
  let c3_i32_4482 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c3_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev35 : Nat :=
  let c0_i32_4491 : BitVec 32 := 0#32
  let c3_i32_4489 : BitVec 32 := 3#32
  let c1_i32_4490 : BitVec 32 := 1#32
  let v5964 : BitVec 32 := Scalar.muli c3_i32_4489 c1_i32_4490
  let v5965 : BitVec 32 := Scalar.addi c0_i32_4491 v5964
  v5965.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_341 : BitVec 32 := 4#32
  let v579 : BitVec 1 := Scalar.cmpi .ne v2 c4_i32_341
  let v580 : BitVec 32 := Scalar.extui v579
  let c0_i32_342 : BitVec 32 := 0#32
  let v581 : BitVec 1 := Scalar.cmpi .ne v580 c0_i32_342
  v581

def k0_off9 (d0 : Dev nD) : Fin 1 → Nat :=
  let c4_i32_4482 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c4_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off10 (d0 : Dev nD) : Fin 3 → Nat :=
  let c4_i32_4482 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c4_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev36 : Nat :=
  let c0_i32_4491 : BitVec 32 := 0#32
  let c4_i32_4489 : BitVec 32 := 4#32
  let c1_i32_4490 : BitVec 32 := 1#32
  let v5964 : BitVec 32 := Scalar.muli c4_i32_4489 c1_i32_4490
  let v5965 : BitVec 32 := Scalar.addi c0_i32_4491 v5964
  v5965.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_343 : BitVec 32 := 5#32
  let v582 : BitVec 1 := Scalar.cmpi .ne v2 c5_i32_343
  let v583 : BitVec 32 := Scalar.extui v582
  let c0_i32_344 : BitVec 32 := 0#32
  let v584 : BitVec 1 := Scalar.cmpi .ne v583 c0_i32_344
  v584

def k0_off11 (d0 : Dev nD) : Fin 1 → Nat :=
  let c5_i32_4482 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c5_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off12 (d0 : Dev nD) : Fin 3 → Nat :=
  let c5_i32_4482 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c5_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev37 : Nat :=
  let c0_i32_4491 : BitVec 32 := 0#32
  let c5_i32_4489 : BitVec 32 := 5#32
  let c1_i32_4490 : BitVec 32 := 1#32
  let v5964 : BitVec 32 := Scalar.muli c5_i32_4489 c1_i32_4490
  let v5965 : BitVec 32 := Scalar.addi c0_i32_4491 v5964
  v5965.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_345 : BitVec 32 := 6#32
  let v585 : BitVec 1 := Scalar.cmpi .ne v2 c6_i32_345
  let v586 : BitVec 32 := Scalar.extui v585
  let c0_i32_346 : BitVec 32 := 0#32
  let v587 : BitVec 1 := Scalar.cmpi .ne v586 c0_i32_346
  v587

def k0_off13 (d0 : Dev nD) : Fin 1 → Nat :=
  let c6_i32_4482 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c6_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off14 (d0 : Dev nD) : Fin 3 → Nat :=
  let c6_i32_4482 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c6_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev38 : Nat :=
  let c0_i32_4491 : BitVec 32 := 0#32
  let c6_i32_4489 : BitVec 32 := 6#32
  let c1_i32_4490 : BitVec 32 := 1#32
  let v5964 : BitVec 32 := Scalar.muli c6_i32_4489 c1_i32_4490
  let v5965 : BitVec 32 := Scalar.addi c0_i32_4491 v5964
  v5965.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_347 : BitVec 32 := 7#32
  let v588 : BitVec 1 := Scalar.cmpi .ne v2 c7_i32_347
  let v589 : BitVec 32 := Scalar.extui v588
  let c0_i32_348 : BitVec 32 := 0#32
  let v590 : BitVec 1 := Scalar.cmpi .ne v589 c0_i32_348
  v590

def k0_off15 (d0 : Dev nD) : Fin 1 → Nat :=
  let c7_i32_4482 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c7_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off16 (d0 : Dev nD) : Fin 3 → Nat :=
  let c7_i32_4482 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c7_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev39 : Nat :=
  let c0_i32_4491 : BitVec 32 := 0#32
  let c7_i32_4489 : BitVec 32 := 7#32
  let c1_i32_4490 : BitVec 32 := 1#32
  let v5964 : BitVec 32 := Scalar.muli c7_i32_4489 c1_i32_4490
  let v5965 : BitVec 32 := Scalar.addi c0_i32_4491 v5964
  v5965.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_349 : BitVec 32 := 8#32
  let v591 : BitVec 1 := Scalar.cmpi .ne v2 c8_i32_349
  let v592 : BitVec 32 := Scalar.extui v591
  let c0_i32_350 : BitVec 32 := 0#32
  let v593 : BitVec 1 := Scalar.cmpi .ne v592 c0_i32_350
  v593

def k0_off17 (d0 : Dev nD) : Fin 1 → Nat :=
  let c8_i32_4482 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c8_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off18 (d0 : Dev nD) : Fin 3 → Nat :=
  let c8_i32_4482 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c8_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev40 : Nat :=
  let c0_i32_4491 : BitVec 32 := 0#32
  let c8_i32_4489 : BitVec 32 := 8#32
  let c1_i32_4490 : BitVec 32 := 1#32
  let v5964 : BitVec 32 := Scalar.muli c8_i32_4489 c1_i32_4490
  let v5965 : BitVec 32 := Scalar.addi c0_i32_4491 v5964
  v5965.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_351 : BitVec 32 := 9#32
  let v594 : BitVec 1 := Scalar.cmpi .ne v2 c9_i32_351
  let v595 : BitVec 32 := Scalar.extui v594
  let c0_i32_352 : BitVec 32 := 0#32
  let v596 : BitVec 1 := Scalar.cmpi .ne v595 c0_i32_352
  v596

def k0_off19 (d0 : Dev nD) : Fin 1 → Nat :=
  let c9_i32_4482 : BitVec 32 := 9#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c9_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off20 (d0 : Dev nD) : Fin 3 → Nat :=
  let c9_i32_4482 : BitVec 32 := 9#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c9_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev41 : Nat :=
  let c0_i32_4491 : BitVec 32 := 0#32
  let c9_i32_4489 : BitVec 32 := 9#32
  let c1_i32_4490 : BitVec 32 := 1#32
  let v5964 : BitVec 32 := Scalar.muli c9_i32_4489 c1_i32_4490
  let v5965 : BitVec 32 := Scalar.addi c0_i32_4491 v5964
  v5965.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_353 : BitVec 32 := 10#32
  let v597 : BitVec 1 := Scalar.cmpi .ne v2 c10_i32_353
  let v598 : BitVec 32 := Scalar.extui v597
  let c0_i32_354 : BitVec 32 := 0#32
  let v599 : BitVec 1 := Scalar.cmpi .ne v598 c0_i32_354
  v599

def k0_off21 (d0 : Dev nD) : Fin 1 → Nat :=
  let c10_i32_4482 : BitVec 32 := 10#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c10_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off22 (d0 : Dev nD) : Fin 3 → Nat :=
  let c10_i32_4482 : BitVec 32 := 10#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c10_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev42 : Nat :=
  let c0_i32_4491 : BitVec 32 := 0#32
  let c10_i32_4489 : BitVec 32 := 10#32
  let c1_i32_4490 : BitVec 32 := 1#32
  let v5964 : BitVec 32 := Scalar.muli c10_i32_4489 c1_i32_4490
  let v5965 : BitVec 32 := Scalar.addi c0_i32_4491 v5964
  v5965.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_355 : BitVec 32 := 11#32
  let v600 : BitVec 1 := Scalar.cmpi .ne v2 c11_i32_355
  let v601 : BitVec 32 := Scalar.extui v600
  let c0_i32_356 : BitVec 32 := 0#32
  let v602 : BitVec 1 := Scalar.cmpi .ne v601 c0_i32_356
  v602

def k0_off23 (d0 : Dev nD) : Fin 1 → Nat :=
  let c11_i32_4482 : BitVec 32 := 11#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c11_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off24 (d0 : Dev nD) : Fin 3 → Nat :=
  let c11_i32_4482 : BitVec 32 := 11#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c11_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev43 : Nat :=
  let c0_i32_4491 : BitVec 32 := 0#32
  let c11_i32_4489 : BitVec 32 := 11#32
  let c1_i32_4490 : BitVec 32 := 1#32
  let v5964 : BitVec 32 := Scalar.muli c11_i32_4489 c1_i32_4490
  let v5965 : BitVec 32 := Scalar.addi c0_i32_4491 v5964
  v5965.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_357 : BitVec 32 := 12#32
  let v603 : BitVec 1 := Scalar.cmpi .ne v2 c12_i32_357
  let v604 : BitVec 32 := Scalar.extui v603
  let c0_i32_358 : BitVec 32 := 0#32
  let v605 : BitVec 1 := Scalar.cmpi .ne v604 c0_i32_358
  v605

def k0_off25 (d0 : Dev nD) : Fin 1 → Nat :=
  let c12_i32_4482 : BitVec 32 := 12#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c12_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off26 (d0 : Dev nD) : Fin 3 → Nat :=
  let c12_i32_4482 : BitVec 32 := 12#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c12_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev44 : Nat :=
  let c0_i32_4491 : BitVec 32 := 0#32
  let c12_i32_4489 : BitVec 32 := 12#32
  let c1_i32_4490 : BitVec 32 := 1#32
  let v5964 : BitVec 32 := Scalar.muli c12_i32_4489 c1_i32_4490
  let v5965 : BitVec 32 := Scalar.addi c0_i32_4491 v5964
  v5965.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_359 : BitVec 32 := 13#32
  let v606 : BitVec 1 := Scalar.cmpi .ne v2 c13_i32_359
  let v607 : BitVec 32 := Scalar.extui v606
  let c0_i32_360 : BitVec 32 := 0#32
  let v608 : BitVec 1 := Scalar.cmpi .ne v607 c0_i32_360
  v608

def k0_off27 (d0 : Dev nD) : Fin 1 → Nat :=
  let c13_i32_4482 : BitVec 32 := 13#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c13_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off28 (d0 : Dev nD) : Fin 3 → Nat :=
  let c13_i32_4482 : BitVec 32 := 13#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c13_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev45 : Nat :=
  let c0_i32_4491 : BitVec 32 := 0#32
  let c13_i32_4489 : BitVec 32 := 13#32
  let c1_i32_4490 : BitVec 32 := 1#32
  let v5964 : BitVec 32 := Scalar.muli c13_i32_4489 c1_i32_4490
  let v5965 : BitVec 32 := Scalar.addi c0_i32_4491 v5964
  v5965.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_361 : BitVec 32 := 14#32
  let v609 : BitVec 1 := Scalar.cmpi .ne v2 c14_i32_361
  let v610 : BitVec 32 := Scalar.extui v609
  let c0_i32_362 : BitVec 32 := 0#32
  let v611 : BitVec 1 := Scalar.cmpi .ne v610 c0_i32_362
  v611

def k0_off29 (d0 : Dev nD) : Fin 1 → Nat :=
  let c14_i32_4482 : BitVec 32 := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c14_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off30 (d0 : Dev nD) : Fin 3 → Nat :=
  let c14_i32_4482 : BitVec 32 := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c14_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev46 : Nat :=
  let c0_i32_4491 : BitVec 32 := 0#32
  let c14_i32_4489 : BitVec 32 := 14#32
  let c1_i32_4490 : BitVec 32 := 1#32
  let v5964 : BitVec 32 := Scalar.muli c14_i32_4489 c1_i32_4490
  let v5965 : BitVec 32 := Scalar.addi c0_i32_4491 v5964
  v5965.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_363 : BitVec 32 := 15#32
  let v612 : BitVec 1 := Scalar.cmpi .ne v2 c15_i32_363
  let v613 : BitVec 32 := Scalar.extui v612
  let c0_i32_364 : BitVec 32 := 0#32
  let v614 : BitVec 1 := Scalar.cmpi .ne v613 c0_i32_364
  v614

def k0_off31 (d0 : Dev nD) : Fin 1 → Nat :=
  let c15_i32_4482 : BitVec 32 := 15#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c15_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off32 (d0 : Dev nD) : Fin 3 → Nat :=
  let c15_i32_4482 : BitVec 32 := 15#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c15_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev47 : Nat :=
  let c0_i32_4491 : BitVec 32 := 0#32
  let c15_i32_4489 : BitVec 32 := 15#32
  let c1_i32_4490 : BitVec 32 := 1#32
  let v5964 : BitVec 32 := Scalar.muli c15_i32_4489 c1_i32_4490
  let v5965 : BitVec 32 := Scalar.addi c0_i32_4491 v5964
  v5965.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_397 : BitVec 32 := 16#32
  let v718 : BitVec 1 := Scalar.cmpi .ne v2 c16_i32_397
  let v719 : BitVec 32 := Scalar.extui v718
  let c0_i32_398 : BitVec 32 := 0#32
  let v720 : BitVec 1 := Scalar.cmpi .ne v719 c0_i32_398
  v720

def k0_off33 (d0 : Dev nD) : Fin 1 → Nat :=
  let c16_i32_4482 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c16_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off34 (d0 : Dev nD) : Fin 3 → Nat :=
  let c16_i32_4482 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c16_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev48 : Nat :=
  let c0_i32_4491 : BitVec 32 := 0#32
  let c16_i32_4489 : BitVec 32 := 16#32
  let c1_i32_4490 : BitVec 32 := 1#32
  let v5964 : BitVec 32 := Scalar.muli c16_i32_4489 c1_i32_4490
  let v5965 : BitVec 32 := Scalar.addi c0_i32_4491 v5964
  v5965.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_399 : BitVec 32 := 17#32
  let v721 : BitVec 1 := Scalar.cmpi .ne v2 c17_i32_399
  let v722 : BitVec 32 := Scalar.extui v721
  let c0_i32_400 : BitVec 32 := 0#32
  let v723 : BitVec 1 := Scalar.cmpi .ne v722 c0_i32_400
  v723

def k0_off35 (d0 : Dev nD) : Fin 1 → Nat :=
  let c17_i32_4482 : BitVec 32 := 17#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c17_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off36 (d0 : Dev nD) : Fin 3 → Nat :=
  let c17_i32_4482 : BitVec 32 := 17#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c17_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev49 : Nat :=
  let c0_i32_4491 : BitVec 32 := 0#32
  let c17_i32_4489 : BitVec 32 := 17#32
  let c1_i32_4490 : BitVec 32 := 1#32
  let v5964 : BitVec 32 := Scalar.muli c17_i32_4489 c1_i32_4490
  let v5965 : BitVec 32 := Scalar.addi c0_i32_4491 v5964
  v5965.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_401 : BitVec 32 := 18#32
  let v724 : BitVec 1 := Scalar.cmpi .ne v2 c18_i32_401
  let v725 : BitVec 32 := Scalar.extui v724
  let c0_i32_402 : BitVec 32 := 0#32
  let v726 : BitVec 1 := Scalar.cmpi .ne v725 c0_i32_402
  v726

def k0_off37 (d0 : Dev nD) : Fin 1 → Nat :=
  let c18_i32_4482 : BitVec 32 := 18#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c18_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off38 (d0 : Dev nD) : Fin 3 → Nat :=
  let c18_i32_4482 : BitVec 32 := 18#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c18_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev50 : Nat :=
  let c0_i32_4491 : BitVec 32 := 0#32
  let c18_i32_4489 : BitVec 32 := 18#32
  let c1_i32_4490 : BitVec 32 := 1#32
  let v5964 : BitVec 32 := Scalar.muli c18_i32_4489 c1_i32_4490
  let v5965 : BitVec 32 := Scalar.addi c0_i32_4491 v5964
  v5965.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_403 : BitVec 32 := 19#32
  let v727 : BitVec 1 := Scalar.cmpi .ne v2 c19_i32_403
  let v728 : BitVec 32 := Scalar.extui v727
  let c0_i32_404 : BitVec 32 := 0#32
  let v729 : BitVec 1 := Scalar.cmpi .ne v728 c0_i32_404
  v729

def k0_off39 (d0 : Dev nD) : Fin 1 → Nat :=
  let c19_i32_4482 : BitVec 32 := 19#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c19_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off40 (d0 : Dev nD) : Fin 3 → Nat :=
  let c19_i32_4482 : BitVec 32 := 19#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c19_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev51 : Nat :=
  let c0_i32_4491 : BitVec 32 := 0#32
  let c19_i32_4489 : BitVec 32 := 19#32
  let c1_i32_4490 : BitVec 32 := 1#32
  let v5964 : BitVec 32 := Scalar.muli c19_i32_4489 c1_i32_4490
  let v5965 : BitVec 32 := Scalar.addi c0_i32_4491 v5964
  v5965.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_405 : BitVec 32 := 20#32
  let v730 : BitVec 1 := Scalar.cmpi .ne v2 c20_i32_405
  let v731 : BitVec 32 := Scalar.extui v730
  let c0_i32_406 : BitVec 32 := 0#32
  let v732 : BitVec 1 := Scalar.cmpi .ne v731 c0_i32_406
  v732

def k0_off41 (d0 : Dev nD) : Fin 1 → Nat :=
  let c20_i32_4482 : BitVec 32 := 20#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c20_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off42 (d0 : Dev nD) : Fin 3 → Nat :=
  let c20_i32_4482 : BitVec 32 := 20#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c20_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev52 : Nat :=
  let c0_i32_4491 : BitVec 32 := 0#32
  let c20_i32_4489 : BitVec 32 := 20#32
  let c1_i32_4490 : BitVec 32 := 1#32
  let v5964 : BitVec 32 := Scalar.muli c20_i32_4489 c1_i32_4490
  let v5965 : BitVec 32 := Scalar.addi c0_i32_4491 v5964
  v5965.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_407 : BitVec 32 := 21#32
  let v733 : BitVec 1 := Scalar.cmpi .ne v2 c21_i32_407
  let v734 : BitVec 32 := Scalar.extui v733
  let c0_i32_408 : BitVec 32 := 0#32
  let v735 : BitVec 1 := Scalar.cmpi .ne v734 c0_i32_408
  v735

def k0_off43 (d0 : Dev nD) : Fin 1 → Nat :=
  let c21_i32_4482 : BitVec 32 := 21#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c21_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off44 (d0 : Dev nD) : Fin 3 → Nat :=
  let c21_i32_4482 : BitVec 32 := 21#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c21_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev53 : Nat :=
  let c0_i32_4491 : BitVec 32 := 0#32
  let c21_i32_4489 : BitVec 32 := 21#32
  let c1_i32_4490 : BitVec 32 := 1#32
  let v5964 : BitVec 32 := Scalar.muli c21_i32_4489 c1_i32_4490
  let v5965 : BitVec 32 := Scalar.addi c0_i32_4491 v5964
  v5965.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_409 : BitVec 32 := 22#32
  let v736 : BitVec 1 := Scalar.cmpi .ne v2 c22_i32_409
  let v737 : BitVec 32 := Scalar.extui v736
  let c0_i32_410 : BitVec 32 := 0#32
  let v738 : BitVec 1 := Scalar.cmpi .ne v737 c0_i32_410
  v738

def k0_off45 (d0 : Dev nD) : Fin 1 → Nat :=
  let c22_i32_4482 : BitVec 32 := 22#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c22_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off46 (d0 : Dev nD) : Fin 3 → Nat :=
  let c22_i32_4482 : BitVec 32 := 22#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c22_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev54 : Nat :=
  let c0_i32_4491 : BitVec 32 := 0#32
  let c22_i32_4489 : BitVec 32 := 22#32
  let c1_i32_4490 : BitVec 32 := 1#32
  let v5964 : BitVec 32 := Scalar.muli c22_i32_4489 c1_i32_4490
  let v5965 : BitVec 32 := Scalar.addi c0_i32_4491 v5964
  v5965.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_411 : BitVec 32 := 23#32
  let v739 : BitVec 1 := Scalar.cmpi .ne v2 c23_i32_411
  let v740 : BitVec 32 := Scalar.extui v739
  let c0_i32_412 : BitVec 32 := 0#32
  let v741 : BitVec 1 := Scalar.cmpi .ne v740 c0_i32_412
  v741

def k0_off47 (d0 : Dev nD) : Fin 1 → Nat :=
  let c23_i32_4482 : BitVec 32 := 23#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c23_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off48 (d0 : Dev nD) : Fin 3 → Nat :=
  let c23_i32_4482 : BitVec 32 := 23#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c23_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev55 : Nat :=
  let c0_i32_4491 : BitVec 32 := 0#32
  let c23_i32_4489 : BitVec 32 := 23#32
  let c1_i32_4490 : BitVec 32 := 1#32
  let v5964 : BitVec 32 := Scalar.muli c23_i32_4489 c1_i32_4490
  let v5965 : BitVec 32 := Scalar.addi c0_i32_4491 v5964
  v5965.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_413 : BitVec 32 := 24#32
  let v742 : BitVec 1 := Scalar.cmpi .ne v2 c24_i32_413
  let v743 : BitVec 32 := Scalar.extui v742
  let c0_i32_414 : BitVec 32 := 0#32
  let v744 : BitVec 1 := Scalar.cmpi .ne v743 c0_i32_414
  v744

def k0_off49 (d0 : Dev nD) : Fin 1 → Nat :=
  let c24_i32_4482 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c24_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off50 (d0 : Dev nD) : Fin 3 → Nat :=
  let c24_i32_4482 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c24_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev56 : Nat :=
  let c0_i32_4491 : BitVec 32 := 0#32
  let c24_i32_4489 : BitVec 32 := 24#32
  let c1_i32_4490 : BitVec 32 := 1#32
  let v5964 : BitVec 32 := Scalar.muli c24_i32_4489 c1_i32_4490
  let v5965 : BitVec 32 := Scalar.addi c0_i32_4491 v5964
  v5965.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_415 : BitVec 32 := 25#32
  let v745 : BitVec 1 := Scalar.cmpi .ne v2 c25_i32_415
  let v746 : BitVec 32 := Scalar.extui v745
  let c0_i32_416 : BitVec 32 := 0#32
  let v747 : BitVec 1 := Scalar.cmpi .ne v746 c0_i32_416
  v747

def k0_off51 (d0 : Dev nD) : Fin 1 → Nat :=
  let c25_i32_4482 : BitVec 32 := 25#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c25_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off52 (d0 : Dev nD) : Fin 3 → Nat :=
  let c25_i32_4482 : BitVec 32 := 25#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c25_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev57 : Nat :=
  let c0_i32_4491 : BitVec 32 := 0#32
  let c25_i32_4489 : BitVec 32 := 25#32
  let c1_i32_4490 : BitVec 32 := 1#32
  let v5964 : BitVec 32 := Scalar.muli c25_i32_4489 c1_i32_4490
  let v5965 : BitVec 32 := Scalar.addi c0_i32_4491 v5964
  v5965.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_417 : BitVec 32 := 26#32
  let v748 : BitVec 1 := Scalar.cmpi .ne v2 c26_i32_417
  let v749 : BitVec 32 := Scalar.extui v748
  let c0_i32_418 : BitVec 32 := 0#32
  let v750 : BitVec 1 := Scalar.cmpi .ne v749 c0_i32_418
  v750

def k0_off53 (d0 : Dev nD) : Fin 1 → Nat :=
  let c26_i32_4482 : BitVec 32 := 26#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c26_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off54 (d0 : Dev nD) : Fin 3 → Nat :=
  let c26_i32_4482 : BitVec 32 := 26#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c26_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev58 : Nat :=
  let c0_i32_4491 : BitVec 32 := 0#32
  let c26_i32_4489 : BitVec 32 := 26#32
  let c1_i32_4490 : BitVec 32 := 1#32
  let v5964 : BitVec 32 := Scalar.muli c26_i32_4489 c1_i32_4490
  let v5965 : BitVec 32 := Scalar.addi c0_i32_4491 v5964
  v5965.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_419 : BitVec 32 := 27#32
  let v751 : BitVec 1 := Scalar.cmpi .ne v2 c27_i32_419
  let v752 : BitVec 32 := Scalar.extui v751
  let c0_i32_420 : BitVec 32 := 0#32
  let v753 : BitVec 1 := Scalar.cmpi .ne v752 c0_i32_420
  v753

def k0_off55 (d0 : Dev nD) : Fin 1 → Nat :=
  let c27_i32_4482 : BitVec 32 := 27#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c27_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off56 (d0 : Dev nD) : Fin 3 → Nat :=
  let c27_i32_4482 : BitVec 32 := 27#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c27_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev59 : Nat :=
  let c0_i32_4491 : BitVec 32 := 0#32
  let c27_i32_4489 : BitVec 32 := 27#32
  let c1_i32_4490 : BitVec 32 := 1#32
  let v5964 : BitVec 32 := Scalar.muli c27_i32_4489 c1_i32_4490
  let v5965 : BitVec 32 := Scalar.addi c0_i32_4491 v5964
  v5965.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_421 : BitVec 32 := 28#32
  let v754 : BitVec 1 := Scalar.cmpi .ne v2 c28_i32_421
  let v755 : BitVec 32 := Scalar.extui v754
  let c0_i32_422 : BitVec 32 := 0#32
  let v756 : BitVec 1 := Scalar.cmpi .ne v755 c0_i32_422
  v756

def k0_off57 (d0 : Dev nD) : Fin 1 → Nat :=
  let c28_i32_4482 : BitVec 32 := 28#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c28_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off58 (d0 : Dev nD) : Fin 3 → Nat :=
  let c28_i32_4482 : BitVec 32 := 28#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c28_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev60 : Nat :=
  let c0_i32_4491 : BitVec 32 := 0#32
  let c28_i32_4489 : BitVec 32 := 28#32
  let c1_i32_4490 : BitVec 32 := 1#32
  let v5964 : BitVec 32 := Scalar.muli c28_i32_4489 c1_i32_4490
  let v5965 : BitVec 32 := Scalar.addi c0_i32_4491 v5964
  v5965.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_423 : BitVec 32 := 29#32
  let v757 : BitVec 1 := Scalar.cmpi .ne v2 c29_i32_423
  let v758 : BitVec 32 := Scalar.extui v757
  let c0_i32_424 : BitVec 32 := 0#32
  let v759 : BitVec 1 := Scalar.cmpi .ne v758 c0_i32_424
  v759

def k0_off59 (d0 : Dev nD) : Fin 1 → Nat :=
  let c29_i32_4482 : BitVec 32 := 29#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c29_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off60 (d0 : Dev nD) : Fin 3 → Nat :=
  let c29_i32_4482 : BitVec 32 := 29#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c29_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev61 : Nat :=
  let c0_i32_4491 : BitVec 32 := 0#32
  let c29_i32_4489 : BitVec 32 := 29#32
  let c1_i32_4490 : BitVec 32 := 1#32
  let v5964 : BitVec 32 := Scalar.muli c29_i32_4489 c1_i32_4490
  let v5965 : BitVec 32 := Scalar.addi c0_i32_4491 v5964
  v5965.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_425 : BitVec 32 := 30#32
  let v760 : BitVec 1 := Scalar.cmpi .ne v2 c30_i32_425
  let v761 : BitVec 32 := Scalar.extui v760
  let c0_i32_426 : BitVec 32 := 0#32
  let v762 : BitVec 1 := Scalar.cmpi .ne v761 c0_i32_426
  v762

def k0_off61 (d0 : Dev nD) : Fin 1 → Nat :=
  let c30_i32_4482 : BitVec 32 := 30#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c30_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off62 (d0 : Dev nD) : Fin 3 → Nat :=
  let c30_i32_4482 : BitVec 32 := 30#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c30_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev62 : Nat :=
  let c0_i32_4491 : BitVec 32 := 0#32
  let c30_i32_4489 : BitVec 32 := 30#32
  let c1_i32_4490 : BitVec 32 := 1#32
  let v5964 : BitVec 32 := Scalar.muli c30_i32_4489 c1_i32_4490
  let v5965 : BitVec 32 := Scalar.addi c0_i32_4491 v5964
  v5965.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_427 : BitVec 32 := 31#32
  let v763 : BitVec 1 := Scalar.cmpi .ne v2 c31_i32_427
  let v764 : BitVec 32 := Scalar.extui v763
  let c0_i32_428 : BitVec 32 := 0#32
  let v765 : BitVec 1 := Scalar.cmpi .ne v764 c0_i32_428
  v765

def k0_off63 (d0 : Dev nD) : Fin 1 → Nat :=
  let c31_i32_4482 : BitVec 32 := 31#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c31_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off64 (d0 : Dev nD) : Fin 3 → Nat :=
  let c31_i32_4482 : BitVec 32 := 31#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c31_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev63 : Nat :=
  let c0_i32_4491 : BitVec 32 := 0#32
  let c31_i32_4489 : BitVec 32 := 31#32
  let c1_i32_4490 : BitVec 32 := 1#32
  let v5964 : BitVec 32 := Scalar.muli c31_i32_4489 c1_i32_4490
  let v5965 : BitVec 32 := Scalar.addi c0_i32_4491 v5964
  v5965.toNat
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_429 : BitVec 32 := 16#32
  let v766 : BitVec 32 := Scalar.muli v2 c16_i32_429
  let v767 : Index := Scalar.indexCast v766
  let c0_430 : Index := 0#32
  ![v767.toNat, 0]
def k0_off66 (d0 : Dev nD) (c1_i32_434 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v772 : BitVec 32 := Scalar.addi v2 c1_i32_434
  let c32_i32_435 : BitVec 32 := 32#32
  let c0_i32_436 : BitVec 32 := 0#32
  let v773 : BitVec 1 := Scalar.cmpi .eq c32_i32_435 c0_i32_436
  let c1_i32_437 : BitVec 32 := 1#32
  let v774 : BitVec 32 := Scalar.select v773 c1_i32_437 c32_i32_435
  let v775 : BitVec 32 := Scalar.remsi v772 v774
  let c0_i32_439 : BitVec 32 := 0#32
  let v777 : BitVec 1 := Scalar.cmpi .slt v775 c0_i32_439
  let c0_i32_440 : BitVec 32 := 0#32
  let v778 : BitVec 1 := Scalar.cmpi .slt v774 c0_i32_440
  let v779 : BitVec 1 := Scalar.xori v777 v778
  let c0_i32_438 : BitVec 32 := 0#32
  let v776 : BitVec 1 := Scalar.cmpi .ne v775 c0_i32_438
  let v780 : BitVec 1 := Scalar.andi v779 v776
  let v781 : BitVec 32 := Scalar.addi v775 v774
  let v782 : BitVec 32 := Scalar.select v780 v781 v775
  let c16_i32_441 : BitVec 32 := 16#32
  let v783 : BitVec 32 := Scalar.muli v782 c16_i32_441
  let c0_i32_449 : BitVec 32 := 0#32
  ![v783.toNat, 0]
def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_953 : BitVec 32 := 16#32
  let v1394 : BitVec 32 := Scalar.muli v2 c16_i32_953
  let c0_i32_958 : BitVec 32 := 0#32
  ![v1394.toNat, 0]
def k0_dev64 (d0 : Dev nD) : Nat :=
  let c0_i32_957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_945 : BitVec 32 := 1#32
  let v1382 : BitVec 32 := Scalar.addi v2 c1_i32_945
  let c32_i32_946 : BitVec 32 := 32#32
  let c0_i32_947 : BitVec 32 := 0#32
  let v1383 : BitVec 1 := Scalar.cmpi .eq c32_i32_946 c0_i32_947
  let c1_i32_948 : BitVec 32 := 1#32
  let v1384 : BitVec 32 := Scalar.select v1383 c1_i32_948 c32_i32_946
  let v1385 : BitVec 32 := Scalar.remsi v1382 v1384
  let c0_i32_950 : BitVec 32 := 0#32
  let v1387 : BitVec 1 := Scalar.cmpi .slt v1385 c0_i32_950
  let c0_i32_951 : BitVec 32 := 0#32
  let v1388 : BitVec 1 := Scalar.cmpi .slt v1384 c0_i32_951
  let v1389 : BitVec 1 := Scalar.xori v1387 v1388
  let c0_i32_949 : BitVec 32 := 0#32
  let v1386 : BitVec 1 := Scalar.cmpi .ne v1385 c0_i32_949
  let v1390 : BitVec 1 := Scalar.andi v1389 v1386
  let v1391 : BitVec 32 := Scalar.addi v1385 v1384
  let v1392 : BitVec 32 := Scalar.select v1390 v1391 v1385
  let c1_i32_956 : BitVec 32 := 1#32
  let v1395 : BitVec 32 := Scalar.muli v1392 c1_i32_956
  let v1396 : BitVec 32 := Scalar.addi c0_i32_957 v1395
  v1396.toNat
def k0_dev65 (d0 : Dev nD) : Nat :=
  let c0_i32_972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_960 : BitVec 32 := 2#32
  let v1403 : BitVec 32 := Scalar.addi v2 c2_i32_960
  let c32_i32_961 : BitVec 32 := 32#32
  let c0_i32_962 : BitVec 32 := 0#32
  let v1404 : BitVec 1 := Scalar.cmpi .eq c32_i32_961 c0_i32_962
  let c1_i32_963 : BitVec 32 := 1#32
  let v1405 : BitVec 32 := Scalar.select v1404 c1_i32_963 c32_i32_961
  let v1406 : BitVec 32 := Scalar.remsi v1403 v1405
  let c0_i32_965 : BitVec 32 := 0#32
  let v1408 : BitVec 1 := Scalar.cmpi .slt v1406 c0_i32_965
  let c0_i32_966 : BitVec 32 := 0#32
  let v1409 : BitVec 1 := Scalar.cmpi .slt v1405 c0_i32_966
  let v1410 : BitVec 1 := Scalar.xori v1408 v1409
  let c0_i32_964 : BitVec 32 := 0#32
  let v1407 : BitVec 1 := Scalar.cmpi .ne v1406 c0_i32_964
  let v1411 : BitVec 1 := Scalar.andi v1410 v1407
  let v1412 : BitVec 32 := Scalar.addi v1406 v1405
  let v1413 : BitVec 32 := Scalar.select v1411 v1412 v1406
  let c1_i32_971 : BitVec 32 := 1#32
  let v1416 : BitVec 32 := Scalar.muli v1413 c1_i32_971
  let v1417 : BitVec 32 := Scalar.addi c0_i32_972 v1416
  v1417.toNat
def k0_dev66 (d0 : Dev nD) : Nat :=
  let c0_i32_987 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_975 : BitVec 32 := 3#32
  let v1424 : BitVec 32 := Scalar.addi v2 c3_i32_975
  let c32_i32_976 : BitVec 32 := 32#32
  let c0_i32_977 : BitVec 32 := 0#32
  let v1425 : BitVec 1 := Scalar.cmpi .eq c32_i32_976 c0_i32_977
  let c1_i32_978 : BitVec 32 := 1#32
  let v1426 : BitVec 32 := Scalar.select v1425 c1_i32_978 c32_i32_976
  let v1427 : BitVec 32 := Scalar.remsi v1424 v1426
  let c0_i32_980 : BitVec 32 := 0#32
  let v1429 : BitVec 1 := Scalar.cmpi .slt v1427 c0_i32_980
  let c0_i32_981 : BitVec 32 := 0#32
  let v1430 : BitVec 1 := Scalar.cmpi .slt v1426 c0_i32_981
  let v1431 : BitVec 1 := Scalar.xori v1429 v1430
  let c0_i32_979 : BitVec 32 := 0#32
  let v1428 : BitVec 1 := Scalar.cmpi .ne v1427 c0_i32_979
  let v1432 : BitVec 1 := Scalar.andi v1431 v1428
  let v1433 : BitVec 32 := Scalar.addi v1427 v1426
  let v1434 : BitVec 32 := Scalar.select v1432 v1433 v1427
  let c1_i32_986 : BitVec 32 := 1#32
  let v1437 : BitVec 32 := Scalar.muli v1434 c1_i32_986
  let v1438 : BitVec 32 := Scalar.addi c0_i32_987 v1437
  v1438.toNat
def k0_dev67 (d0 : Dev nD) : Nat :=
  let c0_i32_1002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_990 : BitVec 32 := 4#32
  let v1445 : BitVec 32 := Scalar.addi v2 c4_i32_990
  let c32_i32_991 : BitVec 32 := 32#32
  let c0_i32_992 : BitVec 32 := 0#32
  let v1446 : BitVec 1 := Scalar.cmpi .eq c32_i32_991 c0_i32_992
  let c1_i32_993 : BitVec 32 := 1#32
  let v1447 : BitVec 32 := Scalar.select v1446 c1_i32_993 c32_i32_991
  let v1448 : BitVec 32 := Scalar.remsi v1445 v1447
  let c0_i32_995 : BitVec 32 := 0#32
  let v1450 : BitVec 1 := Scalar.cmpi .slt v1448 c0_i32_995
  let c0_i32_996 : BitVec 32 := 0#32
  let v1451 : BitVec 1 := Scalar.cmpi .slt v1447 c0_i32_996
  let v1452 : BitVec 1 := Scalar.xori v1450 v1451
  let c0_i32_994 : BitVec 32 := 0#32
  let v1449 : BitVec 1 := Scalar.cmpi .ne v1448 c0_i32_994
  let v1453 : BitVec 1 := Scalar.andi v1452 v1449
  let v1454 : BitVec 32 := Scalar.addi v1448 v1447
  let v1455 : BitVec 32 := Scalar.select v1453 v1454 v1448
  let c1_i32_1001 : BitVec 32 := 1#32
  let v1458 : BitVec 32 := Scalar.muli v1455 c1_i32_1001
  let v1459 : BitVec 32 := Scalar.addi c0_i32_1002 v1458
  v1459.toNat
def k0_dev68 (d0 : Dev nD) : Nat :=
  let c0_i32_1017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1005 : BitVec 32 := 5#32
  let v1466 : BitVec 32 := Scalar.addi v2 c5_i32_1005
  let c32_i32_1006 : BitVec 32 := 32#32
  let c0_i32_1007 : BitVec 32 := 0#32
  let v1467 : BitVec 1 := Scalar.cmpi .eq c32_i32_1006 c0_i32_1007
  let c1_i32_1008 : BitVec 32 := 1#32
  let v1468 : BitVec 32 := Scalar.select v1467 c1_i32_1008 c32_i32_1006
  let v1469 : BitVec 32 := Scalar.remsi v1466 v1468
  let c0_i32_1010 : BitVec 32 := 0#32
  let v1471 : BitVec 1 := Scalar.cmpi .slt v1469 c0_i32_1010
  let c0_i32_1011 : BitVec 32 := 0#32
  let v1472 : BitVec 1 := Scalar.cmpi .slt v1468 c0_i32_1011
  let v1473 : BitVec 1 := Scalar.xori v1471 v1472
  let c0_i32_1009 : BitVec 32 := 0#32
  let v1470 : BitVec 1 := Scalar.cmpi .ne v1469 c0_i32_1009
  let v1474 : BitVec 1 := Scalar.andi v1473 v1470
  let v1475 : BitVec 32 := Scalar.addi v1469 v1468
  let v1476 : BitVec 32 := Scalar.select v1474 v1475 v1469
  let c1_i32_1016 : BitVec 32 := 1#32
  let v1479 : BitVec 32 := Scalar.muli v1476 c1_i32_1016
  let v1480 : BitVec 32 := Scalar.addi c0_i32_1017 v1479
  v1480.toNat
def k0_dev69 (d0 : Dev nD) : Nat :=
  let c0_i32_1032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1020 : BitVec 32 := 6#32
  let v1487 : BitVec 32 := Scalar.addi v2 c6_i32_1020
  let c32_i32_1021 : BitVec 32 := 32#32
  let c0_i32_1022 : BitVec 32 := 0#32
  let v1488 : BitVec 1 := Scalar.cmpi .eq c32_i32_1021 c0_i32_1022
  let c1_i32_1023 : BitVec 32 := 1#32
  let v1489 : BitVec 32 := Scalar.select v1488 c1_i32_1023 c32_i32_1021
  let v1490 : BitVec 32 := Scalar.remsi v1487 v1489
  let c0_i32_1025 : BitVec 32 := 0#32
  let v1492 : BitVec 1 := Scalar.cmpi .slt v1490 c0_i32_1025
  let c0_i32_1026 : BitVec 32 := 0#32
  let v1493 : BitVec 1 := Scalar.cmpi .slt v1489 c0_i32_1026
  let v1494 : BitVec 1 := Scalar.xori v1492 v1493
  let c0_i32_1024 : BitVec 32 := 0#32
  let v1491 : BitVec 1 := Scalar.cmpi .ne v1490 c0_i32_1024
  let v1495 : BitVec 1 := Scalar.andi v1494 v1491
  let v1496 : BitVec 32 := Scalar.addi v1490 v1489
  let v1497 : BitVec 32 := Scalar.select v1495 v1496 v1490
  let c1_i32_1031 : BitVec 32 := 1#32
  let v1500 : BitVec 32 := Scalar.muli v1497 c1_i32_1031
  let v1501 : BitVec 32 := Scalar.addi c0_i32_1032 v1500
  v1501.toNat
def k0_dev70 (d0 : Dev nD) : Nat :=
  let c0_i32_1047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1035 : BitVec 32 := 7#32
  let v1508 : BitVec 32 := Scalar.addi v2 c7_i32_1035
  let c32_i32_1036 : BitVec 32 := 32#32
  let c0_i32_1037 : BitVec 32 := 0#32
  let v1509 : BitVec 1 := Scalar.cmpi .eq c32_i32_1036 c0_i32_1037
  let c1_i32_1038 : BitVec 32 := 1#32
  let v1510 : BitVec 32 := Scalar.select v1509 c1_i32_1038 c32_i32_1036
  let v1511 : BitVec 32 := Scalar.remsi v1508 v1510
  let c0_i32_1040 : BitVec 32 := 0#32
  let v1513 : BitVec 1 := Scalar.cmpi .slt v1511 c0_i32_1040
  let c0_i32_1041 : BitVec 32 := 0#32
  let v1514 : BitVec 1 := Scalar.cmpi .slt v1510 c0_i32_1041
  let v1515 : BitVec 1 := Scalar.xori v1513 v1514
  let c0_i32_1039 : BitVec 32 := 0#32
  let v1512 : BitVec 1 := Scalar.cmpi .ne v1511 c0_i32_1039
  let v1516 : BitVec 1 := Scalar.andi v1515 v1512
  let v1517 : BitVec 32 := Scalar.addi v1511 v1510
  let v1518 : BitVec 32 := Scalar.select v1516 v1517 v1511
  let c1_i32_1046 : BitVec 32 := 1#32
  let v1521 : BitVec 32 := Scalar.muli v1518 c1_i32_1046
  let v1522 : BitVec 32 := Scalar.addi c0_i32_1047 v1521
  v1522.toNat
def k0_dev71 (d0 : Dev nD) : Nat :=
  let c0_i32_1062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1050 : BitVec 32 := 8#32
  let v1529 : BitVec 32 := Scalar.addi v2 c8_i32_1050
  let c32_i32_1051 : BitVec 32 := 32#32
  let c0_i32_1052 : BitVec 32 := 0#32
  let v1530 : BitVec 1 := Scalar.cmpi .eq c32_i32_1051 c0_i32_1052
  let c1_i32_1053 : BitVec 32 := 1#32
  let v1531 : BitVec 32 := Scalar.select v1530 c1_i32_1053 c32_i32_1051
  let v1532 : BitVec 32 := Scalar.remsi v1529 v1531
  let c0_i32_1055 : BitVec 32 := 0#32
  let v1534 : BitVec 1 := Scalar.cmpi .slt v1532 c0_i32_1055
  let c0_i32_1056 : BitVec 32 := 0#32
  let v1535 : BitVec 1 := Scalar.cmpi .slt v1531 c0_i32_1056
  let v1536 : BitVec 1 := Scalar.xori v1534 v1535
  let c0_i32_1054 : BitVec 32 := 0#32
  let v1533 : BitVec 1 := Scalar.cmpi .ne v1532 c0_i32_1054
  let v1537 : BitVec 1 := Scalar.andi v1536 v1533
  let v1538 : BitVec 32 := Scalar.addi v1532 v1531
  let v1539 : BitVec 32 := Scalar.select v1537 v1538 v1532
  let c1_i32_1061 : BitVec 32 := 1#32
  let v1542 : BitVec 32 := Scalar.muli v1539 c1_i32_1061
  let v1543 : BitVec 32 := Scalar.addi c0_i32_1062 v1542
  v1543.toNat
def k0_dev72 (d0 : Dev nD) : Nat :=
  let c0_i32_1077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1065 : BitVec 32 := 9#32
  let v1550 : BitVec 32 := Scalar.addi v2 c9_i32_1065
  let c32_i32_1066 : BitVec 32 := 32#32
  let c0_i32_1067 : BitVec 32 := 0#32
  let v1551 : BitVec 1 := Scalar.cmpi .eq c32_i32_1066 c0_i32_1067
  let c1_i32_1068 : BitVec 32 := 1#32
  let v1552 : BitVec 32 := Scalar.select v1551 c1_i32_1068 c32_i32_1066
  let v1553 : BitVec 32 := Scalar.remsi v1550 v1552
  let c0_i32_1070 : BitVec 32 := 0#32
  let v1555 : BitVec 1 := Scalar.cmpi .slt v1553 c0_i32_1070
  let c0_i32_1071 : BitVec 32 := 0#32
  let v1556 : BitVec 1 := Scalar.cmpi .slt v1552 c0_i32_1071
  let v1557 : BitVec 1 := Scalar.xori v1555 v1556
  let c0_i32_1069 : BitVec 32 := 0#32
  let v1554 : BitVec 1 := Scalar.cmpi .ne v1553 c0_i32_1069
  let v1558 : BitVec 1 := Scalar.andi v1557 v1554
  let v1559 : BitVec 32 := Scalar.addi v1553 v1552
  let v1560 : BitVec 32 := Scalar.select v1558 v1559 v1553
  let c1_i32_1076 : BitVec 32 := 1#32
  let v1563 : BitVec 32 := Scalar.muli v1560 c1_i32_1076
  let v1564 : BitVec 32 := Scalar.addi c0_i32_1077 v1563
  v1564.toNat
def k0_dev73 (d0 : Dev nD) : Nat :=
  let c0_i32_1092 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1080 : BitVec 32 := 10#32
  let v1571 : BitVec 32 := Scalar.addi v2 c10_i32_1080
  let c32_i32_1081 : BitVec 32 := 32#32
  let c0_i32_1082 : BitVec 32 := 0#32
  let v1572 : BitVec 1 := Scalar.cmpi .eq c32_i32_1081 c0_i32_1082
  let c1_i32_1083 : BitVec 32 := 1#32
  let v1573 : BitVec 32 := Scalar.select v1572 c1_i32_1083 c32_i32_1081
  let v1574 : BitVec 32 := Scalar.remsi v1571 v1573
  let c0_i32_1085 : BitVec 32 := 0#32
  let v1576 : BitVec 1 := Scalar.cmpi .slt v1574 c0_i32_1085
  let c0_i32_1086 : BitVec 32 := 0#32
  let v1577 : BitVec 1 := Scalar.cmpi .slt v1573 c0_i32_1086
  let v1578 : BitVec 1 := Scalar.xori v1576 v1577
  let c0_i32_1084 : BitVec 32 := 0#32
  let v1575 : BitVec 1 := Scalar.cmpi .ne v1574 c0_i32_1084
  let v1579 : BitVec 1 := Scalar.andi v1578 v1575
  let v1580 : BitVec 32 := Scalar.addi v1574 v1573
  let v1581 : BitVec 32 := Scalar.select v1579 v1580 v1574
  let c1_i32_1091 : BitVec 32 := 1#32
  let v1584 : BitVec 32 := Scalar.muli v1581 c1_i32_1091
  let v1585 : BitVec 32 := Scalar.addi c0_i32_1092 v1584
  v1585.toNat
def k0_dev74 (d0 : Dev nD) : Nat :=
  let c0_i32_1107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1095 : BitVec 32 := 11#32
  let v1592 : BitVec 32 := Scalar.addi v2 c11_i32_1095
  let c32_i32_1096 : BitVec 32 := 32#32
  let c0_i32_1097 : BitVec 32 := 0#32
  let v1593 : BitVec 1 := Scalar.cmpi .eq c32_i32_1096 c0_i32_1097
  let c1_i32_1098 : BitVec 32 := 1#32
  let v1594 : BitVec 32 := Scalar.select v1593 c1_i32_1098 c32_i32_1096
  let v1595 : BitVec 32 := Scalar.remsi v1592 v1594
  let c0_i32_1100 : BitVec 32 := 0#32
  let v1597 : BitVec 1 := Scalar.cmpi .slt v1595 c0_i32_1100
  let c0_i32_1101 : BitVec 32 := 0#32
  let v1598 : BitVec 1 := Scalar.cmpi .slt v1594 c0_i32_1101
  let v1599 : BitVec 1 := Scalar.xori v1597 v1598
  let c0_i32_1099 : BitVec 32 := 0#32
  let v1596 : BitVec 1 := Scalar.cmpi .ne v1595 c0_i32_1099
  let v1600 : BitVec 1 := Scalar.andi v1599 v1596
  let v1601 : BitVec 32 := Scalar.addi v1595 v1594
  let v1602 : BitVec 32 := Scalar.select v1600 v1601 v1595
  let c1_i32_1106 : BitVec 32 := 1#32
  let v1605 : BitVec 32 := Scalar.muli v1602 c1_i32_1106
  let v1606 : BitVec 32 := Scalar.addi c0_i32_1107 v1605
  v1606.toNat
def k0_dev75 (d0 : Dev nD) : Nat :=
  let c0_i32_1122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1110 : BitVec 32 := 12#32
  let v1613 : BitVec 32 := Scalar.addi v2 c12_i32_1110
  let c32_i32_1111 : BitVec 32 := 32#32
  let c0_i32_1112 : BitVec 32 := 0#32
  let v1614 : BitVec 1 := Scalar.cmpi .eq c32_i32_1111 c0_i32_1112
  let c1_i32_1113 : BitVec 32 := 1#32
  let v1615 : BitVec 32 := Scalar.select v1614 c1_i32_1113 c32_i32_1111
  let v1616 : BitVec 32 := Scalar.remsi v1613 v1615
  let c0_i32_1115 : BitVec 32 := 0#32
  let v1618 : BitVec 1 := Scalar.cmpi .slt v1616 c0_i32_1115
  let c0_i32_1116 : BitVec 32 := 0#32
  let v1619 : BitVec 1 := Scalar.cmpi .slt v1615 c0_i32_1116
  let v1620 : BitVec 1 := Scalar.xori v1618 v1619
  let c0_i32_1114 : BitVec 32 := 0#32
  let v1617 : BitVec 1 := Scalar.cmpi .ne v1616 c0_i32_1114
  let v1621 : BitVec 1 := Scalar.andi v1620 v1617
  let v1622 : BitVec 32 := Scalar.addi v1616 v1615
  let v1623 : BitVec 32 := Scalar.select v1621 v1622 v1616
  let c1_i32_1121 : BitVec 32 := 1#32
  let v1626 : BitVec 32 := Scalar.muli v1623 c1_i32_1121
  let v1627 : BitVec 32 := Scalar.addi c0_i32_1122 v1626
  v1627.toNat
def k0_dev76 (d0 : Dev nD) : Nat :=
  let c0_i32_1137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1125 : BitVec 32 := 13#32
  let v1634 : BitVec 32 := Scalar.addi v2 c13_i32_1125
  let c32_i32_1126 : BitVec 32 := 32#32
  let c0_i32_1127 : BitVec 32 := 0#32
  let v1635 : BitVec 1 := Scalar.cmpi .eq c32_i32_1126 c0_i32_1127
  let c1_i32_1128 : BitVec 32 := 1#32
  let v1636 : BitVec 32 := Scalar.select v1635 c1_i32_1128 c32_i32_1126
  let v1637 : BitVec 32 := Scalar.remsi v1634 v1636
  let c0_i32_1130 : BitVec 32 := 0#32
  let v1639 : BitVec 1 := Scalar.cmpi .slt v1637 c0_i32_1130
  let c0_i32_1131 : BitVec 32 := 0#32
  let v1640 : BitVec 1 := Scalar.cmpi .slt v1636 c0_i32_1131
  let v1641 : BitVec 1 := Scalar.xori v1639 v1640
  let c0_i32_1129 : BitVec 32 := 0#32
  let v1638 : BitVec 1 := Scalar.cmpi .ne v1637 c0_i32_1129
  let v1642 : BitVec 1 := Scalar.andi v1641 v1638
  let v1643 : BitVec 32 := Scalar.addi v1637 v1636
  let v1644 : BitVec 32 := Scalar.select v1642 v1643 v1637
  let c1_i32_1136 : BitVec 32 := 1#32
  let v1647 : BitVec 32 := Scalar.muli v1644 c1_i32_1136
  let v1648 : BitVec 32 := Scalar.addi c0_i32_1137 v1647
  v1648.toNat
def k0_dev77 (d0 : Dev nD) : Nat :=
  let c0_i32_1152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1140 : BitVec 32 := 14#32
  let v1655 : BitVec 32 := Scalar.addi v2 c14_i32_1140
  let c32_i32_1141 : BitVec 32 := 32#32
  let c0_i32_1142 : BitVec 32 := 0#32
  let v1656 : BitVec 1 := Scalar.cmpi .eq c32_i32_1141 c0_i32_1142
  let c1_i32_1143 : BitVec 32 := 1#32
  let v1657 : BitVec 32 := Scalar.select v1656 c1_i32_1143 c32_i32_1141
  let v1658 : BitVec 32 := Scalar.remsi v1655 v1657
  let c0_i32_1145 : BitVec 32 := 0#32
  let v1660 : BitVec 1 := Scalar.cmpi .slt v1658 c0_i32_1145
  let c0_i32_1146 : BitVec 32 := 0#32
  let v1661 : BitVec 1 := Scalar.cmpi .slt v1657 c0_i32_1146
  let v1662 : BitVec 1 := Scalar.xori v1660 v1661
  let c0_i32_1144 : BitVec 32 := 0#32
  let v1659 : BitVec 1 := Scalar.cmpi .ne v1658 c0_i32_1144
  let v1663 : BitVec 1 := Scalar.andi v1662 v1659
  let v1664 : BitVec 32 := Scalar.addi v1658 v1657
  let v1665 : BitVec 32 := Scalar.select v1663 v1664 v1658
  let c1_i32_1151 : BitVec 32 := 1#32
  let v1668 : BitVec 32 := Scalar.muli v1665 c1_i32_1151
  let v1669 : BitVec 32 := Scalar.addi c0_i32_1152 v1668
  v1669.toNat
def k0_dev78 (d0 : Dev nD) : Nat :=
  let c0_i32_1167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1155 : BitVec 32 := 15#32
  let v1676 : BitVec 32 := Scalar.addi v2 c15_i32_1155
  let c32_i32_1156 : BitVec 32 := 32#32
  let c0_i32_1157 : BitVec 32 := 0#32
  let v1677 : BitVec 1 := Scalar.cmpi .eq c32_i32_1156 c0_i32_1157
  let c1_i32_1158 : BitVec 32 := 1#32
  let v1678 : BitVec 32 := Scalar.select v1677 c1_i32_1158 c32_i32_1156
  let v1679 : BitVec 32 := Scalar.remsi v1676 v1678
  let c0_i32_1160 : BitVec 32 := 0#32
  let v1681 : BitVec 1 := Scalar.cmpi .slt v1679 c0_i32_1160
  let c0_i32_1161 : BitVec 32 := 0#32
  let v1682 : BitVec 1 := Scalar.cmpi .slt v1678 c0_i32_1161
  let v1683 : BitVec 1 := Scalar.xori v1681 v1682
  let c0_i32_1159 : BitVec 32 := 0#32
  let v1680 : BitVec 1 := Scalar.cmpi .ne v1679 c0_i32_1159
  let v1684 : BitVec 1 := Scalar.andi v1683 v1680
  let v1685 : BitVec 32 := Scalar.addi v1679 v1678
  let v1686 : BitVec 32 := Scalar.select v1684 v1685 v1679
  let c1_i32_1166 : BitVec 32 := 1#32
  let v1689 : BitVec 32 := Scalar.muli v1686 c1_i32_1166
  let v1690 : BitVec 32 := Scalar.addi c0_i32_1167 v1689
  v1690.toNat
def k0_dev79 (d0 : Dev nD) : Nat :=
  let c0_i32_1182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1170 : BitVec 32 := 16#32
  let v1697 : BitVec 32 := Scalar.addi v2 c16_i32_1170
  let c32_i32_1171 : BitVec 32 := 32#32
  let c0_i32_1172 : BitVec 32 := 0#32
  let v1698 : BitVec 1 := Scalar.cmpi .eq c32_i32_1171 c0_i32_1172
  let c1_i32_1173 : BitVec 32 := 1#32
  let v1699 : BitVec 32 := Scalar.select v1698 c1_i32_1173 c32_i32_1171
  let v1700 : BitVec 32 := Scalar.remsi v1697 v1699
  let c0_i32_1175 : BitVec 32 := 0#32
  let v1702 : BitVec 1 := Scalar.cmpi .slt v1700 c0_i32_1175
  let c0_i32_1176 : BitVec 32 := 0#32
  let v1703 : BitVec 1 := Scalar.cmpi .slt v1699 c0_i32_1176
  let v1704 : BitVec 1 := Scalar.xori v1702 v1703
  let c0_i32_1174 : BitVec 32 := 0#32
  let v1701 : BitVec 1 := Scalar.cmpi .ne v1700 c0_i32_1174
  let v1705 : BitVec 1 := Scalar.andi v1704 v1701
  let v1706 : BitVec 32 := Scalar.addi v1700 v1699
  let v1707 : BitVec 32 := Scalar.select v1705 v1706 v1700
  let c1_i32_1181 : BitVec 32 := 1#32
  let v1710 : BitVec 32 := Scalar.muli v1707 c1_i32_1181
  let v1711 : BitVec 32 := Scalar.addi c0_i32_1182 v1710
  v1711.toNat
def k0_dev80 (d0 : Dev nD) : Nat :=
  let c0_i32_1197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1185 : BitVec 32 := 17#32
  let v1718 : BitVec 32 := Scalar.addi v2 c17_i32_1185
  let c32_i32_1186 : BitVec 32 := 32#32
  let c0_i32_1187 : BitVec 32 := 0#32
  let v1719 : BitVec 1 := Scalar.cmpi .eq c32_i32_1186 c0_i32_1187
  let c1_i32_1188 : BitVec 32 := 1#32
  let v1720 : BitVec 32 := Scalar.select v1719 c1_i32_1188 c32_i32_1186
  let v1721 : BitVec 32 := Scalar.remsi v1718 v1720
  let c0_i32_1190 : BitVec 32 := 0#32
  let v1723 : BitVec 1 := Scalar.cmpi .slt v1721 c0_i32_1190
  let c0_i32_1191 : BitVec 32 := 0#32
  let v1724 : BitVec 1 := Scalar.cmpi .slt v1720 c0_i32_1191
  let v1725 : BitVec 1 := Scalar.xori v1723 v1724
  let c0_i32_1189 : BitVec 32 := 0#32
  let v1722 : BitVec 1 := Scalar.cmpi .ne v1721 c0_i32_1189
  let v1726 : BitVec 1 := Scalar.andi v1725 v1722
  let v1727 : BitVec 32 := Scalar.addi v1721 v1720
  let v1728 : BitVec 32 := Scalar.select v1726 v1727 v1721
  let c1_i32_1196 : BitVec 32 := 1#32
  let v1731 : BitVec 32 := Scalar.muli v1728 c1_i32_1196
  let v1732 : BitVec 32 := Scalar.addi c0_i32_1197 v1731
  v1732.toNat
def k0_dev81 (d0 : Dev nD) : Nat :=
  let c0_i32_1212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1200 : BitVec 32 := 18#32
  let v1739 : BitVec 32 := Scalar.addi v2 c18_i32_1200
  let c32_i32_1201 : BitVec 32 := 32#32
  let c0_i32_1202 : BitVec 32 := 0#32
  let v1740 : BitVec 1 := Scalar.cmpi .eq c32_i32_1201 c0_i32_1202
  let c1_i32_1203 : BitVec 32 := 1#32
  let v1741 : BitVec 32 := Scalar.select v1740 c1_i32_1203 c32_i32_1201
  let v1742 : BitVec 32 := Scalar.remsi v1739 v1741
  let c0_i32_1205 : BitVec 32 := 0#32
  let v1744 : BitVec 1 := Scalar.cmpi .slt v1742 c0_i32_1205
  let c0_i32_1206 : BitVec 32 := 0#32
  let v1745 : BitVec 1 := Scalar.cmpi .slt v1741 c0_i32_1206
  let v1746 : BitVec 1 := Scalar.xori v1744 v1745
  let c0_i32_1204 : BitVec 32 := 0#32
  let v1743 : BitVec 1 := Scalar.cmpi .ne v1742 c0_i32_1204
  let v1747 : BitVec 1 := Scalar.andi v1746 v1743
  let v1748 : BitVec 32 := Scalar.addi v1742 v1741
  let v1749 : BitVec 32 := Scalar.select v1747 v1748 v1742
  let c1_i32_1211 : BitVec 32 := 1#32
  let v1752 : BitVec 32 := Scalar.muli v1749 c1_i32_1211
  let v1753 : BitVec 32 := Scalar.addi c0_i32_1212 v1752
  v1753.toNat
def k0_dev82 (d0 : Dev nD) : Nat :=
  let c0_i32_1227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1215 : BitVec 32 := 19#32
  let v1760 : BitVec 32 := Scalar.addi v2 c19_i32_1215
  let c32_i32_1216 : BitVec 32 := 32#32
  let c0_i32_1217 : BitVec 32 := 0#32
  let v1761 : BitVec 1 := Scalar.cmpi .eq c32_i32_1216 c0_i32_1217
  let c1_i32_1218 : BitVec 32 := 1#32
  let v1762 : BitVec 32 := Scalar.select v1761 c1_i32_1218 c32_i32_1216
  let v1763 : BitVec 32 := Scalar.remsi v1760 v1762
  let c0_i32_1220 : BitVec 32 := 0#32
  let v1765 : BitVec 1 := Scalar.cmpi .slt v1763 c0_i32_1220
  let c0_i32_1221 : BitVec 32 := 0#32
  let v1766 : BitVec 1 := Scalar.cmpi .slt v1762 c0_i32_1221
  let v1767 : BitVec 1 := Scalar.xori v1765 v1766
  let c0_i32_1219 : BitVec 32 := 0#32
  let v1764 : BitVec 1 := Scalar.cmpi .ne v1763 c0_i32_1219
  let v1768 : BitVec 1 := Scalar.andi v1767 v1764
  let v1769 : BitVec 32 := Scalar.addi v1763 v1762
  let v1770 : BitVec 32 := Scalar.select v1768 v1769 v1763
  let c1_i32_1226 : BitVec 32 := 1#32
  let v1773 : BitVec 32 := Scalar.muli v1770 c1_i32_1226
  let v1774 : BitVec 32 := Scalar.addi c0_i32_1227 v1773
  v1774.toNat
def k0_dev83 (d0 : Dev nD) : Nat :=
  let c0_i32_1242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1230 : BitVec 32 := 20#32
  let v1781 : BitVec 32 := Scalar.addi v2 c20_i32_1230
  let c32_i32_1231 : BitVec 32 := 32#32
  let c0_i32_1232 : BitVec 32 := 0#32
  let v1782 : BitVec 1 := Scalar.cmpi .eq c32_i32_1231 c0_i32_1232
  let c1_i32_1233 : BitVec 32 := 1#32
  let v1783 : BitVec 32 := Scalar.select v1782 c1_i32_1233 c32_i32_1231
  let v1784 : BitVec 32 := Scalar.remsi v1781 v1783
  let c0_i32_1235 : BitVec 32 := 0#32
  let v1786 : BitVec 1 := Scalar.cmpi .slt v1784 c0_i32_1235
  let c0_i32_1236 : BitVec 32 := 0#32
  let v1787 : BitVec 1 := Scalar.cmpi .slt v1783 c0_i32_1236
  let v1788 : BitVec 1 := Scalar.xori v1786 v1787
  let c0_i32_1234 : BitVec 32 := 0#32
  let v1785 : BitVec 1 := Scalar.cmpi .ne v1784 c0_i32_1234
  let v1789 : BitVec 1 := Scalar.andi v1788 v1785
  let v1790 : BitVec 32 := Scalar.addi v1784 v1783
  let v1791 : BitVec 32 := Scalar.select v1789 v1790 v1784
  let c1_i32_1241 : BitVec 32 := 1#32
  let v1794 : BitVec 32 := Scalar.muli v1791 c1_i32_1241
  let v1795 : BitVec 32 := Scalar.addi c0_i32_1242 v1794
  v1795.toNat
def k0_dev84 (d0 : Dev nD) : Nat :=
  let c0_i32_1257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1245 : BitVec 32 := 21#32
  let v1802 : BitVec 32 := Scalar.addi v2 c21_i32_1245
  let c32_i32_1246 : BitVec 32 := 32#32
  let c0_i32_1247 : BitVec 32 := 0#32
  let v1803 : BitVec 1 := Scalar.cmpi .eq c32_i32_1246 c0_i32_1247
  let c1_i32_1248 : BitVec 32 := 1#32
  let v1804 : BitVec 32 := Scalar.select v1803 c1_i32_1248 c32_i32_1246
  let v1805 : BitVec 32 := Scalar.remsi v1802 v1804
  let c0_i32_1250 : BitVec 32 := 0#32
  let v1807 : BitVec 1 := Scalar.cmpi .slt v1805 c0_i32_1250
  let c0_i32_1251 : BitVec 32 := 0#32
  let v1808 : BitVec 1 := Scalar.cmpi .slt v1804 c0_i32_1251
  let v1809 : BitVec 1 := Scalar.xori v1807 v1808
  let c0_i32_1249 : BitVec 32 := 0#32
  let v1806 : BitVec 1 := Scalar.cmpi .ne v1805 c0_i32_1249
  let v1810 : BitVec 1 := Scalar.andi v1809 v1806
  let v1811 : BitVec 32 := Scalar.addi v1805 v1804
  let v1812 : BitVec 32 := Scalar.select v1810 v1811 v1805
  let c1_i32_1256 : BitVec 32 := 1#32
  let v1815 : BitVec 32 := Scalar.muli v1812 c1_i32_1256
  let v1816 : BitVec 32 := Scalar.addi c0_i32_1257 v1815
  v1816.toNat
def k0_dev85 (d0 : Dev nD) : Nat :=
  let c0_i32_1272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1260 : BitVec 32 := 22#32
  let v1823 : BitVec 32 := Scalar.addi v2 c22_i32_1260
  let c32_i32_1261 : BitVec 32 := 32#32
  let c0_i32_1262 : BitVec 32 := 0#32
  let v1824 : BitVec 1 := Scalar.cmpi .eq c32_i32_1261 c0_i32_1262
  let c1_i32_1263 : BitVec 32 := 1#32
  let v1825 : BitVec 32 := Scalar.select v1824 c1_i32_1263 c32_i32_1261
  let v1826 : BitVec 32 := Scalar.remsi v1823 v1825
  let c0_i32_1265 : BitVec 32 := 0#32
  let v1828 : BitVec 1 := Scalar.cmpi .slt v1826 c0_i32_1265
  let c0_i32_1266 : BitVec 32 := 0#32
  let v1829 : BitVec 1 := Scalar.cmpi .slt v1825 c0_i32_1266
  let v1830 : BitVec 1 := Scalar.xori v1828 v1829
  let c0_i32_1264 : BitVec 32 := 0#32
  let v1827 : BitVec 1 := Scalar.cmpi .ne v1826 c0_i32_1264
  let v1831 : BitVec 1 := Scalar.andi v1830 v1827
  let v1832 : BitVec 32 := Scalar.addi v1826 v1825
  let v1833 : BitVec 32 := Scalar.select v1831 v1832 v1826
  let c1_i32_1271 : BitVec 32 := 1#32
  let v1836 : BitVec 32 := Scalar.muli v1833 c1_i32_1271
  let v1837 : BitVec 32 := Scalar.addi c0_i32_1272 v1836
  v1837.toNat
def k0_dev86 (d0 : Dev nD) : Nat :=
  let c0_i32_1287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1275 : BitVec 32 := 23#32
  let v1844 : BitVec 32 := Scalar.addi v2 c23_i32_1275
  let c32_i32_1276 : BitVec 32 := 32#32
  let c0_i32_1277 : BitVec 32 := 0#32
  let v1845 : BitVec 1 := Scalar.cmpi .eq c32_i32_1276 c0_i32_1277
  let c1_i32_1278 : BitVec 32 := 1#32
  let v1846 : BitVec 32 := Scalar.select v1845 c1_i32_1278 c32_i32_1276
  let v1847 : BitVec 32 := Scalar.remsi v1844 v1846
  let c0_i32_1280 : BitVec 32 := 0#32
  let v1849 : BitVec 1 := Scalar.cmpi .slt v1847 c0_i32_1280
  let c0_i32_1281 : BitVec 32 := 0#32
  let v1850 : BitVec 1 := Scalar.cmpi .slt v1846 c0_i32_1281
  let v1851 : BitVec 1 := Scalar.xori v1849 v1850
  let c0_i32_1279 : BitVec 32 := 0#32
  let v1848 : BitVec 1 := Scalar.cmpi .ne v1847 c0_i32_1279
  let v1852 : BitVec 1 := Scalar.andi v1851 v1848
  let v1853 : BitVec 32 := Scalar.addi v1847 v1846
  let v1854 : BitVec 32 := Scalar.select v1852 v1853 v1847
  let c1_i32_1286 : BitVec 32 := 1#32
  let v1857 : BitVec 32 := Scalar.muli v1854 c1_i32_1286
  let v1858 : BitVec 32 := Scalar.addi c0_i32_1287 v1857
  v1858.toNat
def k0_dev87 (d0 : Dev nD) : Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1290 : BitVec 32 := 24#32
  let v1865 : BitVec 32 := Scalar.addi v2 c24_i32_1290
  let c32_i32_1291 : BitVec 32 := 32#32
  let c0_i32_1292 : BitVec 32 := 0#32
  let v1866 : BitVec 1 := Scalar.cmpi .eq c32_i32_1291 c0_i32_1292
  let c1_i32_1293 : BitVec 32 := 1#32
  let v1867 : BitVec 32 := Scalar.select v1866 c1_i32_1293 c32_i32_1291
  let v1868 : BitVec 32 := Scalar.remsi v1865 v1867
  let c0_i32_1295 : BitVec 32 := 0#32
  let v1870 : BitVec 1 := Scalar.cmpi .slt v1868 c0_i32_1295
  let c0_i32_1296 : BitVec 32 := 0#32
  let v1871 : BitVec 1 := Scalar.cmpi .slt v1867 c0_i32_1296
  let v1872 : BitVec 1 := Scalar.xori v1870 v1871
  let c0_i32_1294 : BitVec 32 := 0#32
  let v1869 : BitVec 1 := Scalar.cmpi .ne v1868 c0_i32_1294
  let v1873 : BitVec 1 := Scalar.andi v1872 v1869
  let v1874 : BitVec 32 := Scalar.addi v1868 v1867
  let v1875 : BitVec 32 := Scalar.select v1873 v1874 v1868
  let c1_i32_1301 : BitVec 32 := 1#32
  let v1878 : BitVec 32 := Scalar.muli v1875 c1_i32_1301
  let v1879 : BitVec 32 := Scalar.addi c0_i32_1302 v1878
  v1879.toNat
def k0_dev88 (d0 : Dev nD) : Nat :=
  let c0_i32_1317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1305 : BitVec 32 := 25#32
  let v1886 : BitVec 32 := Scalar.addi v2 c25_i32_1305
  let c32_i32_1306 : BitVec 32 := 32#32
  let c0_i32_1307 : BitVec 32 := 0#32
  let v1887 : BitVec 1 := Scalar.cmpi .eq c32_i32_1306 c0_i32_1307
  let c1_i32_1308 : BitVec 32 := 1#32
  let v1888 : BitVec 32 := Scalar.select v1887 c1_i32_1308 c32_i32_1306
  let v1889 : BitVec 32 := Scalar.remsi v1886 v1888
  let c0_i32_1310 : BitVec 32 := 0#32
  let v1891 : BitVec 1 := Scalar.cmpi .slt v1889 c0_i32_1310
  let c0_i32_1311 : BitVec 32 := 0#32
  let v1892 : BitVec 1 := Scalar.cmpi .slt v1888 c0_i32_1311
  let v1893 : BitVec 1 := Scalar.xori v1891 v1892
  let c0_i32_1309 : BitVec 32 := 0#32
  let v1890 : BitVec 1 := Scalar.cmpi .ne v1889 c0_i32_1309
  let v1894 : BitVec 1 := Scalar.andi v1893 v1890
  let v1895 : BitVec 32 := Scalar.addi v1889 v1888
  let v1896 : BitVec 32 := Scalar.select v1894 v1895 v1889
  let c1_i32_1316 : BitVec 32 := 1#32
  let v1899 : BitVec 32 := Scalar.muli v1896 c1_i32_1316
  let v1900 : BitVec 32 := Scalar.addi c0_i32_1317 v1899
  v1900.toNat
def k0_dev89 (d0 : Dev nD) : Nat :=
  let c0_i32_1332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1320 : BitVec 32 := 26#32
  let v1907 : BitVec 32 := Scalar.addi v2 c26_i32_1320
  let c32_i32_1321 : BitVec 32 := 32#32
  let c0_i32_1322 : BitVec 32 := 0#32
  let v1908 : BitVec 1 := Scalar.cmpi .eq c32_i32_1321 c0_i32_1322
  let c1_i32_1323 : BitVec 32 := 1#32
  let v1909 : BitVec 32 := Scalar.select v1908 c1_i32_1323 c32_i32_1321
  let v1910 : BitVec 32 := Scalar.remsi v1907 v1909
  let c0_i32_1325 : BitVec 32 := 0#32
  let v1912 : BitVec 1 := Scalar.cmpi .slt v1910 c0_i32_1325
  let c0_i32_1326 : BitVec 32 := 0#32
  let v1913 : BitVec 1 := Scalar.cmpi .slt v1909 c0_i32_1326
  let v1914 : BitVec 1 := Scalar.xori v1912 v1913
  let c0_i32_1324 : BitVec 32 := 0#32
  let v1911 : BitVec 1 := Scalar.cmpi .ne v1910 c0_i32_1324
  let v1915 : BitVec 1 := Scalar.andi v1914 v1911
  let v1916 : BitVec 32 := Scalar.addi v1910 v1909
  let v1917 : BitVec 32 := Scalar.select v1915 v1916 v1910
  let c1_i32_1331 : BitVec 32 := 1#32
  let v1920 : BitVec 32 := Scalar.muli v1917 c1_i32_1331
  let v1921 : BitVec 32 := Scalar.addi c0_i32_1332 v1920
  v1921.toNat
def k0_dev90 (d0 : Dev nD) : Nat :=
  let c0_i32_1347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1335 : BitVec 32 := 27#32
  let v1928 : BitVec 32 := Scalar.addi v2 c27_i32_1335
  let c32_i32_1336 : BitVec 32 := 32#32
  let c0_i32_1337 : BitVec 32 := 0#32
  let v1929 : BitVec 1 := Scalar.cmpi .eq c32_i32_1336 c0_i32_1337
  let c1_i32_1338 : BitVec 32 := 1#32
  let v1930 : BitVec 32 := Scalar.select v1929 c1_i32_1338 c32_i32_1336
  let v1931 : BitVec 32 := Scalar.remsi v1928 v1930
  let c0_i32_1340 : BitVec 32 := 0#32
  let v1933 : BitVec 1 := Scalar.cmpi .slt v1931 c0_i32_1340
  let c0_i32_1341 : BitVec 32 := 0#32
  let v1934 : BitVec 1 := Scalar.cmpi .slt v1930 c0_i32_1341
  let v1935 : BitVec 1 := Scalar.xori v1933 v1934
  let c0_i32_1339 : BitVec 32 := 0#32
  let v1932 : BitVec 1 := Scalar.cmpi .ne v1931 c0_i32_1339
  let v1936 : BitVec 1 := Scalar.andi v1935 v1932
  let v1937 : BitVec 32 := Scalar.addi v1931 v1930
  let v1938 : BitVec 32 := Scalar.select v1936 v1937 v1931
  let c1_i32_1346 : BitVec 32 := 1#32
  let v1941 : BitVec 32 := Scalar.muli v1938 c1_i32_1346
  let v1942 : BitVec 32 := Scalar.addi c0_i32_1347 v1941
  v1942.toNat
def k0_dev91 (d0 : Dev nD) : Nat :=
  let c0_i32_1362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1350 : BitVec 32 := 28#32
  let v1949 : BitVec 32 := Scalar.addi v2 c28_i32_1350
  let c32_i32_1351 : BitVec 32 := 32#32
  let c0_i32_1352 : BitVec 32 := 0#32
  let v1950 : BitVec 1 := Scalar.cmpi .eq c32_i32_1351 c0_i32_1352
  let c1_i32_1353 : BitVec 32 := 1#32
  let v1951 : BitVec 32 := Scalar.select v1950 c1_i32_1353 c32_i32_1351
  let v1952 : BitVec 32 := Scalar.remsi v1949 v1951
  let c0_i32_1355 : BitVec 32 := 0#32
  let v1954 : BitVec 1 := Scalar.cmpi .slt v1952 c0_i32_1355
  let c0_i32_1356 : BitVec 32 := 0#32
  let v1955 : BitVec 1 := Scalar.cmpi .slt v1951 c0_i32_1356
  let v1956 : BitVec 1 := Scalar.xori v1954 v1955
  let c0_i32_1354 : BitVec 32 := 0#32
  let v1953 : BitVec 1 := Scalar.cmpi .ne v1952 c0_i32_1354
  let v1957 : BitVec 1 := Scalar.andi v1956 v1953
  let v1958 : BitVec 32 := Scalar.addi v1952 v1951
  let v1959 : BitVec 32 := Scalar.select v1957 v1958 v1952
  let c1_i32_1361 : BitVec 32 := 1#32
  let v1962 : BitVec 32 := Scalar.muli v1959 c1_i32_1361
  let v1963 : BitVec 32 := Scalar.addi c0_i32_1362 v1962
  v1963.toNat
def k0_dev92 (d0 : Dev nD) : Nat :=
  let c0_i32_1377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1365 : BitVec 32 := 29#32
  let v1970 : BitVec 32 := Scalar.addi v2 c29_i32_1365
  let c32_i32_1366 : BitVec 32 := 32#32
  let c0_i32_1367 : BitVec 32 := 0#32
  let v1971 : BitVec 1 := Scalar.cmpi .eq c32_i32_1366 c0_i32_1367
  let c1_i32_1368 : BitVec 32 := 1#32
  let v1972 : BitVec 32 := Scalar.select v1971 c1_i32_1368 c32_i32_1366
  let v1973 : BitVec 32 := Scalar.remsi v1970 v1972
  let c0_i32_1370 : BitVec 32 := 0#32
  let v1975 : BitVec 1 := Scalar.cmpi .slt v1973 c0_i32_1370
  let c0_i32_1371 : BitVec 32 := 0#32
  let v1976 : BitVec 1 := Scalar.cmpi .slt v1972 c0_i32_1371
  let v1977 : BitVec 1 := Scalar.xori v1975 v1976
  let c0_i32_1369 : BitVec 32 := 0#32
  let v1974 : BitVec 1 := Scalar.cmpi .ne v1973 c0_i32_1369
  let v1978 : BitVec 1 := Scalar.andi v1977 v1974
  let v1979 : BitVec 32 := Scalar.addi v1973 v1972
  let v1980 : BitVec 32 := Scalar.select v1978 v1979 v1973
  let c1_i32_1376 : BitVec 32 := 1#32
  let v1983 : BitVec 32 := Scalar.muli v1980 c1_i32_1376
  let v1984 : BitVec 32 := Scalar.addi c0_i32_1377 v1983
  v1984.toNat
def k0_dev93 (d0 : Dev nD) : Nat :=
  let c0_i32_1392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1380 : BitVec 32 := 30#32
  let v1991 : BitVec 32 := Scalar.addi v2 c30_i32_1380
  let c32_i32_1381 : BitVec 32 := 32#32
  let c0_i32_1382 : BitVec 32 := 0#32
  let v1992 : BitVec 1 := Scalar.cmpi .eq c32_i32_1381 c0_i32_1382
  let c1_i32_1383 : BitVec 32 := 1#32
  let v1993 : BitVec 32 := Scalar.select v1992 c1_i32_1383 c32_i32_1381
  let v1994 : BitVec 32 := Scalar.remsi v1991 v1993
  let c0_i32_1385 : BitVec 32 := 0#32
  let v1996 : BitVec 1 := Scalar.cmpi .slt v1994 c0_i32_1385
  let c0_i32_1386 : BitVec 32 := 0#32
  let v1997 : BitVec 1 := Scalar.cmpi .slt v1993 c0_i32_1386
  let v1998 : BitVec 1 := Scalar.xori v1996 v1997
  let c0_i32_1384 : BitVec 32 := 0#32
  let v1995 : BitVec 1 := Scalar.cmpi .ne v1994 c0_i32_1384
  let v1999 : BitVec 1 := Scalar.andi v1998 v1995
  let v2000 : BitVec 32 := Scalar.addi v1994 v1993
  let v2001 : BitVec 32 := Scalar.select v1999 v2000 v1994
  let c1_i32_1391 : BitVec 32 := 1#32
  let v2004 : BitVec 32 := Scalar.muli v2001 c1_i32_1391
  let v2005 : BitVec 32 := Scalar.addi c0_i32_1392 v2004
  v2005.toNat
def k0_dev94 (d0 : Dev nD) : Nat :=
  let c0_i32_1407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1395 : BitVec 32 := 31#32
  let v2012 : BitVec 32 := Scalar.addi v2 c31_i32_1395
  let c32_i32_1396 : BitVec 32 := 32#32
  let c0_i32_1397 : BitVec 32 := 0#32
  let v2013 : BitVec 1 := Scalar.cmpi .eq c32_i32_1396 c0_i32_1397
  let c1_i32_1398 : BitVec 32 := 1#32
  let v2014 : BitVec 32 := Scalar.select v2013 c1_i32_1398 c32_i32_1396
  let v2015 : BitVec 32 := Scalar.remsi v2012 v2014
  let c0_i32_1400 : BitVec 32 := 0#32
  let v2017 : BitVec 1 := Scalar.cmpi .slt v2015 c0_i32_1400
  let c0_i32_1401 : BitVec 32 := 0#32
  let v2018 : BitVec 1 := Scalar.cmpi .slt v2014 c0_i32_1401
  let v2019 : BitVec 1 := Scalar.xori v2017 v2018
  let c0_i32_1399 : BitVec 32 := 0#32
  let v2016 : BitVec 1 := Scalar.cmpi .ne v2015 c0_i32_1399
  let v2020 : BitVec 1 := Scalar.andi v2019 v2016
  let v2021 : BitVec 32 := Scalar.addi v2015 v2014
  let v2022 : BitVec 32 := Scalar.select v2020 v2021 v2015
  let c1_i32_1406 : BitVec 32 := 1#32
  let v2025 : BitVec 32 := Scalar.muli v2022 c1_i32_1406
  let v2026 : BitVec 32 := Scalar.addi c0_i32_1407 v2025
  v2026.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1414 : BitVec 32 := 0#32
  let v2038 : BitVec 1 := Scalar.cmpi .ne v2 c0_i32_1414
  let v2039 : BitVec 32 := Scalar.extui v2038
  let c0_i32_1415 : BitVec 32 := 0#32
  let v2040 : BitVec 1 := Scalar.cmpi .ne v2039 c0_i32_1415
  v2040

def k0_off68 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_4482 : BitVec 32 := 0#32
  let v5953 : BitVec 32 := Scalar.subi v2 c0_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1416 : BitVec 32 := 1#32
  let v2041 : BitVec 1 := Scalar.cmpi .ne v2 c1_i32_1416
  let v2042 : BitVec 32 := Scalar.extui v2041
  let c0_i32_1417 : BitVec 32 := 0#32
  let v2043 : BitVec 1 := Scalar.cmpi .ne v2042 c0_i32_1417
  v2043

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4482 : BitVec 32 := 1#32
  let v5953 : BitVec 32 := Scalar.subi v2 c1_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1418 : BitVec 32 := 2#32
  let v2044 : BitVec 1 := Scalar.cmpi .ne v2 c2_i32_1418
  let v2045 : BitVec 32 := Scalar.extui v2044
  let c0_i32_1419 : BitVec 32 := 0#32
  let v2046 : BitVec 1 := Scalar.cmpi .ne v2045 c0_i32_1419
  v2046

def k0_off70 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4482 : BitVec 32 := 2#32
  let v5953 : BitVec 32 := Scalar.subi v2 c2_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1420 : BitVec 32 := 3#32
  let v2047 : BitVec 1 := Scalar.cmpi .ne v2 c3_i32_1420
  let v2048 : BitVec 32 := Scalar.extui v2047
  let c0_i32_1421 : BitVec 32 := 0#32
  let v2049 : BitVec 1 := Scalar.cmpi .ne v2048 c0_i32_1421
  v2049

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_4482 : BitVec 32 := 3#32
  let v5953 : BitVec 32 := Scalar.subi v2 c3_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1422 : BitVec 32 := 4#32
  let v2050 : BitVec 1 := Scalar.cmpi .ne v2 c4_i32_1422
  let v2051 : BitVec 32 := Scalar.extui v2050
  let c0_i32_1423 : BitVec 32 := 0#32
  let v2052 : BitVec 1 := Scalar.cmpi .ne v2051 c0_i32_1423
  v2052

def k0_off72 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4482 : BitVec 32 := 4#32
  let v5953 : BitVec 32 := Scalar.subi v2 c4_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1424 : BitVec 32 := 5#32
  let v2053 : BitVec 1 := Scalar.cmpi .ne v2 c5_i32_1424
  let v2054 : BitVec 32 := Scalar.extui v2053
  let c0_i32_1425 : BitVec 32 := 0#32
  let v2055 : BitVec 1 := Scalar.cmpi .ne v2054 c0_i32_1425
  v2055

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_4482 : BitVec 32 := 5#32
  let v5953 : BitVec 32 := Scalar.subi v2 c5_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1426 : BitVec 32 := 6#32
  let v2056 : BitVec 1 := Scalar.cmpi .ne v2 c6_i32_1426
  let v2057 : BitVec 32 := Scalar.extui v2056
  let c0_i32_1427 : BitVec 32 := 0#32
  let v2058 : BitVec 1 := Scalar.cmpi .ne v2057 c0_i32_1427
  v2058

def k0_off74 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_4482 : BitVec 32 := 6#32
  let v5953 : BitVec 32 := Scalar.subi v2 c6_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1428 : BitVec 32 := 7#32
  let v2059 : BitVec 1 := Scalar.cmpi .ne v2 c7_i32_1428
  let v2060 : BitVec 32 := Scalar.extui v2059
  let c0_i32_1429 : BitVec 32 := 0#32
  let v2061 : BitVec 1 := Scalar.cmpi .ne v2060 c0_i32_1429
  v2061

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_4482 : BitVec 32 := 7#32
  let v5953 : BitVec 32 := Scalar.subi v2 c7_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2346 : BitVec 32 := 0#32
  let v3169 : BitVec 1 := Scalar.cmpi .ne v2 c0_i32_2346
  let v3170 : BitVec 32 := Scalar.extui v3169
  let c0_i32_2347 : BitVec 32 := 0#32
  let v3171 : BitVec 1 := Scalar.cmpi .ne v3170 c0_i32_2347
  v3171

def k0_off76 (d0 : Dev nD) : Fin 1 → Nat :=
  let c0_i32_4482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c0_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off77 (d0 : Dev nD) : Fin 3 → Nat :=
  let c0_i32_4482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c0_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev95 : Nat :=
  let c0_i32_4491 : BitVec 32 := 0#32
  let c0_i32_4489 : BitVec 32 := 0#32
  let c1_i32_4490 : BitVec 32 := 1#32
  let v5964 : BitVec 32 := Scalar.muli c0_i32_4489 c1_i32_4490
  let v5965 : BitVec 32 := Scalar.addi c0_i32_4491 v5964
  v5965.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2348 : BitVec 32 := 1#32
  let v3172 : BitVec 1 := Scalar.cmpi .ne v2 c1_i32_2348
  let v3173 : BitVec 32 := Scalar.extui v3172
  let c0_i32_2349 : BitVec 32 := 0#32
  let v3174 : BitVec 1 := Scalar.cmpi .ne v3173 c0_i32_2349
  v3174

def k0_off78 (d0 : Dev nD) : Fin 1 → Nat :=
  let c1_i32_4482 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c1_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off79 (d0 : Dev nD) : Fin 3 → Nat :=
  let c1_i32_4482 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c1_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev96 : Nat :=
  let c0_i32_4491 : BitVec 32 := 0#32
  let c1_i32_4489 : BitVec 32 := 1#32
  let c1_i32_4490 : BitVec 32 := 1#32
  let v5964 : BitVec 32 := Scalar.muli c1_i32_4489 c1_i32_4490
  let v5965 : BitVec 32 := Scalar.addi c0_i32_4491 v5964
  v5965.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2350 : BitVec 32 := 2#32
  let v3175 : BitVec 1 := Scalar.cmpi .ne v2 c2_i32_2350
  let v3176 : BitVec 32 := Scalar.extui v3175
  let c0_i32_2351 : BitVec 32 := 0#32
  let v3177 : BitVec 1 := Scalar.cmpi .ne v3176 c0_i32_2351
  v3177

def k0_off80 (d0 : Dev nD) : Fin 1 → Nat :=
  let c2_i32_4482 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c2_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off81 (d0 : Dev nD) : Fin 3 → Nat :=
  let c2_i32_4482 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c2_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev97 : Nat :=
  let c0_i32_4491 : BitVec 32 := 0#32
  let c2_i32_4489 : BitVec 32 := 2#32
  let c1_i32_4490 : BitVec 32 := 1#32
  let v5964 : BitVec 32 := Scalar.muli c2_i32_4489 c1_i32_4490
  let v5965 : BitVec 32 := Scalar.addi c0_i32_4491 v5964
  v5965.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2352 : BitVec 32 := 3#32
  let v3178 : BitVec 1 := Scalar.cmpi .ne v2 c3_i32_2352
  let v3179 : BitVec 32 := Scalar.extui v3178
  let c0_i32_2353 : BitVec 32 := 0#32
  let v3180 : BitVec 1 := Scalar.cmpi .ne v3179 c0_i32_2353
  v3180

def k0_off82 (d0 : Dev nD) : Fin 1 → Nat :=
  let c3_i32_4482 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c3_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off83 (d0 : Dev nD) : Fin 3 → Nat :=
  let c3_i32_4482 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c3_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev98 : Nat :=
  let c0_i32_4491 : BitVec 32 := 0#32
  let c3_i32_4489 : BitVec 32 := 3#32
  let c1_i32_4490 : BitVec 32 := 1#32
  let v5964 : BitVec 32 := Scalar.muli c3_i32_4489 c1_i32_4490
  let v5965 : BitVec 32 := Scalar.addi c0_i32_4491 v5964
  v5965.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2354 : BitVec 32 := 4#32
  let v3181 : BitVec 1 := Scalar.cmpi .ne v2 c4_i32_2354
  let v3182 : BitVec 32 := Scalar.extui v3181
  let c0_i32_2355 : BitVec 32 := 0#32
  let v3183 : BitVec 1 := Scalar.cmpi .ne v3182 c0_i32_2355
  v3183

def k0_off84 (d0 : Dev nD) : Fin 1 → Nat :=
  let c4_i32_4482 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c4_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off85 (d0 : Dev nD) : Fin 3 → Nat :=
  let c4_i32_4482 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c4_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev99 : Nat :=
  let c0_i32_4491 : BitVec 32 := 0#32
  let c4_i32_4489 : BitVec 32 := 4#32
  let c1_i32_4490 : BitVec 32 := 1#32
  let v5964 : BitVec 32 := Scalar.muli c4_i32_4489 c1_i32_4490
  let v5965 : BitVec 32 := Scalar.addi c0_i32_4491 v5964
  v5965.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2356 : BitVec 32 := 5#32
  let v3184 : BitVec 1 := Scalar.cmpi .ne v2 c5_i32_2356
  let v3185 : BitVec 32 := Scalar.extui v3184
  let c0_i32_2357 : BitVec 32 := 0#32
  let v3186 : BitVec 1 := Scalar.cmpi .ne v3185 c0_i32_2357
  v3186

def k0_off86 (d0 : Dev nD) : Fin 1 → Nat :=
  let c5_i32_4482 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c5_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off87 (d0 : Dev nD) : Fin 3 → Nat :=
  let c5_i32_4482 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c5_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev100 : Nat :=
  let c0_i32_4491 : BitVec 32 := 0#32
  let c5_i32_4489 : BitVec 32 := 5#32
  let c1_i32_4490 : BitVec 32 := 1#32
  let v5964 : BitVec 32 := Scalar.muli c5_i32_4489 c1_i32_4490
  let v5965 : BitVec 32 := Scalar.addi c0_i32_4491 v5964
  v5965.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2358 : BitVec 32 := 6#32
  let v3187 : BitVec 1 := Scalar.cmpi .ne v2 c6_i32_2358
  let v3188 : BitVec 32 := Scalar.extui v3187
  let c0_i32_2359 : BitVec 32 := 0#32
  let v3189 : BitVec 1 := Scalar.cmpi .ne v3188 c0_i32_2359
  v3189

def k0_off88 (d0 : Dev nD) : Fin 1 → Nat :=
  let c6_i32_4482 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c6_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off89 (d0 : Dev nD) : Fin 3 → Nat :=
  let c6_i32_4482 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c6_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev101 : Nat :=
  let c0_i32_4491 : BitVec 32 := 0#32
  let c6_i32_4489 : BitVec 32 := 6#32
  let c1_i32_4490 : BitVec 32 := 1#32
  let v5964 : BitVec 32 := Scalar.muli c6_i32_4489 c1_i32_4490
  let v5965 : BitVec 32 := Scalar.addi c0_i32_4491 v5964
  v5965.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2360 : BitVec 32 := 7#32
  let v3190 : BitVec 1 := Scalar.cmpi .ne v2 c7_i32_2360
  let v3191 : BitVec 32 := Scalar.extui v3190
  let c0_i32_2361 : BitVec 32 := 0#32
  let v3192 : BitVec 1 := Scalar.cmpi .ne v3191 c0_i32_2361
  v3192

def k0_off90 (d0 : Dev nD) : Fin 1 → Nat :=
  let c7_i32_4482 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c7_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off91 (d0 : Dev nD) : Fin 3 → Nat :=
  let c7_i32_4482 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c7_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev102 : Nat :=
  let c0_i32_4491 : BitVec 32 := 0#32
  let c7_i32_4489 : BitVec 32 := 7#32
  let c1_i32_4490 : BitVec 32 := 1#32
  let v5964 : BitVec 32 := Scalar.muli c7_i32_4489 c1_i32_4490
  let v5965 : BitVec 32 := Scalar.addi c0_i32_4491 v5964
  v5965.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2362 : BitVec 32 := 8#32
  let v3193 : BitVec 1 := Scalar.cmpi .ne v2 c8_i32_2362
  let v3194 : BitVec 32 := Scalar.extui v3193
  let c0_i32_2363 : BitVec 32 := 0#32
  let v3195 : BitVec 1 := Scalar.cmpi .ne v3194 c0_i32_2363
  v3195

def k0_off92 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4482 : BitVec 32 := 8#32
  let v5953 : BitVec 32 := Scalar.subi v2 c8_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2364 : BitVec 32 := 9#32
  let v3196 : BitVec 1 := Scalar.cmpi .ne v2 c9_i32_2364
  let v3197 : BitVec 32 := Scalar.extui v3196
  let c0_i32_2365 : BitVec 32 := 0#32
  let v3198 : BitVec 1 := Scalar.cmpi .ne v3197 c0_i32_2365
  v3198

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_4482 : BitVec 32 := 9#32
  let v5953 : BitVec 32 := Scalar.subi v2 c9_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2366 : BitVec 32 := 10#32
  let v3199 : BitVec 1 := Scalar.cmpi .ne v2 c10_i32_2366
  let v3200 : BitVec 32 := Scalar.extui v3199
  let c0_i32_2367 : BitVec 32 := 0#32
  let v3201 : BitVec 1 := Scalar.cmpi .ne v3200 c0_i32_2367
  v3201

def k0_off94 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_4482 : BitVec 32 := 10#32
  let v5953 : BitVec 32 := Scalar.subi v2 c10_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2368 : BitVec 32 := 11#32
  let v3202 : BitVec 1 := Scalar.cmpi .ne v2 c11_i32_2368
  let v3203 : BitVec 32 := Scalar.extui v3202
  let c0_i32_2369 : BitVec 32 := 0#32
  let v3204 : BitVec 1 := Scalar.cmpi .ne v3203 c0_i32_2369
  v3204

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_4482 : BitVec 32 := 11#32
  let v5953 : BitVec 32 := Scalar.subi v2 c11_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2370 : BitVec 32 := 12#32
  let v3205 : BitVec 1 := Scalar.cmpi .ne v2 c12_i32_2370
  let v3206 : BitVec 32 := Scalar.extui v3205
  let c0_i32_2371 : BitVec 32 := 0#32
  let v3207 : BitVec 1 := Scalar.cmpi .ne v3206 c0_i32_2371
  v3207

def k0_off96 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_4482 : BitVec 32 := 12#32
  let v5953 : BitVec 32 := Scalar.subi v2 c12_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2372 : BitVec 32 := 13#32
  let v3208 : BitVec 1 := Scalar.cmpi .ne v2 c13_i32_2372
  let v3209 : BitVec 32 := Scalar.extui v3208
  let c0_i32_2373 : BitVec 32 := 0#32
  let v3210 : BitVec 1 := Scalar.cmpi .ne v3209 c0_i32_2373
  v3210

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_4482 : BitVec 32 := 13#32
  let v5953 : BitVec 32 := Scalar.subi v2 c13_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2374 : BitVec 32 := 14#32
  let v3211 : BitVec 1 := Scalar.cmpi .ne v2 c14_i32_2374
  let v3212 : BitVec 32 := Scalar.extui v3211
  let c0_i32_2375 : BitVec 32 := 0#32
  let v3213 : BitVec 1 := Scalar.cmpi .ne v3212 c0_i32_2375
  v3213

def k0_off98 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_4482 : BitVec 32 := 14#32
  let v5953 : BitVec 32 := Scalar.subi v2 c14_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2376 : BitVec 32 := 15#32
  let v3214 : BitVec 1 := Scalar.cmpi .ne v2 c15_i32_2376
  let v3215 : BitVec 32 := Scalar.extui v3214
  let c0_i32_2377 : BitVec 32 := 0#32
  let v3216 : BitVec 1 := Scalar.cmpi .ne v3215 c0_i32_2377
  v3216

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_4482 : BitVec 32 := 15#32
  let v5953 : BitVec 32 := Scalar.subi v2 c15_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2395 : BitVec 32 := 8#32
  let v3270 : BitVec 1 := Scalar.cmpi .ne v2 c8_i32_2395
  let v3271 : BitVec 32 := Scalar.extui v3270
  let c0_i32_2396 : BitVec 32 := 0#32
  let v3272 : BitVec 1 := Scalar.cmpi .ne v3271 c0_i32_2396
  v3272

def k0_off100 (d0 : Dev nD) : Fin 1 → Nat :=
  let c8_i32_4482 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c8_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off101 (d0 : Dev nD) : Fin 3 → Nat :=
  let c8_i32_4482 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c8_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev103 : Nat :=
  let c0_i32_4491 : BitVec 32 := 0#32
  let c8_i32_4489 : BitVec 32 := 8#32
  let c1_i32_4490 : BitVec 32 := 1#32
  let v5964 : BitVec 32 := Scalar.muli c8_i32_4489 c1_i32_4490
  let v5965 : BitVec 32 := Scalar.addi c0_i32_4491 v5964
  v5965.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2397 : BitVec 32 := 9#32
  let v3273 : BitVec 1 := Scalar.cmpi .ne v2 c9_i32_2397
  let v3274 : BitVec 32 := Scalar.extui v3273
  let c0_i32_2398 : BitVec 32 := 0#32
  let v3275 : BitVec 1 := Scalar.cmpi .ne v3274 c0_i32_2398
  v3275

def k0_off102 (d0 : Dev nD) : Fin 1 → Nat :=
  let c9_i32_4482 : BitVec 32 := 9#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c9_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off103 (d0 : Dev nD) : Fin 3 → Nat :=
  let c9_i32_4482 : BitVec 32 := 9#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c9_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev104 : Nat :=
  let c0_i32_4491 : BitVec 32 := 0#32
  let c9_i32_4489 : BitVec 32 := 9#32
  let c1_i32_4490 : BitVec 32 := 1#32
  let v5964 : BitVec 32 := Scalar.muli c9_i32_4489 c1_i32_4490
  let v5965 : BitVec 32 := Scalar.addi c0_i32_4491 v5964
  v5965.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2399 : BitVec 32 := 10#32
  let v3276 : BitVec 1 := Scalar.cmpi .ne v2 c10_i32_2399
  let v3277 : BitVec 32 := Scalar.extui v3276
  let c0_i32_2400 : BitVec 32 := 0#32
  let v3278 : BitVec 1 := Scalar.cmpi .ne v3277 c0_i32_2400
  v3278

def k0_off104 (d0 : Dev nD) : Fin 1 → Nat :=
  let c10_i32_4482 : BitVec 32 := 10#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c10_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off105 (d0 : Dev nD) : Fin 3 → Nat :=
  let c10_i32_4482 : BitVec 32 := 10#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c10_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev105 : Nat :=
  let c0_i32_4491 : BitVec 32 := 0#32
  let c10_i32_4489 : BitVec 32 := 10#32
  let c1_i32_4490 : BitVec 32 := 1#32
  let v5964 : BitVec 32 := Scalar.muli c10_i32_4489 c1_i32_4490
  let v5965 : BitVec 32 := Scalar.addi c0_i32_4491 v5964
  v5965.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2401 : BitVec 32 := 11#32
  let v3279 : BitVec 1 := Scalar.cmpi .ne v2 c11_i32_2401
  let v3280 : BitVec 32 := Scalar.extui v3279
  let c0_i32_2402 : BitVec 32 := 0#32
  let v3281 : BitVec 1 := Scalar.cmpi .ne v3280 c0_i32_2402
  v3281

def k0_off106 (d0 : Dev nD) : Fin 1 → Nat :=
  let c11_i32_4482 : BitVec 32 := 11#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c11_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off107 (d0 : Dev nD) : Fin 3 → Nat :=
  let c11_i32_4482 : BitVec 32 := 11#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c11_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev106 : Nat :=
  let c0_i32_4491 : BitVec 32 := 0#32
  let c11_i32_4489 : BitVec 32 := 11#32
  let c1_i32_4490 : BitVec 32 := 1#32
  let v5964 : BitVec 32 := Scalar.muli c11_i32_4489 c1_i32_4490
  let v5965 : BitVec 32 := Scalar.addi c0_i32_4491 v5964
  v5965.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2403 : BitVec 32 := 12#32
  let v3282 : BitVec 1 := Scalar.cmpi .ne v2 c12_i32_2403
  let v3283 : BitVec 32 := Scalar.extui v3282
  let c0_i32_2404 : BitVec 32 := 0#32
  let v3284 : BitVec 1 := Scalar.cmpi .ne v3283 c0_i32_2404
  v3284

def k0_off108 (d0 : Dev nD) : Fin 1 → Nat :=
  let c12_i32_4482 : BitVec 32 := 12#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c12_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off109 (d0 : Dev nD) : Fin 3 → Nat :=
  let c12_i32_4482 : BitVec 32 := 12#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c12_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev107 : Nat :=
  let c0_i32_4491 : BitVec 32 := 0#32
  let c12_i32_4489 : BitVec 32 := 12#32
  let c1_i32_4490 : BitVec 32 := 1#32
  let v5964 : BitVec 32 := Scalar.muli c12_i32_4489 c1_i32_4490
  let v5965 : BitVec 32 := Scalar.addi c0_i32_4491 v5964
  v5965.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2405 : BitVec 32 := 13#32
  let v3285 : BitVec 1 := Scalar.cmpi .ne v2 c13_i32_2405
  let v3286 : BitVec 32 := Scalar.extui v3285
  let c0_i32_2406 : BitVec 32 := 0#32
  let v3287 : BitVec 1 := Scalar.cmpi .ne v3286 c0_i32_2406
  v3287

def k0_off110 (d0 : Dev nD) : Fin 1 → Nat :=
  let c13_i32_4482 : BitVec 32 := 13#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c13_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off111 (d0 : Dev nD) : Fin 3 → Nat :=
  let c13_i32_4482 : BitVec 32 := 13#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c13_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev108 : Nat :=
  let c0_i32_4491 : BitVec 32 := 0#32
  let c13_i32_4489 : BitVec 32 := 13#32
  let c1_i32_4490 : BitVec 32 := 1#32
  let v5964 : BitVec 32 := Scalar.muli c13_i32_4489 c1_i32_4490
  let v5965 : BitVec 32 := Scalar.addi c0_i32_4491 v5964
  v5965.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2407 : BitVec 32 := 14#32
  let v3288 : BitVec 1 := Scalar.cmpi .ne v2 c14_i32_2407
  let v3289 : BitVec 32 := Scalar.extui v3288
  let c0_i32_2408 : BitVec 32 := 0#32
  let v3290 : BitVec 1 := Scalar.cmpi .ne v3289 c0_i32_2408
  v3290

def k0_off112 (d0 : Dev nD) : Fin 1 → Nat :=
  let c14_i32_4482 : BitVec 32 := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c14_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off113 (d0 : Dev nD) : Fin 3 → Nat :=
  let c14_i32_4482 : BitVec 32 := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c14_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev109 : Nat :=
  let c0_i32_4491 : BitVec 32 := 0#32
  let c14_i32_4489 : BitVec 32 := 14#32
  let c1_i32_4490 : BitVec 32 := 1#32
  let v5964 : BitVec 32 := Scalar.muli c14_i32_4489 c1_i32_4490
  let v5965 : BitVec 32 := Scalar.addi c0_i32_4491 v5964
  v5965.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2409 : BitVec 32 := 15#32
  let v3291 : BitVec 1 := Scalar.cmpi .ne v2 c15_i32_2409
  let v3292 : BitVec 32 := Scalar.extui v3291
  let c0_i32_2410 : BitVec 32 := 0#32
  let v3293 : BitVec 1 := Scalar.cmpi .ne v3292 c0_i32_2410
  v3293

def k0_off114 (d0 : Dev nD) : Fin 1 → Nat :=
  let c15_i32_4482 : BitVec 32 := 15#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c15_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off115 (d0 : Dev nD) : Fin 3 → Nat :=
  let c15_i32_4482 : BitVec 32 := 15#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c15_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev110 : Nat :=
  let c0_i32_4491 : BitVec 32 := 0#32
  let c15_i32_4489 : BitVec 32 := 15#32
  let c1_i32_4490 : BitVec 32 := 1#32
  let v5964 : BitVec 32 := Scalar.muli c15_i32_4489 c1_i32_4490
  let v5965 : BitVec 32 := Scalar.addi c0_i32_4491 v5964
  v5965.toNat
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2411 : BitVec 32 := 16#32
  let v3294 : BitVec 1 := Scalar.cmpi .ne v2 c16_i32_2411
  let v3295 : BitVec 32 := Scalar.extui v3294
  let c0_i32_2412 : BitVec 32 := 0#32
  let v3296 : BitVec 1 := Scalar.cmpi .ne v3295 c0_i32_2412
  v3296

def k0_off116 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4482 : BitVec 32 := 16#32
  let v5953 : BitVec 32 := Scalar.subi v2 c16_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2413 : BitVec 32 := 17#32
  let v3297 : BitVec 1 := Scalar.cmpi .ne v2 c17_i32_2413
  let v3298 : BitVec 32 := Scalar.extui v3297
  let c0_i32_2414 : BitVec 32 := 0#32
  let v3299 : BitVec 1 := Scalar.cmpi .ne v3298 c0_i32_2414
  v3299

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_4482 : BitVec 32 := 17#32
  let v5953 : BitVec 32 := Scalar.subi v2 c17_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2415 : BitVec 32 := 18#32
  let v3300 : BitVec 1 := Scalar.cmpi .ne v2 c18_i32_2415
  let v3301 : BitVec 32 := Scalar.extui v3300
  let c0_i32_2416 : BitVec 32 := 0#32
  let v3302 : BitVec 1 := Scalar.cmpi .ne v3301 c0_i32_2416
  v3302

def k0_off118 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_4482 : BitVec 32 := 18#32
  let v5953 : BitVec 32 := Scalar.subi v2 c18_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2417 : BitVec 32 := 19#32
  let v3303 : BitVec 1 := Scalar.cmpi .ne v2 c19_i32_2417
  let v3304 : BitVec 32 := Scalar.extui v3303
  let c0_i32_2418 : BitVec 32 := 0#32
  let v3305 : BitVec 1 := Scalar.cmpi .ne v3304 c0_i32_2418
  v3305

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_4482 : BitVec 32 := 19#32
  let v5953 : BitVec 32 := Scalar.subi v2 c19_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2419 : BitVec 32 := 20#32
  let v3306 : BitVec 1 := Scalar.cmpi .ne v2 c20_i32_2419
  let v3307 : BitVec 32 := Scalar.extui v3306
  let c0_i32_2420 : BitVec 32 := 0#32
  let v3308 : BitVec 1 := Scalar.cmpi .ne v3307 c0_i32_2420
  v3308

def k0_off120 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_4482 : BitVec 32 := 20#32
  let v5953 : BitVec 32 := Scalar.subi v2 c20_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2421 : BitVec 32 := 21#32
  let v3309 : BitVec 1 := Scalar.cmpi .ne v2 c21_i32_2421
  let v3310 : BitVec 32 := Scalar.extui v3309
  let c0_i32_2422 : BitVec 32 := 0#32
  let v3311 : BitVec 1 := Scalar.cmpi .ne v3310 c0_i32_2422
  v3311

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_4482 : BitVec 32 := 21#32
  let v5953 : BitVec 32 := Scalar.subi v2 c21_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2423 : BitVec 32 := 22#32
  let v3312 : BitVec 1 := Scalar.cmpi .ne v2 c22_i32_2423
  let v3313 : BitVec 32 := Scalar.extui v3312
  let c0_i32_2424 : BitVec 32 := 0#32
  let v3314 : BitVec 1 := Scalar.cmpi .ne v3313 c0_i32_2424
  v3314

def k0_off122 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_4482 : BitVec 32 := 22#32
  let v5953 : BitVec 32 := Scalar.subi v2 c22_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2425 : BitVec 32 := 23#32
  let v3315 : BitVec 1 := Scalar.cmpi .ne v2 c23_i32_2425
  let v3316 : BitVec 32 := Scalar.extui v3315
  let c0_i32_2426 : BitVec 32 := 0#32
  let v3317 : BitVec 1 := Scalar.cmpi .ne v3316 c0_i32_2426
  v3317

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_4482 : BitVec 32 := 23#32
  let v5953 : BitVec 32 := Scalar.subi v2 c23_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2444 : BitVec 32 := 16#32
  let v3371 : BitVec 1 := Scalar.cmpi .ne v2 c16_i32_2444
  let v3372 : BitVec 32 := Scalar.extui v3371
  let c0_i32_2445 : BitVec 32 := 0#32
  let v3373 : BitVec 1 := Scalar.cmpi .ne v3372 c0_i32_2445
  v3373

def k0_off124 (d0 : Dev nD) : Fin 1 → Nat :=
  let c16_i32_4482 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c16_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off125 (d0 : Dev nD) : Fin 3 → Nat :=
  let c16_i32_4482 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c16_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev111 : Nat :=
  let c0_i32_4491 : BitVec 32 := 0#32
  let c16_i32_4489 : BitVec 32 := 16#32
  let c1_i32_4490 : BitVec 32 := 1#32
  let v5964 : BitVec 32 := Scalar.muli c16_i32_4489 c1_i32_4490
  let v5965 : BitVec 32 := Scalar.addi c0_i32_4491 v5964
  v5965.toNat
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2446 : BitVec 32 := 17#32
  let v3374 : BitVec 1 := Scalar.cmpi .ne v2 c17_i32_2446
  let v3375 : BitVec 32 := Scalar.extui v3374
  let c0_i32_2447 : BitVec 32 := 0#32
  let v3376 : BitVec 1 := Scalar.cmpi .ne v3375 c0_i32_2447
  v3376

def k0_off126 (d0 : Dev nD) : Fin 1 → Nat :=
  let c17_i32_4482 : BitVec 32 := 17#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c17_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off127 (d0 : Dev nD) : Fin 3 → Nat :=
  let c17_i32_4482 : BitVec 32 := 17#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c17_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev112 : Nat :=
  let c0_i32_4491 : BitVec 32 := 0#32
  let c17_i32_4489 : BitVec 32 := 17#32
  let c1_i32_4490 : BitVec 32 := 1#32
  let v5964 : BitVec 32 := Scalar.muli c17_i32_4489 c1_i32_4490
  let v5965 : BitVec 32 := Scalar.addi c0_i32_4491 v5964
  v5965.toNat
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2448 : BitVec 32 := 18#32
  let v3377 : BitVec 1 := Scalar.cmpi .ne v2 c18_i32_2448
  let v3378 : BitVec 32 := Scalar.extui v3377
  let c0_i32_2449 : BitVec 32 := 0#32
  let v3379 : BitVec 1 := Scalar.cmpi .ne v3378 c0_i32_2449
  v3379

def k0_off128 (d0 : Dev nD) : Fin 1 → Nat :=
  let c18_i32_4482 : BitVec 32 := 18#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c18_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off129 (d0 : Dev nD) : Fin 3 → Nat :=
  let c18_i32_4482 : BitVec 32 := 18#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c18_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev113 : Nat :=
  let c0_i32_4491 : BitVec 32 := 0#32
  let c18_i32_4489 : BitVec 32 := 18#32
  let c1_i32_4490 : BitVec 32 := 1#32
  let v5964 : BitVec 32 := Scalar.muli c18_i32_4489 c1_i32_4490
  let v5965 : BitVec 32 := Scalar.addi c0_i32_4491 v5964
  v5965.toNat
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2450 : BitVec 32 := 19#32
  let v3380 : BitVec 1 := Scalar.cmpi .ne v2 c19_i32_2450
  let v3381 : BitVec 32 := Scalar.extui v3380
  let c0_i32_2451 : BitVec 32 := 0#32
  let v3382 : BitVec 1 := Scalar.cmpi .ne v3381 c0_i32_2451
  v3382

def k0_off130 (d0 : Dev nD) : Fin 1 → Nat :=
  let c19_i32_4482 : BitVec 32 := 19#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c19_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off131 (d0 : Dev nD) : Fin 3 → Nat :=
  let c19_i32_4482 : BitVec 32 := 19#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c19_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev114 : Nat :=
  let c0_i32_4491 : BitVec 32 := 0#32
  let c19_i32_4489 : BitVec 32 := 19#32
  let c1_i32_4490 : BitVec 32 := 1#32
  let v5964 : BitVec 32 := Scalar.muli c19_i32_4489 c1_i32_4490
  let v5965 : BitVec 32 := Scalar.addi c0_i32_4491 v5964
  v5965.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2452 : BitVec 32 := 20#32
  let v3383 : BitVec 1 := Scalar.cmpi .ne v2 c20_i32_2452
  let v3384 : BitVec 32 := Scalar.extui v3383
  let c0_i32_2453 : BitVec 32 := 0#32
  let v3385 : BitVec 1 := Scalar.cmpi .ne v3384 c0_i32_2453
  v3385

def k0_off132 (d0 : Dev nD) : Fin 1 → Nat :=
  let c20_i32_4482 : BitVec 32 := 20#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c20_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off133 (d0 : Dev nD) : Fin 3 → Nat :=
  let c20_i32_4482 : BitVec 32 := 20#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c20_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev115 : Nat :=
  let c0_i32_4491 : BitVec 32 := 0#32
  let c20_i32_4489 : BitVec 32 := 20#32
  let c1_i32_4490 : BitVec 32 := 1#32
  let v5964 : BitVec 32 := Scalar.muli c20_i32_4489 c1_i32_4490
  let v5965 : BitVec 32 := Scalar.addi c0_i32_4491 v5964
  v5965.toNat
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2454 : BitVec 32 := 21#32
  let v3386 : BitVec 1 := Scalar.cmpi .ne v2 c21_i32_2454
  let v3387 : BitVec 32 := Scalar.extui v3386
  let c0_i32_2455 : BitVec 32 := 0#32
  let v3388 : BitVec 1 := Scalar.cmpi .ne v3387 c0_i32_2455
  v3388

def k0_off134 (d0 : Dev nD) : Fin 1 → Nat :=
  let c21_i32_4482 : BitVec 32 := 21#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c21_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off135 (d0 : Dev nD) : Fin 3 → Nat :=
  let c21_i32_4482 : BitVec 32 := 21#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c21_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev116 : Nat :=
  let c0_i32_4491 : BitVec 32 := 0#32
  let c21_i32_4489 : BitVec 32 := 21#32
  let c1_i32_4490 : BitVec 32 := 1#32
  let v5964 : BitVec 32 := Scalar.muli c21_i32_4489 c1_i32_4490
  let v5965 : BitVec 32 := Scalar.addi c0_i32_4491 v5964
  v5965.toNat
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2456 : BitVec 32 := 22#32
  let v3389 : BitVec 1 := Scalar.cmpi .ne v2 c22_i32_2456
  let v3390 : BitVec 32 := Scalar.extui v3389
  let c0_i32_2457 : BitVec 32 := 0#32
  let v3391 : BitVec 1 := Scalar.cmpi .ne v3390 c0_i32_2457
  v3391

def k0_off136 (d0 : Dev nD) : Fin 1 → Nat :=
  let c22_i32_4482 : BitVec 32 := 22#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c22_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off137 (d0 : Dev nD) : Fin 3 → Nat :=
  let c22_i32_4482 : BitVec 32 := 22#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c22_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev117 : Nat :=
  let c0_i32_4491 : BitVec 32 := 0#32
  let c22_i32_4489 : BitVec 32 := 22#32
  let c1_i32_4490 : BitVec 32 := 1#32
  let v5964 : BitVec 32 := Scalar.muli c22_i32_4489 c1_i32_4490
  let v5965 : BitVec 32 := Scalar.addi c0_i32_4491 v5964
  v5965.toNat
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2458 : BitVec 32 := 23#32
  let v3392 : BitVec 1 := Scalar.cmpi .ne v2 c23_i32_2458
  let v3393 : BitVec 32 := Scalar.extui v3392
  let c0_i32_2459 : BitVec 32 := 0#32
  let v3394 : BitVec 1 := Scalar.cmpi .ne v3393 c0_i32_2459
  v3394

def k0_off138 (d0 : Dev nD) : Fin 1 → Nat :=
  let c23_i32_4482 : BitVec 32 := 23#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c23_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off139 (d0 : Dev nD) : Fin 3 → Nat :=
  let c23_i32_4482 : BitVec 32 := 23#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c23_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev118 : Nat :=
  let c0_i32_4491 : BitVec 32 := 0#32
  let c23_i32_4489 : BitVec 32 := 23#32
  let c1_i32_4490 : BitVec 32 := 1#32
  let v5964 : BitVec 32 := Scalar.muli c23_i32_4489 c1_i32_4490
  let v5965 : BitVec 32 := Scalar.addi c0_i32_4491 v5964
  v5965.toNat
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2460 : BitVec 32 := 24#32
  let v3395 : BitVec 1 := Scalar.cmpi .ne v2 c24_i32_2460
  let v3396 : BitVec 32 := Scalar.extui v3395
  let c0_i32_2461 : BitVec 32 := 0#32
  let v3397 : BitVec 1 := Scalar.cmpi .ne v3396 c0_i32_2461
  v3397

def k0_off140 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_4482 : BitVec 32 := 24#32
  let v5953 : BitVec 32 := Scalar.subi v2 c24_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2462 : BitVec 32 := 25#32
  let v3398 : BitVec 1 := Scalar.cmpi .ne v2 c25_i32_2462
  let v3399 : BitVec 32 := Scalar.extui v3398
  let c0_i32_2463 : BitVec 32 := 0#32
  let v3400 : BitVec 1 := Scalar.cmpi .ne v3399 c0_i32_2463
  v3400

def k0_off141 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_4482 : BitVec 32 := 25#32
  let v5953 : BitVec 32 := Scalar.subi v2 c25_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2464 : BitVec 32 := 26#32
  let v3401 : BitVec 1 := Scalar.cmpi .ne v2 c26_i32_2464
  let v3402 : BitVec 32 := Scalar.extui v3401
  let c0_i32_2465 : BitVec 32 := 0#32
  let v3403 : BitVec 1 := Scalar.cmpi .ne v3402 c0_i32_2465
  v3403

def k0_off142 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_4482 : BitVec 32 := 26#32
  let v5953 : BitVec 32 := Scalar.subi v2 c26_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2466 : BitVec 32 := 27#32
  let v3404 : BitVec 1 := Scalar.cmpi .ne v2 c27_i32_2466
  let v3405 : BitVec 32 := Scalar.extui v3404
  let c0_i32_2467 : BitVec 32 := 0#32
  let v3406 : BitVec 1 := Scalar.cmpi .ne v3405 c0_i32_2467
  v3406

def k0_off143 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_4482 : BitVec 32 := 27#32
  let v5953 : BitVec 32 := Scalar.subi v2 c27_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2468 : BitVec 32 := 28#32
  let v3407 : BitVec 1 := Scalar.cmpi .ne v2 c28_i32_2468
  let v3408 : BitVec 32 := Scalar.extui v3407
  let c0_i32_2469 : BitVec 32 := 0#32
  let v3409 : BitVec 1 := Scalar.cmpi .ne v3408 c0_i32_2469
  v3409

def k0_off144 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_4482 : BitVec 32 := 28#32
  let v5953 : BitVec 32 := Scalar.subi v2 c28_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2470 : BitVec 32 := 29#32
  let v3410 : BitVec 1 := Scalar.cmpi .ne v2 c29_i32_2470
  let v3411 : BitVec 32 := Scalar.extui v3410
  let c0_i32_2471 : BitVec 32 := 0#32
  let v3412 : BitVec 1 := Scalar.cmpi .ne v3411 c0_i32_2471
  v3412

def k0_off145 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_4482 : BitVec 32 := 29#32
  let v5953 : BitVec 32 := Scalar.subi v2 c29_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2472 : BitVec 32 := 30#32
  let v3413 : BitVec 1 := Scalar.cmpi .ne v2 c30_i32_2472
  let v3414 : BitVec 32 := Scalar.extui v3413
  let c0_i32_2473 : BitVec 32 := 0#32
  let v3415 : BitVec 1 := Scalar.cmpi .ne v3414 c0_i32_2473
  v3415

def k0_off146 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_4482 : BitVec 32 := 30#32
  let v5953 : BitVec 32 := Scalar.subi v2 c30_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2474 : BitVec 32 := 31#32
  let v3416 : BitVec 1 := Scalar.cmpi .ne v2 c31_i32_2474
  let v3417 : BitVec 32 := Scalar.extui v3416
  let c0_i32_2475 : BitVec 32 := 0#32
  let v3418 : BitVec 1 := Scalar.cmpi .ne v3417 c0_i32_2475
  v3418

def k0_off147 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_4482 : BitVec 32 := 31#32
  let v5953 : BitVec 32 := Scalar.subi v2 c31_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2492 : BitVec 32 := 24#32
  let v3472 : BitVec 1 := Scalar.cmpi .ne v2 c24_i32_2492
  let v3473 : BitVec 32 := Scalar.extui v3472
  let c0_i32_2493 : BitVec 32 := 0#32
  let v3474 : BitVec 1 := Scalar.cmpi .ne v3473 c0_i32_2493
  v3474

def k0_off148 (d0 : Dev nD) : Fin 1 → Nat :=
  let c24_i32_4482 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c24_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off149 (d0 : Dev nD) : Fin 3 → Nat :=
  let c24_i32_4482 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c24_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev119 : Nat :=
  let c0_i32_4491 : BitVec 32 := 0#32
  let c24_i32_4489 : BitVec 32 := 24#32
  let c1_i32_4490 : BitVec 32 := 1#32
  let v5964 : BitVec 32 := Scalar.muli c24_i32_4489 c1_i32_4490
  let v5965 : BitVec 32 := Scalar.addi c0_i32_4491 v5964
  v5965.toNat
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2494 : BitVec 32 := 25#32
  let v3475 : BitVec 1 := Scalar.cmpi .ne v2 c25_i32_2494
  let v3476 : BitVec 32 := Scalar.extui v3475
  let c0_i32_2495 : BitVec 32 := 0#32
  let v3477 : BitVec 1 := Scalar.cmpi .ne v3476 c0_i32_2495
  v3477

def k0_off150 (d0 : Dev nD) : Fin 1 → Nat :=
  let c25_i32_4482 : BitVec 32 := 25#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c25_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off151 (d0 : Dev nD) : Fin 3 → Nat :=
  let c25_i32_4482 : BitVec 32 := 25#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c25_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev120 : Nat :=
  let c0_i32_4491 : BitVec 32 := 0#32
  let c25_i32_4489 : BitVec 32 := 25#32
  let c1_i32_4490 : BitVec 32 := 1#32
  let v5964 : BitVec 32 := Scalar.muli c25_i32_4489 c1_i32_4490
  let v5965 : BitVec 32 := Scalar.addi c0_i32_4491 v5964
  v5965.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2496 : BitVec 32 := 26#32
  let v3478 : BitVec 1 := Scalar.cmpi .ne v2 c26_i32_2496
  let v3479 : BitVec 32 := Scalar.extui v3478
  let c0_i32_2497 : BitVec 32 := 0#32
  let v3480 : BitVec 1 := Scalar.cmpi .ne v3479 c0_i32_2497
  v3480

def k0_off152 (d0 : Dev nD) : Fin 1 → Nat :=
  let c26_i32_4482 : BitVec 32 := 26#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c26_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off153 (d0 : Dev nD) : Fin 3 → Nat :=
  let c26_i32_4482 : BitVec 32 := 26#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c26_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev121 : Nat :=
  let c0_i32_4491 : BitVec 32 := 0#32
  let c26_i32_4489 : BitVec 32 := 26#32
  let c1_i32_4490 : BitVec 32 := 1#32
  let v5964 : BitVec 32 := Scalar.muli c26_i32_4489 c1_i32_4490
  let v5965 : BitVec 32 := Scalar.addi c0_i32_4491 v5964
  v5965.toNat
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2498 : BitVec 32 := 27#32
  let v3481 : BitVec 1 := Scalar.cmpi .ne v2 c27_i32_2498
  let v3482 : BitVec 32 := Scalar.extui v3481
  let c0_i32_2499 : BitVec 32 := 0#32
  let v3483 : BitVec 1 := Scalar.cmpi .ne v3482 c0_i32_2499
  v3483

def k0_off154 (d0 : Dev nD) : Fin 1 → Nat :=
  let c27_i32_4482 : BitVec 32 := 27#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c27_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off155 (d0 : Dev nD) : Fin 3 → Nat :=
  let c27_i32_4482 : BitVec 32 := 27#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c27_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev122 : Nat :=
  let c0_i32_4491 : BitVec 32 := 0#32
  let c27_i32_4489 : BitVec 32 := 27#32
  let c1_i32_4490 : BitVec 32 := 1#32
  let v5964 : BitVec 32 := Scalar.muli c27_i32_4489 c1_i32_4490
  let v5965 : BitVec 32 := Scalar.addi c0_i32_4491 v5964
  v5965.toNat
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2500 : BitVec 32 := 28#32
  let v3484 : BitVec 1 := Scalar.cmpi .ne v2 c28_i32_2500
  let v3485 : BitVec 32 := Scalar.extui v3484
  let c0_i32_2501 : BitVec 32 := 0#32
  let v3486 : BitVec 1 := Scalar.cmpi .ne v3485 c0_i32_2501
  v3486

def k0_off156 (d0 : Dev nD) : Fin 1 → Nat :=
  let c28_i32_4482 : BitVec 32 := 28#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c28_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off157 (d0 : Dev nD) : Fin 3 → Nat :=
  let c28_i32_4482 : BitVec 32 := 28#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c28_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev123 : Nat :=
  let c0_i32_4491 : BitVec 32 := 0#32
  let c28_i32_4489 : BitVec 32 := 28#32
  let c1_i32_4490 : BitVec 32 := 1#32
  let v5964 : BitVec 32 := Scalar.muli c28_i32_4489 c1_i32_4490
  let v5965 : BitVec 32 := Scalar.addi c0_i32_4491 v5964
  v5965.toNat
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2502 : BitVec 32 := 29#32
  let v3487 : BitVec 1 := Scalar.cmpi .ne v2 c29_i32_2502
  let v3488 : BitVec 32 := Scalar.extui v3487
  let c0_i32_2503 : BitVec 32 := 0#32
  let v3489 : BitVec 1 := Scalar.cmpi .ne v3488 c0_i32_2503
  v3489

def k0_off158 (d0 : Dev nD) : Fin 1 → Nat :=
  let c29_i32_4482 : BitVec 32 := 29#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c29_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off159 (d0 : Dev nD) : Fin 3 → Nat :=
  let c29_i32_4482 : BitVec 32 := 29#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c29_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev124 : Nat :=
  let c0_i32_4491 : BitVec 32 := 0#32
  let c29_i32_4489 : BitVec 32 := 29#32
  let c1_i32_4490 : BitVec 32 := 1#32
  let v5964 : BitVec 32 := Scalar.muli c29_i32_4489 c1_i32_4490
  let v5965 : BitVec 32 := Scalar.addi c0_i32_4491 v5964
  v5965.toNat
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2504 : BitVec 32 := 30#32
  let v3490 : BitVec 1 := Scalar.cmpi .ne v2 c30_i32_2504
  let v3491 : BitVec 32 := Scalar.extui v3490
  let c0_i32_2505 : BitVec 32 := 0#32
  let v3492 : BitVec 1 := Scalar.cmpi .ne v3491 c0_i32_2505
  v3492

def k0_off160 (d0 : Dev nD) : Fin 1 → Nat :=
  let c30_i32_4482 : BitVec 32 := 30#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c30_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off161 (d0 : Dev nD) : Fin 3 → Nat :=
  let c30_i32_4482 : BitVec 32 := 30#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c30_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev125 : Nat :=
  let c0_i32_4491 : BitVec 32 := 0#32
  let c30_i32_4489 : BitVec 32 := 30#32
  let c1_i32_4490 : BitVec 32 := 1#32
  let v5964 : BitVec 32 := Scalar.muli c30_i32_4489 c1_i32_4490
  let v5965 : BitVec 32 := Scalar.addi c0_i32_4491 v5964
  v5965.toNat
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2506 : BitVec 32 := 31#32
  let v3493 : BitVec 1 := Scalar.cmpi .ne v2 c31_i32_2506
  let v3494 : BitVec 32 := Scalar.extui v3493
  let c0_i32_2507 : BitVec 32 := 0#32
  let v3495 : BitVec 1 := Scalar.cmpi .ne v3494 c0_i32_2507
  v3495

def k0_off162 (d0 : Dev nD) : Fin 1 → Nat :=
  let c31_i32_4482 : BitVec 32 := 31#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c31_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_off163 (d0 : Dev nD) : Fin 3 → Nat :=
  let c31_i32_4482 : BitVec 32 := 31#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : BitVec 32 := Scalar.subi c31_i32_4482 v2
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  let c0_i32_4492 : BitVec 32 := 0#32
  let c0_i32_4493 : BitVec 32 := 0#32
  ![v5963.toNat, 0, 0]
def k0_dev126 : Nat :=
  let c0_i32_4491 : BitVec 32 := 0#32
  let c31_i32_4489 : BitVec 32 := 31#32
  let c1_i32_4490 : BitVec 32 := 1#32
  let v5964 : BitVec 32 := Scalar.muli c31_i32_4489 c1_i32_4490
  let v5965 : BitVec 32 := Scalar.addi c0_i32_4491 v5964
  v5965.toNat
def k0_dev127 (d0 : Dev nD) : Nat :=
  let c0_i32_3039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3027 : BitVec 32 := 1#32
  let v4112 : BitVec 32 := Scalar.addi v2 c1_i32_3027
  let c32_i32_3028 : BitVec 32 := 32#32
  let c0_i32_3029 : BitVec 32 := 0#32
  let v4113 : BitVec 1 := Scalar.cmpi .eq c32_i32_3028 c0_i32_3029
  let c1_i32_3030 : BitVec 32 := 1#32
  let v4114 : BitVec 32 := Scalar.select v4113 c1_i32_3030 c32_i32_3028
  let v4115 : BitVec 32 := Scalar.remsi v4112 v4114
  let c0_i32_3032 : BitVec 32 := 0#32
  let v4117 : BitVec 1 := Scalar.cmpi .slt v4115 c0_i32_3032
  let c0_i32_3033 : BitVec 32 := 0#32
  let v4118 : BitVec 1 := Scalar.cmpi .slt v4114 c0_i32_3033
  let v4119 : BitVec 1 := Scalar.xori v4117 v4118
  let c0_i32_3031 : BitVec 32 := 0#32
  let v4116 : BitVec 1 := Scalar.cmpi .ne v4115 c0_i32_3031
  let v4120 : BitVec 1 := Scalar.andi v4119 v4116
  let v4121 : BitVec 32 := Scalar.addi v4115 v4114
  let v4122 : BitVec 32 := Scalar.select v4120 v4121 v4115
  let c1_i32_3038 : BitVec 32 := 1#32
  let v4125 : BitVec 32 := Scalar.muli v4122 c1_i32_3038
  let v4126 : BitVec 32 := Scalar.addi c0_i32_3039 v4125
  v4126.toNat
def k0_dev128 (d0 : Dev nD) : Nat :=
  let c0_i32_3054 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3042 : BitVec 32 := 2#32
  let v4133 : BitVec 32 := Scalar.addi v2 c2_i32_3042
  let c32_i32_3043 : BitVec 32 := 32#32
  let c0_i32_3044 : BitVec 32 := 0#32
  let v4134 : BitVec 1 := Scalar.cmpi .eq c32_i32_3043 c0_i32_3044
  let c1_i32_3045 : BitVec 32 := 1#32
  let v4135 : BitVec 32 := Scalar.select v4134 c1_i32_3045 c32_i32_3043
  let v4136 : BitVec 32 := Scalar.remsi v4133 v4135
  let c0_i32_3047 : BitVec 32 := 0#32
  let v4138 : BitVec 1 := Scalar.cmpi .slt v4136 c0_i32_3047
  let c0_i32_3048 : BitVec 32 := 0#32
  let v4139 : BitVec 1 := Scalar.cmpi .slt v4135 c0_i32_3048
  let v4140 : BitVec 1 := Scalar.xori v4138 v4139
  let c0_i32_3046 : BitVec 32 := 0#32
  let v4137 : BitVec 1 := Scalar.cmpi .ne v4136 c0_i32_3046
  let v4141 : BitVec 1 := Scalar.andi v4140 v4137
  let v4142 : BitVec 32 := Scalar.addi v4136 v4135
  let v4143 : BitVec 32 := Scalar.select v4141 v4142 v4136
  let c1_i32_3053 : BitVec 32 := 1#32
  let v4146 : BitVec 32 := Scalar.muli v4143 c1_i32_3053
  let v4147 : BitVec 32 := Scalar.addi c0_i32_3054 v4146
  v4147.toNat
def k0_dev129 (d0 : Dev nD) : Nat :=
  let c0_i32_3069 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3057 : BitVec 32 := 3#32
  let v4154 : BitVec 32 := Scalar.addi v2 c3_i32_3057
  let c32_i32_3058 : BitVec 32 := 32#32
  let c0_i32_3059 : BitVec 32 := 0#32
  let v4155 : BitVec 1 := Scalar.cmpi .eq c32_i32_3058 c0_i32_3059
  let c1_i32_3060 : BitVec 32 := 1#32
  let v4156 : BitVec 32 := Scalar.select v4155 c1_i32_3060 c32_i32_3058
  let v4157 : BitVec 32 := Scalar.remsi v4154 v4156
  let c0_i32_3062 : BitVec 32 := 0#32
  let v4159 : BitVec 1 := Scalar.cmpi .slt v4157 c0_i32_3062
  let c0_i32_3063 : BitVec 32 := 0#32
  let v4160 : BitVec 1 := Scalar.cmpi .slt v4156 c0_i32_3063
  let v4161 : BitVec 1 := Scalar.xori v4159 v4160
  let c0_i32_3061 : BitVec 32 := 0#32
  let v4158 : BitVec 1 := Scalar.cmpi .ne v4157 c0_i32_3061
  let v4162 : BitVec 1 := Scalar.andi v4161 v4158
  let v4163 : BitVec 32 := Scalar.addi v4157 v4156
  let v4164 : BitVec 32 := Scalar.select v4162 v4163 v4157
  let c1_i32_3068 : BitVec 32 := 1#32
  let v4167 : BitVec 32 := Scalar.muli v4164 c1_i32_3068
  let v4168 : BitVec 32 := Scalar.addi c0_i32_3069 v4167
  v4168.toNat
def k0_dev130 (d0 : Dev nD) : Nat :=
  let c0_i32_3084 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3072 : BitVec 32 := 4#32
  let v4175 : BitVec 32 := Scalar.addi v2 c4_i32_3072
  let c32_i32_3073 : BitVec 32 := 32#32
  let c0_i32_3074 : BitVec 32 := 0#32
  let v4176 : BitVec 1 := Scalar.cmpi .eq c32_i32_3073 c0_i32_3074
  let c1_i32_3075 : BitVec 32 := 1#32
  let v4177 : BitVec 32 := Scalar.select v4176 c1_i32_3075 c32_i32_3073
  let v4178 : BitVec 32 := Scalar.remsi v4175 v4177
  let c0_i32_3077 : BitVec 32 := 0#32
  let v4180 : BitVec 1 := Scalar.cmpi .slt v4178 c0_i32_3077
  let c0_i32_3078 : BitVec 32 := 0#32
  let v4181 : BitVec 1 := Scalar.cmpi .slt v4177 c0_i32_3078
  let v4182 : BitVec 1 := Scalar.xori v4180 v4181
  let c0_i32_3076 : BitVec 32 := 0#32
  let v4179 : BitVec 1 := Scalar.cmpi .ne v4178 c0_i32_3076
  let v4183 : BitVec 1 := Scalar.andi v4182 v4179
  let v4184 : BitVec 32 := Scalar.addi v4178 v4177
  let v4185 : BitVec 32 := Scalar.select v4183 v4184 v4178
  let c1_i32_3083 : BitVec 32 := 1#32
  let v4188 : BitVec 32 := Scalar.muli v4185 c1_i32_3083
  let v4189 : BitVec 32 := Scalar.addi c0_i32_3084 v4188
  v4189.toNat
def k0_dev131 (d0 : Dev nD) : Nat :=
  let c0_i32_3099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3087 : BitVec 32 := 5#32
  let v4196 : BitVec 32 := Scalar.addi v2 c5_i32_3087
  let c32_i32_3088 : BitVec 32 := 32#32
  let c0_i32_3089 : BitVec 32 := 0#32
  let v4197 : BitVec 1 := Scalar.cmpi .eq c32_i32_3088 c0_i32_3089
  let c1_i32_3090 : BitVec 32 := 1#32
  let v4198 : BitVec 32 := Scalar.select v4197 c1_i32_3090 c32_i32_3088
  let v4199 : BitVec 32 := Scalar.remsi v4196 v4198
  let c0_i32_3092 : BitVec 32 := 0#32
  let v4201 : BitVec 1 := Scalar.cmpi .slt v4199 c0_i32_3092
  let c0_i32_3093 : BitVec 32 := 0#32
  let v4202 : BitVec 1 := Scalar.cmpi .slt v4198 c0_i32_3093
  let v4203 : BitVec 1 := Scalar.xori v4201 v4202
  let c0_i32_3091 : BitVec 32 := 0#32
  let v4200 : BitVec 1 := Scalar.cmpi .ne v4199 c0_i32_3091
  let v4204 : BitVec 1 := Scalar.andi v4203 v4200
  let v4205 : BitVec 32 := Scalar.addi v4199 v4198
  let v4206 : BitVec 32 := Scalar.select v4204 v4205 v4199
  let c1_i32_3098 : BitVec 32 := 1#32
  let v4209 : BitVec 32 := Scalar.muli v4206 c1_i32_3098
  let v4210 : BitVec 32 := Scalar.addi c0_i32_3099 v4209
  v4210.toNat
def k0_dev132 (d0 : Dev nD) : Nat :=
  let c0_i32_3114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3102 : BitVec 32 := 6#32
  let v4217 : BitVec 32 := Scalar.addi v2 c6_i32_3102
  let c32_i32_3103 : BitVec 32 := 32#32
  let c0_i32_3104 : BitVec 32 := 0#32
  let v4218 : BitVec 1 := Scalar.cmpi .eq c32_i32_3103 c0_i32_3104
  let c1_i32_3105 : BitVec 32 := 1#32
  let v4219 : BitVec 32 := Scalar.select v4218 c1_i32_3105 c32_i32_3103
  let v4220 : BitVec 32 := Scalar.remsi v4217 v4219
  let c0_i32_3107 : BitVec 32 := 0#32
  let v4222 : BitVec 1 := Scalar.cmpi .slt v4220 c0_i32_3107
  let c0_i32_3108 : BitVec 32 := 0#32
  let v4223 : BitVec 1 := Scalar.cmpi .slt v4219 c0_i32_3108
  let v4224 : BitVec 1 := Scalar.xori v4222 v4223
  let c0_i32_3106 : BitVec 32 := 0#32
  let v4221 : BitVec 1 := Scalar.cmpi .ne v4220 c0_i32_3106
  let v4225 : BitVec 1 := Scalar.andi v4224 v4221
  let v4226 : BitVec 32 := Scalar.addi v4220 v4219
  let v4227 : BitVec 32 := Scalar.select v4225 v4226 v4220
  let c1_i32_3113 : BitVec 32 := 1#32
  let v4230 : BitVec 32 := Scalar.muli v4227 c1_i32_3113
  let v4231 : BitVec 32 := Scalar.addi c0_i32_3114 v4230
  v4231.toNat
def k0_dev133 (d0 : Dev nD) : Nat :=
  let c0_i32_3129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3117 : BitVec 32 := 7#32
  let v4238 : BitVec 32 := Scalar.addi v2 c7_i32_3117
  let c32_i32_3118 : BitVec 32 := 32#32
  let c0_i32_3119 : BitVec 32 := 0#32
  let v4239 : BitVec 1 := Scalar.cmpi .eq c32_i32_3118 c0_i32_3119
  let c1_i32_3120 : BitVec 32 := 1#32
  let v4240 : BitVec 32 := Scalar.select v4239 c1_i32_3120 c32_i32_3118
  let v4241 : BitVec 32 := Scalar.remsi v4238 v4240
  let c0_i32_3122 : BitVec 32 := 0#32
  let v4243 : BitVec 1 := Scalar.cmpi .slt v4241 c0_i32_3122
  let c0_i32_3123 : BitVec 32 := 0#32
  let v4244 : BitVec 1 := Scalar.cmpi .slt v4240 c0_i32_3123
  let v4245 : BitVec 1 := Scalar.xori v4243 v4244
  let c0_i32_3121 : BitVec 32 := 0#32
  let v4242 : BitVec 1 := Scalar.cmpi .ne v4241 c0_i32_3121
  let v4246 : BitVec 1 := Scalar.andi v4245 v4242
  let v4247 : BitVec 32 := Scalar.addi v4241 v4240
  let v4248 : BitVec 32 := Scalar.select v4246 v4247 v4241
  let c1_i32_3128 : BitVec 32 := 1#32
  let v4251 : BitVec 32 := Scalar.muli v4248 c1_i32_3128
  let v4252 : BitVec 32 := Scalar.addi c0_i32_3129 v4251
  v4252.toNat
def k0_dev134 (d0 : Dev nD) : Nat :=
  let c0_i32_3144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3132 : BitVec 32 := 8#32
  let v4259 : BitVec 32 := Scalar.addi v2 c8_i32_3132
  let c32_i32_3133 : BitVec 32 := 32#32
  let c0_i32_3134 : BitVec 32 := 0#32
  let v4260 : BitVec 1 := Scalar.cmpi .eq c32_i32_3133 c0_i32_3134
  let c1_i32_3135 : BitVec 32 := 1#32
  let v4261 : BitVec 32 := Scalar.select v4260 c1_i32_3135 c32_i32_3133
  let v4262 : BitVec 32 := Scalar.remsi v4259 v4261
  let c0_i32_3137 : BitVec 32 := 0#32
  let v4264 : BitVec 1 := Scalar.cmpi .slt v4262 c0_i32_3137
  let c0_i32_3138 : BitVec 32 := 0#32
  let v4265 : BitVec 1 := Scalar.cmpi .slt v4261 c0_i32_3138
  let v4266 : BitVec 1 := Scalar.xori v4264 v4265
  let c0_i32_3136 : BitVec 32 := 0#32
  let v4263 : BitVec 1 := Scalar.cmpi .ne v4262 c0_i32_3136
  let v4267 : BitVec 1 := Scalar.andi v4266 v4263
  let v4268 : BitVec 32 := Scalar.addi v4262 v4261
  let v4269 : BitVec 32 := Scalar.select v4267 v4268 v4262
  let c1_i32_3143 : BitVec 32 := 1#32
  let v4272 : BitVec 32 := Scalar.muli v4269 c1_i32_3143
  let v4273 : BitVec 32 := Scalar.addi c0_i32_3144 v4272
  v4273.toNat
def k0_dev135 (d0 : Dev nD) : Nat :=
  let c0_i32_3159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3147 : BitVec 32 := 9#32
  let v4280 : BitVec 32 := Scalar.addi v2 c9_i32_3147
  let c32_i32_3148 : BitVec 32 := 32#32
  let c0_i32_3149 : BitVec 32 := 0#32
  let v4281 : BitVec 1 := Scalar.cmpi .eq c32_i32_3148 c0_i32_3149
  let c1_i32_3150 : BitVec 32 := 1#32
  let v4282 : BitVec 32 := Scalar.select v4281 c1_i32_3150 c32_i32_3148
  let v4283 : BitVec 32 := Scalar.remsi v4280 v4282
  let c0_i32_3152 : BitVec 32 := 0#32
  let v4285 : BitVec 1 := Scalar.cmpi .slt v4283 c0_i32_3152
  let c0_i32_3153 : BitVec 32 := 0#32
  let v4286 : BitVec 1 := Scalar.cmpi .slt v4282 c0_i32_3153
  let v4287 : BitVec 1 := Scalar.xori v4285 v4286
  let c0_i32_3151 : BitVec 32 := 0#32
  let v4284 : BitVec 1 := Scalar.cmpi .ne v4283 c0_i32_3151
  let v4288 : BitVec 1 := Scalar.andi v4287 v4284
  let v4289 : BitVec 32 := Scalar.addi v4283 v4282
  let v4290 : BitVec 32 := Scalar.select v4288 v4289 v4283
  let c1_i32_3158 : BitVec 32 := 1#32
  let v4293 : BitVec 32 := Scalar.muli v4290 c1_i32_3158
  let v4294 : BitVec 32 := Scalar.addi c0_i32_3159 v4293
  v4294.toNat
def k0_dev136 (d0 : Dev nD) : Nat :=
  let c0_i32_3174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3162 : BitVec 32 := 10#32
  let v4301 : BitVec 32 := Scalar.addi v2 c10_i32_3162
  let c32_i32_3163 : BitVec 32 := 32#32
  let c0_i32_3164 : BitVec 32 := 0#32
  let v4302 : BitVec 1 := Scalar.cmpi .eq c32_i32_3163 c0_i32_3164
  let c1_i32_3165 : BitVec 32 := 1#32
  let v4303 : BitVec 32 := Scalar.select v4302 c1_i32_3165 c32_i32_3163
  let v4304 : BitVec 32 := Scalar.remsi v4301 v4303
  let c0_i32_3167 : BitVec 32 := 0#32
  let v4306 : BitVec 1 := Scalar.cmpi .slt v4304 c0_i32_3167
  let c0_i32_3168 : BitVec 32 := 0#32
  let v4307 : BitVec 1 := Scalar.cmpi .slt v4303 c0_i32_3168
  let v4308 : BitVec 1 := Scalar.xori v4306 v4307
  let c0_i32_3166 : BitVec 32 := 0#32
  let v4305 : BitVec 1 := Scalar.cmpi .ne v4304 c0_i32_3166
  let v4309 : BitVec 1 := Scalar.andi v4308 v4305
  let v4310 : BitVec 32 := Scalar.addi v4304 v4303
  let v4311 : BitVec 32 := Scalar.select v4309 v4310 v4304
  let c1_i32_3173 : BitVec 32 := 1#32
  let v4314 : BitVec 32 := Scalar.muli v4311 c1_i32_3173
  let v4315 : BitVec 32 := Scalar.addi c0_i32_3174 v4314
  v4315.toNat
def k0_dev137 (d0 : Dev nD) : Nat :=
  let c0_i32_3189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3177 : BitVec 32 := 11#32
  let v4322 : BitVec 32 := Scalar.addi v2 c11_i32_3177
  let c32_i32_3178 : BitVec 32 := 32#32
  let c0_i32_3179 : BitVec 32 := 0#32
  let v4323 : BitVec 1 := Scalar.cmpi .eq c32_i32_3178 c0_i32_3179
  let c1_i32_3180 : BitVec 32 := 1#32
  let v4324 : BitVec 32 := Scalar.select v4323 c1_i32_3180 c32_i32_3178
  let v4325 : BitVec 32 := Scalar.remsi v4322 v4324
  let c0_i32_3182 : BitVec 32 := 0#32
  let v4327 : BitVec 1 := Scalar.cmpi .slt v4325 c0_i32_3182
  let c0_i32_3183 : BitVec 32 := 0#32
  let v4328 : BitVec 1 := Scalar.cmpi .slt v4324 c0_i32_3183
  let v4329 : BitVec 1 := Scalar.xori v4327 v4328
  let c0_i32_3181 : BitVec 32 := 0#32
  let v4326 : BitVec 1 := Scalar.cmpi .ne v4325 c0_i32_3181
  let v4330 : BitVec 1 := Scalar.andi v4329 v4326
  let v4331 : BitVec 32 := Scalar.addi v4325 v4324
  let v4332 : BitVec 32 := Scalar.select v4330 v4331 v4325
  let c1_i32_3188 : BitVec 32 := 1#32
  let v4335 : BitVec 32 := Scalar.muli v4332 c1_i32_3188
  let v4336 : BitVec 32 := Scalar.addi c0_i32_3189 v4335
  v4336.toNat
def k0_dev138 (d0 : Dev nD) : Nat :=
  let c0_i32_3204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3192 : BitVec 32 := 12#32
  let v4343 : BitVec 32 := Scalar.addi v2 c12_i32_3192
  let c32_i32_3193 : BitVec 32 := 32#32
  let c0_i32_3194 : BitVec 32 := 0#32
  let v4344 : BitVec 1 := Scalar.cmpi .eq c32_i32_3193 c0_i32_3194
  let c1_i32_3195 : BitVec 32 := 1#32
  let v4345 : BitVec 32 := Scalar.select v4344 c1_i32_3195 c32_i32_3193
  let v4346 : BitVec 32 := Scalar.remsi v4343 v4345
  let c0_i32_3197 : BitVec 32 := 0#32
  let v4348 : BitVec 1 := Scalar.cmpi .slt v4346 c0_i32_3197
  let c0_i32_3198 : BitVec 32 := 0#32
  let v4349 : BitVec 1 := Scalar.cmpi .slt v4345 c0_i32_3198
  let v4350 : BitVec 1 := Scalar.xori v4348 v4349
  let c0_i32_3196 : BitVec 32 := 0#32
  let v4347 : BitVec 1 := Scalar.cmpi .ne v4346 c0_i32_3196
  let v4351 : BitVec 1 := Scalar.andi v4350 v4347
  let v4352 : BitVec 32 := Scalar.addi v4346 v4345
  let v4353 : BitVec 32 := Scalar.select v4351 v4352 v4346
  let c1_i32_3203 : BitVec 32 := 1#32
  let v4356 : BitVec 32 := Scalar.muli v4353 c1_i32_3203
  let v4357 : BitVec 32 := Scalar.addi c0_i32_3204 v4356
  v4357.toNat
def k0_dev139 (d0 : Dev nD) : Nat :=
  let c0_i32_3219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3207 : BitVec 32 := 13#32
  let v4364 : BitVec 32 := Scalar.addi v2 c13_i32_3207
  let c32_i32_3208 : BitVec 32 := 32#32
  let c0_i32_3209 : BitVec 32 := 0#32
  let v4365 : BitVec 1 := Scalar.cmpi .eq c32_i32_3208 c0_i32_3209
  let c1_i32_3210 : BitVec 32 := 1#32
  let v4366 : BitVec 32 := Scalar.select v4365 c1_i32_3210 c32_i32_3208
  let v4367 : BitVec 32 := Scalar.remsi v4364 v4366
  let c0_i32_3212 : BitVec 32 := 0#32
  let v4369 : BitVec 1 := Scalar.cmpi .slt v4367 c0_i32_3212
  let c0_i32_3213 : BitVec 32 := 0#32
  let v4370 : BitVec 1 := Scalar.cmpi .slt v4366 c0_i32_3213
  let v4371 : BitVec 1 := Scalar.xori v4369 v4370
  let c0_i32_3211 : BitVec 32 := 0#32
  let v4368 : BitVec 1 := Scalar.cmpi .ne v4367 c0_i32_3211
  let v4372 : BitVec 1 := Scalar.andi v4371 v4368
  let v4373 : BitVec 32 := Scalar.addi v4367 v4366
  let v4374 : BitVec 32 := Scalar.select v4372 v4373 v4367
  let c1_i32_3218 : BitVec 32 := 1#32
  let v4377 : BitVec 32 := Scalar.muli v4374 c1_i32_3218
  let v4378 : BitVec 32 := Scalar.addi c0_i32_3219 v4377
  v4378.toNat
def k0_dev140 (d0 : Dev nD) : Nat :=
  let c0_i32_3234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3222 : BitVec 32 := 14#32
  let v4385 : BitVec 32 := Scalar.addi v2 c14_i32_3222
  let c32_i32_3223 : BitVec 32 := 32#32
  let c0_i32_3224 : BitVec 32 := 0#32
  let v4386 : BitVec 1 := Scalar.cmpi .eq c32_i32_3223 c0_i32_3224
  let c1_i32_3225 : BitVec 32 := 1#32
  let v4387 : BitVec 32 := Scalar.select v4386 c1_i32_3225 c32_i32_3223
  let v4388 : BitVec 32 := Scalar.remsi v4385 v4387
  let c0_i32_3227 : BitVec 32 := 0#32
  let v4390 : BitVec 1 := Scalar.cmpi .slt v4388 c0_i32_3227
  let c0_i32_3228 : BitVec 32 := 0#32
  let v4391 : BitVec 1 := Scalar.cmpi .slt v4387 c0_i32_3228
  let v4392 : BitVec 1 := Scalar.xori v4390 v4391
  let c0_i32_3226 : BitVec 32 := 0#32
  let v4389 : BitVec 1 := Scalar.cmpi .ne v4388 c0_i32_3226
  let v4393 : BitVec 1 := Scalar.andi v4392 v4389
  let v4394 : BitVec 32 := Scalar.addi v4388 v4387
  let v4395 : BitVec 32 := Scalar.select v4393 v4394 v4388
  let c1_i32_3233 : BitVec 32 := 1#32
  let v4398 : BitVec 32 := Scalar.muli v4395 c1_i32_3233
  let v4399 : BitVec 32 := Scalar.addi c0_i32_3234 v4398
  v4399.toNat
def k0_dev141 (d0 : Dev nD) : Nat :=
  let c0_i32_3249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3237 : BitVec 32 := 15#32
  let v4406 : BitVec 32 := Scalar.addi v2 c15_i32_3237
  let c32_i32_3238 : BitVec 32 := 32#32
  let c0_i32_3239 : BitVec 32 := 0#32
  let v4407 : BitVec 1 := Scalar.cmpi .eq c32_i32_3238 c0_i32_3239
  let c1_i32_3240 : BitVec 32 := 1#32
  let v4408 : BitVec 32 := Scalar.select v4407 c1_i32_3240 c32_i32_3238
  let v4409 : BitVec 32 := Scalar.remsi v4406 v4408
  let c0_i32_3242 : BitVec 32 := 0#32
  let v4411 : BitVec 1 := Scalar.cmpi .slt v4409 c0_i32_3242
  let c0_i32_3243 : BitVec 32 := 0#32
  let v4412 : BitVec 1 := Scalar.cmpi .slt v4408 c0_i32_3243
  let v4413 : BitVec 1 := Scalar.xori v4411 v4412
  let c0_i32_3241 : BitVec 32 := 0#32
  let v4410 : BitVec 1 := Scalar.cmpi .ne v4409 c0_i32_3241
  let v4414 : BitVec 1 := Scalar.andi v4413 v4410
  let v4415 : BitVec 32 := Scalar.addi v4409 v4408
  let v4416 : BitVec 32 := Scalar.select v4414 v4415 v4409
  let c1_i32_3248 : BitVec 32 := 1#32
  let v4419 : BitVec 32 := Scalar.muli v4416 c1_i32_3248
  let v4420 : BitVec 32 := Scalar.addi c0_i32_3249 v4419
  v4420.toNat
def k0_dev142 (d0 : Dev nD) : Nat :=
  let c0_i32_3264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3252 : BitVec 32 := 16#32
  let v4427 : BitVec 32 := Scalar.addi v2 c16_i32_3252
  let c32_i32_3253 : BitVec 32 := 32#32
  let c0_i32_3254 : BitVec 32 := 0#32
  let v4428 : BitVec 1 := Scalar.cmpi .eq c32_i32_3253 c0_i32_3254
  let c1_i32_3255 : BitVec 32 := 1#32
  let v4429 : BitVec 32 := Scalar.select v4428 c1_i32_3255 c32_i32_3253
  let v4430 : BitVec 32 := Scalar.remsi v4427 v4429
  let c0_i32_3257 : BitVec 32 := 0#32
  let v4432 : BitVec 1 := Scalar.cmpi .slt v4430 c0_i32_3257
  let c0_i32_3258 : BitVec 32 := 0#32
  let v4433 : BitVec 1 := Scalar.cmpi .slt v4429 c0_i32_3258
  let v4434 : BitVec 1 := Scalar.xori v4432 v4433
  let c0_i32_3256 : BitVec 32 := 0#32
  let v4431 : BitVec 1 := Scalar.cmpi .ne v4430 c0_i32_3256
  let v4435 : BitVec 1 := Scalar.andi v4434 v4431
  let v4436 : BitVec 32 := Scalar.addi v4430 v4429
  let v4437 : BitVec 32 := Scalar.select v4435 v4436 v4430
  let c1_i32_3263 : BitVec 32 := 1#32
  let v4440 : BitVec 32 := Scalar.muli v4437 c1_i32_3263
  let v4441 : BitVec 32 := Scalar.addi c0_i32_3264 v4440
  v4441.toNat
def k0_dev143 (d0 : Dev nD) : Nat :=
  let c0_i32_3279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3267 : BitVec 32 := 17#32
  let v4448 : BitVec 32 := Scalar.addi v2 c17_i32_3267
  let c32_i32_3268 : BitVec 32 := 32#32
  let c0_i32_3269 : BitVec 32 := 0#32
  let v4449 : BitVec 1 := Scalar.cmpi .eq c32_i32_3268 c0_i32_3269
  let c1_i32_3270 : BitVec 32 := 1#32
  let v4450 : BitVec 32 := Scalar.select v4449 c1_i32_3270 c32_i32_3268
  let v4451 : BitVec 32 := Scalar.remsi v4448 v4450
  let c0_i32_3272 : BitVec 32 := 0#32
  let v4453 : BitVec 1 := Scalar.cmpi .slt v4451 c0_i32_3272
  let c0_i32_3273 : BitVec 32 := 0#32
  let v4454 : BitVec 1 := Scalar.cmpi .slt v4450 c0_i32_3273
  let v4455 : BitVec 1 := Scalar.xori v4453 v4454
  let c0_i32_3271 : BitVec 32 := 0#32
  let v4452 : BitVec 1 := Scalar.cmpi .ne v4451 c0_i32_3271
  let v4456 : BitVec 1 := Scalar.andi v4455 v4452
  let v4457 : BitVec 32 := Scalar.addi v4451 v4450
  let v4458 : BitVec 32 := Scalar.select v4456 v4457 v4451
  let c1_i32_3278 : BitVec 32 := 1#32
  let v4461 : BitVec 32 := Scalar.muli v4458 c1_i32_3278
  let v4462 : BitVec 32 := Scalar.addi c0_i32_3279 v4461
  v4462.toNat
def k0_dev144 (d0 : Dev nD) : Nat :=
  let c0_i32_3294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3282 : BitVec 32 := 18#32
  let v4469 : BitVec 32 := Scalar.addi v2 c18_i32_3282
  let c32_i32_3283 : BitVec 32 := 32#32
  let c0_i32_3284 : BitVec 32 := 0#32
  let v4470 : BitVec 1 := Scalar.cmpi .eq c32_i32_3283 c0_i32_3284
  let c1_i32_3285 : BitVec 32 := 1#32
  let v4471 : BitVec 32 := Scalar.select v4470 c1_i32_3285 c32_i32_3283
  let v4472 : BitVec 32 := Scalar.remsi v4469 v4471
  let c0_i32_3287 : BitVec 32 := 0#32
  let v4474 : BitVec 1 := Scalar.cmpi .slt v4472 c0_i32_3287
  let c0_i32_3288 : BitVec 32 := 0#32
  let v4475 : BitVec 1 := Scalar.cmpi .slt v4471 c0_i32_3288
  let v4476 : BitVec 1 := Scalar.xori v4474 v4475
  let c0_i32_3286 : BitVec 32 := 0#32
  let v4473 : BitVec 1 := Scalar.cmpi .ne v4472 c0_i32_3286
  let v4477 : BitVec 1 := Scalar.andi v4476 v4473
  let v4478 : BitVec 32 := Scalar.addi v4472 v4471
  let v4479 : BitVec 32 := Scalar.select v4477 v4478 v4472
  let c1_i32_3293 : BitVec 32 := 1#32
  let v4482 : BitVec 32 := Scalar.muli v4479 c1_i32_3293
  let v4483 : BitVec 32 := Scalar.addi c0_i32_3294 v4482
  v4483.toNat
def k0_dev145 (d0 : Dev nD) : Nat :=
  let c0_i32_3309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3297 : BitVec 32 := 19#32
  let v4490 : BitVec 32 := Scalar.addi v2 c19_i32_3297
  let c32_i32_3298 : BitVec 32 := 32#32
  let c0_i32_3299 : BitVec 32 := 0#32
  let v4491 : BitVec 1 := Scalar.cmpi .eq c32_i32_3298 c0_i32_3299
  let c1_i32_3300 : BitVec 32 := 1#32
  let v4492 : BitVec 32 := Scalar.select v4491 c1_i32_3300 c32_i32_3298
  let v4493 : BitVec 32 := Scalar.remsi v4490 v4492
  let c0_i32_3302 : BitVec 32 := 0#32
  let v4495 : BitVec 1 := Scalar.cmpi .slt v4493 c0_i32_3302
  let c0_i32_3303 : BitVec 32 := 0#32
  let v4496 : BitVec 1 := Scalar.cmpi .slt v4492 c0_i32_3303
  let v4497 : BitVec 1 := Scalar.xori v4495 v4496
  let c0_i32_3301 : BitVec 32 := 0#32
  let v4494 : BitVec 1 := Scalar.cmpi .ne v4493 c0_i32_3301
  let v4498 : BitVec 1 := Scalar.andi v4497 v4494
  let v4499 : BitVec 32 := Scalar.addi v4493 v4492
  let v4500 : BitVec 32 := Scalar.select v4498 v4499 v4493
  let c1_i32_3308 : BitVec 32 := 1#32
  let v4503 : BitVec 32 := Scalar.muli v4500 c1_i32_3308
  let v4504 : BitVec 32 := Scalar.addi c0_i32_3309 v4503
  v4504.toNat
def k0_dev146 (d0 : Dev nD) : Nat :=
  let c0_i32_3324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3312 : BitVec 32 := 20#32
  let v4511 : BitVec 32 := Scalar.addi v2 c20_i32_3312
  let c32_i32_3313 : BitVec 32 := 32#32
  let c0_i32_3314 : BitVec 32 := 0#32
  let v4512 : BitVec 1 := Scalar.cmpi .eq c32_i32_3313 c0_i32_3314
  let c1_i32_3315 : BitVec 32 := 1#32
  let v4513 : BitVec 32 := Scalar.select v4512 c1_i32_3315 c32_i32_3313
  let v4514 : BitVec 32 := Scalar.remsi v4511 v4513
  let c0_i32_3317 : BitVec 32 := 0#32
  let v4516 : BitVec 1 := Scalar.cmpi .slt v4514 c0_i32_3317
  let c0_i32_3318 : BitVec 32 := 0#32
  let v4517 : BitVec 1 := Scalar.cmpi .slt v4513 c0_i32_3318
  let v4518 : BitVec 1 := Scalar.xori v4516 v4517
  let c0_i32_3316 : BitVec 32 := 0#32
  let v4515 : BitVec 1 := Scalar.cmpi .ne v4514 c0_i32_3316
  let v4519 : BitVec 1 := Scalar.andi v4518 v4515
  let v4520 : BitVec 32 := Scalar.addi v4514 v4513
  let v4521 : BitVec 32 := Scalar.select v4519 v4520 v4514
  let c1_i32_3323 : BitVec 32 := 1#32
  let v4524 : BitVec 32 := Scalar.muli v4521 c1_i32_3323
  let v4525 : BitVec 32 := Scalar.addi c0_i32_3324 v4524
  v4525.toNat
def k0_dev147 (d0 : Dev nD) : Nat :=
  let c0_i32_3339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3327 : BitVec 32 := 21#32
  let v4532 : BitVec 32 := Scalar.addi v2 c21_i32_3327
  let c32_i32_3328 : BitVec 32 := 32#32
  let c0_i32_3329 : BitVec 32 := 0#32
  let v4533 : BitVec 1 := Scalar.cmpi .eq c32_i32_3328 c0_i32_3329
  let c1_i32_3330 : BitVec 32 := 1#32
  let v4534 : BitVec 32 := Scalar.select v4533 c1_i32_3330 c32_i32_3328
  let v4535 : BitVec 32 := Scalar.remsi v4532 v4534
  let c0_i32_3332 : BitVec 32 := 0#32
  let v4537 : BitVec 1 := Scalar.cmpi .slt v4535 c0_i32_3332
  let c0_i32_3333 : BitVec 32 := 0#32
  let v4538 : BitVec 1 := Scalar.cmpi .slt v4534 c0_i32_3333
  let v4539 : BitVec 1 := Scalar.xori v4537 v4538
  let c0_i32_3331 : BitVec 32 := 0#32
  let v4536 : BitVec 1 := Scalar.cmpi .ne v4535 c0_i32_3331
  let v4540 : BitVec 1 := Scalar.andi v4539 v4536
  let v4541 : BitVec 32 := Scalar.addi v4535 v4534
  let v4542 : BitVec 32 := Scalar.select v4540 v4541 v4535
  let c1_i32_3338 : BitVec 32 := 1#32
  let v4545 : BitVec 32 := Scalar.muli v4542 c1_i32_3338
  let v4546 : BitVec 32 := Scalar.addi c0_i32_3339 v4545
  v4546.toNat
def k0_dev148 (d0 : Dev nD) : Nat :=
  let c0_i32_3354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3342 : BitVec 32 := 22#32
  let v4553 : BitVec 32 := Scalar.addi v2 c22_i32_3342
  let c32_i32_3343 : BitVec 32 := 32#32
  let c0_i32_3344 : BitVec 32 := 0#32
  let v4554 : BitVec 1 := Scalar.cmpi .eq c32_i32_3343 c0_i32_3344
  let c1_i32_3345 : BitVec 32 := 1#32
  let v4555 : BitVec 32 := Scalar.select v4554 c1_i32_3345 c32_i32_3343
  let v4556 : BitVec 32 := Scalar.remsi v4553 v4555
  let c0_i32_3347 : BitVec 32 := 0#32
  let v4558 : BitVec 1 := Scalar.cmpi .slt v4556 c0_i32_3347
  let c0_i32_3348 : BitVec 32 := 0#32
  let v4559 : BitVec 1 := Scalar.cmpi .slt v4555 c0_i32_3348
  let v4560 : BitVec 1 := Scalar.xori v4558 v4559
  let c0_i32_3346 : BitVec 32 := 0#32
  let v4557 : BitVec 1 := Scalar.cmpi .ne v4556 c0_i32_3346
  let v4561 : BitVec 1 := Scalar.andi v4560 v4557
  let v4562 : BitVec 32 := Scalar.addi v4556 v4555
  let v4563 : BitVec 32 := Scalar.select v4561 v4562 v4556
  let c1_i32_3353 : BitVec 32 := 1#32
  let v4566 : BitVec 32 := Scalar.muli v4563 c1_i32_3353
  let v4567 : BitVec 32 := Scalar.addi c0_i32_3354 v4566
  v4567.toNat
def k0_dev149 (d0 : Dev nD) : Nat :=
  let c0_i32_3369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3357 : BitVec 32 := 23#32
  let v4574 : BitVec 32 := Scalar.addi v2 c23_i32_3357
  let c32_i32_3358 : BitVec 32 := 32#32
  let c0_i32_3359 : BitVec 32 := 0#32
  let v4575 : BitVec 1 := Scalar.cmpi .eq c32_i32_3358 c0_i32_3359
  let c1_i32_3360 : BitVec 32 := 1#32
  let v4576 : BitVec 32 := Scalar.select v4575 c1_i32_3360 c32_i32_3358
  let v4577 : BitVec 32 := Scalar.remsi v4574 v4576
  let c0_i32_3362 : BitVec 32 := 0#32
  let v4579 : BitVec 1 := Scalar.cmpi .slt v4577 c0_i32_3362
  let c0_i32_3363 : BitVec 32 := 0#32
  let v4580 : BitVec 1 := Scalar.cmpi .slt v4576 c0_i32_3363
  let v4581 : BitVec 1 := Scalar.xori v4579 v4580
  let c0_i32_3361 : BitVec 32 := 0#32
  let v4578 : BitVec 1 := Scalar.cmpi .ne v4577 c0_i32_3361
  let v4582 : BitVec 1 := Scalar.andi v4581 v4578
  let v4583 : BitVec 32 := Scalar.addi v4577 v4576
  let v4584 : BitVec 32 := Scalar.select v4582 v4583 v4577
  let c1_i32_3368 : BitVec 32 := 1#32
  let v4587 : BitVec 32 := Scalar.muli v4584 c1_i32_3368
  let v4588 : BitVec 32 := Scalar.addi c0_i32_3369 v4587
  v4588.toNat
def k0_dev150 (d0 : Dev nD) : Nat :=
  let c0_i32_3384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3372 : BitVec 32 := 24#32
  let v4595 : BitVec 32 := Scalar.addi v2 c24_i32_3372
  let c32_i32_3373 : BitVec 32 := 32#32
  let c0_i32_3374 : BitVec 32 := 0#32
  let v4596 : BitVec 1 := Scalar.cmpi .eq c32_i32_3373 c0_i32_3374
  let c1_i32_3375 : BitVec 32 := 1#32
  let v4597 : BitVec 32 := Scalar.select v4596 c1_i32_3375 c32_i32_3373
  let v4598 : BitVec 32 := Scalar.remsi v4595 v4597
  let c0_i32_3377 : BitVec 32 := 0#32
  let v4600 : BitVec 1 := Scalar.cmpi .slt v4598 c0_i32_3377
  let c0_i32_3378 : BitVec 32 := 0#32
  let v4601 : BitVec 1 := Scalar.cmpi .slt v4597 c0_i32_3378
  let v4602 : BitVec 1 := Scalar.xori v4600 v4601
  let c0_i32_3376 : BitVec 32 := 0#32
  let v4599 : BitVec 1 := Scalar.cmpi .ne v4598 c0_i32_3376
  let v4603 : BitVec 1 := Scalar.andi v4602 v4599
  let v4604 : BitVec 32 := Scalar.addi v4598 v4597
  let v4605 : BitVec 32 := Scalar.select v4603 v4604 v4598
  let c1_i32_3383 : BitVec 32 := 1#32
  let v4608 : BitVec 32 := Scalar.muli v4605 c1_i32_3383
  let v4609 : BitVec 32 := Scalar.addi c0_i32_3384 v4608
  v4609.toNat
def k0_dev151 (d0 : Dev nD) : Nat :=
  let c0_i32_3399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3387 : BitVec 32 := 25#32
  let v4616 : BitVec 32 := Scalar.addi v2 c25_i32_3387
  let c32_i32_3388 : BitVec 32 := 32#32
  let c0_i32_3389 : BitVec 32 := 0#32
  let v4617 : BitVec 1 := Scalar.cmpi .eq c32_i32_3388 c0_i32_3389
  let c1_i32_3390 : BitVec 32 := 1#32
  let v4618 : BitVec 32 := Scalar.select v4617 c1_i32_3390 c32_i32_3388
  let v4619 : BitVec 32 := Scalar.remsi v4616 v4618
  let c0_i32_3392 : BitVec 32 := 0#32
  let v4621 : BitVec 1 := Scalar.cmpi .slt v4619 c0_i32_3392
  let c0_i32_3393 : BitVec 32 := 0#32
  let v4622 : BitVec 1 := Scalar.cmpi .slt v4618 c0_i32_3393
  let v4623 : BitVec 1 := Scalar.xori v4621 v4622
  let c0_i32_3391 : BitVec 32 := 0#32
  let v4620 : BitVec 1 := Scalar.cmpi .ne v4619 c0_i32_3391
  let v4624 : BitVec 1 := Scalar.andi v4623 v4620
  let v4625 : BitVec 32 := Scalar.addi v4619 v4618
  let v4626 : BitVec 32 := Scalar.select v4624 v4625 v4619
  let c1_i32_3398 : BitVec 32 := 1#32
  let v4629 : BitVec 32 := Scalar.muli v4626 c1_i32_3398
  let v4630 : BitVec 32 := Scalar.addi c0_i32_3399 v4629
  v4630.toNat
def k0_dev152 (d0 : Dev nD) : Nat :=
  let c0_i32_3414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3402 : BitVec 32 := 26#32
  let v4637 : BitVec 32 := Scalar.addi v2 c26_i32_3402
  let c32_i32_3403 : BitVec 32 := 32#32
  let c0_i32_3404 : BitVec 32 := 0#32
  let v4638 : BitVec 1 := Scalar.cmpi .eq c32_i32_3403 c0_i32_3404
  let c1_i32_3405 : BitVec 32 := 1#32
  let v4639 : BitVec 32 := Scalar.select v4638 c1_i32_3405 c32_i32_3403
  let v4640 : BitVec 32 := Scalar.remsi v4637 v4639
  let c0_i32_3407 : BitVec 32 := 0#32
  let v4642 : BitVec 1 := Scalar.cmpi .slt v4640 c0_i32_3407
  let c0_i32_3408 : BitVec 32 := 0#32
  let v4643 : BitVec 1 := Scalar.cmpi .slt v4639 c0_i32_3408
  let v4644 : BitVec 1 := Scalar.xori v4642 v4643
  let c0_i32_3406 : BitVec 32 := 0#32
  let v4641 : BitVec 1 := Scalar.cmpi .ne v4640 c0_i32_3406
  let v4645 : BitVec 1 := Scalar.andi v4644 v4641
  let v4646 : BitVec 32 := Scalar.addi v4640 v4639
  let v4647 : BitVec 32 := Scalar.select v4645 v4646 v4640
  let c1_i32_3413 : BitVec 32 := 1#32
  let v4650 : BitVec 32 := Scalar.muli v4647 c1_i32_3413
  let v4651 : BitVec 32 := Scalar.addi c0_i32_3414 v4650
  v4651.toNat
def k0_dev153 (d0 : Dev nD) : Nat :=
  let c0_i32_3429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3417 : BitVec 32 := 27#32
  let v4658 : BitVec 32 := Scalar.addi v2 c27_i32_3417
  let c32_i32_3418 : BitVec 32 := 32#32
  let c0_i32_3419 : BitVec 32 := 0#32
  let v4659 : BitVec 1 := Scalar.cmpi .eq c32_i32_3418 c0_i32_3419
  let c1_i32_3420 : BitVec 32 := 1#32
  let v4660 : BitVec 32 := Scalar.select v4659 c1_i32_3420 c32_i32_3418
  let v4661 : BitVec 32 := Scalar.remsi v4658 v4660
  let c0_i32_3422 : BitVec 32 := 0#32
  let v4663 : BitVec 1 := Scalar.cmpi .slt v4661 c0_i32_3422
  let c0_i32_3423 : BitVec 32 := 0#32
  let v4664 : BitVec 1 := Scalar.cmpi .slt v4660 c0_i32_3423
  let v4665 : BitVec 1 := Scalar.xori v4663 v4664
  let c0_i32_3421 : BitVec 32 := 0#32
  let v4662 : BitVec 1 := Scalar.cmpi .ne v4661 c0_i32_3421
  let v4666 : BitVec 1 := Scalar.andi v4665 v4662
  let v4667 : BitVec 32 := Scalar.addi v4661 v4660
  let v4668 : BitVec 32 := Scalar.select v4666 v4667 v4661
  let c1_i32_3428 : BitVec 32 := 1#32
  let v4671 : BitVec 32 := Scalar.muli v4668 c1_i32_3428
  let v4672 : BitVec 32 := Scalar.addi c0_i32_3429 v4671
  v4672.toNat
def k0_dev154 (d0 : Dev nD) : Nat :=
  let c0_i32_3444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3432 : BitVec 32 := 28#32
  let v4679 : BitVec 32 := Scalar.addi v2 c28_i32_3432
  let c32_i32_3433 : BitVec 32 := 32#32
  let c0_i32_3434 : BitVec 32 := 0#32
  let v4680 : BitVec 1 := Scalar.cmpi .eq c32_i32_3433 c0_i32_3434
  let c1_i32_3435 : BitVec 32 := 1#32
  let v4681 : BitVec 32 := Scalar.select v4680 c1_i32_3435 c32_i32_3433
  let v4682 : BitVec 32 := Scalar.remsi v4679 v4681
  let c0_i32_3437 : BitVec 32 := 0#32
  let v4684 : BitVec 1 := Scalar.cmpi .slt v4682 c0_i32_3437
  let c0_i32_3438 : BitVec 32 := 0#32
  let v4685 : BitVec 1 := Scalar.cmpi .slt v4681 c0_i32_3438
  let v4686 : BitVec 1 := Scalar.xori v4684 v4685
  let c0_i32_3436 : BitVec 32 := 0#32
  let v4683 : BitVec 1 := Scalar.cmpi .ne v4682 c0_i32_3436
  let v4687 : BitVec 1 := Scalar.andi v4686 v4683
  let v4688 : BitVec 32 := Scalar.addi v4682 v4681
  let v4689 : BitVec 32 := Scalar.select v4687 v4688 v4682
  let c1_i32_3443 : BitVec 32 := 1#32
  let v4692 : BitVec 32 := Scalar.muli v4689 c1_i32_3443
  let v4693 : BitVec 32 := Scalar.addi c0_i32_3444 v4692
  v4693.toNat
def k0_dev155 (d0 : Dev nD) : Nat :=
  let c0_i32_3459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3447 : BitVec 32 := 29#32
  let v4700 : BitVec 32 := Scalar.addi v2 c29_i32_3447
  let c32_i32_3448 : BitVec 32 := 32#32
  let c0_i32_3449 : BitVec 32 := 0#32
  let v4701 : BitVec 1 := Scalar.cmpi .eq c32_i32_3448 c0_i32_3449
  let c1_i32_3450 : BitVec 32 := 1#32
  let v4702 : BitVec 32 := Scalar.select v4701 c1_i32_3450 c32_i32_3448
  let v4703 : BitVec 32 := Scalar.remsi v4700 v4702
  let c0_i32_3452 : BitVec 32 := 0#32
  let v4705 : BitVec 1 := Scalar.cmpi .slt v4703 c0_i32_3452
  let c0_i32_3453 : BitVec 32 := 0#32
  let v4706 : BitVec 1 := Scalar.cmpi .slt v4702 c0_i32_3453
  let v4707 : BitVec 1 := Scalar.xori v4705 v4706
  let c0_i32_3451 : BitVec 32 := 0#32
  let v4704 : BitVec 1 := Scalar.cmpi .ne v4703 c0_i32_3451
  let v4708 : BitVec 1 := Scalar.andi v4707 v4704
  let v4709 : BitVec 32 := Scalar.addi v4703 v4702
  let v4710 : BitVec 32 := Scalar.select v4708 v4709 v4703
  let c1_i32_3458 : BitVec 32 := 1#32
  let v4713 : BitVec 32 := Scalar.muli v4710 c1_i32_3458
  let v4714 : BitVec 32 := Scalar.addi c0_i32_3459 v4713
  v4714.toNat
def k0_dev156 (d0 : Dev nD) : Nat :=
  let c0_i32_3474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3462 : BitVec 32 := 30#32
  let v4721 : BitVec 32 := Scalar.addi v2 c30_i32_3462
  let c32_i32_3463 : BitVec 32 := 32#32
  let c0_i32_3464 : BitVec 32 := 0#32
  let v4722 : BitVec 1 := Scalar.cmpi .eq c32_i32_3463 c0_i32_3464
  let c1_i32_3465 : BitVec 32 := 1#32
  let v4723 : BitVec 32 := Scalar.select v4722 c1_i32_3465 c32_i32_3463
  let v4724 : BitVec 32 := Scalar.remsi v4721 v4723
  let c0_i32_3467 : BitVec 32 := 0#32
  let v4726 : BitVec 1 := Scalar.cmpi .slt v4724 c0_i32_3467
  let c0_i32_3468 : BitVec 32 := 0#32
  let v4727 : BitVec 1 := Scalar.cmpi .slt v4723 c0_i32_3468
  let v4728 : BitVec 1 := Scalar.xori v4726 v4727
  let c0_i32_3466 : BitVec 32 := 0#32
  let v4725 : BitVec 1 := Scalar.cmpi .ne v4724 c0_i32_3466
  let v4729 : BitVec 1 := Scalar.andi v4728 v4725
  let v4730 : BitVec 32 := Scalar.addi v4724 v4723
  let v4731 : BitVec 32 := Scalar.select v4729 v4730 v4724
  let c1_i32_3473 : BitVec 32 := 1#32
  let v4734 : BitVec 32 := Scalar.muli v4731 c1_i32_3473
  let v4735 : BitVec 32 := Scalar.addi c0_i32_3474 v4734
  v4735.toNat
def k0_dev157 (d0 : Dev nD) : Nat :=
  let c0_i32_3489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3477 : BitVec 32 := 31#32
  let v4742 : BitVec 32 := Scalar.addi v2 c31_i32_3477
  let c32_i32_3478 : BitVec 32 := 32#32
  let c0_i32_3479 : BitVec 32 := 0#32
  let v4743 : BitVec 1 := Scalar.cmpi .eq c32_i32_3478 c0_i32_3479
  let c1_i32_3480 : BitVec 32 := 1#32
  let v4744 : BitVec 32 := Scalar.select v4743 c1_i32_3480 c32_i32_3478
  let v4745 : BitVec 32 := Scalar.remsi v4742 v4744
  let c0_i32_3482 : BitVec 32 := 0#32
  let v4747 : BitVec 1 := Scalar.cmpi .slt v4745 c0_i32_3482
  let c0_i32_3483 : BitVec 32 := 0#32
  let v4748 : BitVec 1 := Scalar.cmpi .slt v4744 c0_i32_3483
  let v4749 : BitVec 1 := Scalar.xori v4747 v4748
  let c0_i32_3481 : BitVec 32 := 0#32
  let v4746 : BitVec 1 := Scalar.cmpi .ne v4745 c0_i32_3481
  let v4750 : BitVec 1 := Scalar.andi v4749 v4746
  let v4751 : BitVec 32 := Scalar.addi v4745 v4744
  let v4752 : BitVec 32 := Scalar.select v4750 v4751 v4745
  let c1_i32_3488 : BitVec 32 := 1#32
  let v4755 : BitVec 32 := Scalar.muli v4752 c1_i32_3488
  let v4756 : BitVec 32 := Scalar.addi c0_i32_3489 v4755
  v4756.toNat
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3492 : BitVec 32 := 0#32
  let v4763 : BitVec 1 := Scalar.cmpi .ne v2 c0_i32_3492
  let v4764 : BitVec 32 := Scalar.extui v4763
  let c0_i32_3493 : BitVec 32 := 0#32
  let v4765 : BitVec 1 := Scalar.cmpi .ne v4764 c0_i32_3493
  v4765

def k0_off164 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_4482 : BitVec 32 := 0#32
  let v5953 : BitVec 32 := Scalar.subi v2 c0_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3494 : BitVec 32 := 1#32
  let v4766 : BitVec 1 := Scalar.cmpi .ne v2 c1_i32_3494
  let v4767 : BitVec 32 := Scalar.extui v4766
  let c0_i32_3495 : BitVec 32 := 0#32
  let v4768 : BitVec 1 := Scalar.cmpi .ne v4767 c0_i32_3495
  v4768

def k0_off165 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4482 : BitVec 32 := 1#32
  let v5953 : BitVec 32 := Scalar.subi v2 c1_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3496 : BitVec 32 := 2#32
  let v4769 : BitVec 1 := Scalar.cmpi .ne v2 c2_i32_3496
  let v4770 : BitVec 32 := Scalar.extui v4769
  let c0_i32_3497 : BitVec 32 := 0#32
  let v4771 : BitVec 1 := Scalar.cmpi .ne v4770 c0_i32_3497
  v4771

def k0_off166 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4482 : BitVec 32 := 2#32
  let v5953 : BitVec 32 := Scalar.subi v2 c2_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3498 : BitVec 32 := 3#32
  let v4772 : BitVec 1 := Scalar.cmpi .ne v2 c3_i32_3498
  let v4773 : BitVec 32 := Scalar.extui v4772
  let c0_i32_3499 : BitVec 32 := 0#32
  let v4774 : BitVec 1 := Scalar.cmpi .ne v4773 c0_i32_3499
  v4774

def k0_off167 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_4482 : BitVec 32 := 3#32
  let v5953 : BitVec 32 := Scalar.subi v2 c3_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3500 : BitVec 32 := 4#32
  let v4775 : BitVec 1 := Scalar.cmpi .ne v2 c4_i32_3500
  let v4776 : BitVec 32 := Scalar.extui v4775
  let c0_i32_3501 : BitVec 32 := 0#32
  let v4777 : BitVec 1 := Scalar.cmpi .ne v4776 c0_i32_3501
  v4777

def k0_off168 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4482 : BitVec 32 := 4#32
  let v5953 : BitVec 32 := Scalar.subi v2 c4_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3502 : BitVec 32 := 5#32
  let v4778 : BitVec 1 := Scalar.cmpi .ne v2 c5_i32_3502
  let v4779 : BitVec 32 := Scalar.extui v4778
  let c0_i32_3503 : BitVec 32 := 0#32
  let v4780 : BitVec 1 := Scalar.cmpi .ne v4779 c0_i32_3503
  v4780

def k0_off169 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_4482 : BitVec 32 := 5#32
  let v5953 : BitVec 32 := Scalar.subi v2 c5_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3504 : BitVec 32 := 6#32
  let v4781 : BitVec 1 := Scalar.cmpi .ne v2 c6_i32_3504
  let v4782 : BitVec 32 := Scalar.extui v4781
  let c0_i32_3505 : BitVec 32 := 0#32
  let v4783 : BitVec 1 := Scalar.cmpi .ne v4782 c0_i32_3505
  v4783

def k0_off170 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_4482 : BitVec 32 := 6#32
  let v5953 : BitVec 32 := Scalar.subi v2 c6_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3506 : BitVec 32 := 7#32
  let v4784 : BitVec 1 := Scalar.cmpi .ne v2 c7_i32_3506
  let v4785 : BitVec 32 := Scalar.extui v4784
  let c0_i32_3507 : BitVec 32 := 0#32
  let v4786 : BitVec 1 := Scalar.cmpi .ne v4785 c0_i32_3507
  v4786

def k0_off171 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_4482 : BitVec 32 := 7#32
  let v5953 : BitVec 32 := Scalar.subi v2 c7_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3515 : BitVec 32 := 8#32
  let v4797 : BitVec 1 := Scalar.cmpi .ne v2 c8_i32_3515
  let v4798 : BitVec 32 := Scalar.extui v4797
  let c0_i32_3516 : BitVec 32 := 0#32
  let v4799 : BitVec 1 := Scalar.cmpi .ne v4798 c0_i32_3516
  v4799

def k0_off172 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4482 : BitVec 32 := 8#32
  let v5953 : BitVec 32 := Scalar.subi v2 c8_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3517 : BitVec 32 := 9#32
  let v4800 : BitVec 1 := Scalar.cmpi .ne v2 c9_i32_3517
  let v4801 : BitVec 32 := Scalar.extui v4800
  let c0_i32_3518 : BitVec 32 := 0#32
  let v4802 : BitVec 1 := Scalar.cmpi .ne v4801 c0_i32_3518
  v4802

def k0_off173 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_4482 : BitVec 32 := 9#32
  let v5953 : BitVec 32 := Scalar.subi v2 c9_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3519 : BitVec 32 := 10#32
  let v4803 : BitVec 1 := Scalar.cmpi .ne v2 c10_i32_3519
  let v4804 : BitVec 32 := Scalar.extui v4803
  let c0_i32_3520 : BitVec 32 := 0#32
  let v4805 : BitVec 1 := Scalar.cmpi .ne v4804 c0_i32_3520
  v4805

def k0_off174 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_4482 : BitVec 32 := 10#32
  let v5953 : BitVec 32 := Scalar.subi v2 c10_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3521 : BitVec 32 := 11#32
  let v4806 : BitVec 1 := Scalar.cmpi .ne v2 c11_i32_3521
  let v4807 : BitVec 32 := Scalar.extui v4806
  let c0_i32_3522 : BitVec 32 := 0#32
  let v4808 : BitVec 1 := Scalar.cmpi .ne v4807 c0_i32_3522
  v4808

def k0_off175 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_4482 : BitVec 32 := 11#32
  let v5953 : BitVec 32 := Scalar.subi v2 c11_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3523 : BitVec 32 := 12#32
  let v4809 : BitVec 1 := Scalar.cmpi .ne v2 c12_i32_3523
  let v4810 : BitVec 32 := Scalar.extui v4809
  let c0_i32_3524 : BitVec 32 := 0#32
  let v4811 : BitVec 1 := Scalar.cmpi .ne v4810 c0_i32_3524
  v4811

def k0_off176 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_4482 : BitVec 32 := 12#32
  let v5953 : BitVec 32 := Scalar.subi v2 c12_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3525 : BitVec 32 := 13#32
  let v4812 : BitVec 1 := Scalar.cmpi .ne v2 c13_i32_3525
  let v4813 : BitVec 32 := Scalar.extui v4812
  let c0_i32_3526 : BitVec 32 := 0#32
  let v4814 : BitVec 1 := Scalar.cmpi .ne v4813 c0_i32_3526
  v4814

def k0_off177 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_4482 : BitVec 32 := 13#32
  let v5953 : BitVec 32 := Scalar.subi v2 c13_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3527 : BitVec 32 := 14#32
  let v4815 : BitVec 1 := Scalar.cmpi .ne v2 c14_i32_3527
  let v4816 : BitVec 32 := Scalar.extui v4815
  let c0_i32_3528 : BitVec 32 := 0#32
  let v4817 : BitVec 1 := Scalar.cmpi .ne v4816 c0_i32_3528
  v4817

def k0_off178 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_4482 : BitVec 32 := 14#32
  let v5953 : BitVec 32 := Scalar.subi v2 c14_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3529 : BitVec 32 := 15#32
  let v4818 : BitVec 1 := Scalar.cmpi .ne v2 c15_i32_3529
  let v4819 : BitVec 32 := Scalar.extui v4818
  let c0_i32_3530 : BitVec 32 := 0#32
  let v4820 : BitVec 1 := Scalar.cmpi .ne v4819 c0_i32_3530
  v4820

def k0_off179 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_4482 : BitVec 32 := 15#32
  let v5953 : BitVec 32 := Scalar.subi v2 c15_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3538 : BitVec 32 := 16#32
  let v4831 : BitVec 1 := Scalar.cmpi .ne v2 c16_i32_3538
  let v4832 : BitVec 32 := Scalar.extui v4831
  let c0_i32_3539 : BitVec 32 := 0#32
  let v4833 : BitVec 1 := Scalar.cmpi .ne v4832 c0_i32_3539
  v4833

def k0_off180 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4482 : BitVec 32 := 16#32
  let v5953 : BitVec 32 := Scalar.subi v2 c16_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3540 : BitVec 32 := 17#32
  let v4834 : BitVec 1 := Scalar.cmpi .ne v2 c17_i32_3540
  let v4835 : BitVec 32 := Scalar.extui v4834
  let c0_i32_3541 : BitVec 32 := 0#32
  let v4836 : BitVec 1 := Scalar.cmpi .ne v4835 c0_i32_3541
  v4836

def k0_off181 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_4482 : BitVec 32 := 17#32
  let v5953 : BitVec 32 := Scalar.subi v2 c17_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3542 : BitVec 32 := 18#32
  let v4837 : BitVec 1 := Scalar.cmpi .ne v2 c18_i32_3542
  let v4838 : BitVec 32 := Scalar.extui v4837
  let c0_i32_3543 : BitVec 32 := 0#32
  let v4839 : BitVec 1 := Scalar.cmpi .ne v4838 c0_i32_3543
  v4839

def k0_off182 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_4482 : BitVec 32 := 18#32
  let v5953 : BitVec 32 := Scalar.subi v2 c18_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3544 : BitVec 32 := 19#32
  let v4840 : BitVec 1 := Scalar.cmpi .ne v2 c19_i32_3544
  let v4841 : BitVec 32 := Scalar.extui v4840
  let c0_i32_3545 : BitVec 32 := 0#32
  let v4842 : BitVec 1 := Scalar.cmpi .ne v4841 c0_i32_3545
  v4842

def k0_off183 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_4482 : BitVec 32 := 19#32
  let v5953 : BitVec 32 := Scalar.subi v2 c19_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3546 : BitVec 32 := 20#32
  let v4843 : BitVec 1 := Scalar.cmpi .ne v2 c20_i32_3546
  let v4844 : BitVec 32 := Scalar.extui v4843
  let c0_i32_3547 : BitVec 32 := 0#32
  let v4845 : BitVec 1 := Scalar.cmpi .ne v4844 c0_i32_3547
  v4845

def k0_off184 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_4482 : BitVec 32 := 20#32
  let v5953 : BitVec 32 := Scalar.subi v2 c20_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3548 : BitVec 32 := 21#32
  let v4846 : BitVec 1 := Scalar.cmpi .ne v2 c21_i32_3548
  let v4847 : BitVec 32 := Scalar.extui v4846
  let c0_i32_3549 : BitVec 32 := 0#32
  let v4848 : BitVec 1 := Scalar.cmpi .ne v4847 c0_i32_3549
  v4848

def k0_off185 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_4482 : BitVec 32 := 21#32
  let v5953 : BitVec 32 := Scalar.subi v2 c21_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3550 : BitVec 32 := 22#32
  let v4849 : BitVec 1 := Scalar.cmpi .ne v2 c22_i32_3550
  let v4850 : BitVec 32 := Scalar.extui v4849
  let c0_i32_3551 : BitVec 32 := 0#32
  let v4851 : BitVec 1 := Scalar.cmpi .ne v4850 c0_i32_3551
  v4851

def k0_off186 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_4482 : BitVec 32 := 22#32
  let v5953 : BitVec 32 := Scalar.subi v2 c22_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3552 : BitVec 32 := 23#32
  let v4852 : BitVec 1 := Scalar.cmpi .ne v2 c23_i32_3552
  let v4853 : BitVec 32 := Scalar.extui v4852
  let c0_i32_3553 : BitVec 32 := 0#32
  let v4854 : BitVec 1 := Scalar.cmpi .ne v4853 c0_i32_3553
  v4854

def k0_off187 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_4482 : BitVec 32 := 23#32
  let v5953 : BitVec 32 := Scalar.subi v2 c23_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3560 : BitVec 32 := 24#32
  let v4865 : BitVec 1 := Scalar.cmpi .ne v2 c24_i32_3560
  let v4866 : BitVec 32 := Scalar.extui v4865
  let c0_i32_3561 : BitVec 32 := 0#32
  let v4867 : BitVec 1 := Scalar.cmpi .ne v4866 c0_i32_3561
  v4867

def k0_off188 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_4482 : BitVec 32 := 24#32
  let v5953 : BitVec 32 := Scalar.subi v2 c24_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3562 : BitVec 32 := 25#32
  let v4868 : BitVec 1 := Scalar.cmpi .ne v2 c25_i32_3562
  let v4869 : BitVec 32 := Scalar.extui v4868
  let c0_i32_3563 : BitVec 32 := 0#32
  let v4870 : BitVec 1 := Scalar.cmpi .ne v4869 c0_i32_3563
  v4870

def k0_off189 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_4482 : BitVec 32 := 25#32
  let v5953 : BitVec 32 := Scalar.subi v2 c25_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3564 : BitVec 32 := 26#32
  let v4871 : BitVec 1 := Scalar.cmpi .ne v2 c26_i32_3564
  let v4872 : BitVec 32 := Scalar.extui v4871
  let c0_i32_3565 : BitVec 32 := 0#32
  let v4873 : BitVec 1 := Scalar.cmpi .ne v4872 c0_i32_3565
  v4873

def k0_off190 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_4482 : BitVec 32 := 26#32
  let v5953 : BitVec 32 := Scalar.subi v2 c26_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3566 : BitVec 32 := 27#32
  let v4874 : BitVec 1 := Scalar.cmpi .ne v2 c27_i32_3566
  let v4875 : BitVec 32 := Scalar.extui v4874
  let c0_i32_3567 : BitVec 32 := 0#32
  let v4876 : BitVec 1 := Scalar.cmpi .ne v4875 c0_i32_3567
  v4876

def k0_off191 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_4482 : BitVec 32 := 27#32
  let v5953 : BitVec 32 := Scalar.subi v2 c27_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3568 : BitVec 32 := 28#32
  let v4877 : BitVec 1 := Scalar.cmpi .ne v2 c28_i32_3568
  let v4878 : BitVec 32 := Scalar.extui v4877
  let c0_i32_3569 : BitVec 32 := 0#32
  let v4879 : BitVec 1 := Scalar.cmpi .ne v4878 c0_i32_3569
  v4879

def k0_off192 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_4482 : BitVec 32 := 28#32
  let v5953 : BitVec 32 := Scalar.subi v2 c28_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3570 : BitVec 32 := 29#32
  let v4880 : BitVec 1 := Scalar.cmpi .ne v2 c29_i32_3570
  let v4881 : BitVec 32 := Scalar.extui v4880
  let c0_i32_3571 : BitVec 32 := 0#32
  let v4882 : BitVec 1 := Scalar.cmpi .ne v4881 c0_i32_3571
  v4882

def k0_off193 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_4482 : BitVec 32 := 29#32
  let v5953 : BitVec 32 := Scalar.subi v2 c29_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3572 : BitVec 32 := 30#32
  let v4883 : BitVec 1 := Scalar.cmpi .ne v2 c30_i32_3572
  let v4884 : BitVec 32 := Scalar.extui v4883
  let c0_i32_3573 : BitVec 32 := 0#32
  let v4885 : BitVec 1 := Scalar.cmpi .ne v4884 c0_i32_3573
  v4885

def k0_off194 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_4482 : BitVec 32 := 30#32
  let v5953 : BitVec 32 := Scalar.subi v2 c30_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3574 : BitVec 32 := 31#32
  let v4886 : BitVec 1 := Scalar.cmpi .ne v2 c31_i32_3574
  let v4887 : BitVec 32 := Scalar.extui v4886
  let c0_i32_3575 : BitVec 32 := 0#32
  let v4888 : BitVec 1 := Scalar.cmpi .ne v4887 c0_i32_3575
  v4888

def k0_off195 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_4482 : BitVec 32 := 31#32
  let v5953 : BitVec 32 := Scalar.subi v2 c31_i32_4482
  let c32_i32_4483 : BitVec 32 := 32#32
  let c0_i32_4484 : BitVec 32 := 0#32
  let v5954 : BitVec 1 := Scalar.cmpi .eq c32_i32_4483 c0_i32_4484
  let c1_i32_4485 : BitVec 32 := 1#32
  let v5955 : BitVec 32 := Scalar.select v5954 c1_i32_4485 c32_i32_4483
  let v5956 : BitVec 32 := Scalar.remsi v5953 v5955
  let c0_i32_4487 : BitVec 32 := 0#32
  let v5958 : BitVec 1 := Scalar.cmpi .slt v5956 c0_i32_4487
  let c0_i32_4488 : BitVec 32 := 0#32
  let v5959 : BitVec 1 := Scalar.cmpi .slt v5955 c0_i32_4488
  let v5960 : BitVec 1 := Scalar.xori v5958 v5959
  let c0_i32_4486 : BitVec 32 := 0#32
  let v5957 : BitVec 1 := Scalar.cmpi .ne v5956 c0_i32_4486
  let v5961 : BitVec 1 := Scalar.andi v5960 v5957
  let v5962 : BitVec 32 := Scalar.addi v5956 v5955
  let v5963 : BitVec 32 := Scalar.select v5961 v5962 v5956
  ![v5963.toNat]
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S2x256x512 : Shape := ⟨3, ![2, 256, 512]⟩
abbrev S512x8192 : Shape := ⟨2, ![512, 8192]⟩
abbrev S8192x512 : Shape := ⟨2, ![8192, 512]⟩
abbrev S2x128 : Shape := ⟨2, ![2, 128]⟩
abbrev S128x3072 : Shape := ⟨2, ![128, 3072]⟩
abbrev S512x2048 : Shape := ⟨2, ![512, 2048]⟩
abbrev S2048x512 : Shape := ⟨2, ![2048, 512]⟩
abbrev S2x3072 : Shape := ⟨2, ![2, 3072]⟩
abbrev S2x512 : Shape := ⟨2, ![2, 512]⟩
abbrev S_ : Shape := ⟨0, ![]⟩
abbrev S2x256 : Shape := ⟨2, ![2, 256]⟩
abbrev S2x256x1 : Shape := ⟨3, ![2, 256, 1]⟩
abbrev S2x1x512 : Shape := ⟨3, ![2, 1, 512]⟩
abbrev S2x256x8192 : Shape := ⟨3, ![2, 256, 8192]⟩
abbrev S2x256x128x64 : Shape := ⟨4, ![2, 256, 128, 64]⟩
abbrev S2x128x256x256 : Shape := ⟨4, ![2, 128, 256, 256]⟩
abbrev S2x128x256 : Shape := ⟨3, ![2, 128, 256]⟩
abbrev S2x128x256x1 : Shape := ⟨4, ![2, 128, 256, 1]⟩
abbrev S2x128x64x256 : Shape := ⟨4, ![2, 128, 64, 256]⟩
abbrev S2x256x2048 : Shape := ⟨3, ![2, 256, 2048]⟩

abbrev nBuf : Space → Nat
  | .hbm => 171
  | .vmem => 0
  | .smem => 0
  | _ => 0

abbrev hbmTy0_0 (i : Nat) : BufTy := match i % 128 with
  | 0 => ⟨S2x256x512, .bf16⟩
  | 1 => ⟨S512x8192, .bf16⟩
  | 2 => ⟨S512x8192, .bf16⟩
  | 3 => ⟨S512x8192, .bf16⟩
  | 4 => ⟨S8192x512, .bf16⟩
  | 5 => ⟨S2x128, .bf16⟩
  | 6 => ⟨S128x3072, .bf16⟩
  | 7 => ⟨S512x2048, .bf16⟩
  | 8 => ⟨S2048x512, .bf16⟩
  | 9 => ⟨S2x3072, .f32⟩
  | 10 => ⟨S2x512, .f32⟩
  | 11 => ⟨S2x512, .f32⟩
  | 12 => ⟨S2x512, .f32⟩
  | 13 => ⟨S2x512, .f32⟩
  | 14 => ⟨S2x512, .f32⟩
  | 15 => ⟨S2x512, .f32⟩
  | 16 => ⟨S2x512, .bf16⟩
  | 17 => ⟨S2x512, .bf16⟩
  | 18 => ⟨S2x512, .bf16⟩
  | 19 => ⟨S2x512, .bf16⟩
  | 20 => ⟨S2x512, .bf16⟩
  | 21 => ⟨S2x512, .bf16⟩
  | 22 => ⟨S2x256x512, .f32⟩
  | 23 => ⟨S_, .f32⟩
  | 24 => ⟨S2x256, .f32⟩
  | 25 => ⟨S2x256x1, .f32⟩
  | 26 => ⟨S_, .f32⟩
  | 27 => ⟨S2x256x1, .f32⟩
  | 28 => ⟨S2x256x1, .f32⟩
  | 29 => ⟨S2x256x1, .bf16⟩
  | 30 => ⟨S_, .i32⟩
  | 31 => ⟨S2x256x512, .f32⟩
  | 32 => ⟨S_, .f32⟩
  | 33 => ⟨S2x256, .f32⟩
  | 34 => ⟨S2x256x1, .f32⟩
  | 35 => ⟨S_, .f32⟩
  | 36 => ⟨S2x256x1, .f32⟩
  | 37 => ⟨S2x256x1, .f32⟩
  | 38 => ⟨S2x256x512, .f32⟩
  | 39 => ⟨S2x256x512, .f32⟩
  | 40 => ⟨S2x256x512, .f32⟩
  | 41 => ⟨S_, .f32⟩
  | 42 => ⟨S_, .f32⟩
  | 43 => ⟨S_, .f32⟩
  | 44 => ⟨S_, .f32⟩
  | 45 => ⟨S2x256, .f32⟩
  | 46 => ⟨S2x256x1, .f32⟩
  | 47 => ⟨S2x256x1, .f32⟩
  | 48 => ⟨S2x256x1, .f32⟩
  | 49 => ⟨S2x256x1, .bf16⟩
  | 50 => ⟨S_, .f32⟩
  | 51 => ⟨S_, .i1⟩
  | 52 => ⟨S_, .f32⟩
  | 53 => ⟨S_, .bf16⟩
  | 54 => ⟨S2x256x1, .bf16⟩
  | 55 => ⟨S2x256x1, .bf16⟩
  | 56 => ⟨S2x256x512, .bf16⟩
  | 57 => ⟨S2x256x512, .bf16⟩
  | 58 => ⟨S_, .bf16⟩
  | 59 => ⟨S2x256x1, .bf16⟩
  | 60 => ⟨S2x256x1, .bf16⟩
  | 61 => ⟨S2x256x1, .bf16⟩
  | 62 => ⟨S2x256x512, .bf16⟩
  | 63 => ⟨S2x256x512, .bf16⟩
  | 64 => ⟨S2x1x512, .bf16⟩
  | 65 => ⟨S_, .bf16⟩
  | 66 => ⟨S2x1x512, .bf16⟩
  | 67 => ⟨S2x1x512, .bf16⟩
  | 68 => ⟨S2x256x512, .bf16⟩
  | 69 => ⟨S2x256x512, .bf16⟩
  | 70 => ⟨S2x1x512, .bf16⟩
  | 71 => ⟨S2x256x512, .bf16⟩
  | 72 => ⟨S2x256x512, .bf16⟩
  | 73 => ⟨S2x256x8192, .f32⟩
  | 74 => ⟨S2x256x128x64, .f32⟩
  | 75 => ⟨S2x256x128x64, .bf16⟩
  | 76 => ⟨S2x256x8192, .f32⟩
  | 77 => ⟨S2x256x128x64, .f32⟩
  | 78 => ⟨S2x256x128x64, .bf16⟩
  | 79 => ⟨S2x256x8192, .f32⟩
  | 80 => ⟨S2x256x128x64, .f32⟩
  | 81 => ⟨S2x256x128x64, .bf16⟩
  | 82 => ⟨S2x128x256x256, .f32⟩
  | 83 => ⟨S2x128x256x256, .bf16⟩
  | 84 => ⟨S2x128x256x256, .f32⟩
  | 85 => ⟨S_, .f32⟩
  | 86 => ⟨S2x128x256x256, .f32⟩
  | 87 => ⟨S2x128x256x256, .f32⟩
  | 88 => ⟨S_, .f32⟩
  | 89 => ⟨S2x128x256, .f32⟩
  | 90 => ⟨S2x128x256x1, .f32⟩
  | 91 => ⟨S2x128x256x256, .f32⟩
  | 92 => ⟨S2x128x256x256, .f32⟩
  | 93 => ⟨S2x128x256x256, .f32⟩
  | 94 => ⟨S_, .f32⟩
  | 95 => ⟨S2x128x256, .f32⟩
  | 96 => ⟨S2x128x256x1, .f32⟩
  | 97 => ⟨S2x128x256x256, .f32⟩
  | 98 => ⟨S2x128x256x256, .f32⟩
  | 99 => ⟨S2x128x64x256, .f32⟩
  | 100 => ⟨S2x256x128x64, .f32⟩
  | 101 => ⟨S2x256x8192, .f32⟩
  | 102 => ⟨S2x1x512, .bf16⟩
  | 103 => ⟨S2x256x512, .f32⟩
  | 104 => ⟨S2x1x512, .f32⟩
  | 105 => ⟨S2x256x512, .f32⟩
  | 106 => ⟨S2x256x512, .f32⟩
  | 107 => ⟨S2x256x512, .f32⟩
  | 108 => ⟨S2x256x512, .f32⟩
  | 109 => ⟨S_, .f32⟩
  | 110 => ⟨S2x256, .f32⟩
  | 111 => ⟨S2x256x1, .f32⟩
  | 112 => ⟨S_, .f32⟩
  | 113 => ⟨S2x256x1, .f32⟩
  | 114 => ⟨S2x256x1, .f32⟩
  | 115 => ⟨S_, .i32⟩
  | 116 => ⟨S_, .f32⟩
  | 117 => ⟨S2x256, .f32⟩
  | 118 => ⟨S2x256x1, .f32⟩
  | 119 => ⟨S_, .f32⟩
  | 120 => ⟨S2x256x1, .f32⟩
  | 121 => ⟨S2x256x1, .f32⟩
  | 122 => ⟨S2x256x512, .f32⟩
  | 123 => ⟨S2x256x512, .f32⟩
  | 124 => ⟨S2x256x512, .f32⟩
  | 125 => ⟨S_, .f32⟩
  | 126 => ⟨S_, .f32⟩
  | 127 => ⟨S_, .f32⟩
  | _ => ⟨S2x256x512, .bf16⟩

abbrev hbmTy0_1 (i : Nat) : BufTy := match i % 128 with
  | 0 => ⟨S_, .f32⟩
  | 1 => ⟨S2x256, .f32⟩
  | 2 => ⟨S2x256x1, .f32⟩
  | 3 => ⟨S2x256x1, .f32⟩
  | 4 => ⟨S2x256x1, .f32⟩
  | 5 => ⟨S_, .f32⟩
  | 6 => ⟨S_, .i1⟩
  | 7 => ⟨S_, .f32⟩
  | 8 => ⟨S_, .f32⟩
  | 9 => ⟨S2x256x1, .f32⟩
  | 10 => ⟨S2x256x1, .f32⟩
  | 11 => ⟨S2x256x512, .f32⟩
  | 12 => ⟨S2x256x512, .f32⟩
  | 13 => ⟨S_, .f32⟩
  | 14 => ⟨S2x256x1, .f32⟩
  | 15 => ⟨S2x256x1, .f32⟩
  | 16 => ⟨S2x256x1, .f32⟩
  | 17 => ⟨S2x256x512, .f32⟩
  | 18 => ⟨S2x256x512, .f32⟩
  | 19 => ⟨S2x1x512, .bf16⟩
  | 20 => ⟨S_, .bf16⟩
  | 21 => ⟨S2x1x512, .bf16⟩
  | 22 => ⟨S2x1x512, .bf16⟩
  | 23 => ⟨S2x1x512, .f32⟩
  | 24 => ⟨S2x256x512, .f32⟩
  | 25 => ⟨S2x256x512, .f32⟩
  | 26 => ⟨S2x1x512, .bf16⟩
  | 27 => ⟨S2x1x512, .f32⟩
  | 28 => ⟨S2x256x512, .f32⟩
  | 29 => ⟨S2x256x512, .f32⟩
  | 30 => ⟨S2x256x2048, .f32⟩
  | 31 => ⟨S2x256x2048, .f32⟩
  | 32 => ⟨S2x256x2048, .f32⟩
  | 33 => ⟨S_, .f32⟩
  | 34 => ⟨S2x256x2048, .f32⟩
  | 35 => ⟨S2x256x2048, .f32⟩
  | 36 => ⟨S2x256x2048, .f32⟩
  | 37 => ⟨S2x1x512, .bf16⟩
  | 38 => ⟨S2x256x512, .f32⟩
  | 39 => ⟨S2x1x512, .f32⟩
  | 40 => ⟨S2x256x512, .f32⟩
  | 41 => ⟨S2x256x512, .f32⟩
  | 42 => ⟨S2x256x512, .f32⟩
  | _ => ⟨S2x256x512, .bf16⟩

abbrev hbmTy (i : Nat) : BufTy := match i / 128 with
  | 0 => hbmTy0_0 i
  | 1 => hbmTy0_1 i
  | _ => ⟨S2x256x512, .bf16⟩

abbrev bufTy : (tb : Table) → Fin (tcTables nBuf tb) → BufTy
  | .hbm, ⟨i, _⟩ => hbmTy i
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_call0_v2 : Ref sig .tc := ⟨.hbm, 34, rfl⟩
abbrev main_call0_cst_0 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_cst_1 : Ref sig .tc := ⟨.hbm, 42, rfl⟩
abbrev main_call0_v9 : Ref sig .tc := ⟨.hbm, 43, rfl⟩
abbrev main_call0_cst_2 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst_3 : Ref sig .tc := ⟨.hbm, 50, rfl⟩
abbrev main_call0_v15 : Ref sig .tc := ⟨.hbm, 51, rfl⟩
abbrev main_call0_cst_4 : Ref sig .tc := ⟨.hbm, 52, rfl⟩
abbrev main_call0_call0_v0 : Ref sig .tc := ⟨.hbm, 53, rfl⟩
abbrev main_call0_call0_v1 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_1 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_2 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_3 : Ref sig .tc := ⟨.hbm, 85, rfl⟩
abbrev main_v47 : Ref sig .tc := ⟨.hbm, 86, rfl⟩
abbrev main_v48 : Ref sig .tc := ⟨.hbm, 87, rfl⟩
abbrev main_cst_4 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_5 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_6 : Ref sig .tc := ⟨.hbm, 109, rfl⟩
abbrev main_v68 : Ref sig .tc := ⟨.hbm, 110, rfl⟩
abbrev main_v69 : Ref sig .tc := ⟨.hbm, 111, rfl⟩
abbrev main_cst_7 : Ref sig .tc := ⟨.hbm, 112, rfl⟩
abbrev main_v70 : Ref sig .tc := ⟨.hbm, 113, rfl⟩
abbrev main_v71 : Ref sig .tc := ⟨.hbm, 114, rfl⟩
abbrev main_c_8 : Ref sig .tc := ⟨.hbm, 115, rfl⟩
abbrev main_call1_cst : Ref sig .tc := ⟨.hbm, 116, rfl⟩
abbrev main_call1_v0 : Ref sig .tc := ⟨.hbm, 117, rfl⟩
abbrev main_call1_v1 : Ref sig .tc := ⟨.hbm, 118, rfl⟩
abbrev main_call1_cst_0 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_call1_v5 : Ref sig .tc := ⟨.hbm, 123, rfl⟩
abbrev main_call1_v6 : Ref sig .tc := ⟨.hbm, 124, rfl⟩
abbrev main_call1_v7 : Ref sig .tc := ⟨.hbm, 125, rfl⟩
abbrev main_call1_cst_1 : Ref sig .tc := ⟨.hbm, 126, rfl⟩
abbrev main_call1_v8 : Ref sig .tc := ⟨.hbm, 127, rfl⟩
abbrev main_call1_cst_2 : Ref sig .tc := ⟨.hbm, 128, rfl⟩
abbrev main_call1_v9 : Ref sig .tc := ⟨.hbm, 129, rfl⟩
abbrev main_call1_v10 : Ref sig .tc := ⟨.hbm, 130, rfl⟩
abbrev main_call1_v11 : Ref sig .tc := ⟨.hbm, 131, rfl⟩
abbrev main_call1_v12 : Ref sig .tc := ⟨.hbm, 132, rfl⟩
abbrev main_call1_cst_3 : Ref sig .tc := ⟨.hbm, 133, rfl⟩
abbrev main_call1_v13 : Ref sig .tc := ⟨.hbm, 134, rfl⟩
abbrev main_call1_cst_4 : Ref sig .tc := ⟨.hbm, 135, rfl⟩
abbrev main_call1_call0_v0 : Ref sig .tc := ⟨.hbm, 136, rfl⟩
abbrev main_call1_call0_v1 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_cst_9 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_cst_10 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_cst_11 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩

abbrev nD : Nat := 1
abbrev τ : Topo := Topo.v7x

variable {F : FTy → Type} [FloatOps F]
-- ==== Proof.Fam.lean ====
/-
Families of resources indexed by a finite type and restricted by a predicate: taking one member out, putting one in,
changing one, and re-reading the predicate. They serve the counters of the kernel's loops: "all peers at or after the
current one" loses its first member when the loop advances.
-/
module

public import Idealize.ShloMosaic.Lib.Rounds
public import Idealize.ShloMosaic.Lib.Transfers
public import Idealize.ShloMosaic.Lib.Tactic

@[expose] public section

noncomputable section

namespace Cert.Fam

open Idealize.ShloMosaic
open Idealize.SL Idealize.SL.RA Idealize.SL.BI
open scoped Idealize.SL.BI
open Idealize.SL.BI.BIBase Idealize.SL.BI.Laws Idealize.SL.ProofMode Idealize.SL.Sem

variable {M : Type} [URA M] {I : Type} [Fintype I] [DecidableEq I]

/-- The members of `Φ` at the indices satisfying `p`. -/
def fam (p : I → Prop) [DecidablePred p] (Φ : I → sProp M) : sProp M := bigSep (Finset.univ.filter p) Φ

/-- The family depends on its predicate only up to equivalence. -/
theorem fam_congr {p p' : I → Prop} [DecidablePred p] [DecidablePred p'] (h : ∀ x, p x ↔ p' x) (Φ : I → sProp M) :
    fam p Φ = fam p' Φ := by
  unfold fam; rw [Finset.filter_congr fun x _ => h x]

/-- ... and on its members only where the predicate holds. -/
theorem fam_congr_mem {p p' : I → Prop} [DecidablePred p] [DecidablePred p'] {Φ Ψ : I → sProp M} (h : ∀ x, p x ↔ p' x)
    (hΦ : ∀ x, p x → Φ x = Ψ x) : fam p Φ = fam p' Ψ := by
  rw [fam_congr h Ψ |>.symm]; unfold fam
  exact bigSep_congr fun x hx => hΦ x (Finset.mem_filter.mp hx).2

/-- One member taken out. -/
theorem fam_take {p p' : I → Prop} [DecidablePred p] [DecidablePred p'] (a : I) (ha : p a) (h : ∀ x, p' x ↔ p x ∧ x ≠ a)
    (Φ : I → sProp M) : fam p Φ = iprop(Φ a ∗ fam p' Φ) := by
  unfold fam
  rw [bigSep_erase (Finset.mem_filter.mpr ⟨Finset.mem_univ a, ha⟩)]
  congr 2
  ext x; simp only [Finset.mem_erase, Finset.mem_filter, Finset.mem_univ, true_and, h]; tauto

/-- An empty family. -/
theorem fam_none {p : I → Prop} [DecidablePred p] (h : ∀ x, ¬ p x) (Φ : I → sProp M) : fam p Φ = iprop(emp) := by
  unfold fam
  rw [Finset.filter_false_of_mem fun x _ => h x]; exact bigSep_empty

/-- A family cut in two by a second predicate. -/
theorem fam_split {p p₁ p₂ : I → Prop} [DecidablePred p] [DecidablePred p₁] [DecidablePred p₂]
    (h : ∀ x, p x ↔ p₁ x ∨ p₂ x) (hd : ∀ x, p₁ x → ¬ p₂ x) (Φ : I → sProp M) : fam p Φ = iprop(fam p₁ Φ ∗ fam p₂ Φ) := by
  unfold fam
  rw [show Finset.univ.filter p = Finset.univ.filter p₁ ∪ Finset.univ.filter p₂ from by
    ext x; simp only [Finset.mem_union, Finset.mem_filter, Finset.mem_univ, true_and, h]]
  exact bigSep_union (Finset.disjoint_filter.mpr fun x _ => hd x)

/-- A family of pairs. -/
theorem fam_sep (p : I → Prop) [DecidablePred p] (Φ Ψ : I → sProp M) :
    fam p (fun x => iprop(Φ x ∗ Ψ x)) = iprop(fam p Φ ∗ fam p Ψ) := by unfold fam; exact bigSep_sep' _ _ _

/-- A family weakened member by member. -/
theorem fam_mono (p : I → Prop) [DecidablePred p] {Φ Ψ : I → sProp M} (h : ∀ x, p x → (Φ x ⊢ Ψ x)) : fam p Φ ⊢ fam p Ψ := by
  unfold fam; exact bigSep_mono fun x hx => h x (Finset.mem_filter.mp hx).2

/-- A family over all indices. -/
theorem fam_univ {p : I → Prop} [DecidablePred p] (h : ∀ x, p x) (Φ : I → sProp M) : fam p Φ = bigSep Finset.univ Φ := by
  unfold fam; rw [Finset.filter_true_of_mem fun x _ => h x]

/-- One member out, to be put back changed. -/
theorem fam_upd {p : I → Prop} [DecidablePred p] (a : I) (ha : p a) {Φ Ψ : I → sProp M} (h : ∀ x, p x → x ≠ a → Φ x = Ψ x) :
    fam p Φ ⊢ iprop(Φ a ∗ (Ψ a -∗ fam p Ψ)) := by
  rw [fam_take (p' := fun x => p x ∧ x ≠ a) a ha (fun _ => Iff.rfl) Φ, fam_take (p' := fun x => p x ∧ x ≠ a) a ha (fun _ => Iff.rfl) Ψ,
    fam_congr_mem (p' := fun x => p x ∧ x ≠ a) (Ψ := Ψ) (fun _ => Iff.rfl) fun x hx => h x hx.1 hx.2]
  iintro ⟨Ha, Hr⟩
  isplitl [Ha]; · iexact Ha
  iintro Hb
  isplitl [Hb] <;> iassumption

/-- A family reindexed along a bijection. -/
theorem fam_equiv {J : Type} [Fintype J] [DecidableEq J] (e : J ≃ I) {p : I → Prop} {p' : J → Prop} [DecidablePred p] [DecidablePred p']
    (h : ∀ x, p' x ↔ p (e x)) (Φ : I → sProp M) : fam p Φ = fam p' fun x => Φ (e x) := by
  unfold fam
  rw [show Finset.univ.filter p = (Finset.univ.filter p').map e.toEmbedding from by
    ext x; simp only [Finset.mem_map_equiv, Finset.mem_filter, Finset.mem_univ, true_and, h, Equiv.apply_symm_apply]]
  exact bigSep_map _

/-- A family over two rounds whose predicate singles one round out, as a family over the indices of that round. -/
theorem fam_round {n : ℕ} {J : Type} [Fintype J] [DecidableEq J] (k : Fin n) {p : Fin n × J → Prop} {p' : J → Prop} [DecidablePred p]
    [DecidablePred p'] (h : ∀ x, p x ↔ x.1 = k ∧ p' x.2) (Φ : Fin n × J → sProp M) : fam p Φ = fam p' fun j => Φ (k, j) := by
  unfold fam
  rw [show Finset.univ.filter p = (Finset.univ.filter p').map ⟨fun j => (k, j), fun _ _ e => (Prod.mk.inj e).2⟩ from by
    ext x
    simp only [Finset.mem_map, Finset.mem_filter, Finset.mem_univ, true_and, h, Function.Embedding.coeFn_mk]
    constructor
    · intro ⟨h1, h2⟩; exact ⟨x.2, h2, Prod.ext h1.symm rfl⟩
    · rintro ⟨j, hj, rfl⟩; exact ⟨rfl, hj⟩]
  exact bigSep_map _

/-! ### The slots of a state -/

/-- All the slots' resources. -/
def slots (σ : I → sProp M) : sProp M := bigSep Finset.univ σ

/-- The slots of `A` taken out of a state, to be put back as they are in another state that agrees with it elsewhere. -/
theorem slots_open (A : Finset I) (σ σ' : I → sProp M) (h : ∀ x, x ∉ A → σ x = σ' x) :
    slots σ ⊢ iprop(bigSep A σ ∗ (bigSep A σ' -∗ slots σ')) := by
  unfold slots
  have e : (bigSep (Finset.univ \ A) σ : sProp M) = bigSep (Finset.univ \ A) σ' :=
    bigSep_congr fun x hx => h x (Finset.mem_sdiff.mp hx).2
  rw [show (bigSep Finset.univ σ : sProp M) = iprop(bigSep A σ ∗ bigSep (Finset.univ \ A) σ') from
      (bigSep_sdiff_split (Finset.subset_univ A)).trans (by rw [e]; rfl),
    show (bigSep Finset.univ σ' : sProp M) = iprop(bigSep A σ' ∗ bigSep (Finset.univ \ A) σ') from
      bigSep_sdiff_split (Finset.subset_univ A)]
  generalize (bigSep (Finset.univ \ A) σ' : sProp M) = R, (bigSep A σ : sProp M) = P, (bigSep A σ' : sProp M) = Q
  iintro ⟨HA, Hr⟩
  isplitl [HA]; · iexact HA
  iintro HB
  isplitl [HB] <;> iassumption

/-! ### Small sets of slots -/

/-- One more member in front of a finite family. -/
theorem bigSep_cons {a : I} {s : Finset I} (h : a ∉ s) (Φ : I → sProp M) : bigSep (insert a s) Φ = iprop(Φ a ∗ bigSep s Φ) := bigSep_insert h
/-- A family with one member is that member. -/
theorem bigSep_one (a : I) (Φ : I → sProp M) : bigSep {a} Φ = Φ a := bigSep_singleton

end Cert.Fam

end
-- ==== Proof.KernelIdealProto.lean ====
/-
The protocol of the kernel: its semaphore cells, what each round of a cell is paid with, what a device owes at every
point of its program, and the order in which waits may be made.

Device `c` meets device `c + r` at shift `r ≠ 0` (addition modulo 32).
* Barrier cell of `c`: one unit from every other device `j`, who with it hands over its slot `c - j`
  of the exchange buffer (the slot `c` will write into) and the fact that its receive cell `c - j` is at round 0.
* Receive cell `r` of `d`, round `k` (payer `i = d - r`): slot `r` of `d` holding `i`'s block for `d`; and, since the
  transfer has left, block `d` of `i`'s accumulator, to be overwritten by the gather of round `k`.
* Gather-send cell `r` of `d`: the share of block `d` lent to the transfer comes back.
* Gather-receive cell `r` of `d`, round `k` (payer `i = d - r`): block `i` of the accumulator holding `i`'s reduced
  block; and in round 0 the right to write into `i`'s slot for `d` again.
-/
module

public import proofs.«01_k».proof.Proof.Fam
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Pointwise.Index
public import Idealize.ShloMosaic.Lib.Transfers

@[expose] public section

noncomputable section

namespace Cert.KernelIdealProof

open Cert.KernelIdeal Cert.KernelIdeal.Gen Cert.Fam

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 32)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Cells -/

/-- The barrier semaphore. -/
abbrev barS : Sem sig := (SemArray.scalar (sig.barrier 0 rfl) : Sems sig S_).sem
/-- Semaphore `r` of the array `a`: scatter send, scatter receive, gather send, gather receive. -/
def dsem (a : Fin 4) (r : Fin 32) : DmaSem sig := ⟨10 + 32 * a.val + r.val, by
  have := a.isLt; have := r.isLt; show _ < 138; omega⟩

abbrev cell (c : Dev nD) (sm : SemLoc sig) : GSem nD τ sig := ((c : Thread nD τ), sm)
abbrev barC (c : Dev nD) : GSem nD τ sig := cell c (.reg barS)
abbrev dmaC (a : Fin 4) (c : Dev nD) (r : Fin 32) : GSem nD τ sig := cell c (.dma (dsem a r))
abbrev sndC (c : Dev nD) (r : Fin 32) : GSem nD τ sig := dmaC 0 c r
abbrev rcvC (c : Dev nD) (r : Fin 32) : GSem nD τ sig := dmaC 1 c r
abbrev gsnC (c : Dev nD) (r : Fin 32) : GSem nD τ sig := dmaC 2 c r
abbrev grcC (c : Dev nD) (r : Fin 32) : GSem nD τ sig := dmaC 3 c r

abbrev CellK : Type := Option (Fin 4 × Fin 32)
/-- The semaphores of the protocol. -/
abbrev csem : CellK → SemLoc sig
  | none => .reg barS
  | some (a, r) => .dma (dsem a r)
abbrev kcell (x : Dev nD × CellK) : GSem nD τ sig := cell x.1 (csem x.2)

/-- Different places of the arrays are different semaphores, -/
theorem dsem_inj {a a' : Fin 4} {r r' : Fin 32} (h : dsem a r = dsem a' r') : a = a' ∧ r = r' := by
  have h := congrArg Fin.val h
  have := r.isLt; have := r'.isLt
  dsimp only [dsem] at h
  exact ⟨Fin.ext (by omega), Fin.ext (by omega)⟩

/-- so are the names of the protocol's semaphores, -/
theorem csem_inj {x y : CellK} (h : csem x = csem y) : x = y := by
  rcases x with _ | ⟨a, r⟩ <;> rcases y with _ | ⟨a', r'⟩
  · rfl
  · cases h
  · cases h
  · injection h with h
    obtain ⟨rfl, rfl⟩ := dsem_inj h; rfl

/-- and their cells on all devices. -/
theorem kcell_inj : Function.Injective kcell := by
  rintro ⟨c, x⟩ ⟨c', x'⟩ h
  have h1 := congrArg (fun g : GSem nD τ sig => g.1.1) h
  have h2 := csem_inj (congrArg (fun g : GSem nD τ sig => g.2) h)
  simp only at h1
  subst h1; subst h2; rfl

/-! ## Memory: the accumulator's blocks and the exchange buffer's slots -/

abbrev Acc (F : FTy → Type) : Type := (cc0_scratch1 : Ref sig .tc).ty.Contents (Elt F)
abbrev Scat (F : FTy → Type) : Type := (cc0_scratch3 : Ref sig .tc).ty.Contents (Elt F)

/-- Rows `16 j … 16 j + 15` of the accumulator: block `j`. -/
def rowsB (j : Fin 32) : Finset (Shape.Idx S512x512) := Finset.univ.filter fun i => (i 0).val / 16 = j.val
/-- Slot `r` of the exchange buffer. -/
def slotB (r : Fin 32) : Finset (Shape.Idx S32x16x512) := Finset.univ.filter fun i => (i 0).val = r.val

/-- Elements `S` of device `c`'s accumulator at share `q`, holding `f`'s values. -/
def accP (c : Dev nD) (S : Finset (Shape.Idx S512x512)) (q : PosShare TreeShare) (f : Acc F) : sProp 𝕄 :=
  (c : Thread nD τ).loc cc0_scratch1 ↦[S]{q} f
/-- Elements `S` of device `c`'s exchange buffer holding `f`'s values. -/
def scaP (c : Dev nD) (S : Finset (Shape.Idx S32x16x512)) (f : Scat F) : sProp 𝕄 :=
  (c : Thread nD τ).loc cc0_scratch3 ↦[S]{fullShare} f

def accAny (c : Dev nD) (j : Fin 32) : sProp 𝕄 := iprop(∃ f, accP (F := F) c (rowsB j) fullShare f)
def slotAny (c : Dev nD) (r : Fin 32) : sProp 𝕄 := iprop(∃ f, scaP (F := F) c (slotB r) f)

instance accP_storable (c : Dev nD) (S q) (f : Acc F) : BI.Storable (upEmb : UEmb _ 𝕄) (accP (F := F) c S q f) := by unfold accP; infer_instance
instance scaP_storable (c : Dev nD) (S) (f : Scat F) : BI.Storable (upEmb : UEmb _ 𝕄) (scaP (F := F) c S f) := by unfold scaP; infer_instance
instance accAny_storable (c : Dev nD) (j) : BI.Storable (upEmb : UEmb _ 𝕄) (accAny (F := F) c j) := by unfold accAny; infer_instance
instance slotAny_storable (c : Dev nD) (j) : BI.Storable (upEmb : UEmb _ 𝕄) (slotAny (F := F) c j) := by unfold slotAny; infer_instance

/-- What the exchanges carry: in round `k`, device `d`'s partial sums, and the reduced sums (the same on every device). -/
structure Vals (F : FTy → Type) where
  part : ℕ → Dev nD → Acc F
  red : ℕ → Acc F

/-- The exchange buffer of device `j` once it holds everybody's block for `j`: slot `r` is block `j` of `j - r`'s partial sums. -/
def slotC (p : Dev nD → Acc F) (j : Dev nD) : Scat F :=
  fun i => p (j - ⟨(i 0).val, (i 0).isLt⟩) (ix2 (n0 := 512) (n1 := 512) ⟨16 * j.val + (i 1).val, by
    have := j.isLt; have h : (i 1).val < 16 := (i 1).isLt; show _ < 512; simp only [nD] at *; omega⟩ ⟨(i 2).val, (i 2).isLt⟩)

/-- The share of its own block a device lends to the gather transfer at shift `r`; the rest stays with it. -/
def tok (r : Fin 32) : PosShare TreeShare := Transfers.shareTokN fullShare.left r.val

/-! ## The schedule -/

/-- The right of `c` to send to `j` in round `k`: `j`'s slot `j - c`, and `j`'s receive cell at that round. -/
def Dst (k : ℕ) (j c : Dev nD) : sProp 𝕄 := iprop(slotAny (F := F) j (j - c) ∗ reached ER (rcvC j (j - c)) k)
def recvPay (V : Vals F) (d : Dev nD) (r : Fin 32) (k : ℕ) : sProp 𝕄 :=
  iprop(scaP d (slotB r) (slotC (V.part k) d) ∗ (accAny (F := F) (d - r) d ∗ reached ER (grcC (d - r) (-r)) k))
def gsnPay (V : Vals F) (d : Dev nD) (r : Fin 32) (k : ℕ) : sProp 𝕄 := accP d (rowsB d) (tok r) (V.red k)
def grcPay (V : Vals F) (d : Dev nD) (r : Fin 32) (k : ℕ) : sProp 𝕄 :=
  iprop(accP d (rowsB (d - r)) fullShare (V.red k) ∗ (if k = 0 then Dst (F := F) 1 (d - r) d else emp))

def dmaPay (V : Vals F) (a : ℕ) (d : Dev nD) (r : Fin 32) (k : ℕ) : sProp 𝕄 :=
  if a = 0 then iprop(emp) else if a = 1 then recvPay V d r k else if a = 2 then gsnPay V d r k else grcPay V d r k

instance dmaPay_storable (V : Vals F) (a d r k) : BI.Storable (upEmb : UEmb _ 𝕄) (dmaPay V a d r k) := by
  unfold dmaPay recvPay gsnPay grcPay Dst
  (repeat' split) <;> infer_instance
instance Dst_storable (k j c) : BI.Storable (upEmb : UEmb _ 𝕄) (Dst (F := F) k j c) := by unfold Dst; infer_instance

/-- The credit of one transfer of a 16 × 512 block. -/
def N : ℕ := ((Memref.whole cc0_scratch1 : Memref sig .tc .vmem S512x512 .bf16).slice (Rect.unit (s := S512x512) ![0, 0] S16x512.size (by decide)) (fun _ => rfl) : Memref sig .tc .vmem S16x512 .bf16).view.dmaCredit
/-- A transfer's credit is positive. -/
theorem N_pos : 0 < N := View.dmaCredit_pos _ (by decide)

def rd (V : Vals F) : Rounds.Schedule (GSem nD τ sig) (Fin 32) 𝕄 where
  duties g k := match g.2 with
    | .reg _ => if g.1.2 = .tc ∧ k = 0 then Finset.univ.erase g.1.1 else ∅
    | .dma q => if g.1.2 = .tc ∧ 10 ≤ q.val ∧ (q.val - 10) % 32 ≠ 0 ∧ k < 2 then {0} else ∅
  unitless _ := False
  amount g _ _ := match g.2 with
    | .reg _ => 1
    | .dma _ => N
  payload g k d := match g.2 with
    | .reg _ => Dst 0 d g.1.1
    | .dma q => dmaPay V ((q.val - 10) / 32) g.1.1 ⟨(q.val - 10) % 32, Nat.mod_lt _ (by decide)⟩ k
  amount_pos g _ _ _ := by
    rcases g with ⟨t, q | q⟩
    · exact Nat.one_pos
    · exact N_pos

instance rd_storable (V : Vals F) (g : GSem nD τ sig) (k : ℕ) (d : Fin 32) : BI.Storable (upEmb : UEmb _ 𝕄) ((rd V).payload g k d) := by
  rcases g with ⟨t, q | q⟩
  · show BI.Storable upEmb (Dst 0 d t.1); infer_instance
  · show BI.Storable upEmb (dmaPay V _ _ _ k); infer_instance

section Tables
variable (V : Vals F) (c : Dev nD)

/-- The number of a semaphore gives -/
theorem dsem_sub (a : Fin 4) (r : Fin 32) : (dsem a r).val - 10 = 32 * a.val + r.val := by dsimp only [dsem]; omega
/-- its array -/
theorem dsem_div (a : Fin 4) (r : Fin 32) : ((dsem a r).val - 10) / 32 = a.val := by have := r.isLt; rw [dsem_sub]; omega
/-- and its place in it. -/
theorem dsem_mod (a : Fin 4) (r : Fin 32) : ((dsem a r).val - 10) % 32 = r.val := by have := r.isLt; rw [dsem_sub]; omega

/-- Everybody else signals a device's barrier once, -/
theorem duties_bar : (rd V).duties (barC c) 0 = Finset.univ.erase c := by dsimp only [rd]; exact if_pos ⟨rfl, rfl⟩
/-- and never again. -/
theorem duties_bar_later (k : ℕ) (hk : 1 ≤ k) : (rd V).duties (barC c) k = ∅ := if_neg fun h => by omega
/-- Every transfer cell is paid once in each of the two rounds, -/
theorem duties_dma (a : Fin 4) (r : Fin 32) (hr : r ≠ 0) (k : ℕ) (hk : k < 2) : (rd V).duties (dmaC a c r) k = {0} := by
  dsimp only [rd]
  exact if_pos ⟨rfl, by dsimp only [dsem]; omega, by rw [dsem_mod]; exact fun h => hr (Fin.ext h), hk⟩
/-- but for the one at shift 0, which is never paid, -/
theorem duties_dma_zero (a : Fin 4) (k : ℕ) : (rd V).duties (dmaC a c 0) k = ∅ := by
  dsimp only [rd]; exact if_neg fun h => h.2.2.1 (dsem_mod a 0)
/-- and never after. -/
theorem duties_dma_later (a : Fin 4) (r : Fin 32) (k : ℕ) (hk : 2 ≤ k) : (rd V).duties (dmaC a c r) k = ∅ := by
  dsimp only [rd]; exact if_neg fun h => by omega
/-- A barrier signal counts one, -/
theorem amount_bar (k d) : (rd V).amount (barC c) k d = 1 := rfl
/-- a transfer its credit. -/
theorem amount_dma (a r k d) : (rd V).amount (dmaC a c r) k d = N := rfl
/-- A barrier signal hands over the right to send to the signaller; -/
theorem payload_bar (d : Dev nD) : (rd V).payload (barC c) 0 d = Dst 0 d c := rfl
/-- a transfer hands over, by its kind, -/
theorem payload_dma (a r k d) : (rd V).payload (dmaC a c r) k d = dmaPay V a.val c r k := by
  dsimp only [rd]; rw [dsem_div]; congr 1; exact Fin.ext (dsem_mod a r)
/-- nothing when the scatter has left, -/
theorem payload_snd (r k d) : (rd V).payload (sndC c r) k d = iprop(emp) := by rw [payload_dma]; rfl
/-- the block when it arrives, -/
theorem payload_rcv (r k d) : (rd V).payload (rcvC c r) k d = recvPay V c r k := by rw [payload_dma]; rfl
/-- the lent share when the gather has left, -/
theorem payload_gsn (r k d) : (rd V).payload (gsnC c r) k d = gsnPay V c r k := by rw [payload_dma]; rfl
/-- and the reduced block when it arrives. -/
theorem payload_grc (r k d) : (rd V).payload (grcC c r) k d = grcPay V c r k := by rw [payload_dma]; rfl

/-- The barrier waits for 31 signals, -/
theorem expect_bar : (rd V).expect (barC c) 0 = 31 := by
  unfold Schedule.expect Schedule.amountOf
  rw [duties_bar, Finset.sum_congr rfl fun d _ => amount_bar V c 0 d, Finset.sum_const, Finset.card_erase_of_mem (Finset.mem_univ c),
    Finset.card_univ, Fintype.card_fin]; rfl
/-- a transfer cell for one transfer. -/
theorem expect_dma (a : Fin 4) (r : Fin 32) (hr : r ≠ 0) (k : ℕ) (hk : k < 2) : (rd V).expect (dmaC a c r) k = N := by
  unfold Schedule.expect Schedule.amountOf; rw [duties_dma V c a r hr k hk, Finset.sum_singleton, amount_dma]
/-- All that a transfer cell's round hands over, -/
theorem rest_dma (a : Fin 4) (r : Fin 32) (hr : r ≠ 0) (k : ℕ) (hk : k < 2) :
    bigSep ((rd V).duties (dmaC a c r) k \ ∅) (fun d => (rd V).payload (dmaC a c r) k d) = dmaPay V a.val c r k := by
  rw [Finset.sdiff_empty, duties_dma V c a r hr k hk, bigSep_singleton, payload_dma]
/-- and all that the barrier does. -/
theorem rest_bar : bigSep ((rd V).duties (barC c) 0 \ ∅) (fun d => (rd V).payload (barC c) 0 d) = fam (· ≠ c) (fun j => Dst (F := F) 0 j c) := by
  rw [Finset.sdiff_empty, duties_bar]; unfold fam
  rw [show Finset.univ.erase c = Finset.univ.filter (· ≠ c) from by ext x; simp]
  exact bigSep_congr fun d _ => payload_bar V c d

end Tables

/-! ## What a device owes

The 160 payments of device `c`, in program order: 32 indices for each of the five runs of starts — the barrier signals, the
scatter and gather of round 0, the scatter and gather of round 1; the place a device would meet itself owes nothing. -/

/-- Index `x` read modulo 32, as a device. -/
def dv (x : ℕ) : Fin 32 := ⟨x % 32, Nat.mod_lt _ (by decide)⟩

/-- The `i`-th payment. -/
def item (c : Dev nD) (i : ℕ) : CellTallies nD τ sig ℕ :=
  if i / 32 = 0 then (if dv i = 0 then 0 else tallyAt (barC (c + dv i)) 0 1)
  else if i / 32 = 1 then (if dv i = c then 0 else tallyAt (rcvC (dv i) (dv i - c)) 0 N)
  else if i / 32 = 2 then (if dv i = 0 then 0 else tallyAt (grcC (c + dv i) (dv i)) 0 N)
  else if i / 32 = 3 then (if dv i = c then 0 else tallyAt (rcvC (dv i) (dv i - c)) 1 N)
  else (if dv i = 0 then 0 else tallyAt (grcC (c + dv i) (dv i)) 1 N)

/-- What is still owed when the payments before the `n`-th are made. -/
def O (c : Dev nD) (n : ℕ) : CellTallies nD τ sig ℕ := ∑ i ∈ (Finset.range 160).filter (n ≤ ·), item c i

/-- The `n`-th payment is owed until it is made; -/
theorem O_succ (c : Dev nD) (n : ℕ) (hn : n < 160) : O c n = O c (n + 1) + item c n := by
  unfold O
  rw [show (Finset.range 160).filter (n ≤ ·) = insert n ((Finset.range 160).filter (n + 1 ≤ ·)) from by
    ext x; simp only [Finset.mem_filter, Finset.mem_range, Finset.mem_insert]; omega,
    Finset.sum_insert (by simp), add_comm]
/-- after the last nothing is. -/
theorem O_end (c : Dev nD) : O c 160 = 0 := by
  unfold O; rw [Finset.filter_false_of_mem (fun x hx => by have := Finset.mem_range.mp hx; omega)]; rfl

/-- A payment of nothing. -/
theorem O_skip (c : Dev nD) (n : ℕ) (hn : n < 160) (h : item c n = 0) : O c n = O c (n + 1) := by
  rw [O_succ c n hn, h, add_zero]

def L (g : GSem nD τ sig) : Finset ℕ := if g.1.2 = .tc then {0, 1} else ∅
/-- The order of waits: scatter and gather sends and the staging cells lowest, then the barrier, then the receives round by round. -/
def lv (g : GSem nD τ sig) (k : ℕ) : ℕ := match g.2 with
  | .reg _ => 1
  | .dma q => if q.val < 10 then 0 else if (q.val - 10) / 32 = 1 then 2 + 2 * k else if (q.val - 10) / 32 = 3 then 3 + 2 * k else 0

/-- No rounds are counted but on the cores, -/
theorem L_of_ne (g : GSem nD τ sig) (h : g.1.2 ≠ .tc) : L g = ∅ := if_neg h
/-- where there are two. -/
theorem L_tc (c : Dev nD) (sm : SemLoc sig) : L (cell c sm) = {0, 1} := if_pos rfl
/-- The level of a transfer cell. -/
theorem lv_dma (a : Fin 4) (c : Dev nD) (r : Fin 32) (k : ℕ) :
    lv (dmaC a c r) k = if a.val = 1 then 2 + 2 * k else if a.val = 3 then 3 + 2 * k else 0 := by
  dsimp only [lv]; rw [dsem_div, if_neg (by dsimp only [dsem]; omega)]

/-- The level of the cells of run `i / 32`. -/
def itemLv (i : ℕ) : ℕ := i / 32 + 1

/-- A payment goes to a cell of its level. -/
theorem item_pos {c : Dev nD} {i : ℕ} (hi : i < 160) {g : GSem nD τ sig} {u : ℕ} (h : 0 < item c i g u) :
    u ∈ L g ∧ lv g u = itemLv i := by
  have key : ∀ (g' : GSem nD τ sig) (u' n : ℕ), g'.1.2 = .tc → u' < 2 → lv g' u' = itemLv i → 0 < (tallyAt g' u' n : CellTallies nD τ sig ℕ) g u →
      u ∈ L g ∧ lv g u = itemLv i := by
    intro g' u' n hg hu hl h
    rw [tallyAt_apply] at h
    by_cases e : g = g' ∧ u = u'
    · obtain ⟨rfl, rfl⟩ := e
      refine ⟨?_, hl⟩
      unfold L; rw [if_pos hg]; rcases (by omega : u = 0 ∨ u = 1) with rfl | rfl <;> decide
    · rw [if_neg e] at h; omega
  have z : ¬ (0 < (0 : CellTallies nD τ sig ℕ) g u) := Nat.lt_irrefl 0
  unfold item at h
  split_ifs at h <;> first | exact absurd h z | skip
  · exact key _ _ _ rfl (by omega) (by unfold itemLv; dsimp only [lv]; omega) h
  · exact key _ _ _ rfl (by omega) (by unfold itemLv; rw [lv_dma]; simp; omega) h
  · exact key _ _ _ rfl (by omega) (by unfold itemLv; rw [lv_dma]; simp; omega) h
  · exact key _ _ _ rfl (by omega) (by unfold itemLv; rw [lv_dma]; simp; omega) h
  · exact key _ _ _ rfl (by omega) (by unfold itemLv; rw [lv_dma]; simp; omega) h

/-- A wait is allowed on a cell below everything still owed. -/
theorem mayWait (c : Dev nD) (sm : SemLoc sig) (k n : ℕ) (hk : k < 2) (hl : lv (cell c sm) k < n / 32 + 1) :
    (levAts L lv : sProp 𝕄) ⊢ MayWait (c : Thread nD τ) sm k (O c n) := by
  refine Pipeline.mayWait_of_levAts (by rw [L_tc c sm]; rcases (by omega : k = 0 ∨ k = 1) with rfl | rfl <;> decide) fun g i h => ?_
  obtain ⟨x, hx, hp⟩ := Pipeline.sum_pos_exists h
  have hx := Finset.mem_filter.mp hx
  obtain ⟨h1, h2⟩ := item_pos (Finset.mem_range.mp hx.1) hp
  refine ⟨h1, ?_⟩
  show lv (cell c sm) k < lv g i
  rw [h2]; unfold itemLv
  have := Nat.div_le_div_right (c := 32) hx.2
  omega

end Cert.KernelIdealProof

end
-- ==== Proof.KernelIdealState.lean ====
/-
The state of one device between two effects of its program: counters, and for every counter setting the resources the
device holds. A resource family shrinks or grows as its counter advances; every step of the program is one lemma that
advances one counter.
-/
module

public import proofs.«01_k».proof.Proof.KernelIdealProto

@[expose] public section

noncomputable section

namespace Cert.KernelIdealProof

open Cert.KernelIdeal Cert.KernelIdeal.Gen Cert.Fam

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Counters -/

/-- How far the program has come. Rounds are numbered 0, 1 and a counter over both rounds counts `32 * round + index`. -/
structure Ctr where
  /-- payments made -/
  n : ℕ
  /-- barrier waits made -/
  b : ℕ
  /-- waits made on the receive, gather-receive, send and gather-send cells -/
  rv : ℕ
  gw : ℕ
  sw : ℕ
  aw : ℕ
  /-- halves of the accumulator stored -/
  ph : ℕ
  /-- stores of the device's own block into slot 0 -/
  zp : ℕ
  /-- reduced blocks stored -/
  op : ℕ
  /-- groups of 128 rows rewritten for the second exchange -/
  gp : ℕ
  /-- stores made into the attention, residual and result buffers -/
  at_ : ℕ
  xp : ℕ
  yp : ℕ

/-- What the device's memory is to hold: the exchanges' contents, the attention output, the residual stream, the result. -/
structure Cont (F : FTy → Type) where
  V : Vals F
  T : (cc0_scratch0 : Ref sig .tc).ty.Contents (Elt F)
  X : (cc0_scratch2 : Ref sig .tc).ty.Contents (Elt F)
  Y : (cc0_stg9_0 : Ref sig .tc).ty.Contents (Elt F)

/-- The buffers of the arguments' blocks. -/
@[reducible] def argB : Fin 9 → Ref sig .tc
  | 0 => cc0_stg0_0 | 1 => cc0_stg1_0 | 2 => cc0_stg2_0 | 3 => cc0_stg3_0 | 4 => cc0_stg4_0 | 5 => cc0_stg5_0 | 6 => cc0_stg6_0
  | 7 => cc0_stg7_0 | 8 => cc0_stg8_0

/-- The arguments' blocks of one device, as its buffers hold them. -/
abbrev Args (F : FTy → Type) : Type := ∀ i : Fin 9, (argB i).ty.Contents (Elt F)

/-- A buffer of device `c` holding `f`. -/
def bufP (c : Dev nD) (b : Ref sig .tc) (f : Buf (Elt F) ((c : Thread nD τ).loc b)) : sProp 𝕄 := (c : Thread nD τ).loc b ↦{fullShare} f

def argsP (c : Dev nD) (A : Args F) : sProp 𝕄 := bigSep Finset.univ fun i : Fin 9 => bufP c (argB i) (A i)

/-- The elements of the attention buffer the first `a` stores have written; -/
def doneT (a : ℕ) (i : Shape.Idx S512x256) : Prop := 4 * ((i 0).val / 256) + (i 1).val / 64 < a
/-- of the residual buffer; -/
def doneX (a : ℕ) (i : Shape.Idx S512x512) : Prop := (i 0).val / 128 < a
/-- of the result. -/
def doneY (a : ℕ) (i : Shape.Idx S2x256x512) : Prop := 2 * (i 0).val + (i 1).val / 128 < a

/-- A buffer holding some contents that agree with `f` where `d` holds. -/
def partP (c : Dev nD) (b : Ref sig .tc) (d : b.ty.shape.Idx → Prop) (f : b.ty.Contents (Elt F)) : sProp 𝕄 :=
  iprop(∃ g : b.ty.Contents (Elt F), ⌜∀ i, d i → g i = f i⌝ ∗ bufP c b g)

/-! ## Slots -/

/-- The kinds of resource a device holds. -/
inductive Slot
  | ow | sg | br | st | gt | ds | sc | ac | rc | gc | p0 | p1 | p2 | p3 | gd | sl | s0 | raw | pr0 | gt0 | pr1 | gt1 | own | tk
  | att | x1 | out | args | z0
deriving DecidableEq

instance : Fintype Slot where
  elems := {.ow, .sg, .br, .st, .gt, .ds, .sc, .ac, .rc, .gc, .p0, .p1, .p2, .p3, .gd, .sl, .s0, .raw, .pr0, .gt0, .pr1, .gt1, .own, .tk,
    .att, .x1, .out, .args, .z0}
  complete := by intro x; cases x <;> decide

/-- Rounds of a cell waited for when `m` positions of both rounds are passed, at index `r`. -/
def cnt (m r : ℕ) : ℕ := (if r < m then 1 else 0) + (if 32 + r < m then 1 else 0)

abbrev KR : Type := Fin 2 × Fin 32

section Sigma
variable (Co : Cont F) (A : Args F) (c : Dev nD)

/-- A device's position at one of its own cells, with the rounds behind it. -/
def posP (g : GSem nD τ sig) (m : ℕ) : sProp 𝕄 := iprop(atPos ER g m ∅ 0 ∗ reached ER g m)

/-- What is left of a device's own block while parts of it are lent to the gather transfers. -/
def restP (f : Acc F) : sProp 𝕄 :=
  iprop(accP c (rowsB c) fullShare.right f ∗ accP c (rowsB c) (Transfers.shareDrop fullShare.left 32) f ∗ accP c (rowsB c) (tok 0) f)

def sgΦ (r : Fin 32) : sProp 𝕄 := iprop(dutyTok ER (barC (c + r)) 0 c ∗ slotAny (F := F) c (-r))
def stΦ (x : KR) : sProp 𝕄 := iprop(dutyTok ER (sndC c (x.2 - c)) x.1.val 0 ∗ dutyTok ER (rcvC x.2 (x.2 - c)) x.1.val 0)
def gtΦ (x : KR) : sProp 𝕄 := iprop(dutyTok ER (gsnC c x.2) x.1.val 0 ∗ dutyTok ER (grcC (c + x.2) x.2) x.1.val 0)
def dsΦ (x : KR) : sProp 𝕄 := Dst (F := F) x.1.val x.2 c
def scΦ (x : KR) : sProp 𝕄 := cred (tallyAt (sndC c x.2) 0 N)
def acΦ (x : KR) : sProp 𝕄 := cred (tallyAt (gsnC c x.2) 0 N)
def rcΦ (x : KR) : sProp 𝕄 := cred (tallyAt (rcvC c x.2) x.1.val N)
def gcΦ (x : KR) : sProp 𝕄 := cred (tallyAt (grcC c (c - x.2)) x.1.val N)
def gdΦ (x : KR) : sProp 𝕄 := iprop(accAny (F := F) (c - x.2) c ∗ reached ER (grcC (c - x.2) (-x.2)) x.1.val)
def slΦ (x : KR) : sProp 𝕄 := scaP c (slotB x.2) (slotC (Co.V.part x.1.val) c)
def tkΦ (x : KR) : sProp 𝕄 := accP c (rowsB c) (tok x.2) (Co.V.red x.1.val)

/-- The part of the accumulator no partial sum is stored in yet. -/
def rawS (a : ℕ) : Finset (Shape.Idx S512x512) := Finset.univ.filter fun i => 16 * a ≤ (i 0).val / 16

/-- The resources of each kind at counters `s`. -/
def σ (s : Ctr) : Slot → sProp 𝕄
  | .ow => iprop(∃ W, owes (c : Thread nD τ) (O c s.n) W)
  | .sg => fam (fun r : Fin 32 => r.val ≠ 0 ∧ s.n ≤ r.val) (sgΦ c)
  | .br => iprop((if s.b = 0 then cred (tallyAt (barC c) 0 31) else iprop(emp)) ∗ atPos ER (barC c) s.b ∅ 0)
  | .st => fam (fun x : KR => x.2.val ≠ c.val ∧ s.n ≤ 32 + 64 * x.1.val + x.2.val) (stΦ c)
  | .gt => fam (fun x : KR => x.2.val ≠ 0 ∧ s.n ≤ 64 + 64 * x.1.val + x.2.val) (gtΦ c)
  | .ds => fam (fun x : KR => x.2.val ≠ c.val ∧ s.n ≤ 32 + 64 * x.1.val + x.2.val ∧ (x.1.val = 0 → s.b = 1) ∧ (x.1.val = 1 → x.2.val < s.gw)) (dsΦ c)
  | .sc => fam (fun x : KR => x.2.val ≠ 0 ∧ 32 + 64 * x.1.val + (c.val + x.2.val) % 32 < s.n ∧ s.sw ≤ 32 * x.1.val + x.2.val) (scΦ c)
  | .ac => fam (fun x : KR => x.2.val ≠ 0 ∧ 64 + 64 * x.1.val + x.2.val < s.n ∧ s.aw ≤ 32 * x.1.val + x.2.val) (acΦ c)
  | .rc => fam (fun x : KR => x.2.val ≠ 0 ∧ s.rv ≤ 32 * x.1.val + x.2.val) (rcΦ c)
  | .gc => fam (fun x : KR => x.2.val ≠ c.val ∧ s.gw ≤ 32 * x.1.val + x.2.val) (gcΦ c)
  | .p0 => fam (fun r : Fin 32 => r.val ≠ 0) fun r => posP (sndC c r) (cnt s.sw r.val)
  | .p1 => fam (fun r : Fin 32 => r.val ≠ 0) fun r => posP (rcvC c r) (cnt s.rv r.val)
  | .p2 => fam (fun r : Fin 32 => r.val ≠ 0) fun r => posP (gsnC c r) (cnt s.aw r.val)
  | .p3 => fam (fun j : Fin 32 => j.val ≠ c.val) fun j => posP (grcC c (c - j)) (cnt s.gw j.val)
  | .gd => fam (fun x : KR => x.2.val ≠ 0 ∧ 32 * x.1.val + x.2.val < s.rv ∧ s.n ≤ 64 + 64 * x.1.val + (32 - x.2.val) % 32) (gdΦ c)
  | .sl => fam (fun x : KR => x.2.val ≠ 0 ∧ 32 * x.1.val + x.2.val < s.rv ∧ (x.1.val = 0 → s.n ≤ 64 + (32 - x.2.val) % 32)) (slΦ Co c)
  | .s0 => if s.zp = 0 then slotAny c 0 else scaP c (slotB 0) (slotC (Co.V.part (s.zp - 1)) c)
  | .raw => iprop(∃ f, accP c (rawS s.ph) fullShare f)
  | .pr0 => fam (fun j : Fin 32 => j.val ≠ c.val ∧ j.val < 16 * s.ph ∧ s.n ≤ 32 + j.val) fun j => accP c (rowsB j) fullShare (Co.V.part 0 c)
  | .gt0 => fam (fun j : Fin 32 => j.val ≠ c.val ∧ j.val < s.gw ∧ 8 * s.gp ≤ j.val) fun j => accP c (rowsB j) fullShare (Co.V.red 0)
  | .pr1 => fam (fun j : Fin 32 => j.val ≠ c.val ∧ j.val < 8 * s.gp ∧ s.n ≤ 96 + j.val) fun j => accP c (rowsB j) fullShare (Co.V.part 1 c)
  | .gt1 => fam (fun j : Fin 32 => j.val ≠ c.val ∧ 32 + j.val < s.gw) fun j => accP c (rowsB j) fullShare (Co.V.red 1)
  | .own => if s.op = 0 then (if c.val < 16 * s.ph then accP c (rowsB c) fullShare (Co.V.part 0 c) else iprop(emp))
      else if s.op = 1 then (if c.val < 8 * s.gp then accP c (rowsB c) fullShare (Co.V.part 1 c) else restP c (Co.V.red 0))
      else restP c (Co.V.red 1)
  | .tk => fam (fun x : KR => x.2.val ≠ 0 ∧ s.op = x.1.val + 1 ∧ (x.1.val = 0 → 8 * s.gp ≤ c.val)
      ∧ (s.n ≤ 64 + 64 * x.1.val + x.2.val ∨ 32 * x.1.val + x.2.val < s.aw)) (tkΦ Co c)
  | .att => partP c cc0_scratch0 (doneT s.at_) Co.T
  | .x1 => partP c cc0_scratch2 (doneX s.xp) Co.X
  | .out => partP c cc0_stg9_0 (doneY s.yp) Co.Y
  | .args => argsP c A
  | .z0 => bigSep Finset.univ fun a : Fin 4 => atPos ER (dmaC a c 0) 0 ∅ 0

end Sigma

/-- The levels of all cells. -/
@[irreducible] def Lev : sProp 𝕄 := levAts L lv
instance Lev_persistent : BI.Persistent (Lev (F := F)) := by unfold Lev; infer_instance
/-- The levels of the cells, kept. -/
theorem Lev_intro : (levAts L lv : sProp 𝕄) ⊢ Lev := by unfold Lev; exact .rfl
/-- A wait is allowed on a cell below everything still owed. -/
theorem Lev_mayWait (c : Dev nD) (sm : SemLoc sig) (k n : ℕ) (hk : k < 2) (hl : lv (cell c sm) k < n / 32 + 1) :
    Lev (F := F) ⊢ MayWait (c : Thread nD τ) sm k (O c n) := by unfold Lev; exact mayWait c sm k n hk hl

/-- The shared facts: the cells' invariants under the names `K`, every cell at round 0, the levels. -/
def Pers (V : Vals F) (K : Dev nD × CellK → ℕ) : sProp 𝕄 :=
  iprop((bigSep Finset.univ fun x : Dev nD × CellK => cellInv ER (rd V) (K x) (kcell x))
    ∗ (bigSep Finset.univ fun x : Dev nD × CellK => reached ER (kcell x) 0) ∗ Lev)

instance Pers_persistent (V : Vals F) (K) : BI.Persistent (Pers V K) := by unfold Pers; infer_instance

/-- The common facts give each cell's invariant, -/
theorem Pers_inv (V : Vals F) (K) (x : Dev nD × CellK) : Pers V K ⊢ cellInv ER (rd V) (K x) (kcell x) := by
  have h : (bigSep Finset.univ fun x : Dev nD × CellK => cellInv ER (rd V) (K x) (kcell x)) ⊢ cellInv ER (rd V) (K x) (kcell x) :=
    bigSep_elim (Finset.mem_univ x)
  unfold Pers
  iintro ⟨H, -, -⟩
  iapply h $$ H
/-- its being in round 0 -/
theorem Pers_reached (V : Vals F) (K) (x : Dev nD × CellK) : Pers V K ⊢ reached ER (kcell x) 0 := by
  have h : (bigSep Finset.univ fun x : Dev nD × CellK => (reached ER (kcell x) 0 : sProp 𝕄)) ⊢ reached ER (kcell x) 0 :=
    bigSep_elim (Finset.mem_univ x)
  unfold Pers
  iintro ⟨-, H, -⟩
  iapply h $$ H
/-- and the levels. -/
theorem Pers_lev (V : Vals F) (K) : Pers V K ⊢ Lev := by
  unfold Pers
  iintro ⟨-, -, H⟩
  iexact H

/-- The state of device `c` at counters `s`. -/
def St (K : Dev nD × CellK → ℕ) (Co : Cont F) (A : Args F) (c : Dev nD) (s : Ctr) : sProp 𝕄 :=
  iprop(Pers Co.V K ∗ slots (σ Co A c s))

/-- The slots of `B` taken out of a state with the shared facts, to be put back in another state that agrees elsewhere. -/
theorem St_open (K : Dev nD × CellK → ℕ) (Co : Cont F) (A : Args F) (c : Dev nD) (s s' : Ctr) (B : Finset Slot)
    (h : ∀ x, x ∉ B → σ Co A c s x = σ Co A c s' x) :
    St K Co A c s ⊢ iprop(Pers Co.V K ∗ bigSep B (σ Co A c s) ∗ (bigSep B (σ Co A c s') -∗ St K Co A c s')) := by
  unfold St
  iintro ⟨#HP, HS⟩
  ihave H := (slots_open B (σ Co A c s) (σ Co A c s') h) $$ HS
  icases H with ⟨HB, Hback⟩
  isplitr; · iexact HP
  isplitl [HB]; · iexact HB
  iintro HB
  isplitr; · iexact HP
  iapply Hback; iexact HB

end Cert.KernelIdealProof

end
-- ==== Proof.Views.lean ====
/-
A write through a view, compared with a target for the whole buffer.
-/
module

public import Idealize.ShloMosaic.Lib.Transfers
public import Idealize.ShloMosaic.Lib.Pointwise.Index

@[expose] public section

noncomputable section

namespace Cert.Views

open Idealize.ShloMosaic

variable {sig : RefSig} {κ : Kind} {sp : Space} {s : Shape} {e : EltTy} {Val : EltTy → Type} {v : View sig κ sp s e}

/-- What is written through a view agrees under the view with any buffer contents that read the same through it. -/
theorem write_eq {f g : v.ty.Contents Val} {w : s.Idx → Val e} (h : v.read Val g = w) {i : v.ty.Idx} (hi : i ∈ v.set) :
    v.write Val f w Finset.univ i = g i := by
  obtain ⟨x, -, rfl⟩ := Finset.mem_map.mp hi
  subst h
  rw [View.write_emb_of_mem _ _ (Finset.mem_univ x), View.read_apply, _root_.cast_cast, _root_.cast_eq]

/-- Off the view nothing changes. -/
theorem write_off {f : v.ty.Contents Val} {w : s.Idx → Val e} {i : v.ty.Idx} (hi : i ∉ v.set) : v.write Val f w Finset.univ i = f i :=
  View.write_of_not_mem _ _ _ hi

/-- Reading depends only on the elements under the view. -/
theorem read_eq {f g : v.ty.Contents Val} (h : ∀ i ∈ v.set, f i = g i) : v.read Val f = v.read Val g := View.read_congr h

end Cert.Views

end
-- ==== Proof.KernelIdealMem.lean ====
/-
The kernel's blocks and slots as views: the elements under them and what a transfer from a block writes.
-/
module

public import proofs.«01_k».proof.Proof.KernelIdealState
public import proofs.«01_k».proof.Proof.Views

@[expose] public section

noncomputable section

namespace Cert.KernelIdealProof

open Cert.KernelIdeal Cert.KernelIdeal.Gen Cert.Fam Cert.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### Shifts as numbers -/

/-- Sums, -/
theorem add_val (a b : Fin 32) : (a + b).val = (a.val + b.val) % 32 := Fin.val_add a b
/-- differences -/
theorem sub_val (a b : Fin 32) : (a - b).val = (32 - b.val + a.val) % 32 := by rw [Fin.sub_def]
/-- and opposites modulo 32, as numbers. -/
theorem neg_val (a : Fin 32) : (-a).val = (32 - a.val) % 32 := by revert a; decide

/-- Different numbers differ by something. -/
theorem sub_ne {a b : Fin 32} (h : a ≠ b) : a - b ≠ 0 := by
  have ha := a.isLt; have hb := b.isLt
  intro e
  have := congrArg Fin.val e
  rw [sub_val] at this
  have h0 : ((0 : Fin 32)).val = 0 := rfl
  exact h (Fin.ext (by omega))
/-- Laws of shifts modulo 32: taking away a difference, -/
theorem sub_sub_self (a b : Fin 32) : a - (a - b) = b := by
  have ha := a.isLt; have hb := b.isLt
  refine Fin.ext ?_
  rw [sub_val, sub_val]; omega
/-- the opposite of a difference, -/
theorem neg_sub_swap (a b : Fin 32) : -(a - b) = b - a := by
  have ha := a.isLt; have hb := b.isLt
  refine Fin.ext ?_
  rw [neg_val, sub_val, sub_val]; omega
/-- adding and taking away, -/
theorem add_sub_self (a b : Fin 32) : a + b - b = a := by
  have ha := a.isLt; have hb := b.isLt
  refine Fin.ext ?_
  rw [sub_val, add_val]; omega
/-- taking away an opposite, -/
theorem sub_neg_self (a b : Fin 32) : a - -b = a + b := by
  have ha := a.isLt; have hb := b.isLt
  refine Fin.ext ?_
  rw [sub_val, neg_val, add_val]; omega
/-- the opposite of an opposite, -/
theorem neg_neg_self (b : Fin 32) : - -b = b := by
  have hb := b.isLt
  refine Fin.ext ?_
  rw [neg_val, neg_val]; omega
/-- and taking away a sum. -/
theorem sub_add_self (a b : Fin 32) : a - (a + b) = -b := by
  have ha := a.isLt; have hb := b.isLt
  refine Fin.ext ?_
  rw [sub_val, neg_val, add_val]; omega

/-! ## Views -/

/-- A block of 16 rows of the accumulator. -/
abbrev blkM (off : Fin 2 → ℕ) (inb : ∀ a, off a + S16x512.size a ≤ S512x512.size a) : Memref sig .tc .vmem S16x512 .bf16 :=
  (Memref.whole cc0_scratch1 : Memref sig .tc .vmem S512x512 .bf16).slice (Rect.unit (s := S512x512) off S16x512.size inb) (fun _ => rfl)
/-- A slot of the exchange buffer. -/
abbrev slotM (off : Fin 3 → ℕ) (inb : ∀ a, off a + S1x16x512.size a ≤ S32x16x512.size a) : Memref sig .tc .vmem S16x512 .bf16 :=
  ((Memref.whole cc0_scratch3 : Memref sig .tc .vmem S32x16x512 .bf16).slice (Rect.unit (s := S32x16x512) off S1x16x512.size inb)
    (fun _ => rfl)).squeeze S16x512 squeezes_S1x16x512_S16x512

/-- The elements of a block of the accumulator, -/
theorem blk_set {off : Fin 2 → ℕ} {inb} {j : Fin 32} (h : off = ![16 * j.val, 0]) : (blkM off inb).view.set = rowsB j := by
  subst h
  show ((View.whole cc0_scratch1).slice _).set = _
  rw [View.set_slice_whole]
  ext i
  rw [Rect.mem_set_unit]
  unfold rowsB
  simp only [Finset.mem_filter, Finset.mem_univ, true_and]
  constructor
  · intro h; have h0 := h 0; simp at h0; omega
  · intro h a
    have h1 : (i 1).val < 512 := (i 1).isLt
    fin_cases a
    · simp; omega
    · simpa using h1

/-- and of a slot of the exchange buffer. -/
theorem slot_set {off : Fin 3 → ℕ} {inb} {r : Fin 32} (h : off = ![r.val, 0, 0]) : (slotM off inb).view.set = slotB r := by
  subst h
  show (((View.whole cc0_scratch3).slice _).reshape _ _).set = _
  rw [View.set_reshape, View.set_slice_whole]
  ext i
  rw [Rect.mem_set_unit]
  unfold slotB
  simp only [Finset.mem_filter, Finset.mem_univ, true_and]
  constructor
  · intro h; have h0 := h 0; simp at h0; omega
  · intro h a
    have h1 : (i 1).val < 16 := (i 1).isLt
    have h2 : (i 2).val < 512 := (i 2).isLt
    fin_cases a
    · simp; omega
    · simpa using h1
    · exact ⟨Nat.zero_le _, by show (i 2).val < 0 + 512; omega⟩

/-- A block written from the same block of other contents holds those contents. -/
theorem blk_write {off off' : Fin 2 → ℕ} {inb inb'} {j : Fin 32} (h : off = ![16 * j.val, 0]) (h' : off' = ![16 * j.val, 0]) (f g : Acc F) :
    ∀ i ∈ rowsB j, (blkM off inb).view.write (Elt F) f ((blkM off' inb').view.read (Elt F) g) Finset.univ i = g i := by
  intro i hi
  subst h; subst h'
  exact write_eq rfl (by rw [blk_set rfl]; exact hi)

/-- A slot written with the sender's block holds what the exchange says. -/
theorem slot_write {off : Fin 3 → ℕ} {off' : Fin 2 → ℕ} {inb inb'} {j c : Fin 32} (h : off = ![(j - c).val, 0, 0]) (h' : off' = ![16 * j.val, 0])
    (p : Dev nD → Acc F) (f : Scat F) :
    ∀ i ∈ slotB (j - c), (slotM off inb).view.write (Elt F) f ((blkM off' inb').view.read (Elt F) (p c)) Finset.univ i = slotC p j i := by
  intro i hi
  subst h; subst h'
  refine write_eq ?_ (by rw [slot_set rfl]; exact hi)
  funext x
  rw [View.read_apply, View.read_apply, _root_.cast_eq, _root_.cast_eq]
  show slotC p j ((Rect.unit (s := S32x16x512) _ S1x16x512.size inb).emb (Shape.reshapeEquiv _ x)) = p c ((Rect.unit (s := S512x512) _ S16x512.size inb').emb x)
  have hx0 : (x 0).val < 16 := (x 0).isLt
  have hx1 : (x 1).val < 512 := (x 1).isLt
  refine Eq.trans (congrArg (fun y => slotC p j ((Rect.unit (s := S32x16x512) ![(j - c).val, 0, 0] S1x16x512.size inb).emb y))
    (Shape.reshapeEquiv_cons_one (n := 2) (d := ![16, 512]) (Shape.Squeezes.numel_eq squeezes_S1x16x512_S16x512) x)) ?_
  unfold slotC
  refine congr (congrArg p (Fin.ext ?_)) (funext fun a => Fin.ext ?_)
  · rw [sub_val]
    show (32 - ((j - c).val + 1 * 0) + j.val) % 32 = c.val
    rw [sub_val]; omega
  · fin_cases a
    · show 16 * j.val + (0 + 1 * (x 0).val) = 16 * j.val + 1 * (x 0).val
      omega
    · show 0 + 1 * (x 1).val = 0 + 1 * (x 1).val
      rfl

end Cert.KernelIdealProof

end
-- ==== Proof.KernelIdealSteps.lean ====
/-
One lemma per communication effect of the kernel: the state before it, the effect, the state after it with a counter
advanced.
-/
module

public import proofs.«01_k».proof.Proof.KernelIdealMem

@[expose] public section

noncomputable section

namespace Cert.KernelIdealProof

open Cert.KernelIdeal Cert.KernelIdeal.Gen Cert.Fam

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

abbrev 𝒱₀ : Variants := Variants.none

/-- Device `c` runs `p` to the postcondition `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × CellK → ℕ) (Co : Cont F) (A : Args F) (c : Dev nD)

/-- Running a sequence is running its head, then the rest. -/
theorem step_bind {α β : Type} {P : sProp 𝕄} {p : Prog (TpuEff nD τ sig (Elt F) Λ₀ .tc) α} {k : α → Prog (TpuEff nD τ sig (Elt F) Λ₀ .tc) β}
    {Q : β → sProp 𝕄} (h : P ⊢ WP c p fun a => WP c (k a) Q) : P ⊢ WP c (p >>= k) Q := by
  unfold WP; rw [wp_bind]; exact h
/-- Returning a value. -/
theorem step_pure {α : Type} {P : sProp 𝕄} {a : α} {Q : α → sProp 𝕄} (h : P ⊢ Q a) : P ⊢ WP c (pure a) Q := by
  refine BIBase.Entails.trans h ?_
  show Q a ⊢ wp _ _ _ (.ret a) Q
  rw [wp_ret]
  iintro H; imodintro; iexact H
/-- Asking for the device's number. -/
theorem step_deviceId {P : sProp 𝕄} {Q : Dev nD → sProp 𝕄} (h : P ⊢ Q c) : P ⊢ WP c (Prog.lift TpuEff.deviceId) Q := by
  refine BIBase.Entails.trans h ?_
  show Q c ⊢ wp _ _ _ (.op TpuEff.deviceId .ret) Q
  rw [wp_deviceId, wp_ret]
  iintro H; imodintro; iexact H

/-- A barrier signal: device `c` pays its unit to `c + r`, with the slot `c + r` will write into. -/
theorem step_signal {s : Ctr} {dst : Dev nD} {Q : PUnit → sProp 𝕄} (r : Fin 32) (hd : dst = c + r) (hr : r.val ≠ 0) (hn : s.n = r.val)
    (n' : ℕ) (hn' : s.n + 1 = n') (h : St K Co A c { s with n := n' } ⊢ Q ⟨⟩) :
    St K Co A c s ⊢ WP c (semSignalWord dst barS 1#32) Q := by
  subst hn'; subst hd
  have hr32 := r.isLt
  refine (St_open K Co A c s { s with n := s.n + 1 } {.ow, .sg} ?_).trans ?_
  · intro x hx
    cases x <;> first
      | exact absurd (by decide) hx
      | (dsimp only [σ]; done)
      | (dsimp only [σ]
         exact fam_congr (fun x : KR => by
           have := x.1.isLt; have := x.2.isLt; have := c.isLt; omega) _)
      | (dsimp only [σ]; exact fam_congr (fun x : Fin 32 => by have := x.isLt; omega) _)
  rw [bigSep_cons (by decide), bigSep_one, bigSep_cons (by decide), bigSep_one]
  dsimp only [σ]
  rw [fam_take (p := fun r : Fin 32 => r.val ≠ 0 ∧ s.n ≤ r.val) (p' := fun r : Fin 32 => r.val ≠ 0 ∧ s.n + 1 ≤ r.val) r ⟨hr, by omega⟩
    (fun x => by beta_reduce; rw [show x ≠ r ↔ x.val ≠ r.val from not_congr Fin.ext_iff]; omega)]
  unfold sgΦ
  iintro ⟨#HP, ⟨⟨%W, HO⟩, ⟨Htok, Hslot⟩, Hsg⟩, Hback⟩
  ihave #Hi := (Pers_inv Co.V K (c + r, none)) $$ HP
  ihave #Hr := (Pers_reached Co.V K (c + r, none)) $$ HP
  ihave #Hr' := (Pers_reached Co.V K (c, some (1, -r))) $$ HP
  have hO : O c s.n = O c (s.n + 1) + tallyAt (barC (c + r)) 0 1 := by
    rw [O_succ c s.n (by omega)]; unfold item
    have hv : dv s.n = r := Fin.ext (by dsimp only [dv]; omega)
    rw [if_pos (by omega), hv, if_neg (fun e => hr (congrArg Fin.val e))]
  iapply (Rounds.wp_signal 𝒱₀ ER (rd Co.V) (c : Thread nD τ) none (dst := ((c + r : Dev nD) : Thread nD τ)) (κ := K (c + r, none)) (r := 0)
      (d := c) (by rw [duties_bar]; exact Finset.mem_erase.mpr ⟨fun e => hr (by have := congrArg Fin.val e; simp only [add_val] at this; omega), Finset.mem_univ _⟩)
      ((amount_bar Co.V (c + r) 0 c).trans (by decide)) 0 (O c (s.n + 1)) hO) $$ [HO Htok Hslot]
  · isplitr; · iexact Hi
    isplitl [HO]; · iexact HO
    isplitl [Htok]; · iexact Htok
    isplitl [Hslot]
    · rw [payload_bar]; unfold Dst
      rw [show c - (c + r) = -r from Fin.ext (by simp only [sub_val, add_val, neg_val]; omega)]
      isplitl [Hslot]; · iexact Hslot
      iexact Hr'
    iexact Hr
  iintro HO
  rw [wp_ret]; imodintro
  iapply h
  iapply Hback
  isplitl [HO]; · iexists W; iexact HO
  iexact Hsg

/-- A device may wait on a cell below everything it still owes. -/
theorem Pers_mayWait (c : Dev nD) (sm : SemLoc sig) (k n : ℕ) (hk : k < 2) (hl : lv (cell c sm) k < n / 32 + 1) :
    Pers Co.V K ⊢ MayWait (c : Thread nD τ) sm k (O c n) := (Pers_lev Co.V K).trans (Lev_mayWait c sm k n hk hl)

/-! ### Rounds of a cell -/

/-- How often place `r` was passed: `k` times when round `k` stands before it, -/
theorem cnt_at (k r : ℕ) (hk : k < 2) (hr : r < 32) : cnt (32 * k + r) r = k := by unfold cnt; split_ifs <;> omega
/-- once more after, -/
theorem cnt_next (k r : ℕ) (hk : k < 2) (hr : r < 32) : cnt (32 * k + r + 1) r = k + 1 := by unfold cnt; split_ifs <;> omega
/-- and unchanged while another place is passed. -/
theorem cnt_ne (m r r' : ℕ) (k : ℕ) (hm : m = 32 * k + r) (hr : r < 32) (hr' : r' < 32) (h : r' ≠ r) : cnt (m + 1) r' = cnt m r' := by
  unfold cnt; split_ifs <;> omega

/-- Different numbers, -/
theorem ne_val {x y : Fin 32} : x ≠ y ↔ x.val ≠ y.val := not_congr Fin.ext_iff
/-- and different pairs, as numbers. -/
theorem kr_ne {x : KR} {k : Fin 2} {r : Fin 32} : x ≠ (k, r) ↔ ¬(x.1.val = k.val ∧ x.2.val = r.val) := by
  rw [ne_eq, Prod.ext_iff, Fin.ext_iff, Fin.ext_iff]

/-- An index at which a device would meet itself is passed over. -/
theorem skip_n (s : Ctr) (n' : ℕ) (hn' : s.n + 1 = n') (h : s.n < 160) (hi : item c s.n = 0)
    (hskip : (s.n / 32 = 0 ∨ s.n / 32 = 2 ∨ s.n / 32 = 4) ∧ s.n % 32 = 0 ∨ (s.n / 32 = 1 ∨ s.n / 32 = 3) ∧ s.n % 32 = c.val) :
    St K Co A c s ⊢ St K Co A c { s with n := n' } := by
  subst hn'
  refine (St_open K Co A c s { s with n := s.n + 1 } {.ow} ?_).trans ?_
  · intro x hx
    cases x <;> first
      | exact absurd (by decide) hx
      | (dsimp only [σ]; done)
      | (dsimp only [σ]
         exact fam_congr (fun x : KR => by
           have := x.1.isLt; have := x.2.isLt; have := c.isLt; omega) _)
      | (dsimp only [σ]; exact fam_congr (fun x : Fin 32 => by have := x.isLt; have := c.isLt; omega) _)
  rw [bigSep_one, bigSep_one]
  dsimp only [σ]
  rw [O_skip c s.n h hi]
  iintro ⟨-, HO, Hback⟩
  iapply Hback; iexact HO

/-- A choice between two continuations that come to the same state. -/
theorem step_if {b : Prop} [Decidable b] {p : b → Prog (TpuEff nD τ sig (Elt F) Λ₀ .tc) PUnit} {q : ¬b → Prog (TpuEff nD τ sig (Elt F) Λ₀ .tc) PUnit}
    {P R : sProp 𝕄} {Q : PUnit → sProp 𝕄} (ht : ∀ h, P ⊢ WP c (p h) fun _ => R) (he : ∀ h, P ⊢ WP c (q h) fun _ => R) (h : R ⊢ Q ⟨⟩) :
    P ⊢ WP c (if h : b then p h else q h) Q := by
  have hm : ∀ x : Prog (TpuEff nD τ sig (Elt F) Λ₀ .tc) PUnit, WP c x (fun _ => R) ⊢ WP c x Q := fun x => Idealize.SL.Sem.wp_mono _ _ _ fun _ => h
  by_cases hb : b
  · rw [dif_pos hb]; exact (ht hb).trans (hm _)
  · rw [dif_neg hb]; exact (he hb).trans (hm _)

/-- The wait for every other device's barrier unit: the slots to write into come with it. -/
theorem step_barrier {s : Ctr} {Q : PUnit → sProp 𝕄} (hb : s.b = 0) (hn : s.n = 32) (hg : s.gw = 0)
    (h : St K Co A c { s with b := 1 } ⊢ Q ⟨⟩) : St K Co A c s ⊢ WP c (semWaitWord barS 31#32) Q := by
  refine (St_open K Co A c s { s with b := 1 } {.ow, .br, .ds} ?_).trans ?_
  · intro x hx
    cases x <;> first
      | exact absurd (by decide) hx
      | (dsimp only [σ]; done)
  rw [bigSep_cons (by decide), bigSep_cons (by decide), bigSep_one, bigSep_cons (by decide), bigSep_cons (by decide), bigSep_one]
  dsimp only [σ]
  rw [if_pos hb, if_neg Nat.one_ne_zero, hb]
  iintro ⟨#HP, ⟨⟨%W, HO⟩, ⟨Hc, Hat⟩, -⟩, Hback⟩
  ihave #Hi := (Pers_inv Co.V K (c, none)) $$ HP
  iapply (Rounds.wp_wait_rest_token 𝒱₀ ER (rd Co.V) (c : Thread nD τ) none (κ := K (c, none))
      (wpE_semWait_eq 𝒱₀ (c : Thread nD τ) none Set.univ) (Set.mem_univ _) 0 (O := O c s.n) (W := W) (R := 0) (m := 0) (T := ∅)
      (by rw [expect_bar]; decide)) $$ [Hc HO Hat]
  · isplitr; · iexact Hi
    isplitl [Hc]; · iexact Hc
    isplitl [HO]; · iexact HO
    isplitr; · iapply (Pers_mayWait K Co c (.reg barS) 0 s.n (by decide) (by rw [hn]; exact (by decide : (1 : ℕ) < 2))); iexact HP
    iexact Hat
  iintro ⟨HO, Hat, -, Hpay⟩
  ihave Hp := (Entails.of_eq (rest_bar Co.V c)) $$ Hpay
  rw [wp_ret]; imodintro
  iapply h
  iapply Hback
  isplitl [HO]; · iexists _; iexact HO
  isplitl [Hat]
  · isplitr; · iempintro
    iexact Hat
  rw [fam_round (0 : Fin 2) (p' := fun j : Fin 32 => j ≠ c) (fun x => by
    have := x.1.isLt; have := x.2.isLt; have e := @ne_val x.2 c; rw [e, Fin.ext_iff]; show _ ↔ x.1.val = 0 ∧ _; omega)]
  iexact Hp

/-- The wait on receive cell `r` in round `k`: the sender's block, and the right to write into its accumulator. -/
theorem step_recv {s : Ctr} {Q : PUnit → sProp 𝕄} (k : Fin 2) (r : Fin 32) {sem : DmaSem sig} (hs : sem = dsem 1 r)
    {s₁ s₂ : Shape} {e₁ : EltTy} {sp sp' : Space} {src : Memref sig .tc sp' s₂ e₁} {dst : Memref sig .tc sp s₁ .bf16} {w₁ w₂}
    (hN : dst.view.dmaCredit = N) (hr : r.val ≠ 0)
    (hrv : s.rv = 32 * k.val + r.val) (hn : s.n = 64 + 64 * k.val) (rv' : ℕ) (hrv' : s.rv + 1 = rv')
    (h : St K Co A c { s with rv := rv' } ⊢ Q ⟨⟩) : St K Co A c s ⊢ WP c (Prog.lift (.waitDma2 sem src dst w₁ w₂)) Q := by
  subst hrv'; subst hs
  have hr32 := r.isLt
  have hk2 := k.isLt
  refine (St_open K Co A c s { s with rv := s.rv + 1 } {.ow, .rc, .p1, .gd, .sl} ?_).trans ?_
  · intro x hx
    cases x <;> first
      | exact absurd (by decide) hx
      | (dsimp only [σ]; done)
  rw [bigSep_cons (by decide), bigSep_cons (by decide), bigSep_cons (by decide), bigSep_cons (by decide), bigSep_one,
    bigSep_cons (by decide), bigSep_cons (by decide), bigSep_cons (by decide), bigSep_cons (by decide), bigSep_one]
  dsimp only [σ]
  rw [fam_take (p := fun x : KR => x.2.val ≠ 0 ∧ s.rv ≤ 32 * x.1.val + x.2.val) (p' := fun x : KR => x.2.val ≠ 0 ∧ s.rv + 1 ≤ 32 * x.1.val + x.2.val) (k, r)
      ⟨hr, by show s.rv ≤ 32 * k.val + r.val; omega⟩
      (fun x => by have := x.1.isLt; have := x.2.isLt; rw [kr_ne]; omega),
    fam_take (p := fun x : KR => x.2.val ≠ 0 ∧ 32 * x.1.val + x.2.val < s.rv + 1 ∧ s.n ≤ 64 + 64 * x.1.val + (32 - x.2.val) % 32)
      (p' := fun x : KR => x.2.val ≠ 0 ∧ 32 * x.1.val + x.2.val < s.rv ∧ s.n ≤ 64 + 64 * x.1.val + (32 - x.2.val) % 32) (k, r)
      ⟨hr, by show 32 * k.val + r.val < s.rv + 1; omega, by show s.n ≤ 64 + 64 * k.val + _; omega⟩
      (fun x => by have := x.1.isLt; have := x.2.isLt; rw [kr_ne]; omega),
    fam_take (p := fun x : KR => x.2.val ≠ 0 ∧ 32 * x.1.val + x.2.val < s.rv + 1 ∧ (x.1.val = 0 → s.n ≤ 64 + (32 - x.2.val) % 32))
      (p' := fun x : KR => x.2.val ≠ 0 ∧ 32 * x.1.val + x.2.val < s.rv ∧ (x.1.val = 0 → s.n ≤ 64 + (32 - x.2.val) % 32)) (k, r)
      ⟨hr, by show 32 * k.val + r.val < s.rv + 1; omega, by intro hk; have hk : k.val = 0 := hk; omega⟩
      (fun x => by have := x.1.isLt; have := x.2.isLt; rw [kr_ne]; omega)]
  iintro ⟨#HP, ⟨⟨%W, HO⟩, ⟨Hc, Hrc⟩, Hp1, Hgd, Hsl⟩, Hback⟩
  ihave Hp := (fam_upd (Φ := fun r : Fin 32 => posP (F := F) (rcvC c r) (cnt s.rv r.val)) (Ψ := fun r : Fin 32 => posP (rcvC c r) (cnt (s.rv + 1) r.val)) r hr
    (fun x _ hx => by rw [cnt_ne s.rv r.val x.val k.val hrv hr32 x.isLt (ne_val.mp hx)])) $$ Hp1
  icases Hp with ⟨Hpos, Hp1⟩
  rw [show cnt s.rv r.val = k.val from by rw [hrv]; exact cnt_at _ _ hk2 hr32, show cnt (s.rv + 1) r.val = k.val + 1 from by rw [hrv]; exact cnt_next _ _ hk2 hr32]
  unfold posP
  icases Hpos with ⟨Hat, -⟩
  ihave #Hi := (Pers_inv Co.V K (c, some (1, r))) $$ HP
  unfold rcΦ
  have hr0 : r ≠ 0 := fun e => hr (congrArg Fin.val e)
  iapply (Rounds.wp_wait_rest_token 𝒱₀ ER (rd Co.V) (c : Thread nD τ) none (κ := K (c, some (1, r)))
      (wpE_waitDma2_eq 𝒱₀ (c : Thread nD τ) none Set.univ) (Set.mem_univ _) k.val (O := O c s.n) (W := W) (R := k.val) (m := 0) (T := ∅)
      (by rw [expect_dma Co.V c 1 r hr0 k.val hk2, Nat.zero_add]; exact hN)) $$ [Hc HO Hat]
  · isplitr; · iexact Hi
    isplitl [Hc]; · rw [hN]; iexact Hc
    isplitl [HO]; · iexact HO
    isplitr; · iapply (Pers_mayWait K Co c (.dma (dsem 1 r)) k.val s.n hk2 (by rw [lv_dma, if_pos (by decide)]; omega)); iexact HP
    iexact Hat
  iintro ⟨HO, Hat, #Hre, Hpay⟩
  ihave Hp := (Entails.of_eq (rest_dma Co.V c 1 r hr0 k.val hk2)) $$ Hpay
  ihave Hp := (Entails.of_eq (show dmaPay Co.V (1 : Fin 4).val c r k.val = recvPay Co.V c r k.val from rfl)) $$ Hp
  unfold recvPay
  icases Hp with ⟨Hslot, Hdst⟩
  rw [wp_ret]; imodintro
  iapply h
  iapply Hback
  isplitl [HO]; · iexists _; iexact HO
  isplitl [Hrc]; · iexact Hrc
  isplitl [Hp1 Hat]
  · iapply Hp1
    isplitl [Hat]; · iexact Hat
    iexact Hre
  isplitl [Hdst Hgd]
  · isplitl [Hdst]; · unfold gdΦ; iexact Hdst
    iexact Hgd
  isplitl [Hslot]; · unfold slΦ; iexact Hslot
  iexact Hsl

/-- The rounds behind a device at one of its cells. -/
theorem fam_reached {p : Fin 32 → Prop} [DecidablePred p] {g : Fin 32 → GSem nD τ sig} {m : Fin 32 → ℕ} (a : Fin 32) (ha : p a) :
    fam p (fun r => posP (F := F) (g r) (m r)) ⊢ iprop(reached ER (g a) (m a) ∗ fam p (fun r => posP (g r) (m r))) := by
  iintro H
  ihave H := (fam_upd (Φ := fun r => posP (F := F) (g r) (m r)) (Ψ := fun r => posP (g r) (m r)) a ha (fun _ _ _ => rfl)) $$ H
  icases H with ⟨H, Hb⟩
  ihave H := (Entails.of_eq (show posP (F := F) (g a) (m a) = iprop(atPos ER (g a) (m a) ∅ 0 ∗ reached ER (g a) (m a)) from rfl)) $$ H
  icases H with ⟨Ha, #Hr⟩
  isplitr; · iexact Hr
  iapply Hb
  unfold posP
  isplitl [Ha]; · iexact Ha
  iexact Hr

/-- The wait on scatter send cell `r` in round `k`. -/
theorem step_send {s : Ctr} {Q : PUnit → sProp 𝕄} (k : Fin 2) (r : Fin 32) {sem : DmaSem sig} (hs : sem = dsem 0 r)
    {s₁ s₂ : Shape} {e₁ : EltTy} {sp sp' : Space} {src : Memref sig .tc sp' s₂ e₁} {dst : Memref sig .tc sp s₁ .bf16} {w₁ w₂}
    (hN : dst.view.dmaCredit = N) (hr : r.val ≠ 0)
    (hsw : s.sw = 32 * k.val + r.val) (hn : 64 + 64 * k.val ≤ s.n) (sw' : ℕ) (hsw' : s.sw + 1 = sw')
    (h : St K Co A c { s with sw := sw' } ⊢ Q ⟨⟩) : St K Co A c s ⊢ WP c (Prog.lift (.waitDma2 sem src dst w₁ w₂)) Q := by
  subst hsw'; subst hs
  have hr32 := r.isLt
  have hk2 := k.isLt
  refine (St_open K Co A c s { s with sw := s.sw + 1 } {.ow, .sc, .p0} ?_).trans ?_
  · intro x hx
    cases x <;> first
      | exact absurd (by decide) hx
      | (dsimp only [σ]; done)
      | (dsimp only [σ]
         exact fam_congr (fun x : KR => by
           have := x.1.isLt; have := x.2.isLt; have := c.isLt; omega) _)
      | (dsimp only [σ]; exact fam_congr (fun x : Fin 32 => by have := x.isLt; have := c.isLt; omega) _)
  rw [bigSep_cons (by decide), bigSep_cons (by decide), bigSep_one,
    bigSep_cons (by decide), bigSep_cons (by decide), bigSep_one]
  dsimp only [σ]
  rw [fam_take (p := fun x : KR => x.2.val ≠ 0 ∧ 32 + 64 * x.1.val + (c.val + x.2.val) % 32 < s.n ∧ s.sw ≤ 32 * x.1.val + x.2.val)
      (p' := fun x : KR => x.2.val ≠ 0 ∧ 32 + 64 * x.1.val + (c.val + x.2.val) % 32 < s.n ∧ s.sw + 1 ≤ 32 * x.1.val + x.2.val) (k, r)
      ⟨hr, by show 32 + 64 * k.val + _ < s.n; omega, by show s.sw ≤ 32 * k.val + r.val; omega⟩
      (fun x => by have := x.1.isLt; have := x.2.isLt; rw [kr_ne]; omega)]
  iintro ⟨#HP, ⟨⟨%W, HO⟩, ⟨Hc, Hrc⟩, Hp1⟩, Hback⟩
  ihave Hp := (fam_upd (Φ := fun r : Fin 32 => posP (F := F) (sndC c r) (cnt s.sw r.val)) (Ψ := fun r : Fin 32 => posP (sndC c r) (cnt (s.sw + 1) r.val)) r hr
    (fun x _ hx => by rw [cnt_ne s.sw r.val x.val k.val hsw hr32 x.isLt (ne_val.mp hx)])) $$ Hp1
  icases Hp with ⟨Hpos, Hp1⟩
  rw [show cnt s.sw r.val = k.val from by rw [hsw]; exact cnt_at _ _ hk2 hr32, show cnt (s.sw + 1) r.val = k.val + 1 from by rw [hsw]; exact cnt_next _ _ hk2 hr32]
  unfold posP
  icases Hpos with ⟨Hat, -⟩
  ihave #Hi := (Pers_inv Co.V K (c, some (0, r))) $$ HP
  unfold scΦ
  have hr0 : r ≠ 0 := fun e => hr (congrArg Fin.val e)
  iapply (Rounds.wp_wait_rest_token 𝒱₀ ER (rd Co.V) (c : Thread nD τ) none (κ := K (c, some (0, r)))
      (wpE_waitDma2_eq 𝒱₀ (c : Thread nD τ) none Set.univ) (Set.mem_univ _) 0 (O := O c s.n) (W := W) (R := k.val) (m := 0) (T := ∅)
      (by rw [expect_dma Co.V c 0 r hr0 k.val hk2, Nat.zero_add]; exact hN)) $$ [Hc HO Hat]
  · isplitr; · iexact Hi
    isplitl [Hc]; · rw [hN]; iexact Hc
    isplitl [HO]; · iexact HO
    isplitr; · iapply (Pers_mayWait K Co c (.dma (dsem 0 r)) 0 s.n (by decide) (by rw [lv_dma, if_neg (by decide), if_neg (by decide)]; omega)); iexact HP
    iexact Hat
  iintro ⟨HO, Hat, #Hre, -⟩
  rw [wp_ret]; imodintro
  iapply h
  iapply Hback
  isplitl [HO]; · iexists _; iexact HO
  isplitl [Hrc]; · iexact Hrc
  iapply Hp1
  isplitl [Hat]; · iexact Hat
  iexact Hre

/-- The wait on gather send cell `r` in round `k`: the lent share of the device's own block comes back. -/
theorem step_gsn {s : Ctr} {Q : PUnit → sProp 𝕄} (k : Fin 2) (r : Fin 32) {sem : DmaSem sig} (hs : sem = dsem 2 r)
    {s₁ s₂ : Shape} {e₁ : EltTy} {sp sp' : Space} {src : Memref sig .tc sp' s₂ e₁} {dst : Memref sig .tc sp s₁ .bf16} {w₁ w₂}
    (hN : dst.view.dmaCredit = N) (hr : r.val ≠ 0)
    (haw : s.aw = 32 * k.val + r.val) (hn : 96 + 64 * k.val ≤ s.n) (hop : s.op = k.val + 1) (hgp : k.val = 0 → s.gp = 0) (aw' : ℕ) (haw' : s.aw + 1 = aw')
    (h : St K Co A c { s with aw := aw' } ⊢ Q ⟨⟩) : St K Co A c s ⊢ WP c (Prog.lift (.waitDma2 sem src dst w₁ w₂)) Q := by
  subst haw'; subst hs
  have hr32 := r.isLt
  have hk2 := k.isLt
  refine (St_open K Co A c s { s with aw := s.aw + 1 } {.ow, .ac, .p2, .tk} ?_).trans ?_
  · intro x hx
    cases x <;> first
      | exact absurd (by decide) hx
      | (dsimp only [σ]; done)
      | (dsimp only [σ]
         exact fam_congr (fun x : KR => by
           have := x.1.isLt; have := x.2.isLt; have := c.isLt; omega) _)
      | (dsimp only [σ]; exact fam_congr (fun x : Fin 32 => by have := x.isLt; have := c.isLt; omega) _)
  rw [bigSep_cons (by decide), bigSep_cons (by decide), bigSep_cons (by decide), bigSep_one,
    bigSep_cons (by decide), bigSep_cons (by decide), bigSep_cons (by decide), bigSep_one]
  dsimp only [σ]
  rw [fam_take (p := fun x : KR => x.2.val ≠ 0 ∧ 64 + 64 * x.1.val + x.2.val < s.n ∧ s.aw ≤ 32 * x.1.val + x.2.val)
      (p' := fun x : KR => x.2.val ≠ 0 ∧ 64 + 64 * x.1.val + x.2.val < s.n ∧ s.aw + 1 ≤ 32 * x.1.val + x.2.val) (k, r)
      ⟨hr, by show 64 + 64 * k.val + r.val < s.n; omega, by show s.aw ≤ 32 * k.val + r.val; omega⟩
      (fun x => by have := x.1.isLt; have := x.2.isLt; rw [kr_ne]; omega),
    fam_take (p := fun x : KR => x.2.val ≠ 0 ∧ s.op = x.1.val + 1 ∧ (x.1.val = 0 → 8 * s.gp ≤ c.val)
      ∧ (s.n ≤ 64 + 64 * x.1.val + x.2.val ∨ 32 * x.1.val + x.2.val < s.aw + 1))
      (p' := fun x : KR => x.2.val ≠ 0 ∧ s.op = x.1.val + 1 ∧ (x.1.val = 0 → 8 * s.gp ≤ c.val)
      ∧ (s.n ≤ 64 + 64 * x.1.val + x.2.val ∨ 32 * x.1.val + x.2.val < s.aw)) (k, r)
      ⟨hr, hop, (fun e => by rw [hgp e]; omega), Or.inr (by show 32 * k.val + r.val < s.aw + 1; omega)⟩
      (fun x => by have := x.1.isLt; have := x.2.isLt; rw [kr_ne]; omega)]
  iintro ⟨#HP, ⟨⟨%W, HO⟩, ⟨Hc, Hrc⟩, Hp1, Htk⟩, Hback⟩
  ihave Hp := (fam_upd (Φ := fun r : Fin 32 => posP (F := F) (gsnC c r) (cnt s.aw r.val)) (Ψ := fun r : Fin 32 => posP (gsnC c r) (cnt (s.aw + 1) r.val)) r hr
    (fun x _ hx => by rw [cnt_ne s.aw r.val x.val k.val haw hr32 x.isLt (ne_val.mp hx)])) $$ Hp1
  icases Hp with ⟨Hpos, Hp1⟩
  rw [show cnt s.aw r.val = k.val from by rw [haw]; exact cnt_at _ _ hk2 hr32, show cnt (s.aw + 1) r.val = k.val + 1 from by rw [haw]; exact cnt_next _ _ hk2 hr32]
  unfold posP
  icases Hpos with ⟨Hat, -⟩
  ihave #Hi := (Pers_inv Co.V K (c, some (2, r))) $$ HP
  unfold acΦ
  have hr0 : r ≠ 0 := fun e => hr (congrArg Fin.val e)
  iapply (Rounds.wp_wait_rest_token 𝒱₀ ER (rd Co.V) (c : Thread nD τ) none (κ := K (c, some (2, r)))
      (wpE_waitDma2_eq 𝒱₀ (c : Thread nD τ) none Set.univ) (Set.mem_univ _) 0 (O := O c s.n) (W := W) (R := k.val) (m := 0) (T := ∅)
      (by rw [expect_dma Co.V c 2 r hr0 k.val hk2, Nat.zero_add]; exact hN)) $$ [Hc HO Hat]
  · isplitr; · iexact Hi
    isplitl [Hc]; · rw [hN]; iexact Hc
    isplitl [HO]; · iexact HO
    isplitr; · iapply (Pers_mayWait K Co c (.dma (dsem 2 r)) 0 s.n (by decide) (by rw [lv_dma, if_neg (by decide), if_neg (by decide)]; omega)); iexact HP
    iexact Hat
  iintro ⟨HO, Hat, #Hre, Hpay⟩
  ihave Hp := (Entails.of_eq (rest_dma Co.V c 2 r hr0 k.val hk2)) $$ Hpay
  ihave Hp := (Entails.of_eq (show dmaPay Co.V (2 : Fin 4).val c r k.val = tkΦ Co c (k, r) from rfl)) $$ Hp
  rw [wp_ret]; imodintro
  iapply h
  iapply Hback
  isplitl [HO]; · iexists _; iexact HO
  isplitl [Hrc]; · iexact Hrc
  isplitl [Hp1 Hat]
  · iapply Hp1
    isplitl [Hat]; · iexact Hat
    iexact Hre
  isplitl [Hp]; · iexact Hp
  iexact Htk

/-- What the gathered block of device `j` brings, put in its places. -/
theorem grc_put {s : Ctr} (k : Fin 2) (j : Fin 32) (hj : j.val ≠ c.val) (hgw : s.gw = 32 * k.val + j.val) (hn : 96 + 64 * k.val ≤ s.n)
    (hk : k.val = 0 → s.n ≤ 96 + j.val ∧ 8 * s.gp ≤ j.val) :
    iprop((accP c (rowsB j) fullShare (Co.V.red k.val) ∗ (if k.val = 0 then Dst (F := F) 1 j c else iprop(emp)))
      ∗ σ Co A c s .gt0 ∗ σ Co A c s .gt1 ∗ σ Co A c s .ds)
    ⊢ iprop(σ Co A c { s with gw := s.gw + 1 } .gt0 ∗ σ Co A c { s with gw := s.gw + 1 } .gt1 ∗ σ Co A c { s with gw := s.gw + 1 } .ds) := by
  have hj32 := j.isLt
  have hk2 := k.isLt
  rcases (by omega : k.val = 0 ∨ k.val = 1) with e | e
  · obtain ⟨h1, h2⟩ := hk e
    rw [e] at hgw hn ⊢
    rw [if_pos rfl]
    dsimp only [σ]
    rw [fam_take (p := fun i : Fin 32 => i.val ≠ c.val ∧ i.val < s.gw + 1 ∧ 8 * s.gp ≤ i.val)
        (p' := fun i : Fin 32 => i.val ≠ c.val ∧ i.val < s.gw ∧ 8 * s.gp ≤ i.val) j ⟨hj, by omega, h2⟩
        (fun x => by have := x.isLt; beta_reduce; rw [ne_val (x := x)]; omega),
      fam_congr (p := fun i : Fin 32 => i.val ≠ c.val ∧ 32 + i.val < s.gw + 1) (p' := fun i : Fin 32 => i.val ≠ c.val ∧ 32 + i.val < s.gw) (fun x => by have := x.isLt; omega),
      fam_take (p := fun x : KR => x.2.val ≠ c.val ∧ s.n ≤ 32 + 64 * x.1.val + x.2.val ∧ (x.1.val = 0 → s.b = 1) ∧ (x.1.val = 1 → x.2.val < s.gw + 1))
        (p' := fun x : KR => x.2.val ≠ c.val ∧ s.n ≤ 32 + 64 * x.1.val + x.2.val ∧ (x.1.val = 0 → s.b = 1) ∧ (x.1.val = 1 → x.2.val < s.gw)) (1, j)
        ⟨hj, by show s.n ≤ 32 + 64 * 1 + j.val; omega, fun h => absurd (show (1 : ℕ) = 0 from h) Nat.one_ne_zero, fun _ => by show j.val < s.gw + 1; omega⟩
        (fun x => by
          have := x.1.isLt; have := x.2.isLt; have h1 : ((1 : Fin 2)).val = 1 := rfl
          rw [kr_ne, h1]; omega)]
    iintro ⟨⟨H1, H2⟩, H3, H4, H5⟩
    isplitl [H1 H3]; · isplitl [H1]; · iexact H1
                       iexact H3
    isplitl [H4]; · iexact H4
    isplitl [H2]; · unfold dsΦ; iexact H2
    iexact H5
  · rw [e] at hgw hn ⊢
    rw [if_neg (by decide)]
    dsimp only [σ]
    rw [fam_take (p := fun i : Fin 32 => i.val ≠ c.val ∧ 32 + i.val < s.gw + 1)
        (p' := fun i : Fin 32 => i.val ≠ c.val ∧ 32 + i.val < s.gw) j ⟨hj, by omega⟩
        (fun x => by have := x.isLt; beta_reduce; rw [ne_val (x := x)]; omega),
      fam_congr (p := fun i : Fin 32 => i.val ≠ c.val ∧ i.val < s.gw + 1 ∧ 8 * s.gp ≤ i.val) (p' := fun i : Fin 32 => i.val ≠ c.val ∧ i.val < s.gw ∧ 8 * s.gp ≤ i.val) (fun x => by have := x.isLt; omega),
      fam_congr (p := fun x : KR => x.2.val ≠ c.val ∧ s.n ≤ 32 + 64 * x.1.val + x.2.val ∧ (x.1.val = 0 → s.b = 1) ∧ (x.1.val = 1 → x.2.val < s.gw + 1))
        (p' := fun x : KR => x.2.val ≠ c.val ∧ s.n ≤ 32 + 64 * x.1.val + x.2.val ∧ (x.1.val = 0 → s.b = 1) ∧ (x.1.val = 1 → x.2.val < s.gw))
        (fun x => by have := x.1.isLt; have := x.2.isLt; omega)]
    iintro ⟨⟨H1, -⟩, H3, H4, H5⟩
    isplitl [H3]; · iexact H3
    isplitl [H1 H4]; · isplitl [H1]; · iexact H1
                       iexact H4
    iexact H5

/-- The wait for the gathered block of device `j` in round `k`. -/
theorem step_grc {s : Ctr} {Q : PUnit → sProp 𝕄} (k : Fin 2) (j : Fin 32) {sem : DmaSem sig} (hs : sem = dsem 3 (c - j))
    {s₁ s₂ : Shape} {e₁ : EltTy} {sp sp' : Space} {src : Memref sig .tc sp' s₂ e₁} {dst : Memref sig .tc sp s₁ .bf16} {w₁ w₂}
    (hN : dst.view.dmaCredit = N) (hj : j.val ≠ c.val)
    (hgw : s.gw = 32 * k.val + j.val) (hn : 96 + 64 * k.val ≤ s.n) (hk : k.val = 0 → s.n ≤ 96 + j.val ∧ 8 * s.gp ≤ j.val)
    (gw' : ℕ) (hgw' : s.gw + 1 = gw')
    (h : St K Co A c { s with gw := gw' } ⊢ Q ⟨⟩) : St K Co A c s ⊢ WP c (Prog.lift (.waitDma2 sem src dst w₁ w₂)) Q := by
  subst hgw'; subst hs
  have hr32 := j.isLt
  have hk2 := k.isLt
  have hput := grc_put Co A c k j hj hgw hn hk
  refine (St_open K Co A c s { s with gw := s.gw + 1 } {.ow, .gc, .p3, .gt0, .gt1, .ds} ?_).trans ?_
  · intro x hx
    cases x <;> first
      | exact absurd (by decide) hx
      | (dsimp only [σ]; done)
      | (dsimp only [σ]
         exact fam_congr (fun x : KR => by
           have := x.1.isLt; have := x.2.isLt; have := c.isLt; omega) _)
      | (dsimp only [σ]; exact fam_congr (fun x : Fin 32 => by have := x.isLt; have := c.isLt; omega) _)
  rw [bigSep_cons (by decide), bigSep_cons (by decide), bigSep_cons (by decide), bigSep_cons (by decide), bigSep_cons (by decide), bigSep_one,
    bigSep_cons (by decide), bigSep_cons (by decide), bigSep_cons (by decide), bigSep_cons (by decide), bigSep_cons (by decide), bigSep_one]
  generalize hg0 : σ Co A c s .gt0 = G0 at hput ⊢
  generalize hg1 : σ Co A c s .gt1 = G1 at hput ⊢
  generalize hg2 : σ Co A c s .ds = G2 at hput ⊢
  generalize hg0' : σ Co A c { s with gw := s.gw + 1 } .gt0 = G0' at hput ⊢
  generalize hg1' : σ Co A c { s with gw := s.gw + 1 } .gt1 = G1' at hput ⊢
  generalize hg2' : σ Co A c { s with gw := s.gw + 1 } .ds = G2' at hput ⊢
  dsimp only [σ]
  rw [fam_take (p := fun x : KR => x.2.val ≠ c.val ∧ s.gw ≤ 32 * x.1.val + x.2.val)
      (p' := fun x : KR => x.2.val ≠ c.val ∧ s.gw + 1 ≤ 32 * x.1.val + x.2.val) (k, j)
      ⟨hj, by show s.gw ≤ 32 * k.val + j.val; omega⟩
      (fun x => by have := x.1.isLt; have := x.2.isLt; rw [kr_ne]; omega)]
  iintro ⟨#HP, ⟨⟨%W, HO⟩, ⟨Hc, Hrc⟩, Hp1, H0, H1, H2⟩, Hback⟩
  ihave Hp := (fam_upd (Φ := fun j : Fin 32 => posP (F := F) (grcC c (c - j)) (cnt s.gw j.val)) (Ψ := fun j : Fin 32 => posP (grcC c (c - j)) (cnt (s.gw + 1) j.val)) j hj
    (fun x _ hx => by rw [cnt_ne s.gw j.val x.val k.val hgw hr32 x.isLt (ne_val.mp hx)])) $$ Hp1
  icases Hp with ⟨Hpos, Hp1⟩
  rw [show cnt s.gw j.val = k.val from by rw [hgw]; exact cnt_at _ _ hk2 hr32, show cnt (s.gw + 1) j.val = k.val + 1 from by rw [hgw]; exact cnt_next _ _ hk2 hr32]
  unfold posP
  icases Hpos with ⟨Hat, -⟩
  ihave #Hi := (Pers_inv Co.V K (c, some (3, c - j))) $$ HP
  unfold gcΦ
  have hr0 : c - j ≠ 0 := sub_ne fun e => hj (congrArg Fin.val e).symm
  iapply (Rounds.wp_wait_rest_token 𝒱₀ ER (rd Co.V) (c : Thread nD τ) none (κ := K (c, some (3, c - j)))
      (wpE_waitDma2_eq 𝒱₀ (c : Thread nD τ) none Set.univ) (Set.mem_univ _) k.val (O := O c s.n) (W := W) (R := k.val) (m := 0) (T := ∅)
      (by rw [expect_dma Co.V c 3 (c - j) hr0 k.val hk2, Nat.zero_add]; exact hN)) $$ [Hc HO Hat]
  · isplitr; · iexact Hi
    isplitl [Hc]; · rw [hN]; iexact Hc
    isplitl [HO]; · iexact HO
    isplitr; · iapply (Pers_mayWait K Co c (.dma (dsem 3 (c - j))) k.val s.n hk2 (by rw [lv_dma, if_neg (by decide), if_pos (by decide)]; omega)); iexact HP
    iexact Hat
  iintro ⟨HO, Hat, #Hre, Hpay⟩
  ihave Hp := (Entails.of_eq (rest_dma Co.V c 3 (c - j) hr0 k.val hk2)) $$ Hpay
  ihave Hp := (Entails.of_eq (show dmaPay Co.V (3 : Fin 4).val c (c - j) k.val
    = iprop(accP c (rowsB j) fullShare (Co.V.red k.val) ∗ (if k.val = 0 then Dst (F := F) 1 j c else iprop(emp))) from by
      show grcPay Co.V c (c - j) k.val = _
      unfold grcPay; rw [sub_sub_self])) $$ Hp
  ihave Hp := hput $$ [Hp H0 H1 H2]
  · isplitl [Hp]; · iexact Hp
    isplitl [H0]; · iexact H0
    isplitl [H1]; · iexact H1
    iexact H2
  icases Hp with ⟨H0, H1, H2⟩
  rw [wp_ret]; imodintro
  iapply h
  iapply Hback
  isplitl [HO]; · iexists _; iexact HO
  isplitl [Hrc]; · iexact Hrc
  isplitl [Hp1 Hat]
  · iapply Hp1
    isplitl [Hat]; · iexact Hat
    iexact Hre
  isplitl [H0]; · iexact H0
  isplitl [H1]; · iexact H1
  iexact H2

/-- The block a scatter start takes out of the accumulator. -/
theorem pr_take {s : Ctr} (k : Fin 2) (j : Fin 32) (hj : j.val ≠ c.val) (hn : s.n = 32 + 64 * k.val + j.val)
    (hk0 : k.val = 0 → j.val < 16 * s.ph ∧ s.gp = 0) (hk1 : k.val = 1 → j.val < 8 * s.gp) :
    iprop(σ Co A c s .pr0 ∗ σ Co A c s .pr1)
    ⊢ iprop(accP c (rowsB j) fullShare (Co.V.part k.val c) ∗ σ Co A c { s with n := s.n + 1 } .pr0 ∗ σ Co A c { s with n := s.n + 1 } .pr1) := by
  have hj32 := j.isLt
  have hk2 := k.isLt
  dsimp only [σ]
  rcases (by omega : k.val = 0 ∨ k.val = 1) with e | e
  · obtain ⟨h1, h2⟩ := hk0 e
    rw [e] at hn ⊢
    rw [fam_take (p := fun i : Fin 32 => i.val ≠ c.val ∧ i.val < 16 * s.ph ∧ s.n ≤ 32 + i.val)
        (p' := fun i : Fin 32 => i.val ≠ c.val ∧ i.val < 16 * s.ph ∧ s.n + 1 ≤ 32 + i.val) j ⟨hj, h1, by omega⟩
        (fun x => by have := x.isLt; beta_reduce; rw [ne_val (x := x)]; omega),
      fam_congr (p := fun i : Fin 32 => i.val ≠ c.val ∧ i.val < 8 * s.gp ∧ s.n ≤ 96 + i.val)
        (p' := fun i : Fin 32 => i.val ≠ c.val ∧ i.val < 8 * s.gp ∧ s.n + 1 ≤ 96 + i.val) (fun x => by have := x.isLt; omega)]
    iintro ⟨⟨H1, H2⟩, H3⟩
    isplitl [H1]; · iexact H1
    isplitl [H2]; · iexact H2
    iexact H3
  · have h1 := hk1 e
    rw [e] at hn ⊢
    rw [fam_take (p := fun i : Fin 32 => i.val ≠ c.val ∧ i.val < 8 * s.gp ∧ s.n ≤ 96 + i.val)
        (p' := fun i : Fin 32 => i.val ≠ c.val ∧ i.val < 8 * s.gp ∧ s.n + 1 ≤ 96 + i.val) j ⟨hj, h1, by omega⟩
        (fun x => by have := x.isLt; beta_reduce; rw [ne_val (x := x)]; omega),
      fam_congr (p := fun i : Fin 32 => i.val ≠ c.val ∧ i.val < 16 * s.ph ∧ s.n ≤ 32 + i.val)
        (p' := fun i : Fin 32 => i.val ≠ c.val ∧ i.val < 16 * s.ph ∧ s.n + 1 ≤ 32 + i.val) (fun x => by have := x.isLt; omega)]
    iintro ⟨H3, ⟨H1, H2⟩⟩
    isplitl [H1]; · iexact H1
    isplitl [H3]; · iexact H3
    iexact H2

/-- A counter read as a device. -/
theorem dv_at (m r : ℕ) (hr : r < 32) (j : Fin 32) (hj : j.val = r) (hm : m % 32 = r) : dv m = j := Fin.ext (by show m % 32 = j.val; omega)

/-- The payment of a scatter copy, -/
theorem item_scatter (k : Fin 2) (j : Fin 32) (hj : j ≠ c) (n : ℕ) (hn : n = 32 + 64 * k.val + j.val) : item c n = tallyAt (rcvC j (j - c)) k.val N := by
  have hj32 := j.isLt
  have hk2 := k.isLt
  unfold item
  rw [dv_at n j.val hj32 j rfl (by omega), if_neg (by omega)]
  rcases (by omega : k.val = 0 ∨ k.val = 1) with e | e
  · rw [if_pos (by omega), if_neg hj, e]
  · rw [if_neg (by omega), if_neg (by omega), if_pos (by omega), if_neg hj, e]

/-- and of a gather copy. -/
theorem item_gather (k : Fin 2) (r : Fin 32) (hr : r ≠ 0) (n : ℕ) (hn : n = 64 + 64 * k.val + r.val) : item c n = tallyAt (grcC (c + r) r) k.val N := by
  have hj32 := r.isLt
  have hk2 := k.isLt
  unfold item
  rw [dv_at n r.val hj32 r rfl (by omega), if_neg (by omega), if_neg (by omega)]
  rcases (by omega : k.val = 0 ∨ k.val = 1) with e | e
  · rw [if_pos (by omega), if_neg hr, e]
  · rw [if_neg (by omega), if_neg (by omega), if_neg hr, e]

/-- The start of the transfer of block `j` to device `j` in round `k`. -/
theorem step_scatter {s : Ctr} {Q : PUnit → sProp 𝕄} (k : Fin 2) (j : Fin 32) (hj : j.val ≠ c.val) {d : Dev nD} (hd : d = j)
    {s1 s2 : DmaSem sig} (hs1 : s1 = dsem 0 (j - c)) (hs2 : s2 = dsem 1 (j - c))
    {off : Fin 3 → ℕ} {off' : Fin 2 → ℕ} {inb inb'} (ho : off = ![(j - c).val, 0, 0]) (ho' : off' = ![16 * j.val, 0])
    {hsc : (slotM off inb : Memref sig (Dev.tc d : Thread nD τ).2.kind .vmem S16x512 .bf16).view.ref.isScScratch = false}
    {w₁ w₂} {hty : DmaTarget.Typed .vmem (.dma s2) (.remote (Dev.tc d : Thread nD τ) (slotM off inb : Memref sig .tc .vmem S16x512 .bf16) (.dma s1) hsc)}
    (hn : s.n = 32 + 64 * k.val + j.val) (hb : s.b = 1) (hsw : s.sw = 32 * k.val)
    (hk0 : k.val = 0 → j.val < 16 * s.ph ∧ s.gp = 0 ∧ s.gw = 0) (hk1 : k.val = 1 → j.val < 8 * s.gp ∧ j.val < s.gw ∧ s.gw ≤ 32)
    (n' : ℕ) (hn' : s.n + 1 = n')
    (h : St K Co A c { s with n := n' } ⊢ Q ⟨⟩) :
    St K Co A c s ⊢ WP c (Prog.lift (.enqueueDma (blkM off' inb') (.remote (Dev.tc d : Thread nD τ) (slotM off inb) (.dma s1) hsc) (.dma s2) w₁ w₂ hty)) Q := by
  subst hn'; subst hd; subst hs1; subst hs2
  have hj32 : d.val < 32 := d.isLt
  have hk2 := k.isLt
  have hjc : d ≠ c := fun e => hj (congrArg Fin.val e)
  have hr0 : d - c ≠ 0 := sub_ne hjc
  have htake := pr_take Co A c k d hj hn (fun e => ⟨(hk0 e).1, (hk0 e).2.1⟩) (fun e => (hk1 e).1)
  refine (St_open K Co A c s { s with n := s.n + 1 } {.ow, .st, .ds, .sc, .p0, .p3, .pr0, .pr1} ?_).trans ?_
  · intro x hx
    cases x <;> first
      | exact absurd (by decide) hx
      | (dsimp only [σ]; done)
      | (dsimp only [σ]
         exact fam_congr (fun x : KR => by
           have := x.1.isLt; have := x.2.isLt; have := c.isLt; omega) _)
      | (dsimp only [σ]; exact fam_congr (fun x : Fin 32 => by have := x.isLt; have := c.isLt; omega) _)
  rw [bigSep_cons (by decide), bigSep_cons (by decide), bigSep_cons (by decide), bigSep_cons (by decide), bigSep_cons (by decide), bigSep_cons (by decide), bigSep_cons (by decide), bigSep_one,
    bigSep_cons (by decide), bigSep_cons (by decide), bigSep_cons (by decide), bigSep_cons (by decide), bigSep_cons (by decide), bigSep_cons (by decide), bigSep_cons (by decide), bigSep_one]
  generalize hg0 : σ Co A c s .pr0 = G0 at htake ⊢
  generalize hg1 : σ Co A c s .pr1 = G1 at htake ⊢
  generalize hg0' : σ Co A c { s with n := s.n + 1 } .pr0 = G0' at htake ⊢
  generalize hg1' : σ Co A c { s with n := s.n + 1 } .pr1 = G1' at htake ⊢
  dsimp only [σ]
  rw [fam_take (p := fun x : KR => x.2.val ≠ c.val ∧ s.n ≤ 32 + 64 * x.1.val + x.2.val)
      (p' := fun x : KR => x.2.val ≠ c.val ∧ s.n + 1 ≤ 32 + 64 * x.1.val + x.2.val) (k, d)
      ⟨hj, by show s.n ≤ 32 + 64 * k.val + d.val; omega⟩
      (fun x => by have := x.1.isLt; have := x.2.isLt; rw [kr_ne]; omega),
    fam_take (p := fun x : KR => x.2.val ≠ c.val ∧ s.n ≤ 32 + 64 * x.1.val + x.2.val ∧ (x.1.val = 0 → s.b = 1) ∧ (x.1.val = 1 → x.2.val < s.gw))
      (p' := fun x : KR => x.2.val ≠ c.val ∧ s.n + 1 ≤ 32 + 64 * x.1.val + x.2.val ∧ (x.1.val = 0 → s.b = 1) ∧ (x.1.val = 1 → x.2.val < s.gw)) (k, d)
      ⟨hj, by show s.n ≤ 32 + 64 * k.val + d.val; omega, fun _ => hb, fun e => (hk1 e).2.1⟩
      (fun x => by have := x.1.isLt; have := x.2.isLt; rw [kr_ne]; omega),
    fam_take (p := fun x : KR => x.2.val ≠ 0 ∧ 32 + 64 * x.1.val + (c.val + x.2.val) % 32 < s.n + 1 ∧ s.sw ≤ 32 * x.1.val + x.2.val)
      (p' := fun x : KR => x.2.val ≠ 0 ∧ 32 + 64 * x.1.val + (c.val + x.2.val) % 32 < s.n ∧ s.sw ≤ 32 * x.1.val + x.2.val) (k, d - c)
      ⟨fun e => hr0 (Fin.ext e), by show 32 + 64 * k.val + (c.val + (d - c).val) % 32 < s.n + 1; rw [sub_val]; have := c.isLt; simp only [nD] at *; omega, by show s.sw ≤ 32 * k.val + _; omega⟩
      (fun x => by
        have := x.1.isLt; have := x.2.isLt; have := c.isLt; simp only [nD] at *
        rw [kr_ne, sub_val]; omega)]
  unfold dsΦ Dst
  iintro ⟨#HP, ⟨⟨%W, HO⟩, ⟨Hst, Hst'⟩, ⟨⟨Hslot, #Hr2⟩, Hds⟩, Hsc, Hp0, Hp3, HG0, HG1⟩, Hback⟩
  ihave Hp := (fam_reached (g := fun r : Fin 32 => sndC c r) (m := fun r => cnt s.sw r.val) (d - c) (fun e => hr0 (Fin.ext e))) $$ Hp0
  icases Hp with ⟨#Hr1, Hp0⟩
  ihave Hp := (fam_reached (g := fun j : Fin 32 => grcC c (c - j)) (m := fun j => cnt s.gw j.val) d hj) $$ Hp3
  icases Hp with ⟨#Hr3, Hp3⟩
  have e1 : cnt s.sw (d - c).val = k.val := by
    have h0 : (d - c).val ≠ 0 := fun e => hr0 (Fin.ext e)
    have : (d - c).val < 32 := (d - c).isLt
    rw [hsw]; unfold cnt; split_ifs <;> omega
  have hO : O c s.n = O c (s.n + 1) + tallyAt ((Dev.tc d : Thread nD τ), SemLoc.dma (dsem 1 (d - c))) k.val N := by
    rw [O_succ c s.n (by simp only [nD] at *; omega), item_scatter c k d hjc s.n hn]
  have e3 : cnt s.gw d.val = k.val := by
    have : d.val < 32 := d.isLt
    unfold cnt
    rcases (by omega : k.val = 0 ∨ k.val = 1) with e | e
    · have := (hk0 e).2.2; split_ifs <;> omega
    · have := hk1 e; split_ifs <;> omega
  rw [e1, e3]
  ihave Hp := htake $$ [HG0 HG1]
  · isplitl [HG0]; · iexact HG0
    iexact HG1
  icases Hp with ⟨Hblk, HG0, HG1⟩
  unfold slotAny stΦ
  icases Hslot with ⟨%f, Hslot⟩
  icases Hst with ⟨Ht1, Ht2⟩
  ihave #Hi1 := (Pers_inv Co.V K (c, some (0, d - c))) $$ HP
  ihave #Hi2 := (Pers_inv Co.V K (d, some (1, d - c))) $$ HP
  iapply (Rounds.wp_send_landing_pointsTo_with 𝒱₀ ER (rd Co.V) (c : Thread nD τ) none (κ₁ := K (c, some (0, d - c))) (κ₂ := K (d, some (1, d - c)))
      (c' := (Dev.tc d : Thread nD τ)) (src := blkM off' inb') (dst := slotM off inb) (sS := .dma (dsem 0 (d - c))) (sem := .dma (dsem 1 (d - c)))
      (r₁ := k.val) (r₂ := k.val) (d₁ := 0) (d₂ := 0) (q := fullShare) (fs := Co.V.part k.val c) (fd := f) (F := reached ER (grcC c (c - d)) k.val)
      (by rw [show ((c : Thread nD τ), SemLoc.dma (dsem 0 (d - c))) = dmaC 0 c (d - c) from rfl, duties_dma Co.V c 0 _ hr0 _ hk2]; exact Finset.mem_singleton_self _)
      (by rw [show ((d : Thread nD τ), SemLoc.dma (dsem 1 (d - c))) = dmaC 1 d (d - c) from rfl, duties_dma Co.V d 1 _ hr0 _ hk2]; exact Finset.mem_singleton_self _)
      k.val 0 N rfl (amount_dma Co.V c 0 (d - c) k.val 0) (amount_dma Co.V d 1 (d - c) k.val 0) (O c (s.n + 1))
      hO (W := W)
      (by rw [show (rd Co.V).payload ((c : Thread nD τ), SemLoc.dma (dsem 0 (d - c))) k.val 0 = iprop(emp) from payload_snd Co.V c (d - c) k.val 0])
      (by
        rw [show (rd Co.V).payload ((d : Thread nD τ), SemLoc.dma (dsem 1 (d - c))) k.val 0 = recvPay Co.V d (d - c) k.val from payload_rcv Co.V d (d - c) k.val 0]
        unfold recvPay accAny scaP accP
        rw [sub_sub_self, slot_set ho, blk_set ho', neg_sub_swap]
        rw [pointsTo_congr (slot_write ho ho' (Co.V.part k.val) f)]
        iintro ⟨⟨H1, H2⟩, H3⟩
        isplitl [H1]; · iexact H1
        isplitl [H3]; · iexists _; iexact H3
        iexact H2)) $$ [HO Hblk Hslot Ht1 Ht2]
  · isplitr; · iexact Hi1
    isplitr; · iexact Hi2
    isplitl [Hblk]; · unfold accP; rw [blk_set ho']; iexact Hblk
    isplitl [Hslot]
    · isplitl [Hslot]; · unfold scaP; rw [slot_set ho]; iexact Hslot
      iexact Hr3
    isplitl [HO]; · iexact HO
    isplitl [Ht1]; · iexact Ht1
    isplitr; · iexact Hr1
    isplitl [Ht2]; · iexact Ht2
    iexact Hr2
  iintro ⟨Hc, HO⟩
  rw [wp_ret]; imodintro
  iapply h
  iapply Hback
  isplitl [HO]; · iexists _; iexact HO
  isplitl [Hst']; · iexact Hst'
  isplitl [Hds]; · iexact Hds
  isplitl [Hc Hsc]
  · isplitl [Hc]; · unfold scΦ; iexact Hc
    iexact Hsc
  isplitl [Hp0]; · iexact Hp0
  isplitl [Hp3]; · iexact Hp3
  isplitl [HG0]; · iexact HG0
  iexact HG1

/-- The slot a gather start of round 0 hands back to its sender for round 1. -/
theorem sl_take {s : Ctr} (k : Fin 2) (r : Fin 32) (hr : r.val ≠ 0) (hn : s.n = 64 + 64 * k.val + r.val) (hrv : 32 * k.val + 32 ≤ s.rv) :
    σ Co A c s .sl ⊢ iprop((if k.val = 0 then slotAny (F := F) c (-r) else iprop(emp)) ∗ σ Co A c { s with n := s.n + 1 } .sl) := by
  have hr32 := r.isLt
  have hk2 := k.isLt
  dsimp only [σ]
  rcases (by omega : k.val = 0 ∨ k.val = 1) with e | e
  · rw [e] at hn hrv ⊢
    rw [if_pos rfl, fam_take (p := fun x : KR => x.2.val ≠ 0 ∧ 32 * x.1.val + x.2.val < s.rv ∧ (x.1.val = 0 → s.n ≤ 64 + (32 - x.2.val) % 32))
      (p' := fun x : KR => x.2.val ≠ 0 ∧ 32 * x.1.val + x.2.val < s.rv ∧ (x.1.val = 0 → s.n + 1 ≤ 64 + (32 - x.2.val) % 32)) (k, -r)
      (by
        show (-r).val ≠ 0 ∧ 32 * k.val + (-r).val < s.rv ∧ (k.val = 0 → s.n ≤ 64 + (32 - (-r).val) % 32)
        rw [neg_val]; omega)
      (fun x => by have := x.1.isLt; have := x.2.isLt; rw [kr_ne, neg_val]; omega)]
    unfold slΦ slotAny
    iintro ⟨H1, H2⟩
    isplitl [H1]; · iexists _; iexact H1
    iexact H2
  · rw [e] at hn hrv ⊢
    rw [if_neg (by decide), fam_congr (p := fun x : KR => x.2.val ≠ 0 ∧ 32 * x.1.val + x.2.val < s.rv ∧ (x.1.val = 0 → s.n ≤ 64 + (32 - x.2.val) % 32))
      (p' := fun x : KR => x.2.val ≠ 0 ∧ 32 * x.1.val + x.2.val < s.rv ∧ (x.1.val = 0 → s.n + 1 ≤ 64 + (32 - x.2.val) % 32))
      (fun x => by have := x.1.isLt; have := x.2.isLt; omega)]
    iintro H
    isplitr; · iempintro
    iexact H

/-- The start of the transfer of the device's reduced block to the device `r` further on, in round `k`. -/
theorem step_gather {s : Ctr} {Q : PUnit → sProp 𝕄} (k : Fin 2) (r : Fin 32) (hr : r.val ≠ 0) {d : Dev nD} (hd : d = c + r)
    {s1 s2 : DmaSem sig} (hs1 : s1 = dsem 2 r) (hs2 : s2 = dsem 3 r)
    {off : Fin 2 → ℕ} {inb} (ho : off = ![16 * c.val, 0])
    {hsc : (blkM off inb : Memref sig (Dev.tc d : Thread nD τ).2.kind .vmem S16x512 .bf16).view.ref.isScScratch = false}
    {w₁ w₂} {hty : DmaTarget.Typed .vmem (.dma s2) (.remote (Dev.tc d : Thread nD τ) (blkM off inb : Memref sig .tc .vmem S16x512 .bf16) (.dma s1) hsc)}
    (hn : s.n = 64 + 64 * k.val + r.val) (haw : s.aw = 32 * k.val) (hop : s.op = k.val + 1) (hgp : k.val = 0 → s.gp = 0)
    (hrv : s.rv = 32 * k.val + 32)
    (n' : ℕ) (hn' : s.n + 1 = n')
    (h : St K Co A c { s with n := n' } ⊢ Q ⟨⟩) :
    St K Co A c s ⊢ WP c (Prog.lift (.enqueueDma (blkM off inb) (.remote (Dev.tc d : Thread nD τ) (blkM off inb) (.dma s1) hsc) (.dma s2) w₁ w₂ hty)) Q := by
  subst hn'; subst hd; subst hs1; subst hs2
  have hr32 := r.isLt
  have hk2 := k.isLt
  have hr0 : r ≠ 0 := fun e => hr (congrArg Fin.val e)
  have hO : O c s.n = O c (s.n + 1) + tallyAt ((Dev.tc (c + r) : Thread nD τ), SemLoc.dma (dsem 3 r)) k.val N := by
    rw [O_succ c s.n (by omega), item_gather c k r hr0 s.n hn]
  have htake := sl_take Co A c k r hr hn (by omega)
  refine (St_open K Co A c s { s with n := s.n + 1 } {.ow, .gt, .gd, .ac, .tk, .sl, .p2, .p1} ?_).trans ?_
  · intro x hx
    cases x <;> first
      | exact absurd (by decide) hx
      | (dsimp only [σ]; done)
      | (dsimp only [σ]
         exact fam_congr (fun x : KR => by
           have := x.1.isLt; have := x.2.isLt; have := c.isLt; omega) _)
      | (dsimp only [σ]; exact fam_congr (fun x : Fin 32 => by have := x.isLt; have := c.isLt; omega) _)
  rw [bigSep_cons (by decide), bigSep_cons (by decide), bigSep_cons (by decide), bigSep_cons (by decide), bigSep_cons (by decide), bigSep_cons (by decide), bigSep_cons (by decide), bigSep_one,
    bigSep_cons (by decide), bigSep_cons (by decide), bigSep_cons (by decide), bigSep_cons (by decide), bigSep_cons (by decide), bigSep_cons (by decide), bigSep_cons (by decide), bigSep_one]
  generalize hg0 : σ Co A c s .sl = G0 at htake ⊢
  generalize hg0' : σ Co A c { s with n := s.n + 1 } .sl = G0' at htake ⊢
  dsimp only [σ]
  rw [fam_take (p := fun x : KR => x.2.val ≠ 0 ∧ s.n ≤ 64 + 64 * x.1.val + x.2.val)
      (p' := fun x : KR => x.2.val ≠ 0 ∧ s.n + 1 ≤ 64 + 64 * x.1.val + x.2.val) (k, r)
      ⟨hr, by show s.n ≤ 64 + 64 * k.val + r.val; omega⟩
      (fun x => by have := x.1.isLt; have := x.2.isLt; rw [kr_ne]; omega),
    fam_take (p := fun x : KR => x.2.val ≠ 0 ∧ 32 * x.1.val + x.2.val < s.rv ∧ s.n ≤ 64 + 64 * x.1.val + (32 - x.2.val) % 32)
      (p' := fun x : KR => x.2.val ≠ 0 ∧ 32 * x.1.val + x.2.val < s.rv ∧ s.n + 1 ≤ 64 + 64 * x.1.val + (32 - x.2.val) % 32) (k, -r)
      (by
        show (-r).val ≠ 0 ∧ 32 * k.val + (-r).val < s.rv ∧ s.n ≤ 64 + 64 * k.val + (32 - (-r).val) % 32
        rw [neg_val]; omega)
      (fun x => by have := x.1.isLt; have := x.2.isLt; rw [kr_ne, neg_val]; omega),
    fam_take (p := fun x : KR => x.2.val ≠ 0 ∧ 64 + 64 * x.1.val + x.2.val < s.n + 1 ∧ s.aw ≤ 32 * x.1.val + x.2.val)
      (p' := fun x : KR => x.2.val ≠ 0 ∧ 64 + 64 * x.1.val + x.2.val < s.n ∧ s.aw ≤ 32 * x.1.val + x.2.val) (k, r)
      ⟨hr, by show 64 + 64 * k.val + r.val < s.n + 1; omega, by show s.aw ≤ 32 * k.val + r.val; omega⟩
      (fun x => by have := x.1.isLt; have := x.2.isLt; rw [kr_ne]; omega),
    fam_take (p := fun x : KR => x.2.val ≠ 0 ∧ s.op = x.1.val + 1 ∧ (x.1.val = 0 → 8 * s.gp ≤ c.val)
      ∧ (s.n ≤ 64 + 64 * x.1.val + x.2.val ∨ 32 * x.1.val + x.2.val < s.aw))
      (p' := fun x : KR => x.2.val ≠ 0 ∧ s.op = x.1.val + 1 ∧ (x.1.val = 0 → 8 * s.gp ≤ c.val)
      ∧ (s.n + 1 ≤ 64 + 64 * x.1.val + x.2.val ∨ 32 * x.1.val + x.2.val < s.aw)) (k, r)
      ⟨hr, hop, (fun e => by rw [hgp e]; omega), Or.inl (by show s.n ≤ 64 + 64 * k.val + r.val; omega)⟩
      (fun x => by have := x.1.isLt; have := x.2.isLt; rw [kr_ne]; omega)]
  unfold gdΦ gtΦ
  rw [sub_neg_self, neg_neg_self]
  iintro ⟨#HP, ⟨⟨%W, HO⟩, ⟨⟨Ht1, Ht2⟩, Hgt⟩, ⟨⟨Hdst, #Hr2⟩, Hgd⟩, Hac, ⟨Hblk, Htk⟩, HG0, Hp2, Hp1⟩, Hback⟩
  ihave Hp := (fam_reached (g := fun r : Fin 32 => gsnC c r) (m := fun r => cnt s.aw r.val) r hr) $$ Hp2
  icases Hp with ⟨#Hr1, Hp2⟩
  ihave Hp := (fam_reached (g := fun r : Fin 32 => rcvC c r) (m := fun r => cnt s.rv r.val) (-r) (by rw [neg_val]; omega)) $$ Hp1
  icases Hp with ⟨#Hr3, Hp1⟩
  have e1 : cnt s.aw r.val = k.val := by
    rw [haw]; unfold cnt; split_ifs <;> omega
  have e3 : k.val = 0 → cnt s.rv (-r).val = 1 := by
    intro e; rw [neg_val]; unfold cnt; split_ifs <;> omega
  rw [e1]
  ihave Hp := htake $$ HG0
  icases Hp with ⟨HF, HG0⟩
  ihave HF := (show iprop((if k.val = 0 then slotAny (F := F) c (-r) else iprop(emp)) ∗ reached ER (rcvC c (-r)) (cnt s.rv (-r).val))
      ⊢ (if k.val = 0 then Dst (F := F) 1 c (c + r) else iprop(emp)) from by
    rcases (by omega : k.val = 0 ∨ k.val = 1) with e | e
    · rw [if_pos e, if_pos e, e3 e]; unfold Dst; rw [sub_add_self]
    · rw [if_neg (by omega), if_neg (by omega)]
      iintro ⟨-, -⟩
      iempintro) $$ [HF]
  · isplitl [HF]; · iexact HF
    iexact Hr3
  unfold accAny tkΦ
  icases Hdst with ⟨%f, Hdst⟩
  ihave #Hi1 := (Pers_inv Co.V K (c, some (2, r))) $$ HP
  ihave #Hi2 := (Pers_inv Co.V K (c + r, some (3, r))) $$ HP
  iapply (Rounds.wp_send_pointsTo_with 𝒱₀ ER (rd Co.V) (c : Thread nD τ) none (κ₁ := K (c, some (2, r))) (κ₂ := K (c + r, some (3, r)))
      (c' := (Dev.tc (c + r) : Thread nD τ)) (src := blkM off inb) (dst := blkM off inb) (sS := .dma (dsem 2 r)) (sem := .dma (dsem 3 r))
      (r₁ := k.val) (r₂ := k.val) (d₁ := 0) (d₂ := 0) (q := tok r) (fs := Co.V.red k.val) (fd := f)
      (F := if k.val = 0 then Dst (F := F) 1 c (c + r) else iprop(emp))
      (by rw [show ((c : Thread nD τ), SemLoc.dma (dsem 2 r)) = dmaC 2 c r from rfl, duties_dma Co.V c 2 _ hr0 _ hk2]; exact Finset.mem_singleton_self _)
      (by rw [show ((Dev.tc (c + r) : Thread nD τ), SemLoc.dma (dsem 3 r)) = dmaC 3 (c + r) r from rfl, duties_dma Co.V (c + r) 3 _ hr0 _ hk2]; exact Finset.mem_singleton_self _)
      k.val 0 N rfl (amount_dma Co.V c 2 r k.val 0) (amount_dma Co.V (c + r) 3 r k.val 0) (O c (s.n + 1))
      hO (W := W)
      (by
        rw [show (rd Co.V).payload ((c : Thread nD τ), SemLoc.dma (dsem 2 r)) k.val 0 = gsnPay Co.V c r k.val from payload_gsn Co.V c r k.val 0]
        unfold gsnPay accP
        rw [blk_set ho])
      (by
        rw [show (rd Co.V).payload ((Dev.tc (c + r) : Thread nD τ), SemLoc.dma (dsem 3 r)) k.val 0 = grcPay Co.V (c + r) r k.val from payload_grc Co.V (c + r) r k.val 0]
        unfold grcPay accP
        rw [add_sub_self, blk_set ho]
        rw [pointsTo_congr (blk_write ho ho f (Co.V.red k.val))])) $$ [HO Hblk Hdst HF Ht1 Ht2]
  · isplitr; · iexact Hi1
    isplitr; · iexact Hi2
    isplitl [Hblk]; · unfold accP; rw [blk_set ho]; iexact Hblk
    isplitl [Hdst HF]
    · isplitl [Hdst]; · unfold accP; rw [blk_set ho]; iexact Hdst
      iexact HF
    isplitl [HO]; · iexact HO
    isplitl [Ht1]; · iexact Ht1
    isplitr; · iexact Hr1
    isplitl [Ht2]; · iexact Ht2
    iexact Hr2
  iintro ⟨Hc, HO⟩
  rw [wp_ret]; imodintro
  iapply h
  iapply Hback
  isplitl [HO]; · iexists _; iexact HO
  isplitl [Hgt]; · iexact Hgt
  isplitl [Hgd]; · iexact Hgd
  isplitl [Hc Hac]
  · isplitl [Hc]; · unfold acΦ; iexact Hc
    iexact Hac
  isplitl [Htk]; · iexact Htk
  isplitl [HG0]; · iexact HG0
  isplitl [Hp2]; · iexact Hp2
  iexact Hp1

/-- A waited position at which no wait happens is passed over. -/
theorem skip_rv (s : Ctr) (rv' : ℕ) (hrv' : s.rv + 1 = rv') (hrv : s.rv = 0 ∨ s.rv = 32) : St K Co A c s ⊢ St K Co A c { s with rv := rv' } := by
  subst hrv'
  refine (St_open K Co A c s { s with rv := s.rv + 1 } {.p1} ?_).trans ?_
  · intro x hx
    cases x <;> first
      | exact absurd (by decide) hx
      | (dsimp only [σ]; done)
      | (dsimp only [σ]
         exact fam_congr (fun x : KR => by
           have := x.1.isLt; have := x.2.isLt; have := c.isLt; omega) _)
      | (dsimp only [σ]; exact fam_congr (fun x : Fin 32 => by have := x.isLt; have := c.isLt; omega) _)
  rw [bigSep_one, bigSep_one]
  dsimp only [σ]
  rw [fam_congr_mem (p := fun r : Fin 32 => r.val ≠ 0) (fun _ => Iff.rfl)
    (fun r hr => show posP (F := F) (rcvC c r) (cnt s.rv r.val) = posP (rcvC c r) (cnt (s.rv + 1) r.val) from by
      congr 1; unfold cnt; split_ifs <;> omega)]
  iintro ⟨-, H, Hb⟩
  iapply Hb; iexact H
/-- The place of shift 0 is passed without waiting: among the scatter sends, -/
theorem skip_sw (s : Ctr) (sw' : ℕ) (hsw' : s.sw + 1 = sw') (hsw : s.sw = 0 ∨ s.sw = 32) : St K Co A c s ⊢ St K Co A c { s with sw := sw' } := by
  subst hsw'
  refine (St_open K Co A c s { s with sw := s.sw + 1 } {.p0} ?_).trans ?_
  · intro x hx
    cases x <;> first
      | exact absurd (by decide) hx
      | (dsimp only [σ]; done)
      | (dsimp only [σ]
         exact fam_congr (fun x : KR => by
           have := x.1.isLt; have := x.2.isLt; have := c.isLt; omega) _)
      | (dsimp only [σ]; exact fam_congr (fun x : Fin 32 => by have := x.isLt; have := c.isLt; omega) _)
  rw [bigSep_one, bigSep_one]
  dsimp only [σ]
  rw [fam_congr_mem (p := fun r : Fin 32 => r.val ≠ 0) (fun _ => Iff.rfl)
    (fun r hr => show posP (F := F) (sndC c r) (cnt s.sw r.val) = posP (sndC c r) (cnt (s.sw + 1) r.val) from by
      congr 1; unfold cnt; split_ifs <;> omega)]
  iintro ⟨-, H, Hb⟩
  iapply Hb; iexact H
/-- among the gather sends, -/
theorem skip_aw (s : Ctr) (aw' : ℕ) (haw' : s.aw + 1 = aw') (haw : s.aw = 0 ∨ s.aw = 32) : St K Co A c s ⊢ St K Co A c { s with aw := aw' } := by
  subst haw'
  refine (St_open K Co A c s { s with aw := s.aw + 1 } {.p2} ?_).trans ?_
  · intro x hx
    cases x <;> first
      | exact absurd (by decide) hx
      | (dsimp only [σ]; done)
      | (dsimp only [σ]
         exact fam_congr (fun x : KR => by
           have := x.1.isLt; have := x.2.isLt; have := c.isLt; omega) _)
      | (dsimp only [σ]; exact fam_congr (fun x : Fin 32 => by have := x.isLt; have := c.isLt; omega) _)
  rw [bigSep_one, bigSep_one]
  dsimp only [σ]
  rw [fam_congr_mem (p := fun r : Fin 32 => r.val ≠ 0) (fun _ => Iff.rfl)
    (fun r hr => show posP (F := F) (gsnC c r) (cnt s.aw r.val) = posP (gsnC c r) (cnt (s.aw + 1) r.val) from by
      congr 1; unfold cnt; split_ifs <;> omega)]
  iintro ⟨-, H, Hb⟩
  iapply Hb; iexact H
/-- and, for the device itself, among the gathered blocks. -/
theorem skip_gw (s : Ctr) (gw' : ℕ) (hgw' : s.gw + 1 = gw') (hgw : s.gw = c.val ∨ s.gw = 32 + c.val) : St K Co A c s ⊢ St K Co A c { s with gw := gw' } := by
  subst hgw'
  have hc : c.val < 32 := c.isLt
  refine (St_open K Co A c s { s with gw := s.gw + 1 } {.p3} ?_).trans ?_
  · intro x hx
    cases x <;> first
      | exact absurd (by decide) hx
      | (dsimp only [σ]; done)
      | (dsimp only [σ]
         exact fam_congr (fun x : KR => by
           have := x.1.isLt; have := x.2.isLt; have := c.isLt; omega) _)
      | (dsimp only [σ]; exact fam_congr (fun x : Fin 32 => by have := x.isLt; have := c.isLt; omega) _)
  rw [bigSep_one, bigSep_one]
  dsimp only [σ]
  rw [fam_congr_mem (p := fun j : Fin 32 => j.val ≠ c.val) (fun _ => Iff.rfl)
    (fun r hr => show posP (F := F) (grcC c (c - r)) (cnt s.gw r.val) = posP (grcC c (c - r)) (cnt (s.gw + 1) r.val) from by
      have := r.isLt
      congr 1; unfold cnt; split_ifs <;> omega)]
  iintro ⟨-, H, Hb⟩
  iapply Hb; iexact H

end Cert.KernelIdealProof

end
-- ==== Proof.KernelIdealLocal.lean ====
/-
One lemma per kind of local memory effect of the kernel: loads of the arguments, loads and stores of the attention, residual and
result buffers, and of the blocks of the accumulator and the exchange buffer the device holds at the time.
-/
module

public import proofs.«01_k».proof.Proof.KernelIdealSteps

@[expose] public section

noncomputable section

namespace Cert.KernelIdealProof

open Cert.KernelIdeal Cert.KernelIdeal.Gen Cert.Fam

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (K : Dev nD × CellK → ℕ) (Co : Cont F) (A : Args F) (c : Dev nD)

/-! ## Loads and stores in general -/

section General
variable {cs : CoreSpace} {s : Shape} {e : EltTy} {m : Memref sig .tc cs s e} {r : Rect s}

/-- A load through an accessor of its elements. -/
theorem step_load {P : sProp 𝕄} {hl} {Q : (r.shape.Idx → Elt F e) → sProp 𝕄} (S : Finset (Idx ((m.access r).loc (c : Thread nD τ)))) (q : PosShare TreeShare)
    (φ : Buf (Elt F) ((m.access r).loc (c : Thread nD τ)) → Prop)
    (hacc : P ⊢ iprop(∃ f, ⌜φ f⌝ ∗ ((m.access r).loc (c : Thread nD τ) ↦[S]{q} f) ∗ (((m.access r).loc (c : Thread nD τ) ↦[S]{q} f) -∗ P)))
    (hS : (m.access r).set ⊆ S) (h : ∀ f, φ f → (P ⊢ Q ((m.access r).read (Elt F) f))) :
    P ⊢ WP c (Prog.lift (.load m r.toLoadRect hl)) Q := by
  refine hacc.trans ?_
  iintro ⟨%f, %hf, Hp, Hb⟩
  iapply (wp_load_rect 𝒱₀ (c : Thread nD τ) none Set.univ hS) $$ Hp
  iintro Hp
  rw [wp_ret]; imodintro
  iapply (h f hf)
  iapply Hb; iexact Hp

/-- A store through an accessor of its elements. -/
theorem step_store {P P' : sProp 𝕄} {w : r.shape.Idx → Elt F e} {hx hm} {Q : PUnit → sProp 𝕄} (S : Finset (Idx ((m.access r).loc (c : Thread nD τ))))
    (hacc : P ⊢ iprop(∃ f, ((m.access r).loc (c : Thread nD τ) ↦[S]{fullShare} f)
      ∗ (((m.access r).loc (c : Thread nD τ) ↦[S]{fullShare} ((m.access r).write (Elt F) f w Finset.univ)) -∗ P')))
    (hS : (m.access r).set ⊆ S) (h : P' ⊢ Q ⟨⟩) :
    P ⊢ WP c (Prog.lift (.store m r w Finset.univ hx hm)) Q := by
  refine hacc.trans ?_
  iintro ⟨%f, Hp, Hb⟩
  iapply (wp_store 𝒱₀ (c : Thread nD τ) none Set.univ hS) $$ Hp
  iintro Hp
  rw [wp_ret]; imodintro
  iapply h
  iapply Hb; iexact Hp

/-- A store, at the contents it leaves where the memory is held. -/
theorem step_store_at {P P' : sProp 𝕄} {w : r.shape.Idx → Elt F e} {hx hm} {Q : PUnit → sProp 𝕄} (S : Finset (Idx ((m.access r).loc (c : Thread nD τ))))
    (g : Buf (Elt F) ((m.access r).loc (c : Thread nD τ))) (hw : (m.access r).read (Elt F) g = w) (hS : ∀ i, i ∈ S ↔ i ∈ (m.access r).set)
    (hacc : P ⊢ iprop(∃ f, ((m.access r).loc (c : Thread nD τ) ↦[S]{fullShare} f)
      ∗ (((m.access r).loc (c : Thread nD τ) ↦[S]{fullShare} g) -∗ P'))) (h : P' ⊢ Q ⟨⟩) :
    P ⊢ WP c (Prog.lift (.store m r w Finset.univ hx hm)) Q := by
  refine step_store c S (hacc.trans ?_) (fun i hi => (hS i).mpr hi) h
  iintro ⟨%f, H, Hb⟩
  iexists f
  isplitl [H]; · iexact H
  iintro H
  iapply Hb
  iapply (Entails.of_eq (pointsTo_congr fun i hi => Cert.Views.write_eq hw ((hS i).mp hi))) $$ H

end General

/-! ## Single slots -/

/-- One slot of a state looked at. -/
theorem St_slot (s : Ctr) (x : Slot) : St K Co A c s ⊢ iprop(σ Co A c s x ∗ (σ Co A c s x -∗ St K Co A c s)) := by
  refine (St_open K Co A c s s {x} (fun _ _ => rfl)).trans ?_
  rw [bigSep_one]
  iintro ⟨-, H, Hb⟩
  isplitl [H]; · iexact H
  iexact Hb

/-- Whole arguments are loaded. -/
theorem arg_acc (s : Ctr) (i : Fin 9) :
    St K Co A c s ⊢ iprop(∃ f, ⌜f = A i⌝ ∗ bufP c (argB i) f ∗ (bufP c (argB i) f -∗ St K Co A c s)) := by
  refine (St_slot K Co A c s .args).trans ?_
  dsimp only [σ]
  unfold argsP
  rw [← fam_univ (p := fun i : Fin 9 => True) (fun _ => trivial)]
  iintro ⟨H, Hb⟩
  ihave H := (fam_upd (p := fun i : Fin 9 => True) i trivial (Φ := fun i : Fin 9 => bufP c (argB i) (A i)) (Ψ := fun i : Fin 9 => bufP c (argB i) (A i)) (fun _ _ _ => rfl)) $$ H
  icases H with ⟨H, Hb'⟩
  iexists (A i)
  isplitr; · ipureintro; rfl
  isplitl [H]; · iexact H
  iintro H
  iapply Hb
  iapply Hb'; iexact H

/-- A load from a buffer of known contents reads them. -/
theorem step_arg {cs : CoreSpace} {sh : Shape} {e : EltTy} {m : Memref sig .tc cs sh e} {r : Rect sh} {P : sProp 𝕄} {f : Buf (Elt F) ((m.access r).loc (c : Thread nD τ))}
    (hacc : P ⊢ iprop(∃ g, ⌜g = f⌝ ∗ ((m.access r).loc (c : Thread nD τ) ↦{fullShare} g) ∗ (((m.access r).loc (c : Thread nD τ) ↦{fullShare} g) -∗ P)))
    {v : r.shape.Idx → Elt F e} (hv : (m.access r).read (Elt F) f = v) {hl} {Q : (r.shape.Idx → Elt F e) → sProp 𝕄} (h : P ⊢ Q v) :
    P ⊢ WP c (Prog.lift (.load m r.toLoadRect hl)) Q := by
  refine step_load c Finset.univ fullShare (fun g => g = f) hacc (Finset.subset_univ _) (fun g hg => ?_)
  rw [hg, hv]
  exact h

/-! ## Buffers written part by part -/

section Part
variable {cs : CoreSpace} {s : Shape} {e : EltTy} {m : Memref sig .tc cs s e} {r : Rect s}
  {d d' : Idx ((m.access r).loc (c : Thread nD τ)) → Prop} {f : Buf (Elt F) ((m.access r).loc (c : Thread nD τ))}

/-- `partP` of the buffer a memref lies in. -/
def partM (m : Memref sig .tc cs s e) (r : Rect s) (d : Idx ((m.access r).loc (c : Thread nD τ)) → Prop) (f : Buf (Elt F) ((m.access r).loc (c : Thread nD τ))) : sProp 𝕄 :=
  iprop(∃ g, ⌜∀ i, d i → g i = f i⌝ ∗ ((m.access r).loc (c : Thread nD τ) ↦{fullShare} g))

/-- A load whose value is not used may read what is not written yet. -/
theorem part_dead {P : sProp 𝕄} (hP : P ⊢ iprop(partM c m r d f ∗ (partM c m r d f -∗ P))) {hl} {Q : (r.shape.Idx → Elt F e) → sProp 𝕄} (h : ∀ v, P ⊢ Q v) :
    P ⊢ WP c (Prog.lift (.load m r.toLoadRect hl)) Q := by
  refine step_load c Finset.univ fullShare (fun _ => True) ?_ (Finset.subset_univ _) (fun f _ => h _)
  refine hP.trans ?_
  unfold partM
  iintro ⟨⟨%g, %hg, H⟩, Hb⟩
  iexists g
  isplitr; · ipureintro; trivial
  isplitl [H]; · iexact H
  iintro H
  iapply Hb
  iexists g
  isplitr; · ipureintro; exact hg
  iexact H

/-- A load of elements that are written reads the contents. -/
theorem part_load {P : sProp 𝕄} (hP : P ⊢ iprop(partM c m r d f ∗ (partM c m r d f -∗ P))) {hl} {Q : (r.shape.Idx → Elt F e) → sProp 𝕄}
    (hd : ∀ i ∈ (m.access r).set, d i) {v : r.shape.Idx → Elt F e} (hv : (m.access r).read (Elt F) f = v)
    (h : P ⊢ Q v) :
    P ⊢ WP c (Prog.lift (.load m r.toLoadRect hl)) Q := by
  refine step_load c Finset.univ fullShare (fun g => ∀ i, d i → g i = f i) ?_ (Finset.subset_univ _) (fun g hg => ?_)
  · refine hP.trans ?_
    unfold partM
    iintro ⟨⟨%g, %hg, H⟩, Hb⟩
    iexists g
    isplitr; · ipureintro; exact hg
    isplitl [H]; · iexact H
    iintro H
    iapply Hb
    iexists g
    isplitr; · ipureintro; exact hg
    iexact H
  · rw [Cert.Views.read_eq (v := m.access r) (f := g) (g := f) (fun i hi => hg i (hd i hi)), hv]
    exact h

/-- A store of the contents' values marks its elements as written. -/
theorem part_store {P P' : sProp 𝕄} (hP : P ⊢ iprop(partM c m r d f ∗ (partM c m r d' f -∗ P'))) {w : r.shape.Idx → Elt F e} {hx hm} {Q : PUnit → sProp 𝕄}
    (hd : ∀ i, d' i → d i ∨ i ∈ (m.access r).set) (hw : (m.access r).read (Elt F) f = w)
    (h : P' ⊢ Q ⟨⟩) :
    P ⊢ WP c (Prog.lift (.store m r w Finset.univ hx hm)) Q := by
  refine step_store c Finset.univ (hP.trans ?_) (Finset.subset_univ _) h
  unfold partM
  iintro ⟨⟨%g, %hg, H⟩, Hb⟩
  iexists g
  isplitl [H]; · iexact H
  iintro H
  iapply Hb
  iexists ((m.access r).write (Elt F) g w Finset.univ)
  isplitr
  · ipureintro
    intro i hi
    by_cases hin : i ∈ (m.access r).set
    · exact Cert.Views.write_eq hw hin
    · rw [Cert.Views.write_off hin]
      exact hg i ((hd i hi).resolve_right hin)
  iexact H

end Part

/-- The heads' buffer of a state, to be given back one tile further; -/
theorem att_open (s : Ctr) (a : ℕ) (ha : s.at_ + 1 = a) :
    St K Co A c s ⊢ iprop(partP c cc0_scratch0 (doneT s.at_) Co.T ∗ (partP c cc0_scratch0 (doneT a) Co.T -∗ St K Co A c { s with at_ := a })) := by
  subst ha
  refine (St_open K Co A c s { s with at_ := s.at_ + 1 } {.att} (fun x hx => by cases x <;> first | exact absurd (by decide) hx | rfl)).trans ?_
  rw [bigSep_one, bigSep_one]
  dsimp only [σ]
  iintro ⟨-, H, Hb⟩
  isplitl [H]; · iexact H
  iexact Hb
/-- the residual's, one quarter further; -/
theorem x1_open (s : Ctr) (a : ℕ) (ha : s.xp + 1 = a) :
    St K Co A c s ⊢ iprop(partP c cc0_scratch2 (doneX s.xp) Co.X ∗ (partP c cc0_scratch2 (doneX a) Co.X -∗ St K Co A c { s with xp := a })) := by
  subst ha
  refine (St_open K Co A c s { s with xp := s.xp + 1 } {.x1} (fun x hx => by cases x <;> first | exact absurd (by decide) hx | rfl)).trans ?_
  rw [bigSep_one, bigSep_one]
  dsimp only [σ]
  iintro ⟨-, H, Hb⟩
  isplitl [H]; · iexact H
  iexact Hb
/-- and the result's. -/
theorem out_open (s : Ctr) (a : ℕ) (ha : s.yp + 1 = a) :
    St K Co A c s ⊢ iprop(partP c cc0_stg9_0 (doneY s.yp) Co.Y ∗ (partP c cc0_stg9_0 (doneY a) Co.Y -∗ St K Co A c { s with yp := a })) := by
  subst ha
  refine (St_open K Co A c s { s with yp := s.yp + 1 } {.out} (fun x hx => by cases x <;> first | exact absurd (by decide) hx | rfl)).trans ?_
  rw [bigSep_one, bigSep_one]
  dsimp only [σ]
  iintro ⟨-, H, Hb⟩
  isplitl [H]; · iexact H
  iexact Hb

/-! ## Blocks of the accumulator -/

/-- Equivalent assertions are equal. -/
theorem equiv_eq {P Q : sProp 𝕄} (h : P ⊣⊢ Q) : P = Q := Idealize.SL.BI.Entails.antisymm h.1 h.2

/-- Rows `m j … m j + m - 1` of the accumulator are read or written. -/
theorem mem_rows {m : ℕ} {off : Fin 2 → ℕ} {sz : Fin 2 → ℕ} {inb} {i : Shape.Idx S512x512} {a : ℕ} (ho : off = ![a, 0]) (hz : sz = ![m, 512]) :
    i ∈ ((Memref.whole cc0_scratch1 : Memref sig .tc .vmem S512x512 .bf16).access (Rect.unit (s := S512x512) off sz inb)).set
      ↔ a ≤ (i 0).val ∧ (i 0).val < a + m := by
  subst ho; subst hz
  rw [show ((Memref.whole cc0_scratch1 : Memref sig .tc .vmem S512x512 .bf16).access (Rect.unit (s := S512x512) ![a, 0] ![m, 512] inb)).set
    = (Rect.unit (s := S512x512) ![a, 0] ![m, 512] inb).set from View.set_slice_whole _ _, Rect.mem_set_unit]
  constructor
  · intro h; have h0 := h 0; simpa using h0
  · intro h k
    have h1 : (i 1).val < 512 := (i 1).isLt
    fin_cases k
    · simpa using h
    · simpa using h1

/-- The blocks at which `p` holds. -/
def rows (p : Fin 32 → Prop) [DecidablePred p] : Finset (Shape.Idx S512x512) := (Finset.univ.filter p).biUnion rowsB

/-- The rows of block `j`; -/
theorem mem_rowsB {i : Shape.Idx S512x512} {j : Fin 32} : i ∈ rowsB j ↔ (i 0).val / 16 = j.val := by
  unfold rowsB; simp only [Finset.mem_filter, Finset.mem_univ, _root_.true_and]

/-- and those of the blocks of a set. -/
theorem mem_rows_of {p : Fin 32 → Prop} [DecidablePred p] {i : Shape.Idx S512x512} : i ∈ rows p ↔ ∃ j : Fin 32, p j ∧ (i 0).val / 16 = j.val := by
  unfold rows; simp only [Finset.mem_biUnion, Finset.mem_filter, Finset.mem_univ, _root_.true_and, mem_rowsB]

/-- The blocks of a set, one by one or together. -/
theorem blocks_join (p : Fin 32 → Prop) [DecidablePred p] (q : PosShare TreeShare) (f : Acc F) :
    fam p (fun j => accP c (rowsB j) q f) = accP c (rows p) q f := by
  unfold fam accP rows
  refine (pointsTo_biUnion _ _ fun j _ j' _ h => ?_).symm
  rw [Finset.disjoint_left]
  intro i hi hi'
  rw [mem_rowsB] at hi hi'
  exact h (Fin.ext (hi.symm.trans hi'))

/-- A share of rows splits into its two halves. -/
theorem acc_share (S) (f : Acc F) (q : PosShare TreeShare) : accP c S q f = iprop(accP c S q.left f ∗ accP c S q.right f) := by
  unfold accP
  exact equiv_eq (pointsTo_share (PosShare.mem_left_op_right q))

/-- Only the values at the rows held matter. -/
theorem acc_congr (S) (q : PosShare TreeShare) {f g : Acc F} (h : ∀ i ∈ S, f i = g i) : accP c S q f = accP c S q g := by
  unfold accP; exact pointsTo_congr h

/-- The device's own block, cut into what it keeps and what it lends. -/
theorem own_split (f : Acc F) : accP c (rowsB c) fullShare f
    = iprop(restP c f ∗ fam (fun r : Fin 32 => r.val ≠ 0) fun r => accP c (rowsB c) (tok r) f) := by
  rw [acc_share]
  have h : accP c (rowsB c) fullShare.left f = iprop(accP c (rowsB c) (Transfers.shareDrop fullShare.left 32) f
      ∗ bigSep Finset.univ (fun r : Fin 32 => accP c (rowsB c) (tok r) f)) := by
    unfold accP tok
    exact equiv_eq (Transfers.pointsTo_toks fullShare.left 32)
  rw [h, ← fam_univ (p := fun r : Fin 32 => True) (fun _ => trivial), fam_take (p' := fun r : Fin 32 => r.val ≠ 0) 0 trivial (fun x => by
    rw [ne_val]; exact ⟨fun h => ⟨trivial, h⟩, fun h => h.2⟩)]
  unfold restP
  refine equiv_eq ⟨?_, ?_⟩
  · iintro ⟨⟨H1, H2, H3⟩, H4⟩
    isplitl [H1 H2 H4]
    · isplitl [H4]; · iexact H4
      isplitl [H1]; · iexact H1
      iexact H2
    iexact H3
  · iintro ⟨⟨H4, H1, H2⟩, H3⟩
    isplitl [H1 H2 H3]
    · isplitl [H1]; · iexact H1
      isplitl [H2]; · iexact H2
      iexact H3
    iexact H4

/-- A store into accumulator rows held in full. -/
theorem acc_store {r : Rect S512x512} {P P' : sProp 𝕄} {w : r.shape.Idx → Elt F .bf16} {hx hm} {Q : PUnit → sProp 𝕄} (S : Finset (Shape.Idx S512x512))
    (g : Acc F) (hw : ((Memref.whole cc0_scratch1 : Memref sig .tc .vmem S512x512 .bf16).access r).read (Elt F) g = w)
    (hS : ∀ i, i ∈ S ↔ i ∈ ((Memref.whole cc0_scratch1 : Memref sig .tc .vmem S512x512 .bf16).access r).set)
    (hacc : P ⊢ iprop(∃ f, accP c S fullShare f ∗ (accP c S fullShare g -∗ P'))) (h : P' ⊢ Q ⟨⟩) :
    P ⊢ WP c (Prog.lift (.store (Memref.whole cc0_scratch1 : Memref sig .tc .vmem S512x512 .bf16) r w Finset.univ hx hm)) Q := by
  unfold accP at hacc
  exact step_store_at c S g hw hS hacc h

/-- A store into slots of the exchange buffer held in full. -/
theorem sca_store {r : Rect S32x16x512} {P P' : sProp 𝕄} {w : r.shape.Idx → Elt F .bf16} {hx hm} {Q : PUnit → sProp 𝕄} (S : Finset (Shape.Idx S32x16x512))
    (g : Scat F) (hw : ((Memref.whole cc0_scratch3 : Memref sig .tc .vmem S32x16x512 .bf16).access r).read (Elt F) g = w)
    (hS : ∀ i, i ∈ S ↔ i ∈ ((Memref.whole cc0_scratch3 : Memref sig .tc .vmem S32x16x512 .bf16).access r).set)
    (hacc : P ⊢ iprop(∃ f, scaP c S f ∗ (scaP c S g -∗ P'))) (h : P' ⊢ Q ⟨⟩) :
    P ⊢ WP c (Prog.lift (.store (Memref.whole cc0_scratch3 : Memref sig .tc .vmem S32x16x512 .bf16) r w Finset.univ hx hm)) Q := by
  unfold scaP at hacc
  exact step_store_at c S g hw hS hacc h

/-! ### The halves of the first exchange -/

/-- The half about to be written may be loaded if its value is not used. -/
theorem acc_raw_dead {s : Ctr} {off : Fin 2 → ℕ} {inb hl} (hs : off = ![256 * s.ph, 0]) {Q : (S256x512.Idx → Elt F .bf16) → sProp 𝕄}
    (h : ∀ v, St K Co A c s ⊢ Q v) :
    St K Co A c s ⊢ WP c (Prog.lift (.load (Memref.whole cc0_scratch1 : Memref sig .tc .vmem S512x512 .bf16) (Rect.unit (s := S512x512) off S256x512.size inb).toLoadRect hl)) Q := by
  refine step_load c (rawS s.ph) fullShare (fun _ => True) ?_ ?_ (fun f _ => h _)
  · refine (St_slot K Co A c s .raw).trans ?_
    dsimp only [σ]
    unfold accP
    iintro ⟨⟨%f, H⟩, Hb⟩
    iexists f
    isplitr; · ipureintro; trivial
    isplitl [H]; · iexact H
    iintro H
    iapply Hb
    iexists f; iexact H
  · intro i hi
    have := (mem_rows (m := 256) hs rfl).mp hi
    simp only [rawS, Finset.mem_filter, Finset.mem_univ, _root_.true_and]; omega

/-- A half of the partial sums is stored. -/
theorem acc_half_store {s : Ctr} (hph : s.ph < 2) (hop : s.op = 0) (hn : s.n ≤ 32 + 16 * s.ph) {off : Fin 2 → ℕ} {inb hx hm} (hs : off = ![256 * s.ph, 0])
    {w : S256x512.Idx → Elt F .bf16} (ph' : ℕ) (hph' : s.ph + 1 = ph') {Q : PUnit → sProp 𝕄}
    (hw : ((Memref.whole cc0_scratch1 : Memref sig .tc .vmem S512x512 .bf16).access (Rect.unit (s := S512x512) off S256x512.size inb)).read (Elt F) (Co.V.part 0 c) = w)
    (h : St K Co A c { s with ph := ph' } ⊢ Q ⟨⟩) :
    St K Co A c s ⊢ WP c (Prog.lift (.store (Memref.whole cc0_scratch1 : Memref sig .tc .vmem S512x512 .bf16) (Rect.unit (s := S512x512) off S256x512.size inb) w Finset.univ hx hm)) Q := by
  subst hph'
  have hc : c.val < 32 := c.isLt
  refine acc_store c (rows fun j => 16 * s.ph ≤ j.val ∧ j.val < 16 * s.ph + 16) (Co.V.part 0 c) hw (fun i => ?_) ?_ h
  · rw [mem_rows (m := 256) hs rfl, mem_rows_of]
    have h0 : (i 0).val < 512 := (i 0).isLt
    exact Iff.symm ⟨fun hi => ⟨⟨(i 0).val / 16, by omega⟩, ⟨by show _ ≤ (i 0).val / 16; omega, by show (i 0).val / 16 < _; omega⟩, rfl⟩,
      fun ⟨j, hj, e⟩ => by have h1 := hj.1; have h2 := hj.2; omega⟩
  · refine (St_open K Co A c s { s with ph := s.ph + 1 } {.raw, .pr0, .own} ?_).trans ?_
    · intro x hx
      cases x <;> first | exact absurd (by decide) hx | rfl
    rw [bigSep_cons (by decide), bigSep_cons (by decide), bigSep_one, bigSep_cons (by decide), bigSep_cons (by decide), bigSep_one]
    dsimp only [σ]
    rw [if_pos hop, if_pos hop]
    have hsub : (rows fun j => 16 * s.ph ≤ j.val ∧ j.val < 16 * s.ph + 16) ⊆ rawS s.ph := by
      intro i hi
      obtain ⟨j, hj, e⟩ := mem_rows_of.mp hi
      simp only [rawS, Finset.mem_filter, Finset.mem_univ, _root_.true_and]; omega
    have hdiff : rawS s.ph \ (rows fun j => 16 * s.ph ≤ j.val ∧ j.val < 16 * s.ph + 16) = rawS (s.ph + 1) := by
      ext i
      have h0 : (i 0).val < 512 := (i 0).isLt
      simp only [rawS, Finset.mem_sdiff, Finset.mem_filter, Finset.mem_univ, _root_.true_and, mem_rows_of, not_exists]
      constructor
      · rintro ⟨h1, h2⟩
        by_contra hh
        exact h2 ⟨(i 0).val / 16, by omega⟩ ⟨⟨h1, by show (i 0).val / 16 < _; omega⟩, rfl⟩
      · intro h1
        exact ⟨by omega, fun j hj => by have h3 := hj.1.2; have h4 := hj.2; omega⟩
    have hnew : iprop(accP c (rows fun j => 16 * s.ph ≤ j.val ∧ j.val < 16 * s.ph + 16) fullShare (Co.V.part 0 c)
        ∗ (fam (fun j : Fin 32 => j.val ≠ c.val ∧ j.val < 16 * s.ph ∧ s.n ≤ 32 + j.val) fun j => accP c (rowsB j) fullShare (Co.V.part 0 c))
        ∗ (if c.val < 16 * s.ph then accP c (rowsB c) fullShare (Co.V.part 0 c) else iprop(emp)))
      ⊢ iprop((fam (fun j : Fin 32 => j.val ≠ c.val ∧ j.val < 16 * (s.ph + 1) ∧ s.n ≤ 32 + j.val) fun j => accP c (rowsB j) fullShare (Co.V.part 0 c))
        ∗ (if c.val < 16 * (s.ph + 1) then accP c (rowsB c) fullShare (Co.V.part 0 c) else iprop(emp))) := by
      rw [← blocks_join]
      by_cases hin : 16 * s.ph ≤ c.val ∧ c.val < 16 * s.ph + 16
      · rw [fam_take (p := fun j : Fin 32 => 16 * s.ph ≤ j.val ∧ j.val < 16 * s.ph + 16)
            (p' := fun j : Fin 32 => j.val ≠ c.val ∧ 16 * s.ph ≤ j.val ∧ j.val < 16 * s.ph + 16) c hin (fun x => by beta_reduce; rw [ne_val (x := x)]; omega),
          fam_split (p := fun j : Fin 32 => j.val ≠ c.val ∧ j.val < 16 * (s.ph + 1) ∧ s.n ≤ 32 + j.val)
            (p₁ := fun j : Fin 32 => j.val ≠ c.val ∧ j.val < 16 * s.ph ∧ s.n ≤ 32 + j.val) (p₂ := fun j : Fin 32 => j.val ≠ c.val ∧ 16 * s.ph ≤ j.val ∧ j.val < 16 * s.ph + 16)
            (fun x => by omega) (fun x => by omega),
          if_pos (show c.val < 16 * (s.ph + 1) by omega), if_neg (show ¬ c.val < 16 * s.ph by omega)]
        iintro ⟨⟨Hc, H⟩, Hpr, -⟩
        isplitl [Hpr H]
        · isplitl [Hpr]; · iexact Hpr
          iexact H
        iexact Hc
      · rw [fam_split (p := fun j : Fin 32 => j.val ≠ c.val ∧ j.val < 16 * (s.ph + 1) ∧ s.n ≤ 32 + j.val)
            (p₁ := fun j : Fin 32 => j.val ≠ c.val ∧ j.val < 16 * s.ph ∧ s.n ≤ 32 + j.val) (p₂ := fun j : Fin 32 => 16 * s.ph ≤ j.val ∧ j.val < 16 * s.ph + 16)
            (fun x => by omega) (fun x => by omega)]
        by_cases hlt : c.val < 16 * s.ph
        · rw [if_pos hlt, if_pos (show c.val < 16 * (s.ph + 1) by omega)]
          iintro ⟨H, Hpr, Hown⟩
          isplitl [Hpr H]
          · isplitl [Hpr]; · iexact Hpr
            iexact H
          iexact Hown
        · rw [if_neg hlt, if_neg (show ¬ c.val < 16 * (s.ph + 1) by omega)]
          iintro ⟨H, Hpr, Hown⟩
          isplitl [Hpr H]
          · isplitl [Hpr]; · iexact Hpr
            iexact H
          iexact Hown
    iintro ⟨-, ⟨⟨%f, Hraw⟩, Hpr, Hown⟩, Hb⟩
    ihave Hraw := (Entails.of_eq (show accP c (rawS s.ph) fullShare f = iprop(accP c (rows fun j => 16 * s.ph ≤ j.val ∧ j.val < 16 * s.ph + 16) fullShare f ∗ accP c (rawS (s.ph + 1)) fullShare f) from by
      unfold accP
      rw [← hdiff]
      exact equiv_eq (pointsTo_split_subset hsub))) $$ Hraw
    icases Hraw with ⟨H, Hraw⟩
    iexists f
    isplitl [H]; · iexact H
    iintro H
    iapply Hb
    isplitl [Hraw]; · iexists f; iexact Hraw
    iapply hnew
    isplitl [H]; · iexact H
    isplitl [Hpr]; · iexact Hpr
    iexact Hown

/-! ### The device's own block -/

/-- The device's own block, before it is reduced, holds its partial sums. -/
theorem own_part {s : Ctr} (k : Fin 2) (hop : s.op = k.val) (h0 : k.val = 0 → s.ph = 2) (h1 : k.val = 1 → s.gp = 4) :
    σ Co A c s .own = accP c (rowsB c) fullShare (Co.V.part k.val c) := by
  have hc : c.val < 32 := c.isLt
  have hk := k.isLt
  dsimp only [σ]
  rcases (by omega : k.val = 0 ∨ k.val = 1) with e | e
  · rw [if_pos (by omega), if_pos (by have := h0 e; omega), e]
  · rw [if_neg (by omega), if_pos (by omega), if_pos (by have := h1 e; omega), e]

/-- The device's own block of partial sums is loaded. -/
theorem own_load {s : Ctr} (k : Fin 2) (hop : s.op = k.val) (h0 : k.val = 0 → s.ph = 2) (h1 : k.val = 1 → s.gp = 4)
    {off : Fin 2 → ℕ} {inb hl} (ho : off = ![16 * c.val, 0]) {Q : (S16x512.Idx → Elt F .bf16) → sProp 𝕄} {v : S16x512.Idx → Elt F .bf16}
    (hv : ((Memref.whole cc0_scratch1 : Memref sig .tc .vmem S512x512 .bf16).access (Rect.unit (s := S512x512) off S16x512.size inb)).read (Elt F) (Co.V.part k.val c) = v)
    (h : St K Co A c s ⊢ Q v) :
    St K Co A c s ⊢ WP c (Prog.lift (.load (Memref.whole cc0_scratch1 : Memref sig .tc .vmem S512x512 .bf16) (Rect.unit (s := S512x512) off S16x512.size inb).toLoadRect hl)) Q := by
  refine step_load c (rowsB c) fullShare (fun f => f = Co.V.part k.val c) ?_ ?_ (fun f hf => ?_)
  · refine (St_slot K Co A c s .own).trans ?_
    rw [own_part Co A c k hop h0 h1]
    unfold accP
    iintro ⟨H, Hb⟩
    iexists _
    isplitr; · ipureintro; rfl
    isplitl [H]; · iexact H
    iexact Hb
  · intro i hi
    have := (mem_rows (m := 16) ho rfl).mp hi
    exact mem_rowsB.mpr (by omega)
  · rw [hf, hv]; exact h

/-- The device's reduced block is stored; the shares to lend are cut off. -/
theorem own_store {s : Ctr} (k : Fin 2) (hop : s.op = k.val) (h0 : k.val = 0 → s.ph = 2 ∧ s.gp = 0) (h1 : k.val = 1 → s.gp = 4) (hn : s.n ≤ 64 + 64 * k.val + 1)
    {off : Fin 2 → ℕ} {inb hx hm} (ho : off = ![16 * c.val, 0]) {w : S16x512.Idx → Elt F .bf16} (op' : ℕ) (hop' : s.op + 1 = op') {Q : PUnit → sProp 𝕄}
    (hw : ((Memref.whole cc0_scratch1 : Memref sig .tc .vmem S512x512 .bf16).access (Rect.unit (s := S512x512) off S16x512.size inb)).read (Elt F) (Co.V.red k.val) = w)
    (h : St K Co A c { s with op := op' } ⊢ Q ⟨⟩) :
    St K Co A c s ⊢ WP c (Prog.lift (.store (Memref.whole cc0_scratch1 : Memref sig .tc .vmem S512x512 .bf16) (Rect.unit (s := S512x512) off S16x512.size inb) w Finset.univ hx hm)) Q := by
  subst hop'
  have hc : c.val < 32 := c.isLt
  have hk := k.isLt
  refine acc_store c (rowsB c) (Co.V.red k.val) hw (fun i => ?_) ?_ h
  · rw [mem_rows (m := 16) ho rfl, mem_rowsB]; omega
  · refine (St_open K Co A c s { s with op := s.op + 1 } {.own, .tk} ?_).trans ?_
    · intro x hx
      cases x <;> first | exact absurd (by decide) hx | rfl
    rw [bigSep_cons (by decide), bigSep_one, bigSep_cons (by decide), bigSep_one]
    rw [own_part Co A c k hop (fun e => (h0 e).1) h1]
    have hown : σ Co A c { s with op := s.op + 1 } .own = restP c (Co.V.red k.val) := by
      dsimp only [σ]
      rcases (by omega : k.val = 0 ∨ k.val = 1) with e | e
      · have := (h0 e).2
        rw [if_neg (by omega), if_pos (by omega), if_neg (by omega), e]
      · rw [if_neg (by omega), if_neg (by omega), e]
    rw [hown]
    dsimp only [σ]
    rw [fam_none (p := fun x : KR => x.2.val ≠ 0 ∧ s.op = x.1.val + 1 ∧ (x.1.val = 0 → 8 * s.gp ≤ c.val)
        ∧ (s.n ≤ 64 + 64 * x.1.val + x.2.val ∨ 32 * x.1.val + x.2.val < s.aw)) (fun x => by have := x.1.isLt; omega),
      fam_round k (p := fun x : KR => x.2.val ≠ 0 ∧ s.op + 1 = x.1.val + 1 ∧ (x.1.val = 0 → 8 * s.gp ≤ c.val)
        ∧ (s.n ≤ 64 + 64 * x.1.val + x.2.val ∨ 32 * x.1.val + x.2.val < s.aw)) (p' := fun r : Fin 32 => r.val ≠ 0)
        (fun x => by have := x.1.isLt; rw [Fin.ext_iff]; beta_reduce; omega)]
    iintro ⟨-, ⟨H, -⟩, Hb⟩
    iexists _
    isplitl [H]; · iexact H
    iintro H
    ihave H := (Entails.of_eq (own_split c (Co.V.red k.val))) $$ H
    icases H with ⟨H1, H2⟩
    iapply Hb
    isplitl [H1]; · iexact H1
    unfold tkΦ
    iexact H2

/-! ### Groups of 128 rows -/

/-- Blocks held in full, with the device's own at a share: all at that share, to be given back. -/
theorem grp_open {f : Acc F} {G p : Fin 32 → Prop} [DecidablePred G] [DecidablePred p] (hp : ∀ j, p j → j ≠ c) (hG : ∀ j, G j → j ≠ c → p j)
    (own : sProp 𝕄) (hown : G c → own = restP c f) :
    iprop(own ∗ fam p fun j => accP c (rowsB j) fullShare f)
      ⊢ iprop(accP c (rows G) fullShare.right f ∗ (accP c (rows G) fullShare.right f -∗ own ∗ fam p fun j => accP c (rowsB j) fullShare f)) := by
  rw [fam_split (p := p) (p₁ := fun j => G j ∧ j ≠ c) (p₂ := fun j => p j ∧ ¬ G j) (fun x => ⟨fun h => (em (G x)).imp (fun g => ⟨g, hp x h⟩) (fun g => ⟨h, g⟩),
      fun h => h.elim (fun h => hG x h.1 h.2) (fun h => h.1)⟩) (fun x h h' => h'.2 h.1),
    show (fam (fun j => G j ∧ j ≠ c) fun j => accP c (rowsB j) fullShare f) = iprop((fam (fun j => G j ∧ j ≠ c) fun j => accP c (rowsB j) fullShare.left f)
      ∗ (fam (fun j => G j ∧ j ≠ c) fun j => accP c (rowsB j) fullShare.right f)) from by
      rw [← fam_sep]; exact fam_congr_mem (fun _ => Iff.rfl) fun j _ => acc_share c _ f _,
    ← blocks_join]
  by_cases hc : G c
  · rw [hown hc, fam_take (p := G) (p' := fun j => G j ∧ j ≠ c) c hc (fun x => Iff.rfl)]
    unfold restP
    iintro ⟨⟨H1, H2⟩, ⟨H3, H4⟩, H5⟩
    isplitl [H1 H4]
    · isplitl [H1]; · iexact H1
      iexact H4
    iintro ⟨H1, H4⟩
    isplitl [H1 H2]
    · isplitl [H1]; · iexact H1
      iexact H2
    isplitl [H3 H4]
    · isplitl [H3]; · iexact H3
      iexact H4
    iexact H5
  · rw [fam_congr (p := G) (p' := fun j => G j ∧ j ≠ c) (fun x => ⟨fun h => ⟨h, fun e => hc (e ▸ h)⟩, fun h => h.1⟩)]
    iintro ⟨H1, ⟨H3, H4⟩, H5⟩
    isplitl [H4]; · iexact H4
    iintro H4
    isplitl [H1]; · iexact H1
    isplitl [H3 H4]
    · isplitl [H3]; · iexact H3
      iexact H4
    iexact H5

/-- The blocks of group `g` once gathered in round `k`. -/
abbrev inG (g : ℕ) (j : Fin 32) : Prop := 8 * g ≤ j.val ∧ j.val < 8 * g + 8

/-- A group of 128 gathered rows, to be given back. -/
theorem grp_acc {s : Ctr} (k : Fin 2) (g : ℕ) (hg : g < 4) (hop : s.op = k.val + 1) (hgw : 32 * k.val + 8 * g + 8 ≤ s.gw) (hgp : k.val = 0 → s.gp = g) :
    St K Co A c s ⊢ iprop(accP c (rows (inG g)) fullShare.right (Co.V.red k.val)
      ∗ (accP c (rows (inG g)) fullShare.right (Co.V.red k.val) -∗ St K Co A c s)) := by
  have hc : c.val < 32 := c.isLt
  have hk := k.isLt
  rcases (by omega : k.val = 0 ∨ k.val = 1) with e | e
  · have hgp := hgp e
    rw [e] at hop hgw ⊢
    have hopen := grp_open c (f := Co.V.red 0) (G := inG g) (p := fun j : Fin 32 => j.val ≠ c.val ∧ j.val < s.gw ∧ 8 * s.gp ≤ j.val)
      (fun j h => ne_val.mpr h.1) (fun j h h' => ⟨ne_val.mp h', by have := h.2; omega, by have := h.1; omega⟩) (σ Co A c s .own) (fun h => by
        dsimp only [σ]; rw [if_neg (by omega), if_pos (by omega), if_neg (by have := h.1; omega)])
    refine (St_open K Co A c s s {.own, .gt0} (fun _ _ => rfl)).trans ?_
    rw [bigSep_cons (by decide), bigSep_one]
    generalize σ Co A c s .own = own at hopen ⊢
    dsimp only [σ]
    iintro ⟨-, H, Hb⟩
    ihave H := hopen $$ H
    icases H with ⟨H, Hb'⟩
    isplitl [H]; · iexact H
    iintro H
    iapply Hb
    iapply Hb'; iexact H
  · rw [e] at hop hgw ⊢
    have hopen := grp_open c (f := Co.V.red 1) (G := inG g) (p := fun j : Fin 32 => j.val ≠ c.val ∧ 32 + j.val < s.gw)
      (fun j h => ne_val.mpr h.1) (fun j h h' => ⟨ne_val.mp h', by have := h.2; omega⟩) (σ Co A c s .own) (fun h => by
        dsimp only [σ]; rw [if_neg (by omega), if_neg (by omega)])
    refine (St_open K Co A c s s {.own, .gt1} (fun _ _ => rfl)).trans ?_
    rw [bigSep_cons (by decide), bigSep_one]
    generalize σ Co A c s .own = own at hopen ⊢
    dsimp only [σ]
    iintro ⟨-, H, Hb⟩
    ihave H := hopen $$ H
    icases H with ⟨H, Hb'⟩
    isplitl [H]; · iexact H
    iintro H
    iapply Hb
    iapply Hb'; iexact H

/-- A group of gathered rows is loaded. -/
theorem grp_load {s : Ctr} (k : Fin 2) (g : ℕ) (hg : g < 4) (hop : s.op = k.val + 1) (hgw : 32 * k.val + 8 * g + 8 ≤ s.gw) (hgp : k.val = 0 → s.gp = g)
    {off : Fin 2 → ℕ} {inb hl} (ho : off = ![128 * g, 0]) {Q : (S128x512.Idx → Elt F .bf16) → sProp 𝕄} {v : S128x512.Idx → Elt F .bf16}
    (hv : ((Memref.whole cc0_scratch1 : Memref sig .tc .vmem S512x512 .bf16).access (Rect.unit (s := S512x512) off S128x512.size inb)).read (Elt F) (Co.V.red k.val) = v)
    (h : St K Co A c s ⊢ Q v) :
    St K Co A c s ⊢ WP c (Prog.lift (.load (Memref.whole cc0_scratch1 : Memref sig .tc .vmem S512x512 .bf16) (Rect.unit (s := S512x512) off S128x512.size inb).toLoadRect hl)) Q := by
  refine step_load c (rows (inG g)) fullShare.right (fun f => f = Co.V.red k.val) ?_ ?_ (fun f hf => ?_)
  · refine (grp_acc K Co A c k g hg hop hgw hgp).trans ?_
    unfold accP
    iintro ⟨H, Hb⟩
    iexists _
    isplitr; · ipureintro; rfl
    isplitl [H]; · iexact H
    iexact Hb
  · intro i hi
    have hi := (mem_rows (m := 128) ho rfl).mp hi
    have h0 : (i 0).val < 512 := (i 0).isLt
    exact mem_rows_of.mpr ⟨⟨(i 0).val / 16, by omega⟩, ⟨by show _ ≤ (i 0).val / 16; omega, by show (i 0).val / 16 < _; omega⟩, rfl⟩
  · rw [hf, hv]; exact h

/-- Blocks held in full, with what a device keeps and what it lent of its own, taken out to be rewritten. -/
theorem grp_write {f g : Acc F} {G p p' q : Fin 32 → Prop} [DecidablePred G] [DecidablePred p] [DecidablePred p'] [DecidablePred q]
    (hp : ∀ x, p x ↔ (G x ∧ x ≠ c) ∨ p' x) (hp' : ∀ x, p' x → ¬ G x) (own own' tkn tkn' : sProp 𝕄)
    (hin : G c → own = restP c f ∧ own' = accP c (rowsB c) fullShare g ∧ tkn = (fam (fun r : Fin 32 => r.val ≠ 0) fun r => accP c (rowsB c) (tok r) f) ∧ tkn' = iprop(emp))
    (hout : ¬ G c → own = own' ∧ tkn = tkn') (hq : ∀ x, q x ↔ G x ∧ x ≠ c) :
    iprop(own ∗ tkn ∗ fam p fun j => accP c (rowsB j) fullShare f)
      ⊢ iprop(accP c (rows G) fullShare f ∗ (accP c (rows G) fullShare g -∗ own' ∗ tkn' ∗ (fam p' fun j => accP c (rowsB j) fullShare f)
        ∗ fam q fun j => accP c (rowsB j) fullShare g)) := by
  rw [fam_split (p := p) (p₁ := fun j => G j ∧ j ≠ c) (p₂ := p') hp (fun x h h' => hp' x h' h.1), ← blocks_join, ← blocks_join,
    fam_congr (p := q) (p' := fun j => G j ∧ j ≠ c) hq]
  by_cases hc : G c
  · obtain ⟨h1, h2, h3, h4⟩ := hin hc
    rw [h1, h2, h3, h4, fam_take (p := G) (p' := fun j => G j ∧ j ≠ c) c hc (fun x => Iff.rfl), fam_take (p := G) (p' := fun j => G j ∧ j ≠ c) c hc (fun x => Iff.rfl),
      own_split c f]
    iintro ⟨H1, H2, H3, H4⟩
    isplitl [H1 H2 H3]
    · isplitl [H1 H2]
      · isplitl [H1]; · iexact H1
        iexact H2
      iexact H3
    iintro ⟨H1, H3⟩
    isplitl [H1]; · iexact H1
    isplitr; · iempintro
    isplitl [H4]; · iexact H4
    iexact H3
  · obtain ⟨h1, h2⟩ := hout hc
    rw [h1, h2, fam_congr (p := G) (p' := fun j => G j ∧ j ≠ c) (fun x => ⟨fun h => ⟨h, fun e => hc (e ▸ h)⟩, fun h => h.1⟩),
      fam_congr (p := G) (p' := fun j => G j ∧ j ≠ c) (fun x => ⟨fun h => ⟨h, fun e => hc (e ▸ h)⟩, fun h => h.1⟩)]
    iintro ⟨H1, H2, H3, H4⟩
    isplitl [H3]; · iexact H3
    iintro H3
    isplitl [H1]; · iexact H1
    isplitl [H2]; · iexact H2
    isplitl [H4]; · iexact H4
    iexact H3

/-- A group of rows is rewritten with the second exchange's partial sums. -/
theorem grp_store {s : Ctr} (g : ℕ) (hg : g < 4) (hop : s.op = 1) (hgw : 8 * g + 8 ≤ s.gw) (hgw' : s.gw ≤ 32) (hgp : s.gp = g) (haw : s.aw = 32) (hn : 96 ≤ s.n) (hn' : s.n ≤ 96 + 8 * g)
    {off : Fin 2 → ℕ} {inb hx hm} (ho : off = ![128 * g, 0]) {w : S128x512.Idx → Elt F .bf16} (gp' : ℕ) (hgp' : s.gp + 1 = gp') {Q : PUnit → sProp 𝕄}
    (hw : ((Memref.whole cc0_scratch1 : Memref sig .tc .vmem S512x512 .bf16).access (Rect.unit (s := S512x512) off S128x512.size inb)).read (Elt F) (Co.V.part 1 c) = w)
    (h : St K Co A c { s with gp := gp' } ⊢ Q ⟨⟩) :
    St K Co A c s ⊢ WP c (Prog.lift (.store (Memref.whole cc0_scratch1 : Memref sig .tc .vmem S512x512 .bf16) (Rect.unit (s := S512x512) off S128x512.size inb) w Finset.univ hx hm)) Q := by
  subst hgp'
  have hc : c.val < 32 := c.isLt
  refine acc_store c (rows (inG g)) (Co.V.part 1 c) hw (fun i => ?_) ?_ h
  · rw [mem_rows (m := 128) ho rfl, mem_rows_of]
    have h0 : (i 0).val < 512 := (i 0).isLt
    exact Iff.symm ⟨fun hi => ⟨⟨(i 0).val / 16, by omega⟩, ⟨by show _ ≤ (i 0).val / 16; omega, by show (i 0).val / 16 < _; omega⟩, rfl⟩,
      fun ⟨j, hj, e⟩ => by have h1 := hj.1; have h2 := hj.2; omega⟩
  · have hopen := grp_write c (f := Co.V.red 0) (g := Co.V.part 1 c) (G := inG g) (p := fun j : Fin 32 => j.val ≠ c.val ∧ j.val < s.gw ∧ 8 * s.gp ≤ j.val)
      (p' := fun j : Fin 32 => j.val ≠ c.val ∧ j.val < s.gw ∧ 8 * (s.gp + 1) ≤ j.val) (q := fun j : Fin 32 => j.val ≠ c.val ∧ inG g j)
      (fun x => by have := x.isLt; rw [ne_val]; unfold inG; omega) (fun x h => by unfold inG; omega)
      (σ Co A c s .own) (σ Co A c { s with gp := s.gp + 1 } .own) (σ Co A c s .tk) (σ Co A c { s with gp := s.gp + 1 } .tk)
      (fun h => by
        have h1 := h.1; have h2 := h.2
        dsimp only [σ]
        refine ⟨?_, ?_, ?_, ?_⟩
        · rw [if_neg (by omega), if_pos hop, if_neg (by omega)]
        · rw [if_neg (by omega), if_pos hop, if_pos (by omega)]
        · rw [fam_round (0 : Fin 2) (p' := fun r : Fin 32 => r.val ≠ 0) (fun x => by
            have := x.1.isLt; have := x.2.isLt; rw [Fin.ext_iff]; show _ ↔ x.1.val = 0 ∧ _; omega)]
          rfl
        · exact fam_none (fun x => by have := x.1.isLt; omega) _)
      (fun h => by
        have h : ¬ (8 * g ≤ c.val ∧ c.val < 8 * g + 8) := h
        dsimp only [σ]
        refine ⟨?_, ?_⟩
        · by_cases hlt : c.val < 8 * s.gp
          · rw [if_pos hlt, if_pos (show c.val < 8 * (s.gp + 1) by omega)]
          · rw [if_neg hlt, if_neg (show ¬ c.val < 8 * (s.gp + 1) by omega)]
        · exact fam_congr (fun x => by have := x.1.isLt; omega) _)
      (fun x => by rw [ne_val]; exact and_comm)
    refine (St_open K Co A c s { s with gp := s.gp + 1 } {.own, .tk, .gt0, .pr1} ?_).trans ?_
    · intro x hx
      cases x <;> first | exact absurd (by decide) hx | rfl
    rw [bigSep_cons (by decide), bigSep_cons (by decide), bigSep_cons (by decide), bigSep_one,
      bigSep_cons (by decide), bigSep_cons (by decide), bigSep_cons (by decide), bigSep_one]
    generalize σ Co A c s .own = own at hopen ⊢
    generalize σ Co A c s .tk = tkn at hopen ⊢
    generalize σ Co A c { s with gp := s.gp + 1 } .own = own' at hopen ⊢
    generalize σ Co A c { s with gp := s.gp + 1 } .tk = tkn' at hopen ⊢
    dsimp only [σ]
    rw [fam_split (p := fun j : Fin 32 => j.val ≠ c.val ∧ j.val < 8 * (s.gp + 1) ∧ s.n ≤ 96 + j.val)
          (p₁ := fun j : Fin 32 => j.val ≠ c.val ∧ j.val < 8 * s.gp ∧ s.n ≤ 96 + j.val) (p₂ := fun j : Fin 32 => j.val ≠ c.val ∧ inG g j)
          (fun x => by unfold inG; omega) (fun x => by unfold inG; omega)]
    iintro ⟨-, ⟨H1, H2, H3, H4⟩, Hb⟩
    ihave H := hopen $$ [H1 H2 H3]
    · isplitl [H1]; · iexact H1
      isplitl [H2]; · iexact H2
      iexact H3
    icases H with ⟨H, Hb'⟩
    iexists _
    isplitl [H]; · iexact H
    iintro H
    ihave H := Hb' $$ H
    icases H with ⟨H1, H2, H3, H5⟩
    iapply Hb
    isplitl [H1]; · iexact H1
    isplitl [H2]; · iexact H2
    isplitl [H3]; · iexact H3
    isplitl [H4]; · iexact H4
    iexact H5

/-! ## Slots of the exchange buffer -/

/-- The slots a rectangle of the exchange buffer meets. -/
theorem mem_sca {m a : ℕ} {off sz : Fin 3 → ℕ} {inb} {i : Shape.Idx S32x16x512} (ho : off = ![a, 0, 0]) (hz : sz = ![m, 16, 512]) :
    i ∈ ((Memref.whole cc0_scratch3 : Memref sig .tc .vmem S32x16x512 .bf16).access (Rect.unit (s := S32x16x512) off sz inb)).set
      ↔ a ≤ (i 0).val ∧ (i 0).val < a + m := by
  subst ho; subst hz
  rw [show ((Memref.whole cc0_scratch3 : Memref sig .tc .vmem S32x16x512 .bf16).access (Rect.unit (s := S32x16x512) ![a, 0, 0] ![m, 16, 512] inb)).set
    = (Rect.unit (s := S32x16x512) ![a, 0, 0] ![m, 16, 512] inb).set from View.set_slice_whole _ _, Rect.mem_set_unit]
  constructor
  · intro h; have h0 := h 0; simpa using h0
  · intro h k
    have h1 : (i 1).val < 16 := (i 1).isLt
    have h2 : (i 2).val < 512 := (i 2).isLt
    fin_cases k
    · simpa using h
    · simpa using h1
    · exact ⟨Nat.zero_le _, by show (i 2).val < 0 + 512; omega⟩

/-- The elements of slot `j`. -/
theorem mem_slotB {i : Shape.Idx S32x16x512} {j : Fin 32} : i ∈ slotB j ↔ (i 0).val = j.val := by
  unfold slotB; simp only [Finset.mem_filter, Finset.mem_univ, _root_.true_and]

/-- The slots at which `p` holds. -/
def sls (p : Fin 32 → Prop) [DecidablePred p] : Finset (Shape.Idx S32x16x512) := (Finset.univ.filter p).biUnion slotB

/-- The slots of a set, one by one or together. -/
theorem slots_join (p : Fin 32 → Prop) [DecidablePred p] (f : Scat F) :
    fam p (fun j => scaP c (slotB j) f) = scaP c (sls p) f := by
  unfold fam scaP sls
  refine (pointsTo_biUnion _ _ fun j _ j' _ h => ?_).symm
  rw [Finset.disjoint_left]
  intro i hi hi'
  rw [mem_slotB] at hi hi'
  exact h (Fin.ext (hi.symm.trans hi'))

/-- Slot 0 is held at some contents. -/
theorem s0_any (s : Ctr) : σ Co A c s .s0 ⊢ slotAny (F := F) c 0 := by
  dsimp only [σ]
  split_ifs
  · exact .rfl
  · unfold slotAny
    iintro H
    iexists _; iexact H

/-- Slot 0 may be loaded if its value is not used. -/
theorem s0_dead {s : Ctr} {off : Fin 3 → ℕ} {inb hl} (ho : off = ![0, 0, 0]) {Q : (S1x16x512.Idx → Elt F .bf16) → sProp 𝕄}
    (h : ∀ v, St K Co A c s ⊢ Q v) :
    St K Co A c s ⊢ WP c (Prog.lift (.load (Memref.whole cc0_scratch3 : Memref sig .tc .vmem S32x16x512 .bf16) (Rect.unit (s := S32x16x512) off S1x16x512.size inb).toLoadRect hl)) Q := by
  refine step_load c (slotB 0) fullShare (fun _ => True) ?_ ?_ (fun f _ => h _)
  · refine (St_slot K Co A c s .s0).trans ?_
    dsimp only [σ]
    split_ifs
    · unfold slotAny scaP
      iintro ⟨⟨%f, H⟩, Hb⟩
      iexists f
      isplitr; · ipureintro; trivial
      isplitl [H]; · iexact H
      iintro H
      iapply Hb
      iexists f; iexact H
    · unfold scaP
      iintro ⟨H, Hb⟩
      iexists _
      isplitr; · ipureintro; trivial
      isplitl [H]; · iexact H
      iexact Hb
  · intro i hi
    have := (mem_sca (m := 1) ho rfl).mp hi
    exact mem_slotB.mpr (by show (i 0).val = 0; omega)

/-- The device's own block is stored in slot 0. -/
theorem s0_store {s : Ctr} {off : Fin 3 → ℕ} {inb hx hm} (ho : off = ![0, 0, 0]) {w : S1x16x512.Idx → Elt F .bf16} (zp' : ℕ) (hzp' : s.zp + 1 = zp') {Q : PUnit → sProp 𝕄}
    (hw : ((Memref.whole cc0_scratch3 : Memref sig .tc .vmem S32x16x512 .bf16).access (Rect.unit (s := S32x16x512) off S1x16x512.size inb)).read (Elt F) (slotC (Co.V.part s.zp) c) = w)
    (h : St K Co A c { s with zp := zp' } ⊢ Q ⟨⟩) :
    St K Co A c s ⊢ WP c (Prog.lift (.store (Memref.whole cc0_scratch3 : Memref sig .tc .vmem S32x16x512 .bf16) (Rect.unit (s := S32x16x512) off S1x16x512.size inb) w Finset.univ hx hm)) Q := by
  subst hzp'
  refine sca_store c (slotB 0) (slotC (Co.V.part s.zp) c) hw (fun i => ?_) ?_ h
  · rw [mem_sca (m := 1) ho rfl, mem_slotB]; show (i 0).val = 0 ↔ _; omega
  · refine (St_open K Co A c s { s with zp := s.zp + 1 } {.s0} (fun x hx => by cases x <;> first | exact absurd (by decide) hx | rfl)).trans ?_
    rw [bigSep_one, bigSep_one]
    have hany := s0_any Co A c s
    unfold slotAny at hany
    generalize σ Co A c s .s0 = S0 at hany ⊢
    dsimp only [σ]
    rw [if_neg (Nat.succ_ne_zero _), Nat.add_sub_cancel]
    iintro ⟨-, H, Hb⟩
    ihave H := hany $$ H
    icases H with ⟨%f, H⟩
    iexists f
    isplitl [H]; · iexact H
    iintro H
    iapply Hb
    iexact H

/-- Eight received slots, to be given back. -/
theorem sls_acc {s : Ctr} (k : Fin 2) (g : ℕ) (hg : g < 4) (hrv : 32 * k.val + 8 * g + 8 ≤ s.rv) (hn : s.n ≤ 64 + 64 * k.val) (hzp : s.zp = k.val + 1) :
    St K Co A c s ⊢ iprop(scaP c (sls (inG g)) (slotC (Co.V.part k.val) c) ∗ (scaP c (sls (inG g)) (slotC (Co.V.part k.val) c) -∗ St K Co A c s)) := by
  have hk := k.isLt
  refine (St_open K Co A c s s {.sl, .s0} (fun _ _ => rfl)).trans ?_
  rw [bigSep_cons (by decide), bigSep_one]
  have hs0 : σ Co A c s .s0 = scaP c (slotB 0) (slotC (Co.V.part k.val) c) := by
    dsimp only [σ]; rw [if_neg (by omega), hzp, Nat.add_sub_cancel]
  rw [hs0]
  dsimp only [σ]
  rw [fam_split (p := fun x : KR => x.2.val ≠ 0 ∧ 32 * x.1.val + x.2.val < s.rv ∧ (x.1.val = 0 → s.n ≤ 64 + (32 - x.2.val) % 32))
      (p₁ := fun x : KR => x.1 = k ∧ (inG g x.2 ∧ x.2.val ≠ 0))
      (p₂ := fun x : KR => (x.2.val ≠ 0 ∧ 32 * x.1.val + x.2.val < s.rv ∧ (x.1.val = 0 → s.n ≤ 64 + (32 - x.2.val) % 32)) ∧ ¬ (x.1 = k ∧ (inG g x.2 ∧ x.2.val ≠ 0)))
      (fun x => by have := x.1.isLt; have := x.2.isLt; rw [Fin.ext_iff]; unfold inG; omega) (fun x h h' => h'.2 h),
    fam_round k (p := fun x : KR => x.1 = k ∧ (inG g x.2 ∧ x.2.val ≠ 0)) (p' := fun r : Fin 32 => inG g r ∧ r.val ≠ 0) (fun x => Iff.rfl)]
  unfold slΦ
  rw [← slots_join]
  rcases Nat.eq_zero_or_pos g with hg0 | hg0
  · rw [fam_take (p := inG g) (p' := fun r : Fin 32 => inG g r ∧ r.val ≠ 0) 0
      (by have h0 : ((0 : Fin 32)).val = 0 := rfl; unfold inG; rw [h0]; omega) (fun x => by rw [ne_val]; exact Iff.rfl)]
    iintro ⟨-, ⟨⟨H1, H2⟩, H3⟩, Hb⟩
    isplitl [H1 H3]
    · isplitl [H3]; · iexact H3
      iexact H1
    iintro ⟨H3, H1⟩
    iapply Hb
    isplitl [H1 H2]
    · isplitl [H1]; · iexact H1
      iexact H2
    iexact H3
  · rw [fam_congr (p := inG g) (p' := fun r : Fin 32 => inG g r ∧ r.val ≠ 0) (fun x => by unfold inG; omega)]
    iintro ⟨-, ⟨⟨H1, H2⟩, H3⟩, Hb⟩
    isplitl [H1]; · iexact H1
    iintro H1
    iapply Hb
    isplitl [H1 H2]
    · isplitl [H1]; · iexact H1
      iexact H2
    iexact H3

/-- Eight slots of the exchange buffer are loaded. -/
theorem sls_load {s : Ctr} (k : Fin 2) (g : ℕ) (hg : g < 4) (hrv : 32 * k.val + 8 * g + 8 ≤ s.rv) (hn : s.n ≤ 64 + 64 * k.val) (hzp : s.zp = k.val + 1)
    {off : Fin 3 → ℕ} {inb hl} (ho : off = ![8 * g, 0, 0]) {Q : (S8x16x512.Idx → Elt F .bf16) → sProp 𝕄} {v : S8x16x512.Idx → Elt F .bf16}
    (hv : ((Memref.whole cc0_scratch3 : Memref sig .tc .vmem S32x16x512 .bf16).access (Rect.unit (s := S32x16x512) off S8x16x512.size inb)).read (Elt F) (slotC (Co.V.part k.val) c) = v)
    (h : St K Co A c s ⊢ Q v) :
    St K Co A c s ⊢ WP c (Prog.lift (.load (Memref.whole cc0_scratch3 : Memref sig .tc .vmem S32x16x512 .bf16) (Rect.unit (s := S32x16x512) off S8x16x512.size inb).toLoadRect hl)) Q := by
  have hk := k.isLt
  refine step_load c (sls (inG g)) fullShare (fun f => f = slotC (Co.V.part k.val) c) ?_ ?_ (fun f hf => ?_)
  · refine (sls_acc K Co A c k g hg hrv hn hzp).trans ?_
    unfold scaP
    iintro ⟨H, Hb⟩
    iexists _
    isplitr; · ipureintro; rfl
    isplitl [H]; · iexact H
    iexact Hb
  · intro i hi
    have hi := (mem_sca (m := 8) ho rfl).mp hi
    have h0 : (i 0).val < 32 := (i 0).isLt
    unfold sls
    exact Finset.mem_biUnion.mpr ⟨⟨(i 0).val, by omega⟩, Finset.mem_filter.mpr ⟨Finset.mem_univ _, by show 8 * g ≤ (i 0).val; omega, by show (i 0).val < _; omega⟩, mem_slotB.mpr rfl⟩
  · rw [hf, hv]; exact h

end Cert.KernelIdealProof

end
-- ==== Proof.KernelIdealGhost.lean ====
/-
What the launch deals: the protocol's cells and tokens, minted for the device that pays with them; the credit of every wait;
and the state every device enters the kernel with.
-/
module

public import proofs.«01_k».proof.Proof.KernelIdealLocal

@[expose] public section

noncomputable section

namespace Cert.KernelIdealProof

open Cert.KernelIdeal Cert.KernelIdeal.Gen Cert.Fam

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The kernel's own semaphores -/

def osem (x : Fin 4 × Fin 32) : SemLoc sig := .dma (dsem x.1 x.2)

/-- A family over an optional index: the member without one, and the others. -/
theorem bigSep_opt {M : Type} [URA M] {J : Type} [Fintype J] [DecidableEq J] (Φ : Option J → sProp M) :
    bigSep Finset.univ Φ = iprop(Φ none ∗ bigSep Finset.univ fun j => Φ (some j)) := by
  rw [show (Finset.univ : Finset (Option J)) = insert none (Finset.univ.map Function.Embedding.some) from by
    ext x; cases x <;> simp, bigSep_insert (by simp), bigSep_map]
  rfl

/-- The barrier is the one semaphore that outlives the call. -/
theorem unscopedSems0_eq (c : Dev nD) : (unscopedSems0 c : sProp 𝕄) = semVal (barC c) 0 := by
  unfold unscopedSems0; rw [bigSep_eq_bigSepL_of_eq [SemLoc.reg barS] (by decide) (by decide)]; rfl

/-- The cells of a device at zero: the barrier and the call's own semaphores. -/
theorem sems0_eq (c : Dev nD) :
    (bigSep Finset.univ fun k : CellK => semVal (kcell (c, k)) 0 : sProp 𝕄)
      = iprop(unscopedSems0 c ∗ Pipeline.ownSems0 (Ix := ℕ) (Name := ℕ) (U := UU) (Lvl := ℕ) (Val := Elt F) (τ := τ) osem c) := by
  rw [unscopedSems0_eq, bigSep_opt]; rfl

/-! ## Minting -/

def kCells : Finset (GSem nD τ sig) := Finset.univ.map ⟨kcell, kcell_inj⟩

/-- The tokens device `c` pays with: a barrier signal at each shift; and in each round one of each kind of transfer cell. -/
abbrev TokK : Type := Fin 32 ⊕ Fin 4 × KR
abbrev tokOf (x : Dev nD × TokK) : GSem nD τ sig × ℕ × Fin 32 := match x.2 with
  | .inl r => (barC (x.1 + r), 0, x.1)
  | .inr (0, k, j) => (sndC x.1 (j - x.1), k.val, 0)
  | .inr (1, k, j) => (rcvC j (j - x.1), k.val, 0)
  | .inr (2, k, r) => (gsnC x.1 r, k.val, 0)
  | .inr (3, k, r) => (grcC (x.1 + r) r, k.val, 0)

/-- Subtracting the same number is injective, -/
theorem sub_right_inj {a b c : Fin 32} (h : a - c = b - c) : a = b := by
  have h := congrArg Fin.val h
  rw [sub_val, sub_val] at h
  exact Fin.ext (by have := a.isLt; have := b.isLt; have := c.isLt; omega)
/-- subtracting from the same number is, -/
theorem sub_left_inj {a b c : Fin 32} (h : c - a = c - b) : a = b := by
  rw [← sub_sub_self c a, h, sub_sub_self]
/-- and adding to the same number is. -/
theorem add_left_inj' {a b c : Fin 32} (h : c + a = c + b) : a = b := by
  have h := congrArg Fin.val h
  rw [add_val, add_val] at h
  exact Fin.ext (by have := a.isLt; have := b.isLt; have := c.isLt; omega)
/-- Taking away and giving back. -/
theorem sub_add_cancel' (a b : Fin 32) : a - b + b = a := by
  refine Fin.ext ?_
  rw [add_val, sub_val]; have := a.isLt; have := b.isLt; omega

/-- Different tokens are of different duties. -/
theorem tokOf_inj : Function.Injective tokOf := by
  have hdev {g g' : GSem nD τ sig} (h : g = g') : g.1.1 = g'.1.1 := congrArg (fun g : GSem nD τ sig => g.1.1) h
  have hsem {a a' : Fin 4} {d d' : Dev nD} {r r' : Fin 32} (h : dmaC a d r = dmaC a' d' r') : a = a' ∧ d = d' ∧ r = r' := by
    have h2 : SemLoc.dma (dsem a r) = SemLoc.dma (dsem a' r') := congrArg Prod.snd h
    injection h2 with h2
    exact ⟨(dsem_inj h2).1, hdev h, (dsem_inj h2).2⟩
  have hk {k k' : Fin 2} (h : k.val = k'.val) : k = k' := Fin.ext h
  rintro ⟨c, r | ⟨a, k, r⟩⟩ ⟨c', r' | ⟨a', k', r'⟩⟩ h
  · have h1 : barC (c + r) = barC (c' + r') := congrArg Prod.fst h
    have h2 : c = c' := congrArg (fun x : GSem nD τ sig × ℕ × Fin 32 => x.2.2) h
    subst h2
    rw [add_left_inj' (hdev h1)]
  · exfalso
    have h1 := congrArg (fun x : GSem nD τ sig × ℕ × Fin 32 => x.1.2) h
    fin_cases a' <;> cases h1
  · exfalso
    have h1 := congrArg (fun x : GSem nD τ sig × ℕ × Fin 32 => x.1.2) h
    fin_cases a <;> cases h1
  · have hx := congrArg Prod.fst h
    have hy : k.val = k'.val := by
      have := congrArg (fun x : GSem nD τ sig × ℕ × Fin 32 => x.2.1) h
      fin_cases a <;> fin_cases a' <;> exact this
    have hk := hk hy
    subst hk
    fin_cases a <;> fin_cases a' <;> first
      | exact absurd (hsem hx).1 (by decide)
      | (obtain ⟨-, h1, h2⟩ := hsem hx
         first
         | (subst h1; subst h2; rfl)
         | (have h1 : c = c' := h1
            subst h1
            have h3 : r = r' := sub_right_inj h2
            subst h3; rfl)
         | (have h1 : r = r' := h1
            subst h1
            have h3 : c = c' := sub_left_inj h2
            subst h3; rfl)
         | (have h2 : r = r' := h2
            subst h2
            have h3 : c + r = c' + r := h1
            have h3 : c = c' := by rw [← add_sub_self c r, h3, add_sub_self]
            subst h3; rfl))

def kToks : Finset (GSem nD τ sig × ℕ × Fin 32) := Finset.univ.map ⟨tokOf, tokOf_inj⟩

def u₀ : UU := (initOf (Pipeline.cells cfgs cellOf_inj) (Pipeline.launchToks cfgs cellOf_inj), initOf kCells kToks)

/-- The tokens of device `c`. -/
def toks (c : Dev nD) : sProp 𝕄 := bigSep Finset.univ fun x : TokK => dutyTok ER (tokOf (c, x)).1 (tokOf (c, x)).2.1 (tokOf (c, x)).2.2

def poss (c : Dev nD) : sProp 𝕄 := bigSep Finset.univ fun k : CellK => atPos ER (kcell (c, k)) 0 ∅ 0

section Deal
variable (V : Vals F)

/-- What the launch element deals device `c`. -/
def G (c : Dev nD) : sProp 𝕄 :=
  iprop((bigSep Finset.univ fun k : CellK => roundState ER (rd V) (kcell (c, k)) 0)
    ∗ (bigSep Finset.univ fun k : CellK => reached ER (kcell (c, k)) 0) ∗ poss c ∗ toks c)

/-- The cells' invariants and the fact that every cell has reached round 0. -/
def recs (K : Dev nD × CellK → ℕ) : sProp 𝕄 :=
  iprop((bigSep Finset.univ fun x : Dev nD × CellK => cellInv ER (rd V) (K x) (kcell x))
    ∗ (bigSep Finset.univ fun x : Dev nD × CellK => reached ER (kcell x) 0))
instance recs_persistent (K) : BI.Persistent (recs V K) := by unfold recs; infer_instance

def G' (c : Dev nD) : sProp 𝕄 := iprop(∃ K, recs V K ∗ poss c ∗ toks c)

/-- The launch element deals every device its share. -/
theorem fund_cells : BI.own (ER (initOf kCells kToks)) ⊢ (|==> bigSep Finset.univ (G V) : sProp 𝕄) := by
  have hX (Φ : GSem nD τ sig → sProp 𝕄) : bigSep kCells Φ = bigSep Finset.univ fun c : Dev nD => bigSep Finset.univ fun k : CellK => Φ (kcell (c, k)) := by
    unfold kCells; rw [bigSep_map, bigSep_univ_prod]; rfl
  have hT : bigSep kToks (fun x => (dutyTok ER x.1 x.2.1 x.2.2 : sProp 𝕄)) = bigSep Finset.univ fun c : Dev nD => toks c := by
    unfold kToks; rw [bigSep_map, bigSep_univ_prod]; rfl
  iintro HX
  imod (Rounds.fund ER (rd V) kCells kToks) $$ HX with ⟨Hst, Hr, Hat, Htok⟩
  imodintro
  ihave Hst' := (Entails.of_eq (hX fun g => roundState ER (rd V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · unfold poss; iexact Hat'
  iexact Htok'

/-- A device's semaphores at zero become its cells. -/
theorem core_alloc (c : Dev nD) :
    iprop(Pipeline.ownSems0 (Ix := ℕ) (Name := ℕ) (U := UU) (Lvl := ℕ) (Val := Elt F) (τ := τ) osem c ∗ unscopedSems0 c ∗ G V c)
      ⊢ |={Set.univ}=> iprop((bigSep Finset.univ fun k => iprop(∃ κ : ℕ, cellInv ER (rd V) κ (kcell (c, k))))
          ∗ (bigSep Finset.univ fun k : CellK => reached ER (kcell (c, k)) 0) ∗ iprop(poss c ∗ toks c)) := by
  unfold G
  iintro ⟨Hos, Hus, Hst, Hr, Hat, Htok⟩
  ihave Hv := (Entails.of_eq (sems0_eq (F := F) c).symm) $$ [Hos Hus]
  · isplitl [Hus] <;> iassumption
  imod (show iprop((bigSep Finset.univ fun k : CellK => semVal (kcell (c, k)) 0) ∗ bigSep Finset.univ fun k : CellK => roundState ER (rd V) (kcell (c, k)) 0)
      ⊢ (|={Set.univ}=> bigSep Finset.univ fun k => iprop(∃ κ : ℕ, cellInv ER (rd V) κ (kcell (c, k))) : sProp 𝕄) from by
        rw [← bigSep_sep']
        exact (bigSep_mono fun k _ => (Rounds.body_intro ER (rd V) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

/-- The shares of all devices, sorted: the common facts, and each device's positions and tokens. -/
theorem regroup :
    (bigSep Finset.univ fun c : Dev nD => iprop((bigSep Finset.univ fun k => iprop(∃ κ : ℕ, cellInv ER (rd V) κ (kcell (c, k))))
          ∗ (bigSep Finset.univ fun k : CellK => reached ER (kcell (c, k)) 0) ∗ iprop(poss c ∗ toks c)) : sProp 𝕄)
      ⊢ bigSep Finset.univ (G' V) := by
  rw [bigSep_sep', bigSep_sep', ← bigSep_univ_prod (fun x : Dev nD × CellK => iprop(∃ κ : ℕ, cellInv ER (rd V) κ (kcell x))),
    ← bigSep_univ_prod (fun x : Dev nD × CellK => (reached ER (kcell x) 0 : sProp 𝕄))]
  iintro ⟨HI, #HR, Hrest⟩
  ihave HK := (BI.bigSep_exists_pi Finset.univ (fun (x : Dev nD × CellK) (κ : ℕ) => (cellInv ER (rd V) κ (kcell x) : sProp 𝕄))) $$ HI
  icases HK with ⟨%K, #HI⟩
  have h : iprop(recs V K ∗ bigSep Finset.univ fun c : Dev nD => iprop(poss c ∗ toks c)) ⊢ bigSep Finset.univ (G' V) :=
    (sep_mono_left (BI.bigSep_of_persistent Finset.univ (recs V K))).trans (by
      rw [← bigSep_sep']
      refine bigSep_mono fun c _ => ?_
      unfold G'
      have h : iprop(recs V K ∗ (poss c ∗ toks c)) ⊢ iprop(∃ K, recs V K ∗ poss c ∗ toks c) := by
        iintro H
        iexists K
        iexact H
      exact h)
  iapply h
  isplitr
  · unfold recs; isplitl; · iexact HI
    iexact HR
  · iexact Hrest

/-- All devices' semaphores and shares become the protocol's start on every device. -/
theorem glob : (bigSep Finset.univ fun c => iprop(Pipeline.ownSems0 (Ix := ℕ) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

end Deal

/-! ## The launch credit -/

/-- The credit device `c` waits with. -/
def due (c : Dev nD) : CellTallies nD τ sig ℕ :=
  tallyAt (barC c) 0 31 + ((∑ x : KR, if x.2 = 0 then 0 else tallyAt (rcvC c x.2) x.1.val N)
    + ∑ x : KR, if x.2 = 0 then 0 else tallyAt (grcC c x.2) x.1.val N)

/-- Summing by receivers or by senders, over shifts, -/
theorem sum_shift {B : Type} [AddCommMonoid B] (f : Fin 32 → Fin 32 → B) : (∑ d : Fin 32, ∑ r : Fin 32, f (d + r) r) = ∑ c : Fin 32, ∑ r : Fin 32, f c r := by
  rw [Finset.sum_comm, Finset.sum_comm (f := f)]
  refine Finset.sum_congr rfl fun r _ => ?_
  exact Equiv.sum_comp ⟨fun d => d + r, fun d => d - r, fun d => add_sub_self d r, fun d => sub_add_cancel' d r⟩ fun c => f c r
/-- and over the devices met, is the same. -/
theorem sum_meet {B : Type} [AddCommMonoid B] (f : Fin 32 → Fin 32 → B) : (∑ d : Fin 32, ∑ j : Fin 32, f j (j - d)) = ∑ c : Fin 32, ∑ r : Fin 32, f c r := by
  rw [Finset.sum_comm]
  refine Finset.sum_congr rfl fun j _ => ?_
  exact Equiv.sum_comp ⟨fun d => j - d, fun d => j - d, fun d => sub_sub_self j d, fun d => sub_sub_self j d⟩ fun r => f j r

/-- What a device owes at the start, by kinds of cells. -/
theorem O_zero (c : Dev nD) : O c 0 = (∑ r : Fin 32, if r = 0 then 0 else tallyAt (barC (c + r)) 0 1)
    + (∑ k : Fin 2, ((∑ j : Fin 32, if j - c = 0 then 0 else tallyAt (rcvC j (j - c)) k.val N)
      + ∑ r : Fin 32, if r = 0 then 0 else tallyAt (grcC (c + r) r) k.val N)) := by
  have h0 (r : Fin 32) : item c r.val = if r = 0 then 0 else tallyAt (barC (c + r)) 0 1 := by
    unfold item; rw [dv_at r.val r.val r.isLt r rfl (by have := r.isLt; omega), if_pos (by have := r.isLt; omega)]
  have hs (k : Fin 2) (j : Fin 32) (n : ℕ) (hn : n = 32 + 64 * k.val + j.val) : item c n = if j - c = 0 then 0 else tallyAt (rcvC j (j - c)) k.val N := by
    by_cases h : j = c
    · subst h
      rw [if_pos (by refine Fin.ext ?_; rw [sub_val]; have := j.isLt; show _ = 0; omega)]
      unfold item
      rw [dv_at n j.val j.isLt j rfl (by have := k.isLt; have := j.isLt; omega), if_neg (by omega)]
      have := k.isLt; have := j.isLt
      rcases (by omega : k.val = 0 ∨ k.val = 1) with e | e
      · rw [if_pos (by omega), if_pos rfl]
      · rw [if_neg (by omega), if_neg (by omega), if_pos (by omega), if_pos rfl]
    · rw [if_neg (sub_ne h), item_scatter c k j h n hn]
  have hg (k : Fin 2) (r : Fin 32) (n : ℕ) (hn : n = 64 + 64 * k.val + r.val) : item c n = if r = 0 then 0 else tallyAt (grcC (c + r) r) k.val N := by
    by_cases h : r = 0
    · subst h
      rw [if_pos rfl]
      have := k.isLt
      have hn : n = 64 + 64 * k.val := hn
      unfold item
      rw [dv_at n 0 (by decide) 0 rfl (by omega), if_neg (by omega), if_neg (by omega)]
      rcases (by omega : k.val = 0 ∨ k.val = 1) with e | e
      · rw [if_pos (by omega), if_pos rfl]
      · rw [if_neg (by omega), if_neg (by omega), if_pos rfl]
    · rw [if_neg h, item_gather c k r h n hn]
  unfold O
  rw [Finset.filter_true_of_mem fun _ _ => Nat.zero_le _, show (160 : ℕ) = 32 + (32 + (32 + (32 + 32))) from rfl, Finset.sum_range_add, Finset.sum_range_add,
    Finset.sum_range_add, Finset.sum_range_add, Finset.sum_range, Finset.sum_range, Finset.sum_range, Finset.sum_range, Finset.sum_range, Fin.sum_univ_two]
  rw [Finset.sum_congr rfl fun r _ => h0 r, Finset.sum_congr rfl fun (r : Fin 32) _ => hs 0 r (32 + r.val) (by simp),
    Finset.sum_congr rfl fun (r : Fin 32) _ => hg 0 r (32 + (32 + r.val)) (by simp; omega),
    Finset.sum_congr rfl fun (r : Fin 32) _ => hs 1 r (32 + (32 + (32 + r.val))) (by simp; omega),
    Finset.sum_congr rfl fun (r : Fin 32) _ => hg 1 r (32 + (32 + (32 + (32 + r.val)))) (by simp; omega)]
  simp only [add_assoc]

/-- A sum that leaves out some places is the sum over the others. -/
theorem sum_ne {I B : Type} [Fintype I] [AddCommMonoid B] (p : I → Prop) [DecidablePred p] (f : I → B) :
    (∑ x : I, if p x then 0 else f x) = ∑ x ∈ Finset.univ.filter (fun x => ¬ p x), f x := by
  rw [Finset.sum_filter]
  exact Finset.sum_congr rfl fun x _ => by split_ifs <;> rfl

/-- All that the devices owe is all that they wait for. -/
theorem due_sum : (∑ d : Dev nD, O d 0) = ∑ d : Dev nD, due d := by
  have hb (c : Dev nD) : (∑ r : Fin 32, if r = 0 then 0 else tallyAt (barC c) 0 1 : CellTallies nD τ sig ℕ) = tallyAt (barC c) 0 31 := by
    rw [sum_ne, Finset.sum_const,
      show (Finset.univ.filter fun r : Fin 32 => ¬ r = 0).card = 31 from by decide]
    refine funext fun g => Finsupp.ext fun i => ?_
    rw [Pi.smul_apply, Finsupp.smul_apply, tallyAt_apply, tallyAt_apply]
    split_ifs <;> rfl
  rw [Finset.sum_congr rfl fun d _ => O_zero d]
  unfold due
  rw [Finset.sum_add_distrib, Finset.sum_add_distrib, Finset.sum_add_distrib]
  refine congr (congrArg _ ?_) ?_
  · rw [sum_shift fun c r => if r = 0 then 0 else tallyAt (barC c) 0 1]
    exact Finset.sum_congr rfl fun c _ => hb c
  rw [Finset.sum_comm]
  simp only [Fintype.sum_prod_type]
  rw [Finset.sum_comm (f := fun (d : Dev nD) (k : Fin 2) => ∑ r : Fin 32, if r = 0 then 0 else tallyAt (rcvC d r) k.val N),
    Finset.sum_comm (f := fun (d : Dev nD) (k : Fin 2) => ∑ r : Fin 32, if r = 0 then 0 else tallyAt (grcC d r) k.val N), ← Finset.sum_add_distrib]
  refine Finset.sum_congr rfl fun k _ => ?_
  rw [Finset.sum_add_distrib]
  exact congr (congrArg _ (sum_meet fun c r => if r = 0 then 0 else tallyAt (rcvC c r) k.val N))
    (sum_shift fun c r => if r = 0 then 0 else tallyAt (grcC c r) k.val N)

/-- The credit of a sum is the family of credits. -/
theorem cred_fam {I : Type} [Fintype I] [DecidableEq I] (s : Finset I) (f : I → CellTallies nD τ sig ℕ) :
    (cred (∑ x ∈ s, f x) : sProp 𝕄) = bigSep s fun x => cred (f x) := by
  induction s using Finset.induction_on with
  | empty => rw [Finset.sum_empty, bigSep_empty]; exact cred_zero
  | insert a s ha ih => rw [Finset.sum_insert ha, bigSep_insert ha, ← ih]; exact equiv_eq (cred_add _ _)

/-- A device waits on its own cells only. -/
theorem due_core (d : Dev nD) (g : GSem nD τ sig) (h : due d g ≠ 0) : g.1 = (d.tc : Thread nD τ) := by
  by_contra hg
  refine h (Finsupp.ext fun i => ?_)
  have hz (sm : SemLoc sig) (k n : ℕ) : (tallyAt (cell d sm) k n : CellTallies nD τ sig ℕ) g i = 0 := by
    rw [tallyAt_apply, if_neg]; rintro ⟨rfl, -⟩; exact hg rfl
  unfold due
  simp only [Pi.add_apply, Finsupp.add_apply, Finset.sum_apply, Finsupp.finsetSum_apply]
  rw [hz, Finset.sum_eq_zero fun x _ => ?_, Finset.sum_eq_zero fun x _ => ?_]
  · rfl
  · split_ifs
    · rfl
    · exact hz _ _ _
  · split_ifs
    · rfl
    · exact hz _ _ _

/-- The launch credit of a device, cell by cell. -/
theorem creds (c : Dev nD) : (Pipeline.launchCred (fun d => O d 0) c : sProp 𝕄)
    ⊢ iprop(cred (tallyAt (barC c) 0 31) ∗ fam (fun x : KR => x.2.val ≠ 0) (rcΦ c) ∗ fam (fun x : KR => x.2.val ≠ c.val) (gcΦ c)) := by
  have hf (f : KR → CellTallies nD τ sig ℕ) : (cred (∑ x : KR, if x.2 = 0 then 0 else f x) : sProp 𝕄) = fam (fun x : KR => x.2.val ≠ 0) fun x => cred (f x) := by
    rw [sum_ne, cred_fam]
    unfold fam
    rw [Finset.filter_congr fun (x : KR) _ => ne_val (x := x.2) (y := 0)]; rfl
  rw [Pipeline.launchCred_of_sum _ due due_sum due_core]
  unfold due
  have ha (a b : CellTallies nD τ sig ℕ) : (cred (a + b) : sProp 𝕄) = iprop(cred a ∗ cred b) := equiv_eq (cred_add a b)
  rw [ha, ha, hf fun x => tallyAt (rcvC c x.2) x.1.val N, hf fun x => tallyAt (grcC c x.2) x.1.val N]
  rw [fam_equiv (I := KR) (J := KR) ⟨fun x => (x.1, c - x.2), fun x => (x.1, c - x.2), fun x => by simp only [sub_sub_self], fun x => by simp only [sub_sub_self]⟩
    (p' := fun x : KR => x.2.val ≠ c.val) (fun x => by
      show x.2.val ≠ c.val ↔ (c - x.2).val ≠ 0
      rw [sub_val]; have := x.2.isLt; have hc : c.val < 32 := c.isLt; omega) fun x : KR => cred (tallyAt (grcC c x.2) x.1.val N)]
  exact .rfl

end Cert.KernelIdealProof

end
-- ==== Proof.KernelIdealEnds.lean ====
/-
The two ends of a device's program: the state it enters the kernel with, from what the launch deals it and its buffers; and what
its last state gives back, every cell closed at zero and every buffer whole.
-/
module

public import proofs.«01_k».proof.Proof.KernelIdealGhost

@[expose] public section

noncomputable section

namespace Cert.KernelIdealProof

open Cert.KernelIdeal Cert.KernelIdeal.Gen Cert.Fam

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- The first counters, and the last. -/
abbrev ctr0 : Ctr := ⟨1, 0, 0, 0, 0, 0, 0, 0, 0, 0, 0, 0, 0⟩
abbrev ctrN : Ctr := ⟨160, 1, 64, 64, 64, 64, 2, 2, 2, 4, 8, 4, 4⟩

/-- A family over everything contains any part of it. -/
theorem fam_of_univ {M : Type} [URA M] {I : Type} [Fintype I] [DecidableEq I] (p : I → Prop) [DecidablePred p] (Φ : I → sProp M) :
    bigSep Finset.univ Φ ⊢ fam p Φ := bigSep_subset (Finset.subset_univ _)

section
variable (K : Dev nD × CellK → ℕ) (Co : Cont F) (A : Args F) (c : Dev nD)

/-- A buffer of device `c` at some contents. -/
def anyP (b : Ref sig .tc) : sProp 𝕄 := iprop(∃ f : b.ty.Contents (Elt F), bufP c b f)

/-- A buffer at any contents has no element that must be written yet. -/
theorem any_part (b : Ref sig .tc) (d : b.ty.shape.Idx → Prop) (f : b.ty.Contents (Elt F)) (h : ∀ i, ¬ d i) : anyP c b ⊢ partP c b d f := by
  unfold anyP partP
  iintro ⟨%g, H⟩
  iexists g
  isplitr
  · ipureintro; exact fun i hi => absurd hi (h i)
  · iexact H

/-- A buffer written in part is a buffer at some contents. -/
theorem part_any (b : Ref sig .tc) (d : b.ty.shape.Idx → Prop) (f : b.ty.Contents (Elt F)) : partP c b d f ⊢ anyP c b := by
  unfold anyP partP
  iintro ⟨%g, -, H⟩
  iexists g; iexact H

/-- A buffer written everywhere holds the contents. -/
theorem part_full (b : Ref sig .tc) (d : b.ty.shape.Idx → Prop) (f : b.ty.Contents (Elt F)) (h : ∀ i, d i) : partP c b d f ⊢ bufP c b f := by
  unfold partP
  iintro ⟨%g, %hg, H⟩
  obtain rfl : g = f := funext fun i => hg i (h i)
  iexact H

/-- The exchange buffer is its 32 slots. -/
theorem sls_all : sls (fun _ => True) = Finset.univ := by
  ext i
  unfold sls
  simp only [Finset.mem_biUnion, Finset.mem_filter, Finset.mem_univ, _root_.true_and, mem_slotB, iff_true]
  exact ⟨⟨(i 0).val, (i 0).isLt⟩, rfl⟩
/-- The exchange buffer is its 32 slots. -/
theorem sca_whole (f : Scat F) : bufP c cc0_scratch3 f = bigSep Finset.univ fun r => scaP c (slotB r) f := by
  rw [← fam_univ (p := fun _ : Fin 32 => True) (fun _ => trivial), slots_join, sls_all]; rfl
/-- All blocks together are all rows. -/
theorem rows_all : rows (fun _ => True) = Finset.univ := by
  ext i
  rw [mem_rows_of]
  have h : (i 0).val < 512 := (i 0).isLt
  simp only [Finset.mem_univ, iff_true]
  exact ⟨⟨(i 0).val / 16, by omega⟩, trivial, rfl⟩
/-- The accumulator is its 32 blocks. -/
theorem acc_whole (f : Acc F) : bufP c cc0_scratch1 f = bigSep Finset.univ fun j => accP c (rowsB j) fullShare f := by
  rw [← fam_univ (p := fun _ : Fin 32 => True) (fun _ => trivial), blocks_join, rows_all]; rfl
/-- A family over the 32 devices or shifts: one member and the others. -/
theorem fam_one (a : Fin 32) {p : Fin 32 → Prop} [DecidablePred p] (hp : ∀ x, p x ↔ x ≠ a) (Φ : Fin 32 → sProp 𝕄) :
    bigSep Finset.univ Φ = iprop(Φ a ∗ fam p Φ) := by
  rw [← fam_univ (p := fun _ : Fin 32 => True) (fun _ => trivial)]
  exact fam_take a trivial (fun x => by rw [hp]; exact ⟨fun h => ⟨trivial, h⟩, fun h => h.2⟩) Φ

/-- The exchange buffer taken apart into the slots the peers will write into. -/
theorem slots_deal : anyP c cc0_scratch3 ⊢ iprop(slotAny (F := F) c 0 ∗ fam (fun r : Fin 32 => r.val ≠ 0) fun r => slotAny (F := F) c (-r)) := by
  have h (f : Scat F) : bufP c cc0_scratch3 f ⊢ iprop(slotAny (F := F) c 0 ∗ fam (fun r : Fin 32 => r.val ≠ 0) fun r => slotAny (F := F) c (-r)) := by
    rw [sca_whole, fam_one (0 : Fin 32) (p := fun r : Fin 32 => r.val ≠ 0) (fun x => (ne_val (x := x) (y := 0)).symm),
      fam_equiv (I := Fin 32) (J := Fin 32) ⟨fun r => -r, fun r => -r, fun r => neg_neg_self r, fun r => neg_neg_self r⟩
        (p' := fun r : Fin 32 => r.val ≠ 0) (fun x => by
          show x.val ≠ 0 ↔ (-x).val ≠ 0
          rw [neg_val]; have := x.isLt; omega)]
    have e (r : Fin 32) : scaP c (slotB r) f ⊢ slotAny (F := F) c r := by unfold slotAny; iintro H; iexists f; iexact H
    exact BI.sep_mono (e 0) (fam_mono _ fun r _ => e (-r))
  unfold anyP
  iintro ⟨%f, H⟩
  iapply (h f) $$ H

/-- The tokens of device `c`, by the program's loops. -/
theorem toks_deal : toks (F := F) c ⊢ iprop((fam (fun r : Fin 32 => r.val ≠ 0) fun r => dutyTok ER (barC (c + r)) 0 c)
    ∗ fam (fun x : KR => x.2.val ≠ c.val) (stΦ c) ∗ fam (fun x : KR => x.2.val ≠ 0) (gtΦ c)) := by
  unfold toks
  have h4 (Φ : Fin 4 → sProp 𝕄) : bigSep Finset.univ Φ = iprop(Φ 0 ∗ Φ 1 ∗ Φ 2 ∗ Φ 3) :=
    bigSep_univ_eq_bigSepL [(0 : Fin 4), 1, 2, 3] (by decide) (by decide) Φ
  rw [bigSep_univ_sum, bigSep_univ_prod, h4]
  unfold stΦ gtΦ
  rw [fam_sep, fam_sep]
  refine BIClass.sep_mono (fam_of_univ _ _) ?_
  iintro ⟨H0, H1, H2, H3⟩
  isplitl [H0 H1]
  · isplitl [H0]
    · iapply (fam_of_univ (I := KR) _ _) $$ H0
    · iapply (fam_of_univ (I := KR) _ _) $$ H1
  · isplitl [H2]
    · iapply (fam_of_univ (I := KR) _ _) $$ H2
    · iapply (fam_of_univ (I := KR) _ _) $$ H3

/-- A family over the cells of device `c`, by the program's loops. -/
theorem cells_deal (Φ : GSem nD τ sig → sProp 𝕄) : (bigSep Finset.univ fun k : CellK => Φ (kcell (c, k))) = iprop(Φ (barC c) ∗ (bigSep Finset.univ fun a : Fin 4 => Φ (dmaC a c 0))
    ∗ (fam (fun r : Fin 32 => r.val ≠ 0) fun r => Φ (sndC c r)) ∗ (fam (fun r : Fin 32 => r.val ≠ 0) fun r => Φ (rcvC c r))
    ∗ (fam (fun r : Fin 32 => r.val ≠ 0) fun r => Φ (gsnC c r)) ∗ (fam (fun j : Fin 32 => j.val ≠ c.val) fun j => Φ (grcC c (c - j)))) := by
  have h4 (Φ : Fin 4 → sProp 𝕄) : bigSep Finset.univ Φ = iprop(Φ 0 ∗ Φ 1 ∗ Φ 2 ∗ Φ 3) :=
    bigSep_univ_eq_bigSepL [(0 : Fin 4), 1, 2, 3] (by decide) (by decide) Φ
  have e (a : Fin 4) : (bigSep Finset.univ fun r : Fin 32 => Φ (dmaC a c r))
      = iprop(Φ (dmaC a c 0) ∗ fam (fun r : Fin 32 => r.val ≠ 0) fun r => Φ (dmaC a c r)) :=
    fam_one (0 : Fin 32) (fun x => (ne_val (x := x) (y := 0)).symm) _
  rw [bigSep_opt, bigSep_univ_prod, h4 fun a => bigSep Finset.univ fun r : Fin 32 => Φ (kcell (c, some (a, r))),
    h4 fun a => Φ (dmaC a c 0)]
  rw [show (bigSep Finset.univ fun r : Fin 32 => (Φ (kcell (c, some (0, r))) : sProp 𝕄)) = _ from e 0,
    show (bigSep Finset.univ fun r : Fin 32 => (Φ (kcell (c, some (1, r))) : sProp 𝕄)) = _ from e 1,
    show (bigSep Finset.univ fun r : Fin 32 => (Φ (kcell (c, some (2, r))) : sProp 𝕄)) = _ from e 2,
    show (bigSep Finset.univ fun r : Fin 32 => (Φ (kcell (c, some (3, r))) : sProp 𝕄)) = _ from e 3,
    fam_equiv (I := Fin 32) (J := Fin 32) ⟨fun r => c - r, fun r => c - r, fun r => sub_sub_self c r, fun r => sub_sub_self c r⟩
      (p' := fun j : Fin 32 => j.val ≠ c.val) (fun x => by
        show x.val ≠ c.val ↔ (c - x).val ≠ 0
        rw [sub_val]; have := x.isLt; have hc : c.val < 32 := c.isLt; omega) fun r => Φ (dmaC 3 c r)]
  refine equiv_eq ⟨?_, ?_⟩
  · iintro ⟨HB, ⟨H0, G0⟩, ⟨H1, G1⟩, ⟨H2, G2⟩, ⟨H3, G3⟩⟩
    isplitl [HB]; · iexact HB
    isplitl [H0 H1 H2 H3]
    · isplitl [H0]; · iexact H0
      isplitl [H1]; · iexact H1
      isplitl [H2]; · iexact H2
      iexact H3
    isplitl [G0]; · iexact G0
    isplitl [G1]; · iexact G1
    isplitl [G2]; · iexact G2
    iexact G3
  · iintro ⟨HB, ⟨H0, H1, H2, H3⟩, G0, G1, G2, G3⟩
    isplitl [HB]; · iexact HB
    isplitl [H0 G0]
    · isplitl [H0] <;> iassumption
    isplitl [H1 G1]
    · isplitl [H1] <;> iassumption
    isplitl [H2 G2]
    · isplitl [H2] <;> iassumption
    isplitl [H3] <;> iassumption

/-- Positions at round 0, with that round reached. -/
theorem pos_start {p : Fin 32 → Prop} [DecidablePred p] (f : Fin 32 → Fin 4 × Fin 32) (g : Fin 32 → ℕ) :
    iprop(recs Co.V K ∗ fam p fun r => atPos ER (kcell (c, some (f r))) 0 ∅ 0) ⊢ fam p fun r => posP (F := F) (kcell (c, some (f r))) (cnt 0 (g r)) := by
  unfold fam
  refine (sep_mono_left (BI.bigSep_of_persistent (Finset.univ.filter p) (recs Co.V K))).trans ?_
  rw [← bigSep_sep']
  refine bigSep_mono fun r _ => ?_
  have h : recs Co.V K ⊢ reached ER (kcell (c, some (f r))) 0 := by
    have h : (bigSep Finset.univ fun x : Dev nD × CellK => (reached ER (kcell x) 0 : sProp 𝕄)) ⊢ reached ER (kcell (c, some (f r))) 0 :=
      bigSep_elim (Finset.mem_univ (c, some (f r)))
    unfold recs
    iintro ⟨-, H⟩
    iapply h $$ H
  have h2 : iprop(recs Co.V K ∗ atPos ER (kcell (c, some (f r))) 0 ∅ 0) ⊢ posP (F := F) (kcell (c, some (f r))) (cnt 0 (g r)) := by
    unfold posP
    rw [show cnt 0 (g r) = 0 from by unfold cnt; rw [if_neg (by omega), if_neg (by omega)]]
    iintro ⟨H, Ha⟩
    isplitl [Ha]; · iexact Ha
    iapply h $$ H
  exact h2

/-- The slots of a state, one after another. -/
theorem slots_eq (Φ : Slot → sProp 𝕄) : slots Φ = iprop(Φ .ow ∗ Φ .sg ∗ Φ .br ∗ Φ .st ∗ Φ .gt ∗ Φ .ds ∗ Φ .sc ∗ Φ .ac ∗ Φ .rc ∗ Φ .gc ∗ Φ .p0 ∗ Φ .p1 ∗ Φ .p2 ∗ Φ .p3 ∗ Φ .gd ∗ Φ .sl ∗ Φ .s0 ∗ Φ .raw ∗ Φ .pr0 ∗ Φ .gt0 ∗ Φ .pr1 ∗ Φ .gt1 ∗ Φ .own ∗ Φ .tk ∗ Φ .att ∗ Φ .x1 ∗ Φ .out ∗ Φ .args ∗ Φ .z0) :=
  bigSep_univ_eq_bigSepL [Slot.ow, .sg, .br, .st, .gt, .ds, .sc, .ac, .rc, .gc, .p0, .p1, .p2, .p3, .gd, .sl, .s0, .raw, .pr0, .gt0, .pr1, .gt1, .own, .tk,
    .att, .x1, .out, .args, .z0] (by decide) (by decide) Φ

/-- What device `c` enters its program with. -/
theorem enter {W} :
    iprop(recs Co.V K ∗ (poss c ∗ toks c) ∗ Lev ∗ Pipeline.launchCred (fun d => O d 0) c ∗ owes (c : Thread nD τ) (O c 0) W
      ∗ (anyP c cc0_scratch0 ∗ anyP c cc0_scratch1 ∗ anyP c cc0_scratch2 ∗ anyP c cc0_scratch3) ∗ anyP c cc0_stg9_0 ∗ argsP c A) ⊢ St K Co A c ctr0 := by
  have hO : O c 0 = O c 1 := O_skip c 0 (by omega) (by unfold item; rw [if_pos (by omega), if_pos (by rfl)])
  have hacc : anyP (F := F) c cc0_scratch1 ⊢ iprop(∃ f, accP c (rawS 0) fullShare f) := by
    have : rawS 0 = Finset.univ := by unfold rawS; exact Finset.filter_true_of_mem fun i _ => by omega
    rw [this]; exact .rfl
  have e_ds : σ Co A c ctr0 .ds = iprop(emp) := fam_none (fun x => by have := x.1.isLt; dsimp only; omega) _
  have e_sc : σ Co A c ctr0 .sc = iprop(emp) := fam_none (fun x => by dsimp only; omega) _
  have e_ac : σ Co A c ctr0 .ac = iprop(emp) := fam_none (fun x => by dsimp only; omega) _
  have e_gd : σ Co A c ctr0 .gd = iprop(emp) := fam_none (fun x => by dsimp only; omega) _
  have e_sl : σ Co A c ctr0 .sl = iprop(emp) := fam_none (fun x => by dsimp only; omega) _
  have e_p0 : σ Co A c ctr0 .pr0 = iprop(emp) := fam_none (fun x => by dsimp only; omega) _
  have e_g0 : σ Co A c ctr0 .gt0 = iprop(emp) := fam_none (fun x => by dsimp only; omega) _
  have e_p1 : σ Co A c ctr0 .pr1 = iprop(emp) := fam_none (fun x => by dsimp only; omega) _
  have e_g1 : σ Co A c ctr0 .gt1 = iprop(emp) := fam_none (fun x => by dsimp only; omega) _
  have e_own : σ Co A c ctr0 .own = iprop(emp) := by dsimp only [σ]; rw [if_pos rfl, if_neg (by omega)]
  have e_tk : σ Co A c ctr0 .tk = iprop(emp) := fam_none (fun x => by dsimp only; omega) _
  have i_sg : iprop((fam (fun r : Fin 32 => r.val ≠ 0) fun r => dutyTok ER (barC (c + r)) 0 c) ∗ fam (fun r : Fin 32 => r.val ≠ 0) fun r => slotAny (F := F) c (-r))
      ⊢ σ Co A c ctr0 .sg := by
    rw [← fam_sep]; exact Entails.of_eq (fam_congr (fun x => by dsimp only; omega) _)
  have i_st : fam (fun x : KR => x.2.val ≠ c.val) (stΦ c) ⊢ σ Co A c ctr0 .st := Entails.of_eq (fam_congr (fun x => by dsimp only; omega) _)
  have i_gt : fam (fun x : KR => x.2.val ≠ 0) (gtΦ c) ⊢ σ Co A c ctr0 .gt := Entails.of_eq (fam_congr (fun x => by dsimp only; omega) _)
  have i_rc : fam (fun x : KR => x.2.val ≠ 0) (rcΦ c) ⊢ σ Co A c ctr0 .rc := Entails.of_eq (fam_congr (fun x => by simp) _)
  have i_gc : fam (fun x : KR => x.2.val ≠ c.val) (gcΦ c) ⊢ σ Co A c ctr0 .gc := Entails.of_eq (fam_congr (fun x => by simp) _)
  have i_ow : owes (c : Thread nD τ) (O c 0) W ⊢ σ Co A c ctr0 .ow := by dsimp only [σ]; rw [hO]; iintro H; iexists W; iexact H
  have i_br : iprop(cred (tallyAt (barC c) 0 31) ∗ atPos ER (barC c) 0 ∅ 0) ⊢ σ Co A c ctr0 .br := by dsimp only [σ]; rw [if_pos rfl]
  have i_s0 : slotAny (F := F) c 0 ⊢ σ Co A c ctr0 .s0 := by dsimp only [σ]; rw [if_pos rfl]
  have i_att : anyP c cc0_scratch0 ⊢ σ Co A c ctr0 .att := any_part c _ _ _ fun i h => absurd h (Nat.not_lt_zero _)
  have i_x1 : anyP c cc0_scratch2 ⊢ σ Co A c ctr0 .x1 := any_part c _ _ _ fun i h => absurd h (Nat.not_lt_zero _)
  have i_out : anyP c cc0_stg9_0 ⊢ σ Co A c ctr0 .out := any_part c _ _ _ fun i h => absurd h (Nat.not_lt_zero _)
  have i_p0 : (fam (fun r : Fin 32 => r.val ≠ 0) fun r => posP (F := F) (kcell (c, some (0, r))) (cnt 0 r.val)) ⊢ σ Co A c ctr0 .p0 := .rfl
  have i_p1 : (fam (fun r : Fin 32 => r.val ≠ 0) fun r => posP (F := F) (kcell (c, some (1, r))) (cnt 0 r.val)) ⊢ σ Co A c ctr0 .p1 := .rfl
  have i_p2 : (fam (fun r : Fin 32 => r.val ≠ 0) fun r => posP (F := F) (kcell (c, some (2, r))) (cnt 0 r.val)) ⊢ σ Co A c ctr0 .p2 := .rfl
  have i_p3 : (fam (fun j : Fin 32 => j.val ≠ c.val) fun j => posP (F := F) (kcell (c, some (3, c - j))) (cnt 0 j.val)) ⊢ σ Co A c ctr0 .p3 := .rfl
  have i_raw : anyP c cc0_scratch1 ⊢ σ Co A c ctr0 .raw := hacc
  have i_args : argsP c A ⊢ σ Co A c ctr0 .args := .rfl
  have i_z0 : (bigSep Finset.univ fun a : Fin 4 => (atPos ER (dmaC a c 0) 0 ∅ 0 : sProp 𝕄)) ⊢ σ Co A c ctr0 .z0 := .rfl
  unfold poss
  iintro ⟨#HR, ⟨Hat, Htok⟩, #HL, Hcr, HO, ⟨HT, HA, HX, HS⟩, HY, Hargs⟩
  ihave Hs := (slots_deal (F := F) c) $$ HS
  icases Hs with ⟨Hs0, Hss⟩
  ihave Ht := (toks_deal (F := F) c) $$ Htok
  icases Ht with ⟨Htb, Hts, Htg⟩
  ihave Hp := (Entails.of_eq (cells_deal c fun g => atPos ER g 0 ∅ 0)) $$ Hat
  icases Hp with ⟨Hpb, Hpz, Hp0, Hp1, Hp2, Hp3⟩
  ihave Hc := (creds (F := F) c) $$ Hcr
  icases Hc with ⟨Hcb, Hcr, Hcg⟩
  ihave Hq0 := (pos_start K Co c (fun r => (0, r)) fun r => r.val) $$ [Hp0]
  · isplitr; · iexact HR
    iexact Hp0
  ihave Hq1 := (pos_start K Co c (fun r => (1, r)) fun r => r.val) $$ [Hp1]
  · isplitr; · iexact HR
    iexact Hp1
  ihave Hq2 := (pos_start K Co c (fun r => (2, r)) fun r => r.val) $$ [Hp2]
  · isplitr; · iexact HR
    iexact Hp2
  ihave Hq3 := (pos_start K Co c (fun j => (3, c - j)) fun r => r.val) $$ [Hp3]
  · isplitr; · iexact HR
    iexact Hp3
  unfold St
  rw [slots_eq]
  rw [e_ds, e_sc, e_ac, e_gd, e_sl, e_p0, e_g0, e_p1, e_g1, e_own, e_tk]
  isplitr
  · unfold Pers recs
    icases HR with ⟨HR1, HR2⟩
    isplitr; · iexact HR1
    isplitr; · iexact HR2
    iexact HL
  isplitl [HO]; · iapply i_ow $$ HO
  isplitl [Htb Hss]
  · iapply i_sg; isplitl [Htb] <;> iassumption
  isplitl [Hcb Hpb]
  · iapply i_br; isplitl [Hcb] <;> iassumption
  isplitl [Hts]; · iapply i_st $$ Hts
  isplitl [Htg]; · iapply i_gt $$ Htg
  isplitr; · iempintro
  isplitr; · iempintro
  isplitr; · iempintro
  isplitl [Hcr]; · iapply i_rc $$ Hcr
  isplitl [Hcg]; · iapply i_gc $$ Hcg
  isplitl [Hq0]; · iapply i_p0 $$ Hq0
  isplitl [Hq1]; · iapply i_p1 $$ Hq1
  isplitl [Hq2]; · iapply i_p2 $$ Hq2
  isplitl [Hq3]; · iapply i_p3 $$ Hq3
  isplitr; · iempintro
  isplitr; · iempintro
  isplitl [Hs0]; · iapply i_s0 $$ Hs0
  isplitl [HA]; · iapply i_raw $$ HA
  isplitr; · iempintro
  isplitr; · iempintro
  isplitr; · iempintro
  isplitr; · iempintro
  isplitr; · iempintro
  isplitr; · iempintro
  isplitl [HT]; · iapply i_att $$ HT
  isplitl [HX]; · iapply i_x1 $$ HX
  isplitl [HY]; · iapply i_out $$ HY
  isplitl [Hargs]; · iapply i_args $$ Hargs
  iapply i_z0 $$ Hpz

/-- Cells with no round left, closed. -/
theorem close_fam (V : Vals F) {p : Fin 32 → Prop} [DecidablePred p] (f : Fin 32 → Fin 4 × Fin 32) (m : Fin 32 → ℕ)
    (h : ∀ r, p r → ∀ k, m r ≤ k → (rd V).duties (kcell (c, some (f r))) k = ∅) :
    iprop(Pers V K ∗ fam p fun r => atPos ER (kcell (c, some (f r))) (m r) ∅ 0)
      ⊢ |={Set.univ}=> fam p fun r => (semVal (kcell (c, some (f r))) 0 : sProp 𝕄) := by
  unfold fam
  refine (sep_mono_left (BI.bigSep_of_persistent (Finset.univ.filter p) (Pers V K))).trans ?_
  rw [← bigSep_sep']
  refine BI.Entails.trans (bigSep_mono fun r hr => ?_) (bigSep_fupd _ _)
  have h2 : iprop(Pers V K ∗ atPos ER (kcell (c, some (f r))) (m r) ∅ 0) ⊢ |={Set.univ}=> (semVal (kcell (c, some (f r))) 0 : sProp 𝕄) :=
    (sep_mono_left (Pers_inv V K (c, some (f r)))).trans
      (Rounds.cell_close ER (rd V) (Set.mem_univ _) (fun h => h) (R := m r) (h r (Finset.mem_filter.mp hr).2))
  exact h2

/-- A family of positions, written out. -/
theorem fam_pos {p : Fin 32 → Prop} [DecidablePred p] (g : Fin 32 → GSem nD τ sig) (m : Fin 32 → ℕ) :
    (fam p fun r => posP (F := F) (g r) (m r)) ⊢ fam p fun r => (atPos ER (g r) (m r) ∅ 0 : sProp 𝕄) := by
  refine fam_mono p fun r _ => ?_
  unfold posP
  iintro ⟨H, -⟩
  iexact H

/-- What device `c` leaves its program with. -/
theorem leave : St K Co A c ctrN ⊢ |={Set.univ}=> iprop((∃ W, owes (c : Thread nD τ) (0 : CellTallies nD τ sig ℕ) W) ∗ unscopedSems0 c
    ∗ Pipeline.ownSems0 (Ix := ℕ) (Name := ℕ) (U := UU) (Lvl := ℕ) (Val := Elt F) (τ := τ) osem c
    ∗ (anyP c cc0_scratch0 ∗ anyP c cc0_scratch1 ∗ anyP c cc0_scratch2 ∗ anyP c cc0_scratch3) ∗ bufP c cc0_stg9_0 Co.Y ∗ argsP c A) := by
  have hc32 : c.val < 32 := c.isLt
  have cn (r : Fin 32) : cnt 64 r.val = 2 := by have := r.isLt; unfold cnt; rw [if_pos (by omega), if_pos (by omega)]
  have o_ow : σ Co A c ctrN .ow ⊢ iprop(∃ W, owes (c : Thread nD τ) (0 : CellTallies nD τ sig ℕ) W) := by dsimp only [σ]; rw [O_end]
  have o_br : σ Co A c ctrN .br ⊢ atPos ER (barC c) 1 ∅ 0 := by dsimp only [σ]; iintro ⟨-, H⟩; iexact H
  have o_p0 : σ Co A c ctrN .p0 ⊢ fam (fun r : Fin 32 => r.val ≠ 0) fun r => (atPos ER (kcell (c, some (0, r))) (cnt 64 r.val) ∅ 0 : sProp 𝕄) := fam_pos _ _
  have o_p1 : σ Co A c ctrN .p1 ⊢ fam (fun r : Fin 32 => r.val ≠ 0) fun r => (atPos ER (kcell (c, some (1, r))) (cnt 64 r.val) ∅ 0 : sProp 𝕄) := fam_pos _ _
  have o_p2 : σ Co A c ctrN .p2 ⊢ fam (fun r : Fin 32 => r.val ≠ 0) fun r => (atPos ER (kcell (c, some (2, r))) (cnt 64 r.val) ∅ 0 : sProp 𝕄) := fam_pos _ _
  have o_p3 : σ Co A c ctrN .p3 ⊢ fam (fun j : Fin 32 => j.val ≠ c.val) fun j => (atPos ER (kcell (c, some (3, c - j))) (cnt 64 j.val) ∅ 0 : sProp 𝕄) := fam_pos _ _
  have o_s0 : σ Co A c ctrN .s0 ⊢ scaP c (slotB 0) (slotC (Co.V.part 1) c) := by dsimp only [σ]; rw [if_neg (by omega)]
  have o_sl : σ Co A c ctrN .sl ⊢ fam (fun r : Fin 32 => r.val ≠ 0) fun r => scaP c (slotB r) (slotC (Co.V.part 1) c) := by
    dsimp only [σ]
    rw [fam_round 1 (p' := fun r : Fin 32 => r.val ≠ 0) (fun x => by
      have h1 := x.1.isLt; have h2 := x.2.isLt
      rw [Fin.ext_iff (a := x.1)]; show _ ↔ x.1.val = 1 ∧ _
      omega)]
    exact .rfl
  have o_g1 : σ Co A c ctrN .gt1 ⊢ fam (fun j : Fin 32 => j.val ≠ c.val) fun j => accP c (rowsB j) fullShare (Co.V.red 1) := by
    dsimp only [σ]
    exact Entails.of_eq (fam_congr (fun x => by have := x.isLt; omega) _)
  have o_own : σ Co A c ctrN .own ⊢ restP c (Co.V.red 1) := by dsimp only [σ]; rw [if_neg (by omega), if_neg (by omega)]
  have o_tk : σ Co A c ctrN .tk ⊢ fam (fun r : Fin 32 => r.val ≠ 0) fun r => accP c (rowsB c) (tok r) (Co.V.red 1) := by
    dsimp only [σ]
    rw [fam_round 1 (p' := fun r : Fin 32 => r.val ≠ 0) (fun x => by
      have h1 := x.1.isLt; have h2 := x.2.isLt
      rw [Fin.ext_iff (a := x.1)]; show _ ↔ x.1.val = 1 ∧ _
      omega)]
    exact .rfl
  have o_att : σ Co A c ctrN .att ⊢ anyP c cc0_scratch0 := part_any c _ _ _
  have o_x1 : σ Co A c ctrN .x1 ⊢ anyP c cc0_scratch2 := part_any c _ _ _
  have o_out : σ Co A c ctrN .out ⊢ bufP c cc0_stg9_0 Co.Y := part_full c _ _ _ fun i => by
    have h0 : (i 0).val < 2 := (i 0).isLt
    have h1 : (i 1).val < 256 := (i 1).isLt
    show 2 * (i 0).val + (i 1).val / 128 < 4; omega
  have o_args : σ Co A c ctrN .args ⊢ argsP c A := .rfl
  have o_z0 : σ Co A c ctrN .z0 ⊢ bigSep Finset.univ fun a : Fin 4 => (atPos ER (dmaC a c 0) 0 ∅ 0 : sProp 𝕄) := .rfl
  have c_z0 : iprop(Pers Co.V K ∗ bigSep Finset.univ fun a : Fin 4 => (atPos ER (dmaC a c 0) 0 ∅ 0 : sProp 𝕄))
      ⊢ |={Set.univ}=> bigSep Finset.univ fun a : Fin 4 => (semVal (dmaC a c 0) 0 : sProp 𝕄) := by
    refine (sep_mono_left (BI.bigSep_of_persistent (Finset.univ : Finset (Fin 4)) (Pers Co.V K))).trans ?_
    rw [← bigSep_sep']
    refine BI.Entails.trans (bigSep_mono fun a _ => ?_) (bigSep_fupd _ _)
    have h2 : iprop(Pers Co.V K ∗ atPos ER (dmaC a c 0) 0 ∅ 0) ⊢ |={Set.univ}=> (semVal (dmaC a c 0) 0 : sProp 𝕄) :=
      (sep_mono_left (Pers_inv Co.V K (c, some (a, 0)))).trans
        (Rounds.cell_close ER (rd Co.V) (Set.mem_univ _) (fun h => h) (R := 0) (fun k _ => duties_dma_zero Co.V c a k))
    exact h2
  have c_br : iprop(Pers Co.V K ∗ atPos ER (barC c) 1 ∅ 0) ⊢ |={Set.univ}=> (semVal (barC c) 0 : sProp 𝕄) :=
    (sep_mono_left (Pers_inv Co.V K (c, none))).trans
      (Rounds.cell_close ER (rd Co.V) (Set.mem_univ _) (fun h => h) (R := 1) (fun k hk => duties_bar_later Co.V c k hk))
  have hacc : iprop((fam (fun j : Fin 32 => j.val ≠ c.val) fun j => accP c (rowsB j) fullShare (Co.V.red 1)) ∗ restP c (Co.V.red 1)
      ∗ fam (fun r : Fin 32 => r.val ≠ 0) fun r => accP c (rowsB c) (tok r) (Co.V.red 1)) ⊢ anyP c cc0_scratch1 := by
    rw [← own_split]
    unfold anyP
    iintro ⟨H1, H2⟩
    iexists Co.V.red 1
    iapply (Entails.of_eq ((acc_whole c (Co.V.red 1)).trans (fam_one c (p := fun j : Fin 32 => j.val ≠ c.val) (fun x => ne_val.symm) _)).symm)
    isplitl [H2] <;> iassumption
  have hsca : iprop(scaP c (slotB 0) (slotC (Co.V.part 1) c) ∗ fam (fun r : Fin 32 => r.val ≠ 0) fun r => scaP c (slotB r) (slotC (Co.V.part 1) c)) ⊢ anyP c cc0_scratch3 := by
    unfold anyP
    iintro H
    iexists slotC (Co.V.part 1) c
    iapply (Entails.of_eq ((sca_whole c (slotC (Co.V.part 1) c)).trans (fam_one (0 : Fin 32) (p := fun j : Fin 32 => j.val ≠ 0) (fun x => (ne_val (x := x) (y := 0)).symm) _)).symm)
    iexact H
  unfold St
  rw [slots_eq]
  iintro ⟨#HP, How, -, Hbr, -, -, -, -, -, -, -, Hp0, Hp1, Hp2, Hp3, -, Hsl, Hs0, -, -, -, -, Hg1, Hown, Htk, Hatt, Hx1, Hout, Hargs, Hz0⟩
  ihave Hbr := o_br $$ Hbr
  imod c_br $$ [Hbr] with Zb
  · isplitr; · iexact HP
    iexact Hbr
  ihave Hz0 := o_z0 $$ Hz0
  imod c_z0 $$ [Hz0] with Zz
  · isplitr; · iexact HP
    iexact Hz0
  ihave Hp0 := o_p0 $$ Hp0
  imod (close_fam K c Co.V (fun r => (0, r)) (fun r => cnt 64 r.val) fun r _ k hk => duties_dma_later Co.V c 0 r k (by rw [cn] at hk; exact hk)) $$ [Hp0] with Z0
  · isplitr; · iexact HP
    iexact Hp0
  ihave Hp1 := o_p1 $$ Hp1
  imod (close_fam K c Co.V (fun r => (1, r)) (fun r => cnt 64 r.val) fun r _ k hk => duties_dma_later Co.V c 1 r k (by rw [cn] at hk; exact hk)) $$ [Hp1] with Z1
  · isplitr; · iexact HP
    iexact Hp1
  ihave Hp2 := o_p2 $$ Hp2
  imod (close_fam K c Co.V (fun r => (2, r)) (fun r => cnt 64 r.val) fun r _ k hk => duties_dma_later Co.V c 2 r k (by rw [cn] at hk; exact hk)) $$ [Hp2] with Z2
  · isplitr; · iexact HP
    iexact Hp2
  ihave Hp3 := o_p3 $$ Hp3
  imod (close_fam K c Co.V (fun r => (3, c - r)) (fun r => cnt 64 r.val) fun r _ k hk => duties_dma_later Co.V c 3 (c - r) k (by rw [cn] at hk; exact hk)) $$ [Hp3] with Z3
  · isplitr; · iexact HP
    iexact Hp3
  imodintro
  isplitl [How]; · iapply o_ow $$ How
  ihave Z := (Entails.of_eq ((sems0_eq (F := F) c).symm.trans (cells_deal c fun g => semVal g 0)).symm) $$ [Zb Zz Z0 Z1 Z2 Z3]
  · isplitl [Zb]; · iexact Zb
    isplitl [Zz]; · iexact Zz
    isplitl [Z0]; · iexact Z0
    isplitl [Z1]; · iexact Z1
    isplitl [Z2]; · iexact Z2
    iexact Z3
  icases Z with ⟨Zu, Zo⟩
  isplitl [Zu]; · iexact Zu
  isplitl [Zo]; · iexact Zo
  isplitl [Hatt Hg1 Hown Htk Hx1 Hsl Hs0]
  · isplitl [Hatt]; · iapply o_att $$ Hatt
    isplitl [Hg1 Hown Htk]
    · iapply hacc
      isplitl [Hg1]; · iapply o_g1 $$ Hg1
      isplitl [Hown]; · iapply o_own $$ Hown
      iapply o_tk $$ Htk
    isplitl [Hx1]; · iapply o_x1 $$ Hx1
    iapply hsca
    isplitl [Hs0]; · iapply o_s0 $$ Hs0
    iapply o_sl $$ Hsl
  isplitl [Hout]; · iapply o_out $$ Hout
  iapply o_args $$ Hargs

end

end Cert.KernelIdealProof

end
-- ==== Proof.KernelIdealAuto.lean ====
/-
The steps of the kernel's body restated for counters written out as numerals: what each asks of them is decided by computation.
-/
module

public import proofs.«01_k».proof.Proof.KernelIdealLocal

@[expose] public section

noncomputable section

namespace Cert.KernelIdealProof

open Cert.KernelIdeal Cert.KernelIdeal.Gen Cert.Fam

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (K : Dev nD × CellK → ℕ) (Co : Cont F) (A : Args F) (c : Dev nD)

/-! ## The semaphores -/

variable (K : Dev nD × CellK → ℕ) (Co : Cont F) (A : Args F) (c : Dev nD) {n b rv gw sw aw ph zp op gp at_ xp yp : ℕ}

/-- Entry `r` of the array of scatter send semaphores. -/
theorem sem4 {off : Fin 1 → ℕ} {h} (r : Fin 32) (ho : off = ![r.val]) :
    ((cc0_scratch4.slice (Rect.unit (s := S32) off S1.size h)).squeeze S_ squeezes_S1_S_).sem = dsem 0 r := by
  subst ho; revert r; decide +kernel
/-- Entry `r` of the array of scatter receive semaphores. -/
theorem sem5 {off : Fin 1 → ℕ} {h} (r : Fin 32) (ho : off = ![r.val]) :
    ((cc0_scratch5.slice (Rect.unit (s := S32) off S1.size h)).squeeze S_ squeezes_S1_S_).sem = dsem 1 r := by
  subst ho; revert r; decide +kernel
/-- Entry `r` of the array of gather send semaphores. -/
theorem sem6 {off : Fin 1 → ℕ} {h} (r : Fin 32) (ho : off = ![r.val]) :
    ((cc0_scratch6.slice (Rect.unit (s := S32) off S1.size h)).squeeze S_ squeezes_S1_S_).sem = dsem 2 r := by
  subst ho; revert r; decide +kernel
/-- Entry `r` of the array of gather receive semaphores. -/
theorem sem7 {off : Fin 1 → ℕ} {h} (r : Fin 32) (ho : off = ![r.val]) :
    ((cc0_scratch7.slice (Rect.unit (s := S32) off S1.size h)).squeeze S_ squeezes_S1_S_).sem = dsem 3 r := by
  subst ho; revert r; decide +kernel

/-- One part of the body after another. -/
theorem step_seq {α β : Type} {P P' : sProp 𝕄} {p : Prog (TpuEff nD τ sig (Elt F) Λ₀ .tc) α} {k : α → Prog (TpuEff nD τ sig (Elt F) Λ₀ .tc) β} {v : α}
    {Q : β → sProp 𝕄} (h₁ : ∀ Q', (P' ⊢ Q' v) → (P ⊢ WP c p Q')) (h₂ : P' ⊢ WP c (k v) Q) : P ⊢ WP c (p >>= k) Q :=
  step_bind c (h₁ (fun a => WP c (k a) Q) h₂)

/-! ## The communication steps at counters in literal form -/

/-- Signalling the barrier of the device `n` further on makes the `n`-th payment. -/
theorem auto_signal {dst : Dev nD → ℕ} {lt : dst c < nD} {Q : PUnit → sProp 𝕄} (h0 : n ≠ 0) (h32 : n < 32) (hd : ∀ c : Dev nD, dst c = (c + (⟨n, h32⟩ : Fin 32)).val)
    (n' : ℕ) (hn' : n + 1 = n') (h : St K Co A c ⟨n', b, rv, gw, sw, aw, ph, zp, op, gp, at_, xp, yp⟩ ⊢ Q ⟨⟩) :
    St K Co A c ⟨n, b, rv, gw, sw, aw, ph, zp, op, gp, at_, xp, yp⟩ ⊢ WP c (semSignalWord (⟨dst c, lt⟩ : Dev nD) barS 1#32) Q :=
  step_signal K Co A c ⟨n, h32⟩ (Fin.ext (hd c)) h0 rfl n' hn' h

/-- A transfer every device starts or awaits but the one in whose turn it is. -/
theorem auto_skip {cnd : Dev nD → BitVec 1} (hcnd : ∀ c : Dev nD, cnd c = 1#1 ↔ c.val ≠ n % 32) (hR : n < 160 ∧ (n / 32 = 1 ∨ n / 32 = 3)) (n' : ℕ) (hn' : n + 1 = n')
    {p : cnd c = 1#1 → Prog (TpuEff nD τ sig (Elt F) Λ₀ .tc) PUnit} {Q : PUnit → sProp 𝕄}
    (ht : ∀ h, n % 32 ≠ c.val → (St K Co A c ⟨n, b, rv, gw, sw, aw, ph, zp, op, gp, at_, xp, yp⟩ ⊢ WP c (p h) fun _ => St K Co A c ⟨n', b, rv, gw, sw, aw, ph, zp, op, gp, at_, xp, yp⟩))
    (h : St K Co A c ⟨n', b, rv, gw, sw, aw, ph, zp, op, gp, at_, xp, yp⟩ ⊢ Q ⟨⟩) :
    St K Co A c ⟨n, b, rv, gw, sw, aw, ph, zp, op, gp, at_, xp, yp⟩ ⊢ WP c (if h : cnd c = 1#1 then p h else pure ⟨⟩) Q := by
  refine step_if c (fun h => ht h fun e => (hcnd c).mp h e.symm) (fun h => ?_) h
  refine step_pure c ?_
  have e : n % 32 = c.val := by
    by_contra hne
    exact h ((hcnd c).mpr fun e => hne e.symm)
  refine skip_n K Co A c ⟨n, b, rv, gw, sw, aw, ph, zp, op, gp, at_, xp, yp⟩ n' hn' hR.1 ?_ (.inr ⟨hR.2, e⟩)
  have hd : dv n = c := Fin.ext e
  show item c n = 0
  unfold item
  rcases hR.2 with e | e
  · rw [if_neg (by omega), if_pos e, if_pos hd]
  · rw [if_neg (by omega), if_neg (by omega), if_neg (by omega), if_pos e, if_pos hd]

/-- Waiting for a device's gathered block, where that device may be this one: then nothing is waited for. -/
theorem auto_skip_gw {cnd : Dev nD → BitVec 1} (hcnd : ∀ c : Dev nD, cnd c = 1#1 ↔ c.val ≠ gw % 32) (hR : gw < 64) (gw' : ℕ) (hgw' : gw + 1 = gw')
    {p : cnd c = 1#1 → Prog (TpuEff nD τ sig (Elt F) Λ₀ .tc) PUnit} {Q : PUnit → sProp 𝕄}
    (ht : ∀ h, gw % 32 ≠ c.val → (St K Co A c ⟨n, b, rv, gw, sw, aw, ph, zp, op, gp, at_, xp, yp⟩ ⊢ WP c (p h) fun _ => St K Co A c ⟨n, b, rv, gw', sw, aw, ph, zp, op, gp, at_, xp, yp⟩))
    (h : St K Co A c ⟨n, b, rv, gw', sw, aw, ph, zp, op, gp, at_, xp, yp⟩ ⊢ Q ⟨⟩) :
    St K Co A c ⟨n, b, rv, gw, sw, aw, ph, zp, op, gp, at_, xp, yp⟩ ⊢ WP c (if h : cnd c = 1#1 then p h else pure ⟨⟩) Q := by
  refine step_if c (fun h => ht h fun e => (hcnd c).mp h e.symm) (fun h => ?_) h
  refine step_pure c ?_
  have e : gw % 32 = c.val := by
    by_contra hne
    exact h ((hcnd c).mpr fun e => hne e.symm)
  exact skip_gw K Co A c ⟨n, b, rv, gw, sw, aw, ph, zp, op, gp, at_, xp, yp⟩ gw' hgw' (by show gw = c.val ∨ gw = 32 + c.val; omega)

/-- Starting the copy of a block of partial sums to another device. -/
theorem auto_scatter {Q : PUnit → sProp 𝕄} (hj : n % 32 ≠ c.val) {d : Dev nD} (hd : d.val = n % 32) (hR : n < 128 ∧ (n / 32 = 1 ∨ n / 32 = 3) ∧ b = 1 ∧ sw = 32 * (n / 96)
      ∧ (n / 96 = 0 → n % 32 < 16 * ph ∧ gp = 0 ∧ gw = 0) ∧ (n / 96 = 1 → n % 32 < 8 * gp ∧ n % 32 < gw ∧ gw ≤ 32))
    {o₁ : Dev nD → Fin 1 → ℕ} {h₁ h₂} {off : Dev nD → Fin 3 → ℕ} {off' : Fin 2 → ℕ} {inb inb'}
    (hs : ∀ c : Dev nD, o₁ c = ![((⟨n % 32, Nat.mod_lt _ (by decide)⟩ : Fin 32) - c).val])
    (ho : ∀ c : Dev nD, off c = ![((⟨n % 32, Nat.mod_lt _ (by decide)⟩ : Fin 32) - c).val, 0, 0]) (ho' : off' = ![16 * (n % 32), 0])
    {hsc : (slotM (off c) inb : Memref sig (Dev.tc d : Thread nD τ).2.kind .vmem S16x512 .bf16).view.ref.isScScratch = false}
    {w₁ w₂} {hty : DmaTarget.Typed .vmem (.dma ((cc0_scratch5.slice (Rect.unit (s := S32) (o₁ c) S1.size h₂)).squeeze S_ squeezes_S1_S_).sem) (.remote (Dev.tc d : Thread nD τ) (slotM (off c) inb : Memref sig .tc .vmem S16x512 .bf16) (.dma ((cc0_scratch4.slice (Rect.unit (s := S32) (o₁ c) S1.size h₁)).squeeze S_ squeezes_S1_S_).sem) hsc)}
    (n' : ℕ) (hn' : n + 1 = n') (h : St K Co A c ⟨n', b, rv, gw, sw, aw, ph, zp, op, gp, at_, xp, yp⟩ ⊢ Q ⟨⟩) :
    St K Co A c ⟨n, b, rv, gw, sw, aw, ph, zp, op, gp, at_, xp, yp⟩ ⊢ WP c (Prog.lift (.enqueueDma (blkM off' inb') (.remote (Dev.tc d : Thread nD τ) (slotM (off c) inb)
      (.dma ((cc0_scratch4.slice (Rect.unit (s := S32) (o₁ c) S1.size h₁)).squeeze S_ squeezes_S1_S_).sem) hsc)
      (.dma ((cc0_scratch5.slice (Rect.unit (s := S32) (o₁ c) S1.size h₂)).squeeze S_ squeezes_S1_S_).sem) w₁ w₂ hty)) Q :=
  step_scatter K Co A c ⟨n / 96, by omega⟩ ⟨n % 32, Nat.mod_lt _ (by decide)⟩ hj (Fin.ext hd) (sem4 _ (hs c)) (sem5 _ (hs c)) (ho c) ho'
    (by show n = 32 + 64 * (n / 96) + n % 32; omega) hR.2.2.1 hR.2.2.2.1 hR.2.2.2.2.1 hR.2.2.2.2.2 n' hn' h

/-- Starting the copy of the device's own reduced block to another device. -/
theorem auto_gather {Q : PUnit → sProp 𝕄} {dst : Dev nD → ℕ} {lt : dst c < nD} (hd : ∀ c : Dev nD, dst c = (c + (⟨n % 32, Nat.mod_lt _ (by decide)⟩ : Fin 32)).val)
    (hR : n < 160 ∧ (n / 32 = 2 ∨ n / 32 = 4) ∧ n % 32 ≠ 0 ∧ aw = 32 * (n / 128) ∧ op = n / 128 + 1 ∧ (n / 128 = 0 → gp = 0) ∧ rv = 32 * (n / 128) + 32)
    {o₁ : Fin 1 → ℕ} {h₁ h₂} {off : Dev nD → Fin 2 → ℕ} {inb}
    (hs : o₁ = ![n % 32]) (ho : ∀ c : Dev nD, off c = ![16 * c.val, 0])
    {hsc : (blkM (off c) inb : Memref sig (Dev.tc (⟨dst c, lt⟩ : Dev nD) : Thread nD τ).2.kind .vmem S16x512 .bf16).view.ref.isScScratch = false}
    {w₁ w₂} {hty : DmaTarget.Typed .vmem (.dma ((cc0_scratch7.slice (Rect.unit (s := S32) o₁ S1.size h₂)).squeeze S_ squeezes_S1_S_).sem) (.remote (Dev.tc (⟨dst c, lt⟩ : Dev nD) : Thread nD τ) (blkM (off c) inb : Memref sig .tc .vmem S16x512 .bf16) (.dma ((cc0_scratch6.slice (Rect.unit (s := S32) o₁ S1.size h₁)).squeeze S_ squeezes_S1_S_).sem) hsc)}
    (n' : ℕ) (hn' : n + 1 = n') (h : St K Co A c ⟨n', b, rv, gw, sw, aw, ph, zp, op, gp, at_, xp, yp⟩ ⊢ Q ⟨⟩) :
    St K Co A c ⟨n, b, rv, gw, sw, aw, ph, zp, op, gp, at_, xp, yp⟩ ⊢ WP c (Prog.lift (.enqueueDma (blkM (off c) inb) (.remote (Dev.tc (⟨dst c, lt⟩ : Dev nD) : Thread nD τ) (blkM (off c) inb)
      (.dma ((cc0_scratch6.slice (Rect.unit (s := S32) o₁ S1.size h₁)).squeeze S_ squeezes_S1_S_).sem) hsc)
      (.dma ((cc0_scratch7.slice (Rect.unit (s := S32) o₁ S1.size h₂)).squeeze S_ squeezes_S1_S_).sem) w₁ w₂ hty)) Q :=
  step_gather K Co A c ⟨n / 128, by omega⟩ ⟨n % 32, Nat.mod_lt _ (by decide)⟩ hR.2.2.1 (Fin.ext (hd c)) (sem6 _ hs) (sem7 _ hs) (ho c)
    (by show n = 64 + 64 * (n / 128) + n % 32; omega) hR.2.2.2.1 hR.2.2.2.2.1 hR.2.2.2.2.2.1 hR.2.2.2.2.2.2 n' hn' h

section Waits
variable {s₁ s₂ : Shape} {e₁ : EltTy} {sp sp' : Space} {src : Memref sig .tc sp' s₂ e₁} {dst : Memref sig .tc sp s₁ .bf16}

/-- Waiting for the block that the device `r` before sends. -/
theorem auto_recv {Q : PUnit → sProp 𝕄} (r : ℕ) {o : Fin 1 → ℕ} {h₁ w₁ w₂} (hs : o = ![r]) (hN : dst.view.dmaCredit = N)
    (hR : r < 32 ∧ r ≠ 0 ∧ n / 128 < 2 ∧ n = 64 + 64 * (n / 128) ∧ (rv = 32 * (n / 128) + r ∨ r = 1 ∧ rv = 32 * (n / 128))) (rv' : ℕ) (hrv' : 32 * (n / 128) + r + 1 = rv')
    (h : St K Co A c ⟨n, b, rv', gw, sw, aw, ph, zp, op, gp, at_, xp, yp⟩ ⊢ Q ⟨⟩) :
    St K Co A c ⟨n, b, rv, gw, sw, aw, ph, zp, op, gp, at_, xp, yp⟩ ⊢ WP c (Prog.lift (.waitDma2 ((cc0_scratch5.slice (Rect.unit (s := S32) o S1.size h₁)).squeeze S_ squeezes_S1_S_).sem src dst w₁ w₂)) Q := by
  have hgo : St K Co A c ⟨n, b, (32 * (n / 128) + r), gw, sw, aw, ph, zp, op, gp, at_, xp, yp⟩ ⊢ WP c (Prog.lift (.waitDma2 ((cc0_scratch5.slice (Rect.unit (s := S32) o S1.size h₁)).squeeze S_ squeezes_S1_S_).sem src dst w₁ w₂)) Q :=
    step_recv K Co A c ⟨n / 128, hR.2.2.1⟩ ⟨r, hR.1⟩ (sem5 _ hs) hN hR.2.1 rfl hR.2.2.2.1 rv' hrv' h
  rcases hR.2.2.2.2 with e | ⟨e, e'⟩
  · rw [e]; exact hgo
  · exact (skip_rv K Co A c ⟨n, b, rv, gw, sw, aw, ph, zp, op, gp, at_, xp, yp⟩ (32 * (n / 128) + r) (by show rv + 1 = _; omega) (by show rv = 0 ∨ rv = 32; omega)).trans hgo

/-- Waiting for a scatter copy of the device's own to have left. -/
theorem auto_send {Q : PUnit → sProp 𝕄} (r : ℕ) {o : Fin 1 → ℕ} {h₁ w₁ w₂} (hs : o = ![r]) (hN : dst.view.dmaCredit = N)
    (hR : r < 32 ∧ r ≠ 0 ∧ n / 128 < 2 ∧ 64 + 64 * (n / 128) ≤ n ∧ (sw = 32 * (n / 128) + r ∨ r = 1 ∧ sw = 32 * (n / 128))) (sw' : ℕ) (hsw' : 32 * (n / 128) + r + 1 = sw')
    (h : St K Co A c ⟨n, b, rv, gw, sw', aw, ph, zp, op, gp, at_, xp, yp⟩ ⊢ Q ⟨⟩) :
    St K Co A c ⟨n, b, rv, gw, sw, aw, ph, zp, op, gp, at_, xp, yp⟩ ⊢ WP c (Prog.lift (.waitDma2 ((cc0_scratch4.slice (Rect.unit (s := S32) o S1.size h₁)).squeeze S_ squeezes_S1_S_).sem src dst w₁ w₂)) Q := by
  have hgo : St K Co A c ⟨n, b, rv, gw, (32 * (n / 128) + r), aw, ph, zp, op, gp, at_, xp, yp⟩ ⊢ WP c (Prog.lift (.waitDma2 ((cc0_scratch4.slice (Rect.unit (s := S32) o S1.size h₁)).squeeze S_ squeezes_S1_S_).sem src dst w₁ w₂)) Q :=
    step_send K Co A c ⟨n / 128, hR.2.2.1⟩ ⟨r, hR.1⟩ (sem4 _ hs) hN hR.2.1 rfl hR.2.2.2.1 sw' hsw' h
  rcases hR.2.2.2.2 with e | ⟨e, e'⟩
  · rw [e]; exact hgo
  · exact (skip_sw K Co A c ⟨n, b, rv, gw, sw, aw, ph, zp, op, gp, at_, xp, yp⟩ (32 * (n / 128) + r) (by show sw + 1 = _; omega) (by show sw = 0 ∨ sw = 32; omega)).trans hgo

/-- Waiting for a gather copy of the device's own to have left. -/
theorem auto_gsn {Q : PUnit → sProp 𝕄} (r : ℕ) {o : Fin 1 → ℕ} {h₁ w₁ w₂} (hs : o = ![r]) (hN : dst.view.dmaCredit = N)
    (hR : r < 32 ∧ r ≠ 0 ∧ n / 128 < 2 ∧ 96 + 64 * (n / 128) ≤ n ∧ op = n / 128 + 1 ∧ (n / 128 = 0 → gp = 0) ∧ (aw = 32 * (n / 128) + r ∨ r = 1 ∧ aw = 32 * (n / 128)))
    (aw' : ℕ) (haw' : 32 * (n / 128) + r + 1 = aw')
    (h : St K Co A c ⟨n, b, rv, gw, sw, aw', ph, zp, op, gp, at_, xp, yp⟩ ⊢ Q ⟨⟩) :
    St K Co A c ⟨n, b, rv, gw, sw, aw, ph, zp, op, gp, at_, xp, yp⟩ ⊢ WP c (Prog.lift (.waitDma2 ((cc0_scratch6.slice (Rect.unit (s := S32) o S1.size h₁)).squeeze S_ squeezes_S1_S_).sem src dst w₁ w₂)) Q := by
  have hgo : St K Co A c ⟨n, b, rv, gw, sw, (32 * (n / 128) + r), ph, zp, op, gp, at_, xp, yp⟩ ⊢ WP c (Prog.lift (.waitDma2 ((cc0_scratch6.slice (Rect.unit (s := S32) o S1.size h₁)).squeeze S_ squeezes_S1_S_).sem src dst w₁ w₂)) Q :=
    step_gsn K Co A c ⟨n / 128, hR.2.2.1⟩ ⟨r, hR.1⟩ (sem6 _ hs) hN hR.2.1 rfl hR.2.2.2.1 hR.2.2.2.2.1 hR.2.2.2.2.2.1 aw' haw' h
  rcases hR.2.2.2.2.2.2 with e | ⟨e, e'⟩
  · rw [e]; exact hgo
  · exact (skip_aw K Co A c ⟨n, b, rv, gw, sw, aw, ph, zp, op, gp, at_, xp, yp⟩ (32 * (n / 128) + r) (by show aw + 1 = _; omega) (by show aw = 0 ∨ aw = 32; omega)).trans hgo

/-- Waiting for the reduced block of another device. -/
theorem auto_grc {Q : PUnit → sProp 𝕄} (hj : gw % 32 ≠ c.val) {o : Dev nD → Fin 1 → ℕ} {h₁ w₁ w₂}
    (hs : ∀ c : Dev nD, o c = ![(c - (⟨gw % 32, Nat.mod_lt _ (by decide)⟩ : Fin 32)).val]) (hN : dst.view.dmaCredit = N)
    (hR : gw < 64 ∧ 96 + 64 * (gw / 32) ≤ n ∧ (gw / 32 = 0 → n ≤ 96 + gw % 32 ∧ 8 * gp ≤ gw % 32)) (gw' : ℕ) (hgw' : gw + 1 = gw')
    (h : St K Co A c ⟨n, b, rv, gw', sw, aw, ph, zp, op, gp, at_, xp, yp⟩ ⊢ Q ⟨⟩) :
    St K Co A c ⟨n, b, rv, gw, sw, aw, ph, zp, op, gp, at_, xp, yp⟩ ⊢ WP c (Prog.lift (.waitDma2 ((cc0_scratch7.slice (Rect.unit (s := S32) (o c) S1.size h₁)).squeeze S_ squeezes_S1_S_).sem src dst w₁ w₂)) Q :=
  step_grc K Co A c ⟨gw / 32, by omega⟩ ⟨gw % 32, Nat.mod_lt _ (by decide)⟩ (sem7 _ (hs c)) hN hj (by show gw = 32 * (gw / 32) + gw % 32; omega) hR.2.1 hR.2.2 gw' hgw' h

end Waits

end Cert.KernelIdealProof

end
-- ==== Proof.KernelIdealOk.lean ====
/-
What the buffers of a device have to hold for its run, as equations between rectangles of them and the body's payloads; and the local
steps of the body restated for counters written out as numerals.
-/
module

public import proofs.«01_k».proof.Proof.KernelIdealAuto

@[expose] public section

noncomputable section

namespace Cert.KernelIdealProof

open Cert.KernelIdeal Cert.KernelIdeal.Gen Cert.Fam

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (K : Dev nD × CellK → ℕ) (Co : Cont F) (A : Args F) (c : Dev nD)

/-! ## What the buffers hold -/

/-- The elements of a rectangle of `cc0_scratch0`. -/
abbrev rdT (r : Rect S512x256) (f : (cc0_scratch0 : Ref sig .tc).ty.Contents (Elt F)) : r.shape.Idx → Elt F .f32 :=
  ((Memref.whole cc0_scratch0 : Memref sig .tc .vmem S512x256 .f32).access r).read (Elt F) f
/-- The elements of a rectangle of `cc0_scratch1`. -/
abbrev rdA (r : Rect S512x512) (f : (cc0_scratch1 : Ref sig .tc).ty.Contents (Elt F)) : r.shape.Idx → Elt F .bf16 :=
  ((Memref.whole cc0_scratch1 : Memref sig .tc .vmem S512x512 .bf16).access r).read (Elt F) f
/-- The elements of a rectangle of `cc0_scratch2`. -/
abbrev rdX (r : Rect S512x512) (f : (cc0_scratch2 : Ref sig .tc).ty.Contents (Elt F)) : r.shape.Idx → Elt F .f32 :=
  ((Memref.whole cc0_scratch2 : Memref sig .tc .vmem S512x512 .f32).access r).read (Elt F) f
/-- The elements of a rectangle of `cc0_scratch3`. -/
abbrev rdS (r : Rect S32x16x512) (f : (cc0_scratch3 : Ref sig .tc).ty.Contents (Elt F)) : r.shape.Idx → Elt F .bf16 :=
  ((Memref.whole cc0_scratch3 : Memref sig .tc .vmem S32x16x512 .bf16).access r).read (Elt F) f
/-- The elements of a rectangle of `cc0_stg9_0`. -/
abbrev rdY (r : Rect S2x256x512) (f : (cc0_stg9_0 : Ref sig .tc).ty.Contents (Elt F)) : r.shape.Idx → Elt F .f32 :=
  ((Memref.whole cc0_stg9_0 : Memref sig .tc .vmem S2x256x512 .f32).access r).read (Elt F) f
abbrev arg0 (A : Args F) : Vec F S2x256x512 .bf16 := A 0
abbrev arg1 (A : Args F) : Vec F S512x256 .bf16 := A 1
abbrev arg2 (A : Args F) : Vec F S512x256 .bf16 := A 2
abbrev arg3 (A : Args F) : Vec F S512x256 .bf16 := A 3
abbrev arg4 (A : Args F) : Vec F S256x512 .bf16 := A 4
abbrev arg5 (A : Args F) : Vec F S2x128 .bf16 := A 5
abbrev arg6 (A : Args F) : Vec F S128x3072 .bf16 := A 6
abbrev arg7 (A : Args F) : Vec F S512x64 .bf16 := A 7
abbrev arg8 (A : Args F) : Vec F S64x512 .bf16 := A 8

/-! The values the body computes from a device's arguments alone: the six modulation vectors, the input and its mean, and the projections. -/

section Values
variable (A : Args F)

abbrev v412 : FVec F S2x512 .f32 := k0_pay2 (arg5 A) (arg6 A)
abbrev v413 : FVec F S2x512 .f32 := k0_pay3 (arg5 A) (arg6 A)
abbrev v414 : FVec F S2x512 .f32 := k0_pay4 (arg5 A) (arg6 A)
abbrev v415 : FVec F S2x512 .f32 := k0_pay5 (arg5 A) (arg6 A)
abbrev v416 : FVec F S2x512 .f32 := k0_pay6 (arg5 A) (arg6 A)
abbrev v417 : FVec F S2x512 .f32 := k0_pay7 (arg5 A) (arg6 A)
abbrev v419 : FVec F S2x256x512 .bf16 := k0_pay8 (arg0 A)
abbrev v425 : FVec F S2x256x1 .bf16 := k0_pay9 (arg0 A)
abbrev v455 : FVec F S512x256 .f32 := k0_pay11 (v412 A) (v413 A) (v419 A) (v425 A) (arg1 A)
abbrev v458 : FVec F S512x256 .f32 := k0_pay12 (v412 A) (v413 A) (v419 A) (v425 A) (arg2 A)
abbrev v461 : FVec F S512x256 .f32 := k0_pay13 (v412 A) (v413 A) (v419 A) (v425 A) (arg3 A)
abbrev v463 : FVec F S256x512 .bf16 := k0_pay14 (arg4 A)
abbrev v2033 : FVec F S512x512 .bf16 := k0_pay40 (v419 A)
abbrev v2035 : FVec F S512x64 .bf16 := k0_pay41 (arg7 A)
abbrev v2037 : FVec F S64x512 .bf16 := k0_pay42 (arg8 A)

/-- The heads' tiles of the attention. -/
abbrev tile0 : FVec F S256x64 .f32 := k0_pay18 (k0_pay15 (v412 A) (v413 A) (v419 A) (v425 A) (arg1 A)) (k0_pay16 (v412 A) (v413 A) (v419 A) (v425 A) (arg3 A)) (k0_pay17 (v412 A) (v413 A) (v419 A) (v425 A) (arg2 A))
abbrev tile1 : FVec F S256x64 .f32 := k0_pay19 (v455 A) (v458 A) (v461 A)
abbrev tile2 : FVec F S256x64 .f32 := k0_pay22 (v461 A) (k0_pay20 (v455 A)) (k0_pay21 (v458 A))
abbrev tile3 : FVec F S256x64 .f32 := k0_pay23 (v455 A) (v458 A) (v461 A)
abbrev tile4 : FVec F S256x64 .f32 := k0_pay28 (k0_pay25 (v455 A)) (k0_pay26 (v461 A)) (k0_pay27 (v458 A))
abbrev tile5 : FVec F S256x64 .f32 := k0_pay29 (v455 A) (v458 A) (v461 A)
abbrev tile6 : FVec F S256x64 .f32 := k0_pay32 (v461 A) (k0_pay30 (v455 A)) (k0_pay31 (v458 A))
abbrev tile7 : FVec F S256x64 .f32 := k0_pay33 (v455 A) (v458 A) (v461 A)

/-- A reduced block from the four loads of its 32 summands. -/
abbrev redV (a b c d : Vec F S8x16x512 .bf16) : FVec F S16x512 .bf16 := k0_pay39 (k0_pay38 (k0_pay37 (k0_pay36 a) b) c) d
abbrev redV' (a b c d : Vec F S8x16x512 .bf16) : FVec F S16x512 .bf16 := k0_pay66 (k0_pay65 (k0_pay64 (k0_pay63 a) b) c) d

/-- The residual rows after the first exchange, from the reduced rows `y`, and the second exchange's partial sums. -/
abbrev resV0 (y : Vec F S128x512 .bf16) : FVec F S128x512 .f32 := k0_pay44 (v414 A) (v2033 A) y
abbrev resV1 (y : Vec F S128x512 .bf16) : FVec F S128x512 .f32 := k0_pay51 (v414 A) (v2033 A) y
abbrev resV2 (y : Vec F S128x512 .bf16) : FVec F S128x512 .f32 := k0_pay54 (v414 A) (v2033 A) y
abbrev resV3 (y : Vec F S128x512 .bf16) : FVec F S128x512 .f32 := k0_pay59 (v414 A) (v2033 A) y
abbrev ffV0 (y : Vec F S128x512 .bf16) : FVec F S128x512 .bf16 := k0_pay49 (k0_pay48 (v415 A) (v416 A) (v2035 A) (v2037 A) (k0_pay46 (v414 A) (v2033 A) y) (k0_pay47 (v414 A) (v2033 A) y))
abbrev ffV1 (y : Vec F S128x512 .bf16) : FVec F S128x512 .bf16 := k0_pay52 (v415 A) (v416 A) (v2035 A) (v2037 A) (k0_pay50 (v414 A) (v2033 A) y)
abbrev ffV2 (y : Vec F S128x512 .bf16) : FVec F S128x512 .bf16 := k0_pay57 (v415 A) (v416 A) (v2035 A) (v2037 A) (k0_pay53 (v414 A) (v2033 A) y) (k0_pay55 (v414 A) (v2033 A) y) (k0_pay56 (v414 A) (v2033 A) y)
abbrev ffV3 (y : Vec F S128x512 .bf16) : FVec F S128x512 .bf16 := k0_pay61 (v415 A) (v416 A) (v2035 A) (v2037 A) (k0_pay60 (v414 A) (v2033 A) y)
/-- The result's rows, from the residual rows `x` and the reduced rows `y`. -/
abbrev outV0 (x : Vec F S128x512 .f32) (y : Vec F S128x512 .bf16) : FVec F S1x128x512 .f32 := k0_pay68 (k0_pay67 (v417 A) x y)
abbrev outV1 (x : Vec F S128x512 .f32) (y : Vec F S128x512 .bf16) : FVec F S1x128x512 .f32 := k0_pay70 x (k0_pay69 (v417 A) y)
abbrev outV2 (x : Vec F S128x512 .f32) (y : Vec F S128x512 .bf16) : FVec F S1x128x512 .f32 := k0_pay72 x (k0_pay71 (v417 A)) y
abbrev outV3 (x : Vec F S128x512 .f32) (y : Vec F S128x512 .bf16) : FVec F S1x128x512 .f32 := k0_pay73 (v417 A) x y

end Values

/-- The contents agree with what the body of device `c`, run on the arguments `A`, loads and stores. -/
structure Ok (Co : Cont F) (A : Args F) (c : Dev nD) : Prop where
  t0 : rdT (Rect.unit (s := S512x256) ![0, 0] S256x64.size inb_S512x256_S256x64_0_0) Co.T = tile0 A
  t1 : rdT (Rect.unit (s := S512x256) ![0, 64] S256x64.size inb_S512x256_S256x64_0_64) Co.T = tile1 A
  t2 : rdT (Rect.unit (s := S512x256) ![0, 128] S256x64.size inb_S512x256_S256x64_0_128) Co.T = tile2 A
  t3 : rdT (Rect.unit (s := S512x256) ![0, 192] S256x64.size inb_S512x256_S256x64_0_192) Co.T = tile3 A
  t4 : rdT (Rect.unit (s := S512x256) ![256, 0] S256x64.size inb_S512x256_S256x64_256_0) Co.T = tile4 A
  t5 : rdT (Rect.unit (s := S512x256) ![256, 64] S256x64.size inb_S512x256_S256x64_256_64) Co.T = tile5 A
  t6 : rdT (Rect.unit (s := S512x256) ![256, 128] S256x64.size inb_S512x256_S256x64_256_128) Co.T = tile6 A
  t7 : rdT (Rect.unit (s := S512x256) ![256, 192] S256x64.size inb_S512x256_S256x64_256_192) Co.T = tile7 A
  p0 : rdA (Rect.unit (s := S512x512) ![0, 0] S256x512.size inb_S512x512_S256x512_0_0) (Co.V.part 0 c) = k0_pay24 (v463 A) (rdT (Rect.unit (s := S512x256) ![0, 0] S256x256.size inb_S512x256_S256x256_0_0) Co.T)
  p1 : rdA (Rect.unit (s := S512x512) ![256, 0] S256x512.size inb_S512x512_S256x512_256_0) (Co.V.part 0 c) = k0_pay34 (v463 A) (rdT (Rect.unit (s := S512x256) ![256, 0] S256x256.size inb_S512x256_S256x256_256_0) Co.T)
  s0 : rdS (Rect.unit (s := S32x16x512) ![0, 0, 0] S1x16x512.size inb_S32x16x512_S1x16x512_0_0_0) (slotC (Co.V.part 0) c) = k0_pay35 (rdA (Rect.unit (s := S512x512) (k0_off65 c) S16x512.size (k0_off65_inb c)) (Co.V.part 0 c))
  r0 : rdA (Rect.unit (s := S512x512) (k0_off65 c) S16x512.size (k0_off65_inb c)) (Co.V.red 0) = redV (rdS (Rect.unit (s := S32x16x512) ![0, 0, 0] S8x16x512.size inb_S32x16x512_S8x16x512_0_0_0) (slotC (Co.V.part 0) c)) (rdS (Rect.unit (s := S32x16x512) ![8, 0, 0] S8x16x512.size inb_S32x16x512_S8x16x512_8_0_0) (slotC (Co.V.part 0) c)) (rdS (Rect.unit (s := S32x16x512) ![16, 0, 0] S8x16x512.size inb_S32x16x512_S8x16x512_16_0_0) (slotC (Co.V.part 0) c)) (rdS (Rect.unit (s := S32x16x512) ![24, 0, 0] S8x16x512.size inb_S32x16x512_S8x16x512_24_0_0) (slotC (Co.V.part 0) c))
  s1 : rdS (Rect.unit (s := S32x16x512) ![0, 0, 0] S1x16x512.size inb_S32x16x512_S1x16x512_0_0_0) (slotC (Co.V.part 1) c) = k0_pay62 (rdA (Rect.unit (s := S512x512) (k0_off65 c) S16x512.size (k0_off65_inb c)) (Co.V.part 1 c))
  r1 : rdA (Rect.unit (s := S512x512) (k0_off65 c) S16x512.size (k0_off65_inb c)) (Co.V.red 1) = redV' (rdS (Rect.unit (s := S32x16x512) ![0, 0, 0] S8x16x512.size inb_S32x16x512_S8x16x512_0_0_0) (slotC (Co.V.part 1) c)) (rdS (Rect.unit (s := S32x16x512) ![8, 0, 0] S8x16x512.size inb_S32x16x512_S8x16x512_8_0_0) (slotC (Co.V.part 1) c)) (rdS (Rect.unit (s := S32x16x512) ![16, 0, 0] S8x16x512.size inb_S32x16x512_S8x16x512_16_0_0) (slotC (Co.V.part 1) c)) (rdS (Rect.unit (s := S32x16x512) ![24, 0, 0] S8x16x512.size inb_S32x16x512_S8x16x512_24_0_0) (slotC (Co.V.part 1) c))
  x0 : rdX (Rect.unit (s := S512x512) ![0, 0] S128x512.size inb_S512x512_S128x512_0_0) Co.X = resV0 A (rdA (Rect.unit (s := S512x512) ![0, 0] S128x512.size inb_S512x512_S128x512_0_0) (Co.V.red 0))
  f0 : rdA (Rect.unit (s := S512x512) ![0, 0] S128x512.size inb_S512x512_S128x512_0_0) (Co.V.part 1 c) = ffV0 A (rdA (Rect.unit (s := S512x512) ![0, 0] S128x512.size inb_S512x512_S128x512_0_0) (Co.V.red 0))
  y0 : rdY (Rect.unit (s := S2x256x512) ![0, 0, 0] S1x128x512.size inb_S2x256x512_S1x128x512_0_0_0) Co.Y = outV0 A (rdX (Rect.unit (s := S512x512) ![0, 0] S128x512.size inb_S512x512_S128x512_0_0) Co.X) (rdA (Rect.unit (s := S512x512) ![0, 0] S128x512.size inb_S512x512_S128x512_0_0) (Co.V.red 1))
  x1 : rdX (Rect.unit (s := S512x512) ![128, 0] S128x512.size inb_S512x512_S128x512_128_0) Co.X = resV1 A (rdA (Rect.unit (s := S512x512) ![128, 0] S128x512.size inb_S512x512_S128x512_128_0) (Co.V.red 0))
  f1 : rdA (Rect.unit (s := S512x512) ![128, 0] S128x512.size inb_S512x512_S128x512_128_0) (Co.V.part 1 c) = ffV1 A (rdA (Rect.unit (s := S512x512) ![128, 0] S128x512.size inb_S512x512_S128x512_128_0) (Co.V.red 0))
  y1 : rdY (Rect.unit (s := S2x256x512) ![0, 128, 0] S1x128x512.size inb_S2x256x512_S1x128x512_0_128_0) Co.Y = outV1 A (rdX (Rect.unit (s := S512x512) ![128, 0] S128x512.size inb_S512x512_S128x512_128_0) Co.X) (rdA (Rect.unit (s := S512x512) ![128, 0] S128x512.size inb_S512x512_S128x512_128_0) (Co.V.red 1))
  x2 : rdX (Rect.unit (s := S512x512) ![256, 0] S128x512.size inb_S512x512_S128x512_256_0) Co.X = resV2 A (rdA (Rect.unit (s := S512x512) ![256, 0] S128x512.size inb_S512x512_S128x512_256_0) (Co.V.red 0))
  f2 : rdA (Rect.unit (s := S512x512) ![256, 0] S128x512.size inb_S512x512_S128x512_256_0) (Co.V.part 1 c) = ffV2 A (rdA (Rect.unit (s := S512x512) ![256, 0] S128x512.size inb_S512x512_S128x512_256_0) (Co.V.red 0))
  y2 : rdY (Rect.unit (s := S2x256x512) ![1, 0, 0] S1x128x512.size inb_S2x256x512_S1x128x512_1_0_0) Co.Y = outV2 A (rdX (Rect.unit (s := S512x512) ![256, 0] S128x512.size inb_S512x512_S128x512_256_0) Co.X) (rdA (Rect.unit (s := S512x512) ![256, 0] S128x512.size inb_S512x512_S128x512_256_0) (Co.V.red 1))
  x3 : rdX (Rect.unit (s := S512x512) ![384, 0] S128x512.size inb_S512x512_S128x512_384_0) Co.X = resV3 A (rdA (Rect.unit (s := S512x512) ![384, 0] S128x512.size inb_S512x512_S128x512_384_0) (Co.V.red 0))
  f3 : rdA (Rect.unit (s := S512x512) ![384, 0] S128x512.size inb_S512x512_S128x512_384_0) (Co.V.part 1 c) = ffV3 A (rdA (Rect.unit (s := S512x512) ![384, 0] S128x512.size inb_S512x512_S128x512_384_0) (Co.V.red 0))
  y3 : rdY (Rect.unit (s := S2x256x512) ![1, 128, 0] S1x128x512.size inb_S2x256x512_S1x128x512_1_128_0) Co.Y = outV3 A (rdX (Rect.unit (s := S512x512) ![384, 0] S128x512.size inb_S512x512_S128x512_384_0) Co.X) (rdA (Rect.unit (s := S512x512) ![384, 0] S128x512.size inb_S512x512_S128x512_384_0) (Co.V.red 1))

/-! ## The local steps at counters in literal form -/

variable (K : Dev nD × CellK → ℕ) (Co : Cont F) (A : Args F) (c : Dev nD) {n b rv gw sw aw ph zp op gp at_ xp yp : ℕ}

/-- A load of argument 0 reads it. -/
theorem auto_arg0 {inb hl} {Q : Vec F S2x256x512 .bf16 → sProp 𝕄} (h : St K Co A c ⟨n, b, rv, gw, sw, aw, ph, zp, op, gp, at_, xp, yp⟩ ⊢ Q (arg0 A)) :
    St K Co A c ⟨n, b, rv, gw, sw, aw, ph, zp, op, gp, at_, xp, yp⟩ ⊢ WP c (Prog.lift (.load (Memref.whole cc0_stg0_0 : Memref sig .tc .vmem S2x256x512 .bf16) (Rect.unit (s := S2x256x512) ![0, 0, 0] S2x256x512.size inb).toLoadRect hl)) Q :=
  step_arg c (arg_acc K Co A c _ 0) (Memref.read_access_unit_zero (Elt F) cc0_stg0_0 (by funext k; fin_cases k <;> rfl) inb (A 0)) h

/-- A load of argument 1 reads it. -/
theorem auto_arg1 {inb hl} {Q : Vec F S512x256 .bf16 → sProp 𝕄} (h : St K Co A c ⟨n, b, rv, gw, sw, aw, ph, zp, op, gp, at_, xp, yp⟩ ⊢ Q (arg1 A)) :
    St K Co A c ⟨n, b, rv, gw, sw, aw, ph, zp, op, gp, at_, xp, yp⟩ ⊢ WP c (Prog.lift (.load (Memref.whole cc0_stg1_0 : Memref sig .tc .vmem S512x256 .bf16) (Rect.unit (s := S512x256) ![0, 0] S512x256.size inb).toLoadRect hl)) Q :=
  step_arg c (arg_acc K Co A c _ 1) (Memref.read_access_unit_zero (Elt F) cc0_stg1_0 (by funext k; fin_cases k <;> rfl) inb (A 1)) h

/-- A load of argument 2 reads it. -/
theorem auto_arg2 {inb hl} {Q : Vec F S512x256 .bf16 → sProp 𝕄} (h : St K Co A c ⟨n, b, rv, gw, sw, aw, ph, zp, op, gp, at_, xp, yp⟩ ⊢ Q (arg2 A)) :
    St K Co A c ⟨n, b, rv, gw, sw, aw, ph, zp, op, gp, at_, xp, yp⟩ ⊢ WP c (Prog.lift (.load (Memref.whole cc0_stg2_0 : Memref sig .tc .vmem S512x256 .bf16) (Rect.unit (s := S512x256) ![0, 0] S512x256.size inb).toLoadRect hl)) Q :=
  step_arg c (arg_acc K Co A c _ 2) (Memref.read_access_unit_zero (Elt F) cc0_stg2_0 (by funext k; fin_cases k <;> rfl) inb (A 2)) h

/-- A load of argument 3 reads it. -/
theorem auto_arg3 {inb hl} {Q : Vec F S512x256 .bf16 → sProp 𝕄} (h : St K Co A c ⟨n, b, rv, gw, sw, aw, ph, zp, op, gp, at_, xp, yp⟩ ⊢ Q (arg3 A)) :
    St K Co A c ⟨n, b, rv, gw, sw, aw, ph, zp, op, gp, at_, xp, yp⟩ ⊢ WP c (Prog.lift (.load (Memref.whole cc0_stg3_0 : Memref sig .tc .vmem S512x256 .bf16) (Rect.unit (s := S512x256) ![0, 0] S512x256.size inb).toLoadRect hl)) Q :=
  step_arg c (arg_acc K Co A c _ 3) (Memref.read_access_unit_zero (Elt F) cc0_stg3_0 (by funext k; fin_cases k <;> rfl) inb (A 3)) h

/-- A load of argument 4 reads it. -/
theorem auto_arg4 {inb hl} {Q : Vec F S256x512 .bf16 → sProp 𝕄} (h : St K Co A c ⟨n, b, rv, gw, sw, aw, ph, zp, op, gp, at_, xp, yp⟩ ⊢ Q (arg4 A)) :
    St K Co A c ⟨n, b, rv, gw, sw, aw, ph, zp, op, gp, at_, xp, yp⟩ ⊢ WP c (Prog.lift (.load (Memref.whole cc0_stg4_0 : Memref sig .tc .vmem S256x512 .bf16) (Rect.unit (s := S256x512) ![0, 0] S256x512.size inb).toLoadRect hl)) Q :=
  step_arg c (arg_acc K Co A c _ 4) (Memref.read_access_unit_zero (Elt F) cc0_stg4_0 (by funext k; fin_cases k <;> rfl) inb (A 4)) h

/-- A load of argument 5 reads it. -/
theorem auto_arg5 {inb hl} {Q : Vec F S2x128 .bf16 → sProp 𝕄} (h : St K Co A c ⟨n, b, rv, gw, sw, aw, ph, zp, op, gp, at_, xp, yp⟩ ⊢ Q (arg5 A)) :
    St K Co A c ⟨n, b, rv, gw, sw, aw, ph, zp, op, gp, at_, xp, yp⟩ ⊢ WP c (Prog.lift (.load (Memref.whole cc0_stg5_0 : Memref sig .tc .vmem S2x128 .bf16) (Rect.unit (s := S2x128) ![0, 0] S2x128.size inb).toLoadRect hl)) Q :=
  step_arg c (arg_acc K Co A c _ 5) (Memref.read_access_unit_zero (Elt F) cc0_stg5_0 (by funext k; fin_cases k <;> rfl) inb (A 5)) h

/-- A load of argument 6 reads it. -/
theorem auto_arg6 {inb hl} {Q : Vec F S128x3072 .bf16 → sProp 𝕄} (h : St K Co A c ⟨n, b, rv, gw, sw, aw, ph, zp, op, gp, at_, xp, yp⟩ ⊢ Q (arg6 A)) :
    St K Co A c ⟨n, b, rv, gw, sw, aw, ph, zp, op, gp, at_, xp, yp⟩ ⊢ WP c (Prog.lift (.load (Memref.whole cc0_stg6_0 : Memref sig .tc .vmem S128x3072 .bf16) (Rect.unit (s := S128x3072) ![0, 0] S128x3072.size inb).toLoadRect hl)) Q :=
  step_arg c (arg_acc K Co A c _ 6) (Memref.read_access_unit_zero (Elt F) cc0_stg6_0 (by funext k; fin_cases k <;> rfl) inb (A 6)) h

/-- A load of argument 7 reads it. -/
theorem auto_arg7 {inb hl} {Q : Vec F S512x64 .bf16 → sProp 𝕄} (h : St K Co A c ⟨n, b, rv, gw, sw, aw, ph, zp, op, gp, at_, xp, yp⟩ ⊢ Q (arg7 A)) :
    St K Co A c ⟨n, b, rv, gw, sw, aw, ph, zp, op, gp, at_, xp, yp⟩ ⊢ WP c (Prog.lift (.load (Memref.whole cc0_stg7_0 : Memref sig .tc .vmem S512x64 .bf16) (Rect.unit (s := S512x64) ![0, 0] S512x64.size inb).toLoadRect hl)) Q :=
  step_arg c (arg_acc K Co A c _ 7) (Memref.read_access_unit_zero (Elt F) cc0_stg7_0 (by funext k; fin_cases k <;> rfl) inb (A 7)) h

/-- A load of argument 8 reads it. -/
theorem auto_arg8 {inb hl} {Q : Vec F S64x512 .bf16 → sProp 𝕄} (h : St K Co A c ⟨n, b, rv, gw, sw, aw, ph, zp, op, gp, at_, xp, yp⟩ ⊢ Q (arg8 A)) :
    St K Co A c ⟨n, b, rv, gw, sw, aw, ph, zp, op, gp, at_, xp, yp⟩ ⊢ WP c (Prog.lift (.load (Memref.whole cc0_stg8_0 : Memref sig .tc .vmem S64x512 .bf16) (Rect.unit (s := S64x512) ![0, 0] S64x512.size inb).toLoadRect hl)) Q :=
  step_arg c (arg_acc K Co A c _ 8) (Memref.read_access_unit_zero (Elt F) cc0_stg8_0 (by funext k; fin_cases k <;> rfl) inb (A 8)) h

/-- The heads' buffer may be loaded anywhere if the value is not used; -/
theorem auto_att_dead {r : Rect S512x256} {hl} {Q : (r.shape.Idx → Elt F .f32) → sProp 𝕄} (h : ∀ v, St K Co A c ⟨n, b, rv, gw, sw, aw, ph, zp, op, gp, at_, xp, yp⟩ ⊢ Q v) :
    St K Co A c ⟨n, b, rv, gw, sw, aw, ph, zp, op, gp, at_, xp, yp⟩ ⊢ WP c (Prog.lift (.load (Memref.whole cc0_scratch0 : Memref sig .tc .vmem S512x256 .f32) r.toLoadRect hl)) Q :=
  part_dead c (St_slot K Co A c _ .att) h

/-- a half of it whose tiles are written is read; -/
theorem auto_att_load {off : Fin 2 → ℕ} {inb hl} {Q : Vec F S256x256 .f32 → sProp 𝕄} (q : ℕ) (ho : off = ![256 * q, 0]) (hd : 4 * q + 4 ≤ at_)
    (h : St K Co A c ⟨n, b, rv, gw, sw, aw, ph, zp, op, gp, at_, xp, yp⟩ ⊢ Q (rdT (Rect.unit (s := S512x256) off S256x256.size inb) Co.T)) :
    St K Co A c ⟨n, b, rv, gw, sw, aw, ph, zp, op, gp, at_, xp, yp⟩ ⊢ WP c (Prog.lift (.load (Memref.whole cc0_scratch0 : Memref sig .tc .vmem S512x256 .f32) (Rect.unit (s := S512x256) off S256x256.size inb).toLoadRect hl)) Q :=
  part_load c (St_slot K Co A c _ .att) (fun i hi => by
    subst ho
    rw [show ((Memref.whole cc0_scratch0 : Memref sig .tc .vmem S512x256 .f32).access (Rect.unit (s := S512x256) ![256 * q, 0] S256x256.size inb)).set
      = (Rect.unit (s := S512x256) ![256 * q, 0] S256x256.size inb).set from View.set_slice_whole _ _, Rect.mem_set_unit] at hi
    have h0 := hi 0
    have h1 : (i 1).val < 256 := (i 1).isLt
    have h2 : 256 * q ≤ (i 0).val ∧ (i 0).val < 256 * q + 256 := h0
    show 4 * ((i 0).val / 256) + (i 1).val / 64 < at_
    omega) rfl h

/-- and the next tile is stored. -/
theorem auto_att_store {off : Fin 2 → ℕ} {inb hx hm} {w : S256x64.Idx → Elt F .f32} {Q : PUnit → sProp 𝕄} (ho : off = ![256 * (at_ / 4), 64 * (at_ % 4)]) (a' : ℕ) (ha : at_ + 1 = a')
    (hw : rdT (Rect.unit (s := S512x256) off S256x64.size inb) Co.T = w) (h : St K Co A c ⟨n, b, rv, gw, sw, aw, ph, zp, op, gp, a', xp, yp⟩ ⊢ Q ⟨⟩) :
    St K Co A c ⟨n, b, rv, gw, sw, aw, ph, zp, op, gp, at_, xp, yp⟩ ⊢ WP c (Prog.lift (.store (Memref.whole cc0_scratch0 : Memref sig .tc .vmem S512x256 .f32) (Rect.unit (s := S512x256) off S256x64.size inb) w Finset.univ hx hm)) Q :=
  part_store c (att_open K Co A c ⟨n, b, rv, gw, sw, aw, ph, zp, op, gp, at_, xp, yp⟩ a' ha) (fun i hi => by
    subst ho
    by_cases hd : doneT at_ i
    · exact .inl hd
    · refine .inr ?_
      rw [show ((Memref.whole cc0_scratch0 : Memref sig .tc .vmem S512x256 .f32).access (Rect.unit (s := S512x256) ![256 * (at_ / 4), 64 * (at_ % 4)] S256x64.size inb)).set
        = (Rect.unit (s := S512x256) ![256 * (at_ / 4), 64 * (at_ % 4)] S256x64.size inb).set from View.set_slice_whole _ _, Rect.mem_set_unit]
      intro k
      have h1 : 4 * ((i 0).val / 256) + (i 1).val / 64 < a' := hi
      have h2 : ¬ 4 * ((i 0).val / 256) + (i 1).val / 64 < at_ := hd
      have h3 : (i 1).val < 256 := (i 1).isLt
      fin_cases k
      · show 256 * (at_ / 4) ≤ (i 0).val ∧ (i 0).val < 256 * (at_ / 4) + 256; omega
      · show 64 * (at_ % 4) ≤ (i 1).val ∧ (i 1).val < 64 * (at_ % 4) + 64; omega) hw h

/-- The residual may be loaded anywhere if the value is not used; -/
theorem auto_x1_dead {r : Rect S512x512} {hl} {Q : (r.shape.Idx → Elt F .f32) → sProp 𝕄} (h : ∀ v, St K Co A c ⟨n, b, rv, gw, sw, aw, ph, zp, op, gp, at_, xp, yp⟩ ⊢ Q v) :
    St K Co A c ⟨n, b, rv, gw, sw, aw, ph, zp, op, gp, at_, xp, yp⟩ ⊢ WP c (Prog.lift (.load (Memref.whole cc0_scratch2 : Memref sig .tc .vmem S512x512 .f32) r.toLoadRect hl)) Q :=
  part_dead c (St_slot K Co A c _ .x1) h

/-- it is read once written; -/
theorem auto_x1_load {r : Rect S512x512} {hl} {Q : (r.shape.Idx → Elt F .f32) → sProp 𝕄} (hd : ∀ i, doneX xp i)
    (h : St K Co A c ⟨n, b, rv, gw, sw, aw, ph, zp, op, gp, at_, xp, yp⟩ ⊢ Q (rdX r Co.X)) :
    St K Co A c ⟨n, b, rv, gw, sw, aw, ph, zp, op, gp, at_, xp, yp⟩ ⊢ WP c (Prog.lift (.load (Memref.whole cc0_scratch2 : Memref sig .tc .vmem S512x512 .f32) r.toLoadRect hl)) Q :=
  part_load c (St_slot K Co A c _ .x1) (fun i _ => hd i) rfl h

/-- and its next quarter is stored. -/
theorem auto_x1_store {off : Fin 2 → ℕ} {inb hx hm} {w : S128x512.Idx → Elt F .f32} {Q : PUnit → sProp 𝕄} (ho : off = ![128 * xp, 0]) (a' : ℕ) (ha : xp + 1 = a')
    (hw : rdX (Rect.unit (s := S512x512) off S128x512.size inb) Co.X = w) (h : St K Co A c ⟨n, b, rv, gw, sw, aw, ph, zp, op, gp, at_, a', yp⟩ ⊢ Q ⟨⟩) :
    St K Co A c ⟨n, b, rv, gw, sw, aw, ph, zp, op, gp, at_, xp, yp⟩ ⊢ WP c (Prog.lift (.store (Memref.whole cc0_scratch2 : Memref sig .tc .vmem S512x512 .f32) (Rect.unit (s := S512x512) off S128x512.size inb) w Finset.univ hx hm)) Q :=
  part_store c (x1_open K Co A c ⟨n, b, rv, gw, sw, aw, ph, zp, op, gp, at_, xp, yp⟩ a' ha) (fun i hi => by
    subst ho
    by_cases hd : doneX xp i
    · exact .inl hd
    · refine .inr ?_
      rw [show ((Memref.whole cc0_scratch2 : Memref sig .tc .vmem S512x512 .f32).access (Rect.unit (s := S512x512) ![128 * xp, 0] S128x512.size inb)).set
        = (Rect.unit (s := S512x512) ![128 * xp, 0] S128x512.size inb).set from View.set_slice_whole _ _, Rect.mem_set_unit]
      intro k
      have h1 : (i 0).val / 128 < a' := hi
      have h2 : ¬ (i 0).val / 128 < xp := hd
      have h3 : (i 1).val < 512 := (i 1).isLt
      fin_cases k
      · show 128 * xp ≤ (i 0).val ∧ (i 0).val < 128 * xp + 128; omega
      · show 0 ≤ (i 1).val ∧ (i 1).val < 0 + 512; omega) hw h

/-- The result may be loaded anywhere if the value is not used; -/
theorem auto_out_dead {r : Rect S2x256x512} {hl} {Q : (r.shape.Idx → Elt F .f32) → sProp 𝕄} (h : ∀ v, St K Co A c ⟨n, b, rv, gw, sw, aw, ph, zp, op, gp, at_, xp, yp⟩ ⊢ Q v) :
    St K Co A c ⟨n, b, rv, gw, sw, aw, ph, zp, op, gp, at_, xp, yp⟩ ⊢ WP c (Prog.lift (.load (Memref.whole cc0_stg9_0 : Memref sig .tc .vmem S2x256x512 .f32) r.toLoadRect hl)) Q :=
  part_dead c (St_slot K Co A c _ .out) h

/-- it is read once written; -/
theorem auto_out_load {r : Rect S2x256x512} {hl} {Q : (r.shape.Idx → Elt F .f32) → sProp 𝕄} (hd : ∀ i, doneY yp i)
    (h : St K Co A c ⟨n, b, rv, gw, sw, aw, ph, zp, op, gp, at_, xp, yp⟩ ⊢ Q (rdY r Co.Y)) :
    St K Co A c ⟨n, b, rv, gw, sw, aw, ph, zp, op, gp, at_, xp, yp⟩ ⊢ WP c (Prog.lift (.load (Memref.whole cc0_stg9_0 : Memref sig .tc .vmem S2x256x512 .f32) r.toLoadRect hl)) Q :=
  part_load c (St_slot K Co A c _ .out) (fun i _ => hd i) rfl h

/-- and its next quarter is stored. -/
theorem auto_out_store {off : Fin 3 → ℕ} {inb hx hm} {w : S1x128x512.Idx → Elt F .f32} {Q : PUnit → sProp 𝕄} (ho : off = ![yp / 2, 128 * (yp % 2), 0]) (a' : ℕ) (ha : yp + 1 = a')
    (hw : rdY (Rect.unit (s := S2x256x512) off S1x128x512.size inb) Co.Y = w) (h : St K Co A c ⟨n, b, rv, gw, sw, aw, ph, zp, op, gp, at_, xp, a'⟩ ⊢ Q ⟨⟩) :
    St K Co A c ⟨n, b, rv, gw, sw, aw, ph, zp, op, gp, at_, xp, yp⟩ ⊢ WP c (Prog.lift (.store (Memref.whole cc0_stg9_0 : Memref sig .tc .vmem S2x256x512 .f32) (Rect.unit (s := S2x256x512) off S1x128x512.size inb) w Finset.univ hx hm)) Q :=
  part_store c (out_open K Co A c ⟨n, b, rv, gw, sw, aw, ph, zp, op, gp, at_, xp, yp⟩ a' ha) (fun i hi => by
    subst ho
    by_cases hd : doneY yp i
    · exact .inl hd
    · refine .inr ?_
      rw [show ((Memref.whole cc0_stg9_0 : Memref sig .tc .vmem S2x256x512 .f32).access (Rect.unit (s := S2x256x512) ![yp / 2, 128 * (yp % 2), 0] S1x128x512.size inb)).set
        = (Rect.unit (s := S2x256x512) ![yp / 2, 128 * (yp % 2), 0] S1x128x512.size inb).set from View.set_slice_whole _ _, Rect.mem_set_unit]
      intro k
      have h1 : 2 * (i 0).val + (i 1).val / 128 < a' := hi
      have h2 : ¬ 2 * (i 0).val + (i 1).val / 128 < yp := hd
      have h3 : (i 1).val < 256 := (i 1).isLt
      have h4 : (i 2).val < 512 := (i 2).isLt
      fin_cases k
      · show yp / 2 ≤ (i 0).val ∧ (i 0).val < yp / 2 + 1; omega
      · show 128 * (yp % 2) ≤ (i 1).val ∧ (i 1).val < 128 * (yp % 2) + 128; omega
      · show 0 ≤ (i 2).val ∧ (i 2).val < 0 + 512; omega) hw h

/-- The half of the accumulator about to be written may be loaded if the value is not used; -/
theorem auto_raw_dead {off : Fin 2 → ℕ} {inb hl} {Q : Vec F S256x512 .bf16 → sProp 𝕄} (hs : off = ![256 * ph, 0]) (h : ∀ v, St K Co A c ⟨n, b, rv, gw, sw, aw, ph, zp, op, gp, at_, xp, yp⟩ ⊢ Q v) :
    St K Co A c ⟨n, b, rv, gw, sw, aw, ph, zp, op, gp, at_, xp, yp⟩ ⊢ WP c (Prog.lift (.load (Memref.whole cc0_scratch1 : Memref sig .tc .vmem S512x512 .bf16) (Rect.unit (s := S512x512) off S256x512.size inb).toLoadRect hl)) Q := acc_raw_dead K Co A c hs h

/-- and it is stored. -/
theorem auto_half_store {off : Fin 2 → ℕ} {inb hx hm} {w : S256x512.Idx → Elt F .bf16} {Q : PUnit → sProp 𝕄} (hs : off = ![256 * ph, 0]) (hR : ph < 2 ∧ op = 0 ∧ n ≤ 32 + 16 * ph)
    (ph' : ℕ) (hph' : ph + 1 = ph') (hw : rdA (Rect.unit (s := S512x512) off S256x512.size inb) (Co.V.part 0 c) = w) (h : St K Co A c ⟨n, b, rv, gw, sw, aw, ph', zp, op, gp, at_, xp, yp⟩ ⊢ Q ⟨⟩) :
    St K Co A c ⟨n, b, rv, gw, sw, aw, ph, zp, op, gp, at_, xp, yp⟩ ⊢ WP c (Prog.lift (.store (Memref.whole cc0_scratch1 : Memref sig .tc .vmem S512x512 .bf16) (Rect.unit (s := S512x512) off S256x512.size inb) w Finset.univ hx hm)) Q :=
  acc_half_store K Co A c hR.1 hR.2.1 hR.2.2 hs ph' hph' hw h

/-- Waiting for the barrier. -/
theorem auto_barrier {Q : PUnit → sProp 𝕄} (hR : b = 0 ∧ n = 32 ∧ gw = 0) (h : St K Co A c ⟨n, 1, rv, gw, sw, aw, ph, zp, op, gp, at_, xp, yp⟩ ⊢ Q ⟨⟩) :
    St K Co A c ⟨n, b, rv, gw, sw, aw, ph, zp, op, gp, at_, xp, yp⟩ ⊢ WP c (semWaitWord barS 31#32) Q := step_barrier K Co A c hR.1 hR.2.1 hR.2.2 h

/-- The device's own block of partial sums is read. -/
theorem auto_own_load {off : Dev nD → Fin 2 → ℕ} {inb hl} {Q : Vec F S16x512 .bf16 → sProp 𝕄} (ho : ∀ c : Dev nD, off c = ![16 * c.val, 0])
    (hR : op < 2 ∧ (op = 0 → ph = 2) ∧ (op = 1 → gp = 4)) (h : St K Co A c ⟨n, b, rv, gw, sw, aw, ph, zp, op, gp, at_, xp, yp⟩ ⊢ Q (rdA (Rect.unit (s := S512x512) (off c) S16x512.size inb) (Co.V.part op c))) :
    St K Co A c ⟨n, b, rv, gw, sw, aw, ph, zp, op, gp, at_, xp, yp⟩ ⊢ WP c (Prog.lift (.load (Memref.whole cc0_scratch1 : Memref sig .tc .vmem S512x512 .bf16) (Rect.unit (s := S512x512) (off c) S16x512.size inb).toLoadRect hl)) Q :=
  own_load K Co A c ⟨op, hR.1⟩ rfl hR.2.1 hR.2.2 (ho c) rfl h

/-- The reduced block is stored; the gather's first turn, the device's own, is passed. -/
theorem auto_own_store {off : Dev nD → Fin 2 → ℕ} {inb hx hm} {w : S16x512.Idx → Elt F .bf16} {Q : PUnit → sProp 𝕄} (ho : ∀ c : Dev nD, off c = ![16 * c.val, 0])
    (hR : op < 2 ∧ (op = 0 → ph = 2 ∧ gp = 0) ∧ (op = 1 → gp = 4) ∧ n = 64 + 64 * op) (n' op' : ℕ) (hn' : n + 1 = n') (hop' : op + 1 = op')
    (hw : rdA (Rect.unit (s := S512x512) (off c) S16x512.size inb) (Co.V.red op) = w) (h : St K Co A c ⟨n', b, rv, gw, sw, aw, ph, zp, op', gp, at_, xp, yp⟩ ⊢ Q ⟨⟩) :
    St K Co A c ⟨n, b, rv, gw, sw, aw, ph, zp, op, gp, at_, xp, yp⟩ ⊢ WP c (Prog.lift (.store (Memref.whole cc0_scratch1 : Memref sig .tc .vmem S512x512 .bf16) (Rect.unit (s := S512x512) (off c) S16x512.size inb) w Finset.univ hx hm)) Q := by
  refine own_store K Co A c (s := ⟨n, b, rv, gw, sw, aw, ph, zp, op, gp, at_, xp, yp⟩) ⟨op, hR.1⟩ rfl hR.2.1 hR.2.2.1 (by show n ≤ 64 + 64 * op + 1; omega) (ho c) op' hop' hw ?_
  refine (skip_n K Co A c ⟨n, b, rv, gw, sw, aw, ph, zp, op', gp, at_, xp, yp⟩ n' hn' (by show n < 160; omega) ?_ (.inl (by show (n / 32 = 0 ∨ n / 32 = 2 ∨ n / 32 = 4) ∧ n % 32 = 0; omega))).trans h
  have hd : dv n = 0 := Fin.ext (by show n % 32 = 0; omega)
  show item c n = 0
  unfold item
  rw [if_neg (by omega), if_neg (by omega)]
  rcases (by omega : n / 32 = 2 ∨ n / 32 = 4) with e | e
  · rw [if_pos e, if_pos hd]
  · rw [if_neg (by omega), if_neg (by omega), if_pos hd]

/-- Slot 0 may be loaded if the value is not used; -/
theorem auto_s0_dead {off : Fin 3 → ℕ} {inb hl} {Q : Vec F S1x16x512 .bf16 → sProp 𝕄} (ho : off = ![0, 0, 0]) (h : ∀ v, St K Co A c ⟨n, b, rv, gw, sw, aw, ph, zp, op, gp, at_, xp, yp⟩ ⊢ Q v) :
    St K Co A c ⟨n, b, rv, gw, sw, aw, ph, zp, op, gp, at_, xp, yp⟩ ⊢ WP c (Prog.lift (.load (Memref.whole cc0_scratch3 : Memref sig .tc .vmem S32x16x512 .bf16) (Rect.unit (s := S32x16x512) off S1x16x512.size inb).toLoadRect hl)) Q := s0_dead K Co A c ho h

/-- and the device's own block is stored there. -/
theorem auto_s0_store {off : Fin 3 → ℕ} {inb hx hm} {w : S1x16x512.Idx → Elt F .bf16} {Q : PUnit → sProp 𝕄} (ho : off = ![0, 0, 0]) (zp' : ℕ) (hzp' : zp + 1 = zp')
    (hw : rdS (Rect.unit (s := S32x16x512) off S1x16x512.size inb) (slotC (Co.V.part zp) c) = w) (h : St K Co A c ⟨n, b, rv, gw, sw, aw, ph, zp', op, gp, at_, xp, yp⟩ ⊢ Q ⟨⟩) :
    St K Co A c ⟨n, b, rv, gw, sw, aw, ph, zp, op, gp, at_, xp, yp⟩ ⊢ WP c (Prog.lift (.store (Memref.whole cc0_scratch3 : Memref sig .tc .vmem S32x16x512 .bf16) (Rect.unit (s := S32x16x512) off S1x16x512.size inb) w Finset.univ hx hm)) Q := s0_store K Co A c ho zp' hzp' hw h

/-- Eight received slots are read. -/
theorem auto_sls_load {off : Fin 3 → ℕ} {inb hl} {Q : Vec F S8x16x512 .bf16 → sProp 𝕄} (g : ℕ) (ho : off = ![8 * g, 0, 0])
    (hR : op < 2 ∧ g < 4 ∧ 32 * op + 8 * g + 8 ≤ rv ∧ n ≤ 64 + 64 * op ∧ zp = op + 1) (h : St K Co A c ⟨n, b, rv, gw, sw, aw, ph, zp, op, gp, at_, xp, yp⟩ ⊢ Q (rdS (Rect.unit (s := S32x16x512) off S8x16x512.size inb) (slotC (Co.V.part op) c))) :
    St K Co A c ⟨n, b, rv, gw, sw, aw, ph, zp, op, gp, at_, xp, yp⟩ ⊢ WP c (Prog.lift (.load (Memref.whole cc0_scratch3 : Memref sig .tc .vmem S32x16x512 .bf16) (Rect.unit (s := S32x16x512) off S8x16x512.size inb).toLoadRect hl)) Q :=
  sls_load K Co A c ⟨op, hR.1⟩ g hR.2.1 hR.2.2.1 hR.2.2.2.1 hR.2.2.2.2 ho rfl h

/-- A group of 128 gathered rows is read; -/
theorem auto_grp_load {off : Fin 2 → ℕ} {inb hl} {Q : Vec F S128x512 .bf16 → sProp 𝕄} (g : ℕ) (ho : off = ![128 * g, 0])
    (hR : op ≠ 0 ∧ op - 1 < 2 ∧ g < 4 ∧ 32 * (op - 1) + 8 * g + 8 ≤ gw ∧ (op - 1 = 0 → gp = g)) (h : St K Co A c ⟨n, b, rv, gw, sw, aw, ph, zp, op, gp, at_, xp, yp⟩ ⊢ Q (rdA (Rect.unit (s := S512x512) off S128x512.size inb) (Co.V.red (op - 1)))) :
    St K Co A c ⟨n, b, rv, gw, sw, aw, ph, zp, op, gp, at_, xp, yp⟩ ⊢ WP c (Prog.lift (.load (Memref.whole cc0_scratch1 : Memref sig .tc .vmem S512x512 .bf16) (Rect.unit (s := S512x512) off S128x512.size inb).toLoadRect hl)) Q :=
  grp_load K Co A c ⟨op - 1, hR.2.1⟩ g hR.2.2.1 (by show op = op - 1 + 1; omega) hR.2.2.2.1 hR.2.2.2.2 ho rfl h

/-- and a group of the second partial sums is stored. -/
theorem auto_grp_store {off : Fin 2 → ℕ} {inb hx hm} {w : S128x512.Idx → Elt F .bf16} {Q : PUnit → sProp 𝕄} (ho : off = ![128 * gp, 0])
    (hR : gp < 4 ∧ op = 1 ∧ 8 * gp + 8 ≤ gw ∧ gw ≤ 32 ∧ aw = 32 ∧ 96 ≤ n ∧ n ≤ 96 + 8 * gp) (gp' : ℕ) (hgp' : gp + 1 = gp')
    (hw : rdA (Rect.unit (s := S512x512) off S128x512.size inb) (Co.V.part 1 c) = w) (h : St K Co A c ⟨n, b, rv, gw, sw, aw, ph, zp, op, gp', at_, xp, yp⟩ ⊢ Q ⟨⟩) :
    St K Co A c ⟨n, b, rv, gw, sw, aw, ph, zp, op, gp, at_, xp, yp⟩ ⊢ WP c (Prog.lift (.store (Memref.whole cc0_scratch1 : Memref sig .tc .vmem S512x512 .bf16) (Rect.unit (s := S512x512) off S128x512.size inb) w Finset.univ hx hm)) Q :=
  grp_store K Co A c gp hR.1 hR.2.1 hR.2.2.1 hR.2.2.2.1 rfl hR.2.2.2.2.1 hR.2.2.2.2.2.1 hR.2.2.2.2.2.2 ho gp' hgp' hw h

end Cert.KernelIdealProof

end
-- ==== Proof.KernelIdealIf.lean ====
/-
The steps through a transfer that every device but one starts or awaits.
-/
module

public import proofs.«01_k».proof.Proof.KernelIdealOk

@[expose] public section

noncomputable section

namespace Cert.KernelIdealProof

open Cert.KernelIdeal Cert.KernelIdeal.Gen Cert.Fam

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (K : Dev nD × CellK → ℕ) (Co : Cont F) (A : Args F) (c : Dev nD)

variable (K : Dev nD × CellK → ℕ) (Co : Cont F) (A : Args F) (c : Dev nD) {n b rv gw sw aw ph zp op gp at_ xp yp : ℕ}

/-- `auto_skip` where the two cases run on into one continuation `e`. -/
theorem auto_if {cnd : Dev nD → BitVec 1} (hcnd : ∀ c : Dev nD, cnd c = 1#1 ↔ c.val ≠ n % 32) (hR : n < 160 ∧ (n / 32 = 1 ∨ n / 32 = 3)) (n' : ℕ) (hn' : n + 1 = n')
    {α : Type} {p : cnd c = 1#1 → Prog (TpuEff nD τ sig (Elt F) Λ₀ .tc) α} {e : Prog (TpuEff nD τ sig (Elt F) Λ₀ .tc) α} {Q : α → sProp 𝕄}
    (ht : ∀ h, n % 32 ≠ c.val → (St K Co A c ⟨n', b, rv, gw, sw, aw, ph, zp, op, gp, at_, xp, yp⟩ ⊢ WP c e Q) →
      (St K Co A c ⟨n, b, rv, gw, sw, aw, ph, zp, op, gp, at_, xp, yp⟩ ⊢ WP c (p h) Q))
    (h : St K Co A c ⟨n', b, rv, gw, sw, aw, ph, zp, op, gp, at_, xp, yp⟩ ⊢ WP c e Q) :
    St K Co A c ⟨n, b, rv, gw, sw, aw, ph, zp, op, gp, at_, xp, yp⟩ ⊢ WP c (if h : cnd c = 1#1 then p h else e) Q := by
  by_cases hc : cnd c = 1#1
  · rw [dif_pos hc]; exact ht hc (fun e => (hcnd c).mp hc e.symm) h
  · rw [dif_neg hc]
    refine BI.Entails.trans ?_ h
    have e : n % 32 = c.val := by
      by_contra hne
      exact hc ((hcnd c).mpr fun e => hne e.symm)
    refine skip_n K Co A c ⟨n, b, rv, gw, sw, aw, ph, zp, op, gp, at_, xp, yp⟩ n' hn' hR.1 ?_ (.inr ⟨hR.2, e⟩)
    have hd : dv n = c := Fin.ext e
    show item c n = 0
    unfold item
    rcases hR.2 with e | e
    · rw [if_neg (by omega), if_pos e, if_pos hd]
    · rw [if_neg (by omega), if_neg (by omega), if_neg (by omega), if_pos e, if_pos hd]

/-- A branch on whether the device waited for is another one. -/
theorem auto_if_gw {cnd : Dev nD → BitVec 1} (hcnd : ∀ c : Dev nD, cnd c = 1#1 ↔ c.val ≠ gw % 32) (hR : gw < 64) (gw' : ℕ) (hgw' : gw + 1 = gw')
    {α : Type} {p : cnd c = 1#1 → Prog (TpuEff nD τ sig (Elt F) Λ₀ .tc) α} {e : Prog (TpuEff nD τ sig (Elt F) Λ₀ .tc) α} {Q : α → sProp 𝕄}
    (ht : ∀ h, gw % 32 ≠ c.val → (St K Co A c ⟨n, b, rv, gw', sw, aw, ph, zp, op, gp, at_, xp, yp⟩ ⊢ WP c e Q) →
      (St K Co A c ⟨n, b, rv, gw, sw, aw, ph, zp, op, gp, at_, xp, yp⟩ ⊢ WP c (p h) Q))
    (h : St K Co A c ⟨n, b, rv, gw', sw, aw, ph, zp, op, gp, at_, xp, yp⟩ ⊢ WP c e Q) :
    St K Co A c ⟨n, b, rv, gw, sw, aw, ph, zp, op, gp, at_, xp, yp⟩ ⊢ WP c (if h : cnd c = 1#1 then p h else e) Q := by
  by_cases hc : cnd c = 1#1
  · rw [dif_pos hc]; exact ht hc (fun e => (hcnd c).mp hc e.symm) h
  · rw [dif_neg hc]
    refine BI.Entails.trans ?_ h
    have e : gw % 32 = c.val := by
      by_contra hne
      exact hc ((hcnd c).mpr fun e => hne e.symm)
    exact skip_gw K Co A c ⟨n, b, rv, gw, sw, aw, ph, zp, op, gp, at_, xp, yp⟩ gw' hgw' (by show gw = c.val ∨ gw = 32 + c.val; omega)

/-- The sum of three quarters of the second exchange's terms. -/
abbrev v3949 (Co : Cont F) (c : Dev nD) : FVec F S16x512 .f32 :=
  k0_pay65 (k0_pay64 (k0_pay63 (rdS (Rect.unit (s := S32x16x512) ![0, 0, 0] S8x16x512.size inb_S32x16x512_S8x16x512_0_0_0) (slotC (Co.V.part 1) c))) (rdS (Rect.unit (s := S32x16x512) ![8, 0, 0] S8x16x512.size inb_S32x16x512_S8x16x512_8_0_0) (slotC (Co.V.part 1) c))) (rdS (Rect.unit (s := S32x16x512) ![16, 0, 0] S8x16x512.size inb_S32x16x512_S8x16x512_16_0_0) (slotC (Co.V.part 1) c))

end Cert.KernelIdealProof

end
-- ==== Proof.KernelIdealBody1.lean ====
/-
The body's first part, one operation after another.
-/
module

public import proofs.«01_k».proof.Proof.KernelIdealIf

@[expose] public section

noncomputable section

namespace Cert.KernelIdealProof

open Cert.KernelIdeal Cert.KernelIdeal.Gen Cert.Fam

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (K : Dev nD × CellK → ℕ) (Co : Cont F) (A : Args F) (c : Dev nD)

variable (K : Dev nD × CellK → ℕ) {Co : Cont F} {A : Args F} (c : Dev nD)
set_option maxHeartbeats 8000000
set_option pp.maxSteps 400

/-- The first part: the barrier, the attention's partial sums, their exchange and sum, and all of the sum's broadcast but its last transfer. -/
theorem body1 (ok : Ok Co A c) {Q} (h : ∀ x₁ x₂ x₃ x₄ x₅, St K Co A c ⟨95, 1, 32, 0, 0, 0, 2, 1, 1, 0, 8, 0, 0⟩ ⊢ Q ⟨c, x₁, v414 A, v415 A, v416 A, v417 A, v419 A, x₂, x₃, x₄, x₅⟩) :
    St K Co A c ⟨1, 0, 0, 0, 0, 0, 0, 0, 0, 0, 0, 0, 0⟩ ⊢ WP c (k0_part182 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q := by
  rw [k0_part182_eq_skeleton]
  delta k0_part182_skel
  beta_reduce
  first
  | (iterate 10
        with_reducible apply step_seq c
        · intro Q' hQ
          first | rw [k0_part1_eq_skeleton] | rw [k0_part2_eq_skeleton] | rw [k0_part3_eq_skeleton] | rw [k0_part4_eq_skeleton] | rw [k0_part5_eq_skeleton] | rw [k0_part6_eq_skeleton] | rw [k0_part7_eq_skeleton] | rw [k0_part8_eq_skeleton] | rw [k0_part9_eq_skeleton] | rw [k0_part10_eq_skeleton]
          delta k0_part1_skel k0_part2_skel k0_part3_skel k0_part4_skel k0_part5_skel k0_part6_skel k0_part7_skel k0_part8_skel k0_part9_skel k0_part10_skel
          try dsimp -zetaHave only
          repeat
            try extract_lets jp jp jp jp jp jp jp jp jp jp
            first
            | (with_reducible refine auto_if K Co A c (by decide +kernel) (by decide) _ (by simp only [Nat.reduceMul, Nat.reduceDiv, Nat.reduceAdd, Nat.reduceSub]; rfl) ?_ ?_
               · intro h hj hjp
                 with_reducible apply step_bind c
                 with_reducible refine auto_scatter K Co A c hj (by with_unfolding_all rfl) (by decide) (by decide +kernel) (by decide +kernel) (by decide) _ (by simp only [Nat.reduceMul, Nat.reduceDiv, Nat.reduceAdd, Nat.reduceSub]; rfl) ?_
                 exact hjp
               subst jp
               beta_reduce)
            | (with_reducible apply step_bind c
               first
               | with_reducible refine auto_gather K Co A c (by decide +kernel) (by decide) (by rfl) (by decide +kernel) _ (by simp only [Nat.reduceMul, Nat.reduceDiv, Nat.reduceAdd, Nat.reduceSub]; rfl) ?_
               | with_reducible refine auto_recv K Co A c _ (by rfl) (by with_unfolding_all rfl) (by decide) _ (by simp only [Nat.reduceMul, Nat.reduceDiv, Nat.reduceAdd, Nat.reduceSub]; rfl) ?_
               | with_reducible refine auto_signal K Co A c (by decide) (by decide) (by decide +kernel) _ (by simp only [Nat.reduceMul, Nat.reduceDiv, Nat.reduceAdd, Nat.reduceSub]; rfl) ?_
               | with_reducible refine step_deviceId c ?_
               | with_reducible refine auto_arg5 K Co A c ?_
               | with_reducible refine auto_arg6 K Co A c ?_
               | with_reducible refine auto_arg0 K Co A c ?_
               | with_reducible refine auto_arg1 K Co A c ?_
               | with_reducible refine auto_arg2 K Co A c ?_
               | with_reducible refine auto_arg3 K Co A c ?_
               | with_reducible refine auto_arg4 K Co A c ?_
               | with_reducible refine auto_barrier K Co A c (by decide) ?_
               | with_reducible refine auto_att_load K Co A c 0 (by decide) (by decide) ?_
               | with_reducible refine auto_att_load K Co A c 1 (by decide) (by decide) ?_
               | with_reducible refine auto_att_store K Co A c (by decide) _ (by simp only [Nat.reduceMul, Nat.reduceDiv, Nat.reduceAdd, Nat.reduceSub]; rfl) (by with_reducible first | exact ok.t0 | exact ok.t1 | exact ok.t2 | exact ok.t3 | exact ok.t4 | exact ok.t5 | exact ok.t6 | exact ok.t7) ?_
               | with_reducible refine auto_att_dead K Co A c fun _ => ?_
               | with_reducible refine auto_half_store K Co A c (by decide) (by decide) _ (by simp only [Nat.reduceMul, Nat.reduceDiv, Nat.reduceAdd, Nat.reduceSub]; rfl) (by with_reducible first | exact ok.p0 | exact ok.p1) ?_
               | with_reducible refine auto_own_store K Co A c (by decide +kernel) (by decide) _ _ (by simp only [Nat.reduceMul, Nat.reduceDiv, Nat.reduceAdd, Nat.reduceSub]; rfl) (by simp only [Nat.reduceMul, Nat.reduceDiv, Nat.reduceAdd, Nat.reduceSub]; rfl) (by with_reducible first | exact ok.r0 | exact ok.r1) ?_
               | with_reducible refine auto_own_load K Co A c (by decide +kernel) (by decide) ?_
               | with_reducible refine auto_raw_dead K Co A c (by decide) fun _ => ?_
               | with_reducible refine auto_s0_store K Co A c (by decide) _ (by simp only [Nat.reduceMul, Nat.reduceDiv, Nat.reduceAdd, Nat.reduceSub]; rfl) (by with_reducible first | exact ok.s0 | exact ok.s1) ?_
               | with_reducible refine auto_s0_dead K Co A c (by decide) fun _ => ?_
               | with_reducible refine auto_sls_load K Co A c 0 (by decide) (by decide) ?_
               | with_reducible refine auto_sls_load K Co A c 1 (by decide) (by decide) ?_
               | with_reducible refine auto_sls_load K Co A c 2 (by decide) (by decide) ?_
               | with_reducible refine auto_sls_load K Co A c 3 (by decide) (by decide) ?_)
          with_reducible apply step_pure c
          exact hQ)
  first
  | (iterate 10
        with_reducible apply step_seq c
        · intro Q' hQ
          first | rw [k0_part11_eq_skeleton] | rw [k0_part12_eq_skeleton] | rw [k0_part13_eq_skeleton] | rw [k0_part14_eq_skeleton] | rw [k0_part15_eq_skeleton] | rw [k0_part16_eq_skeleton] | rw [k0_part17_eq_skeleton] | rw [k0_part18_eq_skeleton] | rw [k0_part19_eq_skeleton] | rw [k0_part20_eq_skeleton]
          delta k0_part11_skel k0_part12_skel k0_part13_skel k0_part14_skel k0_part15_skel k0_part16_skel k0_part17_skel k0_part18_skel k0_part19_skel k0_part20_skel
          try dsimp -zetaHave only
          repeat
            try extract_lets jp jp jp jp jp jp jp jp jp jp
            first
            | (with_reducible refine auto_if K Co A c (by decide +kernel) (by decide) _ (by simp only [Nat.reduceMul, Nat.reduceDiv, Nat.reduceAdd, Nat.reduceSub]; rfl) ?_ ?_
               · intro h hj hjp
                 with_reducible apply step_bind c
                 with_reducible refine auto_scatter K Co A c hj (by with_unfolding_all rfl) (by decide) (by decide +kernel) (by decide +kernel) (by decide) _ (by simp only [Nat.reduceMul, Nat.reduceDiv, Nat.reduceAdd, Nat.reduceSub]; rfl) ?_
                 exact hjp
               subst jp
               beta_reduce)
            | (with_reducible apply step_bind c
               first
               | with_reducible refine auto_gather K Co A c (by decide +kernel) (by decide) (by rfl) (by decide +kernel) _ (by simp only [Nat.reduceMul, Nat.reduceDiv, Nat.reduceAdd, Nat.reduceSub]; rfl) ?_
               | with_reducible refine auto_recv K Co A c _ (by rfl) (by with_unfolding_all rfl) (by decide) _ (by simp only [Nat.reduceMul, Nat.reduceDiv, Nat.reduceAdd, Nat.reduceSub]; rfl) ?_
               | with_reducible refine auto_signal K Co A c (by decide) (by decide) (by decide +kernel) _ (by simp only [Nat.reduceMul, Nat.reduceDiv, Nat.reduceAdd, Nat.reduceSub]; rfl) ?_
               | with_reducible refine step_deviceId c ?_
               | with_reducible refine auto_arg5 K Co A c ?_
               | with_reducible refine auto_arg6 K Co A c ?_
               | with_reducible refine auto_arg0 K Co A c ?_
               | with_reducible refine auto_arg1 K Co A c ?_
               | with_reducible refine auto_arg2 K Co A c ?_
               | with_reducible refine auto_arg3 K Co A c ?_
               | with_reducible refine auto_arg4 K Co A c ?_
               | with_reducible refine auto_barrier K Co A c (by decide) ?_
               | with_reducible refine auto_att_load K Co A c 0 (by decide) (by decide) ?_
               | with_reducible refine auto_att_load K Co A c 1 (by decide) (by decide) ?_
               | with_reducible refine auto_att_store K Co A c (by decide) _ (by simp only [Nat.reduceMul, Nat.reduceDiv, Nat.reduceAdd, Nat.reduceSub]; rfl) (by with_reducible first | exact ok.t0 | exact ok.t1 | exact ok.t2 | exact ok.t3 | exact ok.t4 | exact ok.t5 | exact ok.t6 | exact ok.t7) ?_
               | with_reducible refine auto_att_dead K Co A c fun _ => ?_
               | with_reducible refine auto_half_store K Co A c (by decide) (by decide) _ (by simp only [Nat.reduceMul, Nat.reduceDiv, Nat.reduceAdd, Nat.reduceSub]; rfl) (by with_reducible first | exact ok.p0 | exact ok.p1) ?_
               | with_reducible refine auto_own_store K Co A c (by decide +kernel) (by decide) _ _ (by simp only [Nat.reduceMul, Nat.reduceDiv, Nat.reduceAdd, Nat.reduceSub]; rfl) (by simp only [Nat.reduceMul, Nat.reduceDiv, Nat.reduceAdd, Nat.reduceSub]; rfl) (by with_reducible first | exact ok.r0 | exact ok.r1) ?_
               | with_reducible refine auto_own_load K Co A c (by decide +kernel) (by decide) ?_
               | with_reducible refine auto_raw_dead K Co A c (by decide) fun _ => ?_
               | with_reducible refine auto_s0_store K Co A c (by decide) _ (by simp only [Nat.reduceMul, Nat.reduceDiv, Nat.reduceAdd, Nat.reduceSub]; rfl) (by with_reducible first | exact ok.s0 | exact ok.s1) ?_
               | with_reducible refine auto_s0_dead K Co A c (by decide) fun _ => ?_
               | with_reducible refine auto_sls_load K Co A c 0 (by decide) (by decide) ?_
               | with_reducible refine auto_sls_load K Co A c 1 (by decide) (by decide) ?_
               | with_reducible refine auto_sls_load K Co A c 2 (by decide) (by decide) ?_
               | with_reducible refine auto_sls_load K Co A c 3 (by decide) (by decide) ?_)
          with_reducible apply step_pure c
          exact hQ)
  first
  | (iterate 10
        with_reducible apply step_seq c
        · intro Q' hQ
          first | rw [k0_part21_eq_skeleton] | rw [k0_part22_eq_skeleton] | rw [k0_part23_eq_skeleton] | rw [k0_part24_eq_skeleton] | rw [k0_part25_eq_skeleton] | rw [k0_part26_eq_skeleton] | rw [k0_part27_eq_skeleton] | rw [k0_part28_eq_skeleton] | rw [k0_part29_eq_skeleton] | rw [k0_part30_eq_skeleton]
          delta k0_part21_skel k0_part22_skel k0_part23_skel k0_part24_skel k0_part25_skel k0_part26_skel k0_part27_skel k0_part28_skel k0_part29_skel k0_part30_skel
          try dsimp -zetaHave only
          repeat
            try extract_lets jp jp jp jp jp jp jp jp jp jp
            first
            | (with_reducible refine auto_if K Co A c (by decide +kernel) (by decide) _ (by simp only [Nat.reduceMul, Nat.reduceDiv, Nat.reduceAdd, Nat.reduceSub]; rfl) ?_ ?_
               · intro h hj hjp
                 with_reducible apply step_bind c
                 with_reducible refine auto_scatter K Co A c hj (by with_unfolding_all rfl) (by decide) (by decide +kernel) (by decide +kernel) (by decide) _ (by simp only [Nat.reduceMul, Nat.reduceDiv, Nat.reduceAdd, Nat.reduceSub]; rfl) ?_
                 exact hjp
               subst jp
               beta_reduce)
            | (with_reducible apply step_bind c
               first
               | with_reducible refine auto_gather K Co A c (by decide +kernel) (by decide) (by rfl) (by decide +kernel) _ (by simp only [Nat.reduceMul, Nat.reduceDiv, Nat.reduceAdd, Nat.reduceSub]; rfl) ?_
               | with_reducible refine auto_recv K Co A c _ (by rfl) (by with_unfolding_all rfl) (by decide) _ (by simp only [Nat.reduceMul, Nat.reduceDiv, Nat.reduceAdd, Nat.reduceSub]; rfl) ?_
               | with_reducible refine auto_signal K Co A c (by decide) (by decide) (by decide +kernel) _ (by simp only [Nat.reduceMul, Nat.reduceDiv, Nat.reduceAdd, Nat.reduceSub]; rfl) ?_
               | with_reducible refine step_deviceId c ?_
               | with_reducible refine auto_arg5 K Co A c ?_
               | with_reducible refine auto_arg6 K Co A c ?_
               | with_reducible refine auto_arg0 K Co A c ?_
               | with_reducible refine auto_arg1 K Co A c ?_
               | with_reducible refine auto_arg2 K Co A c ?_
               | with_reducible refine auto_arg3 K Co A c ?_
               | with_reducible refine auto_arg4 K Co A c ?_
               | with_reducible refine auto_barrier K Co A c (by decide) ?_
               | with_reducible refine auto_att_load K Co A c 0 (by decide) (by decide) ?_
               | with_reducible refine auto_att_load K Co A c 1 (by decide) (by decide) ?_
               | with_reducible refine auto_att_store K Co A c (by decide) _ (by simp only [Nat.reduceMul, Nat.reduceDiv, Nat.reduceAdd, Nat.reduceSub]; rfl) (by with_reducible first | exact ok.t0 | exact ok.t1 | exact ok.t2 | exact ok.t3 | exact ok.t4 | exact ok.t5 | exact ok.t6 | exact ok.t7) ?_
               | with_reducible refine auto_att_dead K Co A c fun _ => ?_
               | with_reducible refine auto_half_store K Co A c (by decide) (by decide) _ (by simp only [Nat.reduceMul, Nat.reduceDiv, Nat.reduceAdd, Nat.reduceSub]; rfl) (by with_reducible first | exact ok.p0 | exact ok.p1) ?_
               | with_reducible refine auto_own_store K Co A c (by decide +kernel) (by decide) _ _ (by simp only [Nat.reduceMul, Nat.reduceDiv, Nat.reduceAdd, Nat.reduceSub]; rfl) (by simp only [Nat.reduceMul, Nat.reduceDiv, Nat.reduceAdd, Nat.reduceSub]; rfl) (by with_reducible first | exact ok.r0 | exact ok.r1) ?_
               | with_reducible refine auto_own_load K Co A c (by decide +kernel) (by decide) ?_
               | with_reducible refine auto_raw_dead K Co A c (by decide) fun _ => ?_
               | with_reducible refine auto_s0_store K Co A c (by decide) _ (by simp only [Nat.reduceMul, Nat.reduceDiv, Nat.reduceAdd, Nat.reduceSub]; rfl) (by with_reducible first | exact ok.s0 | exact ok.s1) ?_
               | with_reducible refine auto_s0_dead K Co A c (by decide) fun _ => ?_
               | with_reducible refine auto_sls_load K Co A c 0 (by decide) (by decide) ?_
               | with_reducible refine auto_sls_load K Co A c 1 (by decide) (by decide) ?_
               | with_reducible refine auto_sls_load K Co A c 2 (by decide) (by decide) ?_
               | with_reducible refine auto_sls_load K Co A c 3 (by decide) (by decide) ?_)
          with_reducible apply step_pure c
          exact hQ)
  first
  | (iterate 10
        with_reducible apply step_seq c
        · intro Q' hQ
          first | rw [k0_part31_eq_skeleton] | rw [k0_part32_eq_skeleton] | rw [k0_part33_eq_skeleton] | rw [k0_part34_eq_skeleton] | rw [k0_part35_eq_skeleton] | rw [k0_part36_eq_skeleton] | rw [k0_part37_eq_skeleton] | rw [k0_part38_eq_skeleton] | rw [k0_part39_eq_skeleton] | rw [k0_part40_eq_skeleton]
          delta k0_part31_skel k0_part32_skel k0_part33_skel k0_part34_skel k0_part35_skel k0_part36_skel k0_part37_skel k0_part38_skel k0_part39_skel k0_part40_skel
          try dsimp -zetaHave only
          repeat
            try extract_lets jp jp jp jp jp jp jp jp jp jp
            first
            | (with_reducible refine auto_if K Co A c (by decide +kernel) (by decide) _ (by simp only [Nat.reduceMul, Nat.reduceDiv, Nat.reduceAdd, Nat.reduceSub]; rfl) ?_ ?_
               · intro h hj hjp
                 with_reducible apply step_bind c
                 with_reducible refine auto_scatter K Co A c hj (by with_unfolding_all rfl) (by decide) (by decide +kernel) (by decide +kernel) (by decide) _ (by simp only [Nat.reduceMul, Nat.reduceDiv, Nat.reduceAdd, Nat.reduceSub]; rfl) ?_
                 exact hjp
               subst jp
               beta_reduce)
            | (with_reducible apply step_bind c
               first
               | with_reducible refine auto_gather K Co A c (by decide +kernel) (by decide) (by rfl) (by decide +kernel) _ (by simp only [Nat.reduceMul, Nat.reduceDiv, Nat.reduceAdd, Nat.reduceSub]; rfl) ?_
               | with_reducible refine auto_recv K Co A c _ (by rfl) (by with_unfolding_all rfl) (by decide) _ (by simp only [Nat.reduceMul, Nat.reduceDiv, Nat.reduceAdd, Nat.reduceSub]; rfl) ?_
               | with_reducible refine auto_signal K Co A c (by decide) (by decide) (by decide +kernel) _ (by simp only [Nat.reduceMul, Nat.reduceDiv, Nat.reduceAdd, Nat.reduceSub]; rfl) ?_
               | with_reducible refine step_deviceId c ?_
               | with_reducible refine auto_arg5 K Co A c ?_
               | with_reducible refine auto_arg6 K Co A c ?_
               | with_reducible refine auto_arg0 K Co A c ?_
               | with_reducible refine auto_arg1 K Co A c ?_
               | with_reducible refine auto_arg2 K Co A c ?_
               | with_reducible refine auto_arg3 K Co A c ?_
               | with_reducible refine auto_arg4 K Co A c ?_
               | with_reducible refine auto_barrier K Co A c (by decide) ?_
               | with_reducible refine auto_att_load K Co A c 0 (by decide) (by decide) ?_
               | with_reducible refine auto_att_load K Co A c 1 (by decide) (by decide) ?_
               | with_reducible refine auto_att_store K Co A c (by decide) _ (by simp only [Nat.reduceMul, Nat.reduceDiv, Nat.reduceAdd, Nat.reduceSub]; rfl) (by with_reducible first | exact ok.t0 | exact ok.t1 | exact ok.t2 | exact ok.t3 | exact ok.t4 | exact ok.t5 | exact ok.t6 | exact ok.t7) ?_
               | with_reducible refine auto_att_dead K Co A c fun _ => ?_
               | with_reducible refine auto_half_store K Co A c (by decide) (by decide) _ (by simp only [Nat.reduceMul, Nat.reduceDiv, Nat.reduceAdd, Nat.reduceSub]; rfl) (by with_reducible first | exact ok.p0 | exact ok.p1) ?_
               | with_reducible refine auto_own_store K Co A c (by decide +kernel) (by decide) _ _ (by simp only [Nat.reduceMul, Nat.reduceDiv, Nat.reduceAdd, Nat.reduceSub]; rfl) (by simp only [Nat.reduceMul, Nat.reduceDiv, Nat.reduceAdd, Nat.reduceSub]; rfl) (by with_reducible first | exact ok.r0 | exact ok.r1) ?_
               | with_reducible refine auto_own_load K Co A c (by decide +kernel) (by decide) ?_
               | with_reducible refine auto_raw_dead K Co A c (by decide) fun _ => ?_
               | with_reducible refine auto_s0_store K Co A c (by decide) _ (by simp only [Nat.reduceMul, Nat.reduceDiv, Nat.reduceAdd, Nat.reduceSub]; rfl) (by with_reducible first | exact ok.s0 | exact ok.s1) ?_
               | with_reducible refine auto_s0_dead K Co A c (by decide) fun _ => ?_
               | with_reducible refine auto_sls_load K Co A c 0 (by decide) (by decide) ?_
               | with_reducible refine auto_sls_load K Co A c 1 (by decide) (by decide) ?_
               | with_reducible refine auto_sls_load K Co A c 2 (by decide) (by decide) ?_
               | with_reducible refine auto_sls_load K Co A c 3 (by decide) (by decide) ?_)
          with_reducible apply step_pure c
          exact hQ)
  first
  | (iterate 10
        with_reducible apply step_seq c
        · intro Q' hQ
          first | rw [k0_part41_eq_skeleton] | rw [k0_part42_eq_skeleton] | rw [k0_part43_eq_skeleton] | rw [k0_part44_eq_skeleton] | rw [k0_part45_eq_skeleton] | rw [k0_part46_eq_skeleton] | rw [k0_part47_eq_skeleton] | rw [k0_part48_eq_skeleton] | rw [k0_part49_eq_skeleton] | rw [k0_part50_eq_skeleton]
          delta k0_part41_skel k0_part42_skel k0_part43_skel k0_part44_skel k0_part45_skel k0_part46_skel k0_part47_skel k0_part48_skel k0_part49_skel k0_part50_skel
          try dsimp -zetaHave only
          repeat
            try extract_lets jp jp jp jp jp jp jp jp jp jp
            first
            | (with_reducible refine auto_if K Co A c (by decide +kernel) (by decide) _ (by simp only [Nat.reduceMul, Nat.reduceDiv, Nat.reduceAdd, Nat.reduceSub]; rfl) ?_ ?_
               · intro h hj hjp
                 with_reducible apply step_bind c
                 with_reducible refine auto_scatter K Co A c hj (by with_unfolding_all rfl) (by decide) (by decide +kernel) (by decide +kernel) (by decide) _ (by simp only [Nat.reduceMul, Nat.reduceDiv, Nat.reduceAdd, Nat.reduceSub]; rfl) ?_
                 exact hjp
               subst jp
               beta_reduce)
            | (with_reducible apply step_bind c
               first
               | with_reducible refine auto_gather K Co A c (by decide +kernel) (by decide) (by rfl) (by decide +kernel) _ (by simp only [Nat.reduceMul, Nat.reduceDiv, Nat.reduceAdd, Nat.reduceSub]; rfl) ?_
               | with_reducible refine auto_recv K Co A c _ (by rfl) (by with_unfolding_all rfl) (by decide) _ (by simp only [Nat.reduceMul, Nat.reduceDiv, Nat.reduceAdd, Nat.reduceSub]; rfl) ?_
               | with_reducible refine auto_signal K Co A c (by decide) (by decide) (by decide +kernel) _ (by simp only [Nat.reduceMul, Nat.reduceDiv, Nat.reduceAdd, Nat.reduceSub]; rfl) ?_
               | with_reducible refine step_deviceId c ?_
               | with_reducible refine auto_arg5 K Co A c ?_
               | with_reducible refine auto_arg6 K Co A c ?_
               | with_reducible refine auto_arg0 K Co A c ?_
               | with_reducible refine auto_arg1 K Co A c ?_
               | with_reducible refine auto_arg2 K Co A c ?_
               | with_reducible refine auto_arg3 K Co A c ?_
               | with_reducible refine auto_arg4 K Co A c ?_
               | with_reducible refine auto_barrier K Co A c (by decide) ?_
               | with_reducible refine auto_att_load K Co A c 0 (by decide) (by decide) ?_
               | with_reducible refine auto_att_load K Co A c 1 (by decide) (by decide) ?_
               | with_reducible refine auto_att_store K Co A c (by decide) _ (by simp only [Nat.reduceMul, Nat.reduceDiv, Nat.reduceAdd, Nat.reduceSub]; rfl) (by with_reducible first | exact ok.t0 | exact ok.t1 | exact ok.t2 | exact ok.t3 | exact ok.t4 | exact ok.t5 | exact ok.t6 | exact ok.t7) ?_
               | with_reducible refine auto_att_dead K Co A c fun _ => ?_
               | with_reducible refine auto_half_store K Co A c (by decide) (by decide) _ (by simp only [Nat.reduceMul, Nat.reduceDiv, Nat.reduceAdd, Nat.reduceSub]; rfl) (by with_reducible first | exact ok.p0 | exact ok.p1) ?_
               | with_reducible refine auto_own_store K Co A c (by decide +kernel) (by decide) _ _ (by simp only [Nat.reduceMul, Nat.reduceDiv, Nat.reduceAdd, Nat.reduceSub]; rfl) (by simp only [Nat.reduceMul, Nat.reduceDiv, Nat.reduceAdd, Nat.reduceSub]; rfl) (by with_reducible first | exact ok.r0 | exact ok.r1) ?_
               | with_reducible refine auto_own_load K Co A c (by decide +kernel) (by decide) ?_
               | with_reducible refine auto_raw_dead K Co A c (by decide) fun _ => ?_
               | with_reducible refine auto_s0_store K Co A c (by decide) _ (by simp only [Nat.reduceMul, Nat.reduceDiv, Nat.reduceAdd, Nat.reduceSub]; rfl) (by with_reducible first | exact ok.s0 | exact ok.s1) ?_
               | with_reducible refine auto_s0_dead K Co A c (by decide) fun _ => ?_
               | with_reducible refine auto_sls_load K Co A c 0 (by decide) (by decide) ?_
               | with_reducible refine auto_sls_load K Co A c 1 (by decide) (by decide) ?_
               | with_reducible refine auto_sls_load K Co A c 2 (by decide) (by decide) ?_
               | with_reducible refine auto_sls_load K Co A c 3 (by decide) (by decide) ?_)
          with_reducible apply step_pure c
          exact hQ)
  first
  | (iterate 10
        with_reducible apply step_seq c
        · intro Q' hQ
          first | rw [k0_part51_eq_skeleton] | rw [k0_part52_eq_skeleton] | rw [k0_part53_eq_skeleton] | rw [k0_part54_eq_skeleton] | rw [k0_part55_eq_skeleton] | rw [k0_part56_eq_skeleton] | rw [k0_part57_eq_skeleton] | rw [k0_part58_eq_skeleton] | rw [k0_part59_eq_skeleton] | rw [k0_part60_eq_skeleton]
          delta k0_part51_skel k0_part52_skel k0_part53_skel k0_part54_skel k0_part55_skel k0_part56_skel k0_part57_skel k0_part58_skel k0_part59_skel k0_part60_skel
          try dsimp -zetaHave only
          repeat
            try extract_lets jp jp jp jp jp jp jp jp jp jp
            first
            | (with_reducible refine auto_if K Co A c (by decide +kernel) (by decide) _ (by simp only [Nat.reduceMul, Nat.reduceDiv, Nat.reduceAdd, Nat.reduceSub]; rfl) ?_ ?_
               · intro h hj hjp
                 with_reducible apply step_bind c
                 with_reducible refine auto_scatter K Co A c hj (by with_unfolding_all rfl) (by decide) (by decide +kernel) (by decide +kernel) (by decide) _ (by simp only [Nat.reduceMul, Nat.reduceDiv, Nat.reduceAdd, Nat.reduceSub]; rfl) ?_
                 exact hjp
               subst jp
               beta_reduce)
            | (with_reducible apply step_bind c
               first
               | with_reducible refine auto_gather K Co A c (by decide +kernel) (by decide) (by rfl) (by decide +kernel) _ (by simp only [Nat.reduceMul, Nat.reduceDiv, Nat.reduceAdd, Nat.reduceSub]; rfl) ?_
               | with_reducible refine auto_recv K Co A c _ (by rfl) (by with_unfolding_all rfl) (by decide) _ (by simp only [Nat.reduceMul, Nat.reduceDiv, Nat.reduceAdd, Nat.reduceSub]; rfl) ?_
               | with_reducible refine auto_signal K Co A c (by decide) (by decide) (by decide +kernel) _ (by simp only [Nat.reduceMul, Nat.reduceDiv, Nat.reduceAdd, Nat.reduceSub]; rfl) ?_
               | with_reducible refine step_deviceId c ?_
               | with_reducible refine auto_arg5 K Co A c ?_
               | with_reducible refine auto_arg6 K Co A c ?_
               | with_reducible refine auto_arg0 K Co A c ?_
               | with_reducible refine auto_arg1 K Co A c ?_
               | with_reducible refine auto_arg2 K Co A c ?_
               | with_reducible refine auto_arg3 K Co A c ?_
               | with_reducible refine auto_arg4 K Co A c ?_
               | with_reducible refine auto_barrier K Co A c (by decide) ?_
               | with_reducible refine auto_att_load K Co A c 0 (by decide) (by decide) ?_
               | with_reducible refine auto_att_load K Co A c 1 (by decide) (by decide) ?_
               | with_reducible refine auto_att_store K Co A c (by decide) _ (by simp only [Nat.reduceMul, Nat.reduceDiv, Nat.reduceAdd, Nat.reduceSub]; rfl) (by with_reducible first | exact ok.t0 | exact ok.t1 | exact ok.t2 | exact ok.t3 | exact ok.t4 | exact ok.t5 | exact ok.t6 | exact ok.t7) ?_
               | with_reducible refine auto_att_dead K Co A c fun _ => ?_
               | with_reducible refine auto_half_store K Co A c (by decide) (by decide) _ (by simp only [Nat.reduceMul, Nat.reduceDiv, Nat.reduceAdd, Nat.reduceSub]; rfl) (by with_reducible first | exact ok.p0 | exact ok.p1) ?_
               | with_reducible refine auto_own_store K Co A c (by decide +kernel) (by decide) _ _ (by simp only [Nat.reduceMul, Nat.reduceDiv, Nat.reduceAdd, Nat.reduceSub]; rfl) (by simp only [Nat.reduceMul, Nat.reduceDiv, Nat.reduceAdd, Nat.reduceSub]; rfl) (by with_reducible first | exact ok.r0 | exact ok.r1) ?_
               | with_reducible refine auto_own_load K Co A c (by decide +kernel) (by decide) ?_
               | with_reducible refine auto_raw_dead K Co A c (by decide) fun _ => ?_
               | with_reducible refine auto_s0_store K Co A c (by decide) _ (by simp only [Nat.reduceMul, Nat.reduceDiv, Nat.reduceAdd, Nat.reduceSub]; rfl) (by with_reducible first | exact ok.s0 | exact ok.s1) ?_
               | with_reducible refine auto_s0_dead K Co A c (by decide) fun _ => ?_
               | with_reducible refine auto_sls_load K Co A c 0 (by decide) (by decide) ?_
               | with_reducible refine auto_sls_load K Co A c 1 (by decide) (by decide) ?_
               | with_reducible refine auto_sls_load K Co A c 2 (by decide) (by decide) ?_
               | with_reducible refine auto_sls_load K Co A c 3 (by decide) (by decide) ?_)
          with_reducible apply step_pure c
          exact hQ)
  with_reducible apply step_pure c
  exact h _ _ _ _ _

end Cert.KernelIdealProof

end
-- ==== Proof.KernelIdealBody2.lean ====
/-
The body's second part, one operation after another.
-/
module

public import proofs.«01_k».proof.Proof.KernelIdealIf

@[expose] public section

noncomputable section

namespace Cert.KernelIdealProof

open Cert.KernelIdeal Cert.KernelIdeal.Gen Cert.Fam

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (K : Dev nD × CellK → ℕ) (Co : Cont F) (A : Args F) (c : Dev nD)

variable (K : Dev nD × CellK → ℕ) {Co : Cont F} {A : Args F} (c : Dev nD)
set_option maxHeartbeats 8000000
set_option pp.maxSteps 400

/-- The second part: the sum is received, the residual and the second layer's partial sums computed, exchanged, and three quarters of them summed. -/
theorem body2 (ok : Ok Co A c) {Q x₁ x₂ x₃ x₄ x₅} (h : ∀ y₁ y₂ y₃, St K Co A c ⟨128, 1, 56, 32, 32, 32, 2, 2, 1, 4, 8, 4, 0⟩ ⊢ Q ⟨v3949 Co c, y₁, y₂, y₃⟩) :
    St K Co A c ⟨95, 1, 32, 0, 0, 0, 2, 1, 1, 0, 8, 0, 0⟩ ⊢ WP c (k0_part183 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c x₁ (v414 A) (v415 A) (v416 A) (v419 A) x₂ x₃ x₄ x₅) Q := by
  rw [k0_part183_eq_skeleton]
  delta k0_part183_skel
  beta_reduce
  first
  | (iterate 10
        with_reducible apply step_seq c
        · intro Q' hQ
          first | rw [k0_part61_eq_skeleton] | rw [k0_part62_eq_skeleton] | rw [k0_part63_eq_skeleton] | rw [k0_part64_eq_skeleton] | rw [k0_part65_eq_skeleton] | rw [k0_part66_eq_skeleton] | rw [k0_part67_eq_skeleton] | rw [k0_part68_eq_skeleton] | rw [k0_part69_eq_skeleton] | rw [k0_part70_eq_skeleton]
          delta k0_part61_skel k0_part62_skel k0_part63_skel k0_part64_skel k0_part65_skel k0_part66_skel k0_part67_skel k0_part68_skel k0_part69_skel k0_part70_skel
          try dsimp -zetaHave only
          repeat
            try extract_lets jp jp jp jp jp jp jp jp jp jp
            first
            | (with_reducible refine auto_if K Co A c (by decide +kernel) (by decide) _ (by simp only [Nat.reduceMul, Nat.reduceDiv, Nat.reduceAdd, Nat.reduceSub]; rfl) ?_ ?_
               · intro h hj hjp
                 with_reducible apply step_bind c
                 with_reducible refine auto_scatter K Co A c hj (by with_unfolding_all rfl) (by decide) (by decide +kernel) (by decide +kernel) (by decide) _ (by simp only [Nat.reduceMul, Nat.reduceDiv, Nat.reduceAdd, Nat.reduceSub]; rfl) ?_
                 exact hjp
               subst jp
               beta_reduce)
            | (with_reducible refine auto_if_gw K Co A c (by decide +kernel) (by decide) _ (by simp only [Nat.reduceMul, Nat.reduceDiv, Nat.reduceAdd, Nat.reduceSub]; rfl) ?_ ?_
               · intro h hj hjp
                 with_reducible apply step_bind c
                 with_reducible refine auto_grc K Co A c hj (by decide +kernel) (by with_unfolding_all rfl) (by decide) _ (by simp only [Nat.reduceMul, Nat.reduceDiv, Nat.reduceAdd, Nat.reduceSub]; rfl) ?_
                 exact hjp
               subst jp
               beta_reduce)
            | (with_reducible apply step_bind c
               first
               | with_reducible refine auto_send K Co A c _ (by rfl) (by with_unfolding_all rfl) (by decide) _ (by simp only [Nat.reduceMul, Nat.reduceDiv, Nat.reduceAdd, Nat.reduceSub]; rfl) ?_
               | with_reducible refine auto_gsn K Co A c _ (by rfl) (by with_unfolding_all rfl) (by decide) _ (by simp only [Nat.reduceMul, Nat.reduceDiv, Nat.reduceAdd, Nat.reduceSub]; rfl) ?_
               | with_reducible refine auto_recv K Co A c _ (by rfl) (by with_unfolding_all rfl) (by decide) _ (by simp only [Nat.reduceMul, Nat.reduceDiv, Nat.reduceAdd, Nat.reduceSub]; rfl) ?_
               | with_reducible refine auto_grp_store K Co A c (by decide) (by decide) _ (by simp only [Nat.reduceMul, Nat.reduceDiv, Nat.reduceAdd, Nat.reduceSub]; rfl) (by with_reducible first | exact ok.f0 | exact ok.f1 | exact ok.f2 | exact ok.f3) ?_
               | with_reducible refine auto_grp_load K Co A c 0 (by decide) (by decide) ?_
               | with_reducible refine auto_grp_load K Co A c 1 (by decide) (by decide) ?_
               | with_reducible refine auto_grp_load K Co A c 2 (by decide) (by decide) ?_
               | with_reducible refine auto_grp_load K Co A c 3 (by decide) (by decide) ?_
               | with_reducible refine auto_x1_dead K Co A c fun _ => ?_
               | with_reducible refine auto_x1_store K Co A c (by decide) _ (by simp only [Nat.reduceMul, Nat.reduceDiv, Nat.reduceAdd, Nat.reduceSub]; rfl) (by with_reducible first | exact ok.x0 | exact ok.x1 | exact ok.x2 | exact ok.x3) ?_
               | with_reducible refine auto_gather K Co A c (by decide +kernel) (by decide) (by rfl) (by decide +kernel) _ (by simp only [Nat.reduceMul, Nat.reduceDiv, Nat.reduceAdd, Nat.reduceSub]; rfl) ?_
               | with_reducible refine auto_arg7 K Co A c ?_
               | with_reducible refine auto_arg8 K Co A c ?_
               | with_reducible refine auto_own_load K Co A c (by decide +kernel) (by decide) ?_
               | with_reducible refine auto_s0_store K Co A c (by decide) _ (by simp only [Nat.reduceMul, Nat.reduceDiv, Nat.reduceAdd, Nat.reduceSub]; rfl) (by with_reducible first | exact ok.s0 | exact ok.s1) ?_
               | with_reducible refine auto_s0_dead K Co A c (by decide) fun _ => ?_
               | with_reducible refine auto_sls_load K Co A c 0 (by decide) (by decide) ?_
               | with_reducible refine auto_sls_load K Co A c 1 (by decide) (by decide) ?_
               | with_reducible refine auto_sls_load K Co A c 2 (by decide) (by decide) ?_)
          with_reducible apply step_pure c
          exact hQ)
  first
  | (iterate 10
        with_reducible apply step_seq c
        · intro Q' hQ
          first | rw [k0_part71_eq_skeleton] | rw [k0_part72_eq_skeleton] | rw [k0_part73_eq_skeleton] | rw [k0_part74_eq_skeleton] | rw [k0_part75_eq_skeleton] | rw [k0_part76_eq_skeleton] | rw [k0_part77_eq_skeleton] | rw [k0_part78_eq_skeleton] | rw [k0_part79_eq_skeleton] | rw [k0_part80_eq_skeleton]
          delta k0_part71_skel k0_part72_skel k0_part73_skel k0_part74_skel k0_part75_skel k0_part76_skel k0_part77_skel k0_part78_skel k0_part79_skel k0_part80_skel
          try dsimp -zetaHave only
          repeat
            try extract_lets jp jp jp jp jp jp jp jp jp jp
            first
            | (with_reducible refine auto_if K Co A c (by decide +kernel) (by decide) _ (by simp only [Nat.reduceMul, Nat.reduceDiv, Nat.reduceAdd, Nat.reduceSub]; rfl) ?_ ?_
               · intro h hj hjp
                 with_reducible apply step_bind c
                 with_reducible refine auto_scatter K Co A c hj (by with_unfolding_all rfl) (by decide) (by decide +kernel) (by decide +kernel) (by decide) _ (by simp only [Nat.reduceMul, Nat.reduceDiv, Nat.reduceAdd, Nat.reduceSub]; rfl) ?_
                 exact hjp
               subst jp
               beta_reduce)
            | (with_reducible refine auto_if_gw K Co A c (by decide +kernel) (by decide) _ (by simp only [Nat.reduceMul, Nat.reduceDiv, Nat.reduceAdd, Nat.reduceSub]; rfl) ?_ ?_
               · intro h hj hjp
                 with_reducible apply step_bind c
                 with_reducible refine auto_grc K Co A c hj (by decide +kernel) (by with_unfolding_all rfl) (by decide) _ (by simp only [Nat.reduceMul, Nat.reduceDiv, Nat.reduceAdd, Nat.reduceSub]; rfl) ?_
                 exact hjp
               subst jp
               beta_reduce)
            | (with_reducible apply step_bind c
               first
               | with_reducible refine auto_send K Co A c _ (by rfl) (by with_unfolding_all rfl) (by decide) _ (by simp only [Nat.reduceMul, Nat.reduceDiv, Nat.reduceAdd, Nat.reduceSub]; rfl) ?_
               | with_reducible refine auto_gsn K Co A c _ (by rfl) (by with_unfolding_all rfl) (by decide) _ (by simp only [Nat.reduceMul, Nat.reduceDiv, Nat.reduceAdd, Nat.reduceSub]; rfl) ?_
               | with_reducible refine auto_recv K Co A c _ (by rfl) (by with_unfolding_all rfl) (by decide) _ (by simp only [Nat.reduceMul, Nat.reduceDiv, Nat.reduceAdd, Nat.reduceSub]; rfl) ?_
               | with_reducible refine auto_grp_store K Co A c (by decide) (by decide) _ (by simp only [Nat.reduceMul, Nat.reduceDiv, Nat.reduceAdd, Nat.reduceSub]; rfl) (by with_reducible first | exact ok.f0 | exact ok.f1 | exact ok.f2 | exact ok.f3) ?_
               | with_reducible refine auto_grp_load K Co A c 0 (by decide) (by decide) ?_
               | with_reducible refine auto_grp_load K Co A c 1 (by decide) (by decide) ?_
               | with_reducible refine auto_grp_load K Co A c 2 (by decide) (by decide) ?_
               | with_reducible refine auto_grp_load K Co A c 3 (by decide) (by decide) ?_
               | with_reducible refine auto_x1_dead K Co A c fun _ => ?_
               | with_reducible refine auto_x1_store K Co A c (by decide) _ (by simp only [Nat.reduceMul, Nat.reduceDiv, Nat.reduceAdd, Nat.reduceSub]; rfl) (by with_reducible first | exact ok.x0 | exact ok.x1 | exact ok.x2 | exact ok.x3) ?_
               | with_reducible refine auto_gather K Co A c (by decide +kernel) (by decide) (by rfl) (by decide +kernel) _ (by simp only [Nat.reduceMul, Nat.reduceDiv, Nat.reduceAdd, Nat.reduceSub]; rfl) ?_
               | with_reducible refine auto_arg7 K Co A c ?_
               | with_reducible refine auto_arg8 K Co A c ?_
               | with_reducible refine auto_own_load K Co A c (by decide +kernel) (by decide) ?_
               | with_reducible refine auto_s0_store K Co A c (by decide) _ (by simp only [Nat.reduceMul, Nat.reduceDiv, Nat.reduceAdd, Nat.reduceSub]; rfl) (by with_reducible first | exact ok.s0 | exact ok.s1) ?_
               | with_reducible refine auto_s0_dead K Co A c (by decide) fun _ => ?_
               | with_reducible refine auto_sls_load K Co A c 0 (by decide) (by decide) ?_
               | with_reducible refine auto_sls_load K Co A c 1 (by decide) (by decide) ?_
               | with_reducible refine auto_sls_load K Co A c 2 (by decide) (by decide) ?_)
          with_reducible apply step_pure c
          exact hQ)
  first
  | (iterate 10
        with_reducible apply step_seq c
        · intro Q' hQ
          first | rw [k0_part81_eq_skeleton] | rw [k0_part82_eq_skeleton] | rw [k0_part83_eq_skeleton] | rw [k0_part84_eq_skeleton] | rw [k0_part85_eq_skeleton] | rw [k0_part86_eq_skeleton] | rw [k0_part87_eq_skeleton] | rw [k0_part88_eq_skeleton] | rw [k0_part89_eq_skeleton] | rw [k0_part90_eq_skeleton]
          delta k0_part81_skel k0_part82_skel k0_part83_skel k0_part84_skel k0_part85_skel k0_part86_skel k0_part87_skel k0_part88_skel k0_part89_skel k0_part90_skel
          try dsimp -zetaHave only
          repeat
            try extract_lets jp jp jp jp jp jp jp jp jp jp
            first
            | (with_reducible refine auto_if K Co A c (by decide +kernel) (by decide) _ (by simp only [Nat.reduceMul, Nat.reduceDiv, Nat.reduceAdd, Nat.reduceSub]; rfl) ?_ ?_
               · intro h hj hjp
                 with_reducible apply step_bind c
                 with_reducible refine auto_scatter K Co A c hj (by with_unfolding_all rfl) (by decide) (by decide +kernel) (by decide +kernel) (by decide) _ (by simp only [Nat.reduceMul, Nat.reduceDiv, Nat.reduceAdd, Nat.reduceSub]; rfl) ?_
                 exact hjp
               subst jp
               beta_reduce)
            | (with_reducible refine auto_if_gw K Co A c (by decide +kernel) (by decide) _ (by simp only [Nat.reduceMul, Nat.reduceDiv, Nat.reduceAdd, Nat.reduceSub]; rfl) ?_ ?_
               · intro h hj hjp
                 with_reducible apply step_bind c
                 with_reducible refine auto_grc K Co A c hj (by decide +kernel) (by with_unfolding_all rfl) (by decide) _ (by simp only [Nat.reduceMul, Nat.reduceDiv, Nat.reduceAdd, Nat.reduceSub]; rfl) ?_
                 exact hjp
               subst jp
               beta_reduce)
            | (with_reducible apply step_bind c
               first
               | with_reducible refine auto_send K Co A c _ (by rfl) (by with_unfolding_all rfl) (by decide) _ (by simp only [Nat.reduceMul, Nat.reduceDiv, Nat.reduceAdd, Nat.reduceSub]; rfl) ?_
               | with_reducible refine auto_gsn K Co A c _ (by rfl) (by with_unfolding_all rfl) (by decide) _ (by simp only [Nat.reduceMul, Nat.reduceDiv, Nat.reduceAdd, Nat.reduceSub]; rfl) ?_
               | with_reducible refine auto_recv K Co A c _ (by rfl) (by with_unfolding_all rfl) (by decide) _ (by simp only [Nat.reduceMul, Nat.reduceDiv, Nat.reduceAdd, Nat.reduceSub]; rfl) ?_
               | with_reducible refine auto_grp_store K Co A c (by decide) (by decide) _ (by simp only [Nat.reduceMul, Nat.reduceDiv, Nat.reduceAdd, Nat.reduceSub]; rfl) (by with_reducible first | exact ok.f0 | exact ok.f1 | exact ok.f2 | exact ok.f3) ?_
               | with_reducible refine auto_grp_load K Co A c 0 (by decide) (by decide) ?_
               | with_reducible refine auto_grp_load K Co A c 1 (by decide) (by decide) ?_
               | with_reducible refine auto_grp_load K Co A c 2 (by decide) (by decide) ?_
               | with_reducible refine auto_grp_load K Co A c 3 (by decide) (by decide) ?_
               | with_reducible refine auto_x1_dead K Co A c fun _ => ?_
               | with_reducible refine auto_x1_store K Co A c (by decide) _ (by simp only [Nat.reduceMul, Nat.reduceDiv, Nat.reduceAdd, Nat.reduceSub]; rfl) (by with_reducible first | exact ok.x0 | exact ok.x1 | exact ok.x2 | exact ok.x3) ?_
               | with_reducible refine auto_gather K Co A c (by decide +kernel) (by decide) (by rfl) (by decide +kernel) _ (by simp only [Nat.reduceMul, Nat.reduceDiv, Nat.reduceAdd, Nat.reduceSub]; rfl) ?_
               | with_reducible refine auto_arg7 K Co A c ?_
               | with_reducible refine auto_arg8 K Co A c ?_
               | with_reducible refine auto_own_load K Co A c (by decide +kernel) (by decide) ?_
               | with_reducible refine auto_s0_store K Co A c (by decide) _ (by simp only [Nat.reduceMul, Nat.reduceDiv, Nat.reduceAdd, Nat.reduceSub]; rfl) (by with_reducible first | exact ok.s0 | exact ok.s1) ?_
               | with_reducible refine auto_s0_dead K Co A c (by decide) fun _ => ?_
               | with_reducible refine auto_sls_load K Co A c 0 (by decide) (by decide) ?_
               | with_reducible refine auto_sls_load K Co A c 1 (by decide) (by decide) ?_
               | with_reducible refine auto_sls_load K Co A c 2 (by decide) (by decide) ?_)
          with_reducible apply step_pure c
          exact hQ)
  first
  | (iterate 10
        with_reducible apply step_seq c
        · intro Q' hQ
          first | rw [k0_part91_eq_skeleton] | rw [k0_part92_eq_skeleton] | rw [k0_part93_eq_skeleton] | rw [k0_part94_eq_skeleton] | rw [k0_part95_eq_skeleton] | rw [k0_part96_eq_skeleton] | rw [k0_part97_eq_skeleton] | rw [k0_part98_eq_skeleton] | rw [k0_part99_eq_skeleton] | rw [k0_part100_eq_skeleton]
          delta k0_part91_skel k0_part92_skel k0_part93_skel k0_part94_skel k0_part95_skel k0_part96_skel k0_part97_skel k0_part98_skel k0_part99_skel k0_part100_skel
          try dsimp -zetaHave only
          repeat
            try extract_lets jp jp jp jp jp jp jp jp jp jp
            first
            | (with_reducible refine auto_if K Co A c (by decide +kernel) (by decide) _ (by simp only [Nat.reduceMul, Nat.reduceDiv, Nat.reduceAdd, Nat.reduceSub]; rfl) ?_ ?_
               · intro h hj hjp
                 with_reducible apply step_bind c
                 with_reducible refine auto_scatter K Co A c hj (by with_unfolding_all rfl) (by decide) (by decide +kernel) (by decide +kernel) (by decide) _ (by simp only [Nat.reduceMul, Nat.reduceDiv, Nat.reduceAdd, Nat.reduceSub]; rfl) ?_
                 exact hjp
               subst jp
               beta_reduce)
            | (with_reducible refine auto_if_gw K Co A c (by decide +kernel) (by decide) _ (by simp only [Nat.reduceMul, Nat.reduceDiv, Nat.reduceAdd, Nat.reduceSub]; rfl) ?_ ?_
               · intro h hj hjp
                 with_reducible apply step_bind c
                 with_reducible refine auto_grc K Co A c hj (by decide +kernel) (by with_unfolding_all rfl) (by decide) _ (by simp only [Nat.reduceMul, Nat.reduceDiv, Nat.reduceAdd, Nat.reduceSub]; rfl) ?_
                 exact hjp
               subst jp
               beta_reduce)
            | (with_reducible apply step_bind c
               first
               | with_reducible refine auto_send K Co A c _ (by rfl) (by with_unfolding_all rfl) (by decide) _ (by simp only [Nat.reduceMul, Nat.reduceDiv, Nat.reduceAdd, Nat.reduceSub]; rfl) ?_
               | with_reducible refine auto_gsn K Co A c _ (by rfl) (by with_unfolding_all rfl) (by decide) _ (by simp only [Nat.reduceMul, Nat.reduceDiv, Nat.reduceAdd, Nat.reduceSub]; rfl) ?_
               | with_reducible refine auto_recv K Co A c _ (by rfl) (by with_unfolding_all rfl) (by decide) _ (by simp only [Nat.reduceMul, Nat.reduceDiv, Nat.reduceAdd, Nat.reduceSub]; rfl) ?_
               | with_reducible refine auto_grp_store K Co A c (by decide) (by decide) _ (by simp only [Nat.reduceMul, Nat.reduceDiv, Nat.reduceAdd, Nat.reduceSub]; rfl) (by with_reducible first | exact ok.f0 | exact ok.f1 | exact ok.f2 | exact ok.f3) ?_
               | with_reducible refine auto_grp_load K Co A c 0 (by decide) (by decide) ?_
               | with_reducible refine auto_grp_load K Co A c 1 (by decide) (by decide) ?_
               | with_reducible refine auto_grp_load K Co A c 2 (by decide) (by decide) ?_
               | with_reducible refine auto_grp_load K Co A c 3 (by decide) (by decide) ?_
               | with_reducible refine auto_x1_dead K Co A c fun _ => ?_
               | with_reducible refine auto_x1_store K Co A c (by decide) _ (by simp only [Nat.reduceMul, Nat.reduceDiv, Nat.reduceAdd, Nat.reduceSub]; rfl) (by with_reducible first | exact ok.x0 | exact ok.x1 | exact ok.x2 | exact ok.x3) ?_
               | with_reducible refine auto_gather K Co A c (by decide +kernel) (by decide) (by rfl) (by decide +kernel) _ (by simp only [Nat.reduceMul, Nat.reduceDiv, Nat.reduceAdd, Nat.reduceSub]; rfl) ?_
               | with_reducible refine auto_arg7 K Co A c ?_
               | with_reducible refine auto_arg8 K Co A c ?_
               | with_reducible refine auto_own_load K Co A c (by decide +kernel) (by decide) ?_
               | with_reducible refine auto_s0_store K Co A c (by decide) _ (by simp only [Nat.reduceMul, Nat.reduceDiv, Nat.reduceAdd, Nat.reduceSub]; rfl) (by with_reducible first | exact ok.s0 | exact ok.s1) ?_
               | with_reducible refine auto_s0_dead K Co A c (by decide) fun _ => ?_
               | with_reducible refine auto_sls_load K Co A c 0 (by decide) (by decide) ?_
               | with_reducible refine auto_sls_load K Co A c 1 (by decide) (by decide) ?_
               | with_reducible refine auto_sls_load K Co A c 2 (by decide) (by decide) ?_)
          with_reducible apply step_pure c
          exact hQ)
  first
  | (iterate 10
        with_reducible apply step_seq c
        · intro Q' hQ
          first | rw [k0_part101_eq_skeleton] | rw [k0_part102_eq_skeleton] | rw [k0_part103_eq_skeleton] | rw [k0_part104_eq_skeleton] | rw [k0_part105_eq_skeleton] | rw [k0_part106_eq_skeleton] | rw [k0_part107_eq_skeleton] | rw [k0_part108_eq_skeleton] | rw [k0_part109_eq_skeleton] | rw [k0_part110_eq_skeleton]
          delta k0_part101_skel k0_part102_skel k0_part103_skel k0_part104_skel k0_part105_skel k0_part106_skel k0_part107_skel k0_part108_skel k0_part109_skel k0_part110_skel
          try dsimp -zetaHave only
          repeat
            try extract_lets jp jp jp jp jp jp jp jp jp jp
            first
            | (with_reducible refine auto_if K Co A c (by decide +kernel) (by decide) _ (by simp only [Nat.reduceMul, Nat.reduceDiv, Nat.reduceAdd, Nat.reduceSub]; rfl) ?_ ?_
               · intro h hj hjp
                 with_reducible apply step_bind c
                 with_reducible refine auto_scatter K Co A c hj (by with_unfolding_all rfl) (by decide) (by decide +kernel) (by decide +kernel) (by decide) _ (by simp only [Nat.reduceMul, Nat.reduceDiv, Nat.reduceAdd, Nat.reduceSub]; rfl) ?_
                 exact hjp
               subst jp
               beta_reduce)
            | (with_reducible refine auto_if_gw K Co A c (by decide +kernel) (by decide) _ (by simp only [Nat.reduceMul, Nat.reduceDiv, Nat.reduceAdd, Nat.reduceSub]; rfl) ?_ ?_
               · intro h hj hjp
                 with_reducible apply step_bind c
                 with_reducible refine auto_grc K Co A c hj (by decide +kernel) (by with_unfolding_all rfl) (by decide) _ (by simp only [Nat.reduceMul, Nat.reduceDiv, Nat.reduceAdd, Nat.reduceSub]; rfl) ?_
                 exact hjp
               subst jp
               beta_reduce)
            | (with_reducible apply step_bind c
               first
               | with_reducible refine auto_send K Co A c _ (by rfl) (by with_unfolding_all rfl) (by decide) _ (by simp only [Nat.reduceMul, Nat.reduceDiv, Nat.reduceAdd, Nat.reduceSub]; rfl) ?_
               | with_reducible refine auto_gsn K Co A c _ (by rfl) (by with_unfolding_all rfl) (by decide) _ (by simp only [Nat.reduceMul, Nat.reduceDiv, Nat.reduceAdd, Nat.reduceSub]; rfl) ?_
               | with_reducible refine auto_recv K Co A c _ (by rfl) (by with_unfolding_all rfl) (by decide) _ (by simp only [Nat.reduceMul, Nat.reduceDiv, Nat.reduceAdd, Nat.reduceSub]; rfl) ?_
               | with_reducible refine auto_grp_store K Co A c (by decide) (by decide) _ (by simp only [Nat.reduceMul, Nat.reduceDiv, Nat.reduceAdd, Nat.reduceSub]; rfl) (by with_reducible first | exact ok.f0 | exact ok.f1 | exact ok.f2 | exact ok.f3) ?_
               | with_reducible refine auto_grp_load K Co A c 0 (by decide) (by decide) ?_
               | with_reducible refine auto_grp_load K Co A c 1 (by decide) (by decide) ?_
               | with_reducible refine auto_grp_load K Co A c 2 (by decide) (by decide) ?_
               | with_reducible refine auto_grp_load K Co A c 3 (by decide) (by decide) ?_
               | with_reducible refine auto_x1_dead K Co A c fun _ => ?_
               | with_reducible refine auto_x1_store K Co A c (by decide) _ (by simp only [Nat.reduceMul, Nat.reduceDiv, Nat.reduceAdd, Nat.reduceSub]; rfl) (by with_reducible first | exact ok.x0 | exact ok.x1 | exact ok.x2 | exact ok.x3) ?_
               | with_reducible refine auto_gather K Co A c (by decide +kernel) (by decide) (by rfl) (by decide +kernel) _ (by simp only [Nat.reduceMul, Nat.reduceDiv, Nat.reduceAdd, Nat.reduceSub]; rfl) ?_
               | with_reducible refine auto_arg7 K Co A c ?_
               | with_reducible refine auto_arg8 K Co A c ?_
               | with_reducible refine auto_own_load K Co A c (by decide +kernel) (by decide) ?_
               | with_reducible refine auto_s0_store K Co A c (by decide) _ (by simp only [Nat.reduceMul, Nat.reduceDiv, Nat.reduceAdd, Nat.reduceSub]; rfl) (by with_reducible first | exact ok.s0 | exact ok.s1) ?_
               | with_reducible refine auto_s0_dead K Co A c (by decide) fun _ => ?_
               | with_reducible refine auto_sls_load K Co A c 0 (by decide) (by decide) ?_
               | with_reducible refine auto_sls_load K Co A c 1 (by decide) (by decide) ?_
               | with_reducible refine auto_sls_load K Co A c 2 (by decide) (by decide) ?_)
          with_reducible apply step_pure c
          exact hQ)
  first
  | (iterate 10
        with_reducible apply step_seq c
        · intro Q' hQ
          first | rw [k0_part111_eq_skeleton] | rw [k0_part112_eq_skeleton] | rw [k0_part113_eq_skeleton] | rw [k0_part114_eq_skeleton] | rw [k0_part115_eq_skeleton] | rw [k0_part116_eq_skeleton] | rw [k0_part117_eq_skeleton] | rw [k0_part118_eq_skeleton] | rw [k0_part119_eq_skeleton] | rw [k0_part120_eq_skeleton]
          delta k0_part111_skel k0_part112_skel k0_part113_skel k0_part114_skel k0_part115_skel k0_part116_skel k0_part117_skel k0_part118_skel k0_part119_skel k0_part120_skel
          try dsimp -zetaHave only
          repeat
            try extract_lets jp jp jp jp jp jp jp jp jp jp
            first
            | (with_reducible refine auto_if K Co A c (by decide +kernel) (by decide) _ (by simp only [Nat.reduceMul, Nat.reduceDiv, Nat.reduceAdd, Nat.reduceSub]; rfl) ?_ ?_
               · intro h hj hjp
                 with_reducible apply step_bind c
                 with_reducible refine auto_scatter K Co A c hj (by with_unfolding_all rfl) (by decide) (by decide +kernel) (by decide +kernel) (by decide) _ (by simp only [Nat.reduceMul, Nat.reduceDiv, Nat.reduceAdd, Nat.reduceSub]; rfl) ?_
                 exact hjp
               subst jp
               beta_reduce)
            | (with_reducible refine auto_if_gw K Co A c (by decide +kernel) (by decide) _ (by simp only [Nat.reduceMul, Nat.reduceDiv, Nat.reduceAdd, Nat.reduceSub]; rfl) ?_ ?_
               · intro h hj hjp
                 with_reducible apply step_bind c
                 with_reducible refine auto_grc K Co A c hj (by decide +kernel) (by with_unfolding_all rfl) (by decide) _ (by simp only [Nat.reduceMul, Nat.reduceDiv, Nat.reduceAdd, Nat.reduceSub]; rfl) ?_
                 exact hjp
               subst jp
               beta_reduce)
            | (with_reducible apply step_bind c
               first
               | with_reducible refine auto_send K Co A c _ (by rfl) (by with_unfolding_all rfl) (by decide) _ (by simp only [Nat.reduceMul, Nat.reduceDiv, Nat.reduceAdd, Nat.reduceSub]; rfl) ?_
               | with_reducible refine auto_gsn K Co A c _ (by rfl) (by with_unfolding_all rfl) (by decide) _ (by simp only [Nat.reduceMul, Nat.reduceDiv, Nat.reduceAdd, Nat.reduceSub]; rfl) ?_
               | with_reducible refine auto_recv K Co A c _ (by rfl) (by with_unfolding_all rfl) (by decide) _ (by simp only [Nat.reduceMul, Nat.reduceDiv, Nat.reduceAdd, Nat.reduceSub]; rfl) ?_
               | with_reducible refine auto_grp_store K Co A c (by decide) (by decide) _ (by simp only [Nat.reduceMul, Nat.reduceDiv, Nat.reduceAdd, Nat.reduceSub]; rfl) (by with_reducible first | exact ok.f0 | exact ok.f1 | exact ok.f2 | exact ok.f3) ?_
               | with_reducible refine auto_grp_load K Co A c 0 (by decide) (by decide) ?_
               | with_reducible refine auto_grp_load K Co A c 1 (by decide) (by decide) ?_
               | with_reducible refine auto_grp_load K Co A c 2 (by decide) (by decide) ?_
               | with_reducible refine auto_grp_load K Co A c 3 (by decide) (by decide) ?_
               | with_reducible refine auto_x1_dead K Co A c fun _ => ?_
               | with_reducible refine auto_x1_store K Co A c (by decide) _ (by simp only [Nat.reduceMul, Nat.reduceDiv, Nat.reduceAdd, Nat.reduceSub]; rfl) (by with_reducible first | exact ok.x0 | exact ok.x1 | exact ok.x2 | exact ok.x3) ?_
               | with_reducible refine auto_gather K Co A c (by decide +kernel) (by decide) (by rfl) (by decide +kernel) _ (by simp only [Nat.reduceMul, Nat.reduceDiv, Nat.reduceAdd, Nat.reduceSub]; rfl) ?_
               | with_reducible refine auto_arg7 K Co A c ?_
               | with_reducible refine auto_arg8 K Co A c ?_
               | with_reducible refine auto_own_load K Co A c (by decide +kernel) (by decide) ?_
               | with_reducible refine auto_s0_store K Co A c (by decide) _ (by simp only [Nat.reduceMul, Nat.reduceDiv, Nat.reduceAdd, Nat.reduceSub]; rfl) (by with_reducible first | exact ok.s0 | exact ok.s1) ?_
               | with_reducible refine auto_s0_dead K Co A c (by decide) fun _ => ?_
               | with_reducible refine auto_sls_load K Co A c 0 (by decide) (by decide) ?_
               | with_reducible refine auto_sls_load K Co A c 1 (by decide) (by decide) ?_
               | with_reducible refine auto_sls_load K Co A c 2 (by decide) (by decide) ?_)
          with_reducible apply step_pure c
          exact hQ)
  with_reducible apply step_pure c
  exact h _ _ _

end Cert.KernelIdealProof

end
-- ==== Proof.KernelIdealBody3.lean ====
/-
The body's third part, one operation after another.
-/
module

public import proofs.«01_k».proof.Proof.KernelIdealIf

@[expose] public section

noncomputable section

namespace Cert.KernelIdealProof

open Cert.KernelIdeal Cert.KernelIdeal.Gen Cert.Fam

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (K : Dev nD × CellK → ℕ) (Co : Cont F) (A : Args F) (c : Dev nD)

variable (K : Dev nD × CellK → ℕ) {Co : Cont F} {A : Args F} (c : Dev nD)
set_option maxHeartbeats 8000000
set_option pp.maxSteps 400

/-- After four writes every row of the residual is written. -/
theorem doneX_full (i : Shape.Idx S512x512) : doneX 4 i := by
  have h : (i 0).val < 512 := (i 0).isLt
  show (i 0).val / 128 < 4
  omega

/-- The third part: the second sum is broadcast and received, and the result is written. -/
theorem body3 (ok : Ok Co A c) {Q x₁ y₁ y₂ y₃} (h : ∀ z₁ z₂ z₃ z₄, St K Co A c ⟨160, 1, 64, 64, 62, 62, 2, 2, 2, 4, 8, 4, 4⟩ ⊢ Q ⟨z₁, z₂, z₃, z₄⟩) :
    St K Co A c ⟨128, 1, 56, 32, 32, 32, 2, 2, 1, 4, 8, 4, 0⟩ ⊢ WP c (k0_part184 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c x₁ (v417 A) (v3949 Co c) y₁ y₂ y₃) Q := by
  rw [k0_part184_eq_skeleton]
  delta k0_part184_skel
  beta_reduce
  first
  | (iterate 10
        with_reducible apply step_seq c
        · intro Q' hQ
          first | rw [k0_part121_eq_skeleton] | rw [k0_part122_eq_skeleton] | rw [k0_part123_eq_skeleton] | rw [k0_part124_eq_skeleton] | rw [k0_part125_eq_skeleton] | rw [k0_part126_eq_skeleton] | rw [k0_part127_eq_skeleton] | rw [k0_part128_eq_skeleton] | rw [k0_part129_eq_skeleton] | rw [k0_part130_eq_skeleton]
          delta k0_part121_skel k0_part122_skel k0_part123_skel k0_part124_skel k0_part125_skel k0_part126_skel k0_part127_skel k0_part128_skel k0_part129_skel k0_part130_skel
          try dsimp -zetaHave only
          repeat
            try extract_lets jp jp jp jp jp jp jp jp jp jp
            first
            | (with_reducible refine auto_if_gw K Co A c (by decide +kernel) (by decide) _ (by simp only [Nat.reduceMul, Nat.reduceDiv, Nat.reduceAdd, Nat.reduceSub]; rfl) ?_ ?_
               · intro h hj hjp
                 with_reducible apply step_bind c
                 with_reducible refine auto_grc K Co A c hj (by decide +kernel) (by with_unfolding_all rfl) (by decide) _ (by simp only [Nat.reduceMul, Nat.reduceDiv, Nat.reduceAdd, Nat.reduceSub]; rfl) ?_
                 exact hjp
               subst jp
               beta_reduce)
            | (with_reducible apply step_bind c
               first
               | with_reducible refine auto_send K Co A c _ (by rfl) (by with_unfolding_all rfl) (by decide) _ (by simp only [Nat.reduceMul, Nat.reduceDiv, Nat.reduceAdd, Nat.reduceSub]; rfl) ?_
               | with_reducible refine auto_gsn K Co A c _ (by rfl) (by with_unfolding_all rfl) (by decide) _ (by simp only [Nat.reduceMul, Nat.reduceDiv, Nat.reduceAdd, Nat.reduceSub]; rfl) ?_
               | with_reducible refine auto_recv K Co A c _ (by rfl) (by with_unfolding_all rfl) (by decide) _ (by simp only [Nat.reduceMul, Nat.reduceDiv, Nat.reduceAdd, Nat.reduceSub]; rfl) ?_
               | with_reducible refine auto_gather K Co A c (by decide +kernel) (by decide) (by rfl) (by decide +kernel) _ (by simp only [Nat.reduceMul, Nat.reduceDiv, Nat.reduceAdd, Nat.reduceSub]; rfl) ?_
               | with_reducible refine auto_x1_load K Co A c (fun i => doneX_full i) ?_
               | with_reducible refine auto_grp_load K Co A c 0 (by decide) (by decide) ?_
               | with_reducible refine auto_grp_load K Co A c 1 (by decide) (by decide) ?_
               | with_reducible refine auto_grp_load K Co A c 2 (by decide) (by decide) ?_
               | with_reducible refine auto_grp_load K Co A c 3 (by decide) (by decide) ?_
               | with_reducible refine auto_out_store K Co A c (by decide) _ (by simp only [Nat.reduceMul, Nat.reduceDiv, Nat.reduceAdd, Nat.reduceSub]; rfl) (by with_reducible first | exact ok.y0 | exact ok.y1 | exact ok.y2 | exact ok.y3) ?_
               | with_reducible refine auto_out_dead K Co A c fun _ => ?_
               | with_reducible refine auto_own_store K Co A c (by decide +kernel) (by decide) _ _ (by simp only [Nat.reduceMul, Nat.reduceDiv, Nat.reduceAdd, Nat.reduceSub]; rfl) (by simp only [Nat.reduceMul, Nat.reduceDiv, Nat.reduceAdd, Nat.reduceSub]; rfl) (by with_reducible first | exact ok.r0 | exact ok.r1) ?_
               | with_reducible refine auto_own_load K Co A c (by decide +kernel) (by decide) ?_
               | with_reducible refine auto_sls_load K Co A c 3 (by decide) (by decide) ?_)
          with_reducible apply step_pure c
          exact hQ)
  first
  | (iterate 10
        with_reducible apply step_seq c
        · intro Q' hQ
          first | rw [k0_part131_eq_skeleton] | rw [k0_part132_eq_skeleton] | rw [k0_part133_eq_skeleton] | rw [k0_part134_eq_skeleton] | rw [k0_part135_eq_skeleton] | rw [k0_part136_eq_skeleton] | rw [k0_part137_eq_skeleton] | rw [k0_part138_eq_skeleton] | rw [k0_part139_eq_skeleton] | rw [k0_part140_eq_skeleton]
          delta k0_part131_skel k0_part132_skel k0_part133_skel k0_part134_skel k0_part135_skel k0_part136_skel k0_part137_skel k0_part138_skel k0_part139_skel k0_part140_skel
          try dsimp -zetaHave only
          repeat
            try extract_lets jp jp jp jp jp jp jp jp jp jp
            first
            | (with_reducible refine auto_if_gw K Co A c (by decide +kernel) (by decide) _ (by simp only [Nat.reduceMul, Nat.reduceDiv, Nat.reduceAdd, Nat.reduceSub]; rfl) ?_ ?_
               · intro h hj hjp
                 with_reducible apply step_bind c
                 with_reducible refine auto_grc K Co A c hj (by decide +kernel) (by with_unfolding_all rfl) (by decide) _ (by simp only [Nat.reduceMul, Nat.reduceDiv, Nat.reduceAdd, Nat.reduceSub]; rfl) ?_
                 exact hjp
               subst jp
               beta_reduce)
            | (with_reducible apply step_bind c
               first
               | with_reducible refine auto_send K Co A c _ (by rfl) (by with_unfolding_all rfl) (by decide) _ (by simp only [Nat.reduceMul, Nat.reduceDiv, Nat.reduceAdd, Nat.reduceSub]; rfl) ?_
               | with_reducible refine auto_gsn K Co A c _ (by rfl) (by with_unfolding_all rfl) (by decide) _ (by simp only [Nat.reduceMul, Nat.reduceDiv, Nat.reduceAdd, Nat.reduceSub]; rfl) ?_
               | with_reducible refine auto_recv K Co A c _ (by rfl) (by with_unfolding_all rfl) (by decide) _ (by simp only [Nat.reduceMul, Nat.reduceDiv, Nat.reduceAdd, Nat.reduceSub]; rfl) ?_
               | with_reducible refine auto_gather K Co A c (by decide +kernel) (by decide) (by rfl) (by decide +kernel) _ (by simp only [Nat.reduceMul, Nat.reduceDiv, Nat.reduceAdd, Nat.reduceSub]; rfl) ?_
               | with_reducible refine auto_x1_load K Co A c (fun i => doneX_full i) ?_
               | with_reducible refine auto_grp_load K Co A c 0 (by decide) (by decide) ?_
               | with_reducible refine auto_grp_load K Co A c 1 (by decide) (by decide) ?_
               | with_reducible refine auto_grp_load K Co A c 2 (by decide) (by decide) ?_
               | with_reducible refine auto_grp_load K Co A c 3 (by decide) (by decide) ?_
               | with_reducible refine auto_out_store K Co A c (by decide) _ (by simp only [Nat.reduceMul, Nat.reduceDiv, Nat.reduceAdd, Nat.reduceSub]; rfl) (by with_reducible first | exact ok.y0 | exact ok.y1 | exact ok.y2 | exact ok.y3) ?_
               | with_reducible refine auto_out_dead K Co A c fun _ => ?_
               | with_reducible refine auto_own_store K Co A c (by decide +kernel) (by decide) _ _ (by simp only [Nat.reduceMul, Nat.reduceDiv, Nat.reduceAdd, Nat.reduceSub]; rfl) (by simp only [Nat.reduceMul, Nat.reduceDiv, Nat.reduceAdd, Nat.reduceSub]; rfl) (by with_reducible first | exact ok.r0 | exact ok.r1) ?_
               | with_reducible refine auto_own_load K Co A c (by decide +kernel) (by decide) ?_
               | with_reducible refine auto_sls_load K Co A c 3 (by decide) (by decide) ?_)
          with_reducible apply step_pure c
          exact hQ)
  first
  | (iterate 10
        with_reducible apply step_seq c
        · intro Q' hQ
          first | rw [k0_part141_eq_skeleton] | rw [k0_part142_eq_skeleton] | rw [k0_part143_eq_skeleton] | rw [k0_part144_eq_skeleton] | rw [k0_part145_eq_skeleton] | rw [k0_part146_eq_skeleton] | rw [k0_part147_eq_skeleton] | rw [k0_part148_eq_skeleton] | rw [k0_part149_eq_skeleton] | rw [k0_part150_eq_skeleton]
          delta k0_part141_skel k0_part142_skel k0_part143_skel k0_part144_skel k0_part145_skel k0_part146_skel k0_part147_skel k0_part148_skel k0_part149_skel k0_part150_skel
          try dsimp -zetaHave only
          repeat
            try extract_lets jp jp jp jp jp jp jp jp jp jp
            first
            | (with_reducible refine auto_if_gw K Co A c (by decide +kernel) (by decide) _ (by simp only [Nat.reduceMul, Nat.reduceDiv, Nat.reduceAdd, Nat.reduceSub]; rfl) ?_ ?_
               · intro h hj hjp
                 with_reducible apply step_bind c
                 with_reducible refine auto_grc K Co A c hj (by decide +kernel) (by with_unfolding_all rfl) (by decide) _ (by simp only [Nat.reduceMul, Nat.reduceDiv, Nat.reduceAdd, Nat.reduceSub]; rfl) ?_
                 exact hjp
               subst jp
               beta_reduce)
            | (with_reducible apply step_bind c
               first
               | with_reducible refine auto_send K Co A c _ (by rfl) (by with_unfolding_all rfl) (by decide) _ (by simp only [Nat.reduceMul, Nat.reduceDiv, Nat.reduceAdd, Nat.reduceSub]; rfl) ?_
               | with_reducible refine auto_gsn K Co A c _ (by rfl) (by with_unfolding_all rfl) (by decide) _ (by simp only [Nat.reduceMul, Nat.reduceDiv, Nat.reduceAdd, Nat.reduceSub]; rfl) ?_
               | with_reducible refine auto_recv K Co A c _ (by rfl) (by with_unfolding_all rfl) (by decide) _ (by simp only [Nat.reduceMul, Nat.reduceDiv, Nat.reduceAdd, Nat.reduceSub]; rfl) ?_
               | with_reducible refine auto_gather K Co A c (by decide +kernel) (by decide) (by rfl) (by decide +kernel) _ (by simp only [Nat.reduceMul, Nat.reduceDiv, Nat.reduceAdd, Nat.reduceSub]; rfl) ?_
               | with_reducible refine auto_x1_load K Co A c (fun i => doneX_full i) ?_
               | with_reducible refine auto_grp_load K Co A c 0 (by decide) (by decide) ?_
               | with_reducible refine auto_grp_load K Co A c 1 (by decide) (by decide) ?_
               | with_reducible refine auto_grp_load K Co A c 2 (by decide) (by decide) ?_
               | with_reducible refine auto_grp_load K Co A c 3 (by decide) (by decide) ?_
               | with_reducible refine auto_out_store K Co A c (by decide) _ (by simp only [Nat.reduceMul, Nat.reduceDiv, Nat.reduceAdd, Nat.reduceSub]; rfl) (by with_reducible first | exact ok.y0 | exact ok.y1 | exact ok.y2 | exact ok.y3) ?_
               | with_reducible refine auto_out_dead K Co A c fun _ => ?_
               | with_reducible refine auto_own_store K Co A c (by decide +kernel) (by decide) _ _ (by simp only [Nat.reduceMul, Nat.reduceDiv, Nat.reduceAdd, Nat.reduceSub]; rfl) (by simp only [Nat.reduceMul, Nat.reduceDiv, Nat.reduceAdd, Nat.reduceSub]; rfl) (by with_reducible first | exact ok.r0 | exact ok.r1) ?_
               | with_reducible refine auto_own_load K Co A c (by decide +kernel) (by decide) ?_
               | with_reducible refine auto_sls_load K Co A c 3 (by decide) (by decide) ?_)
          with_reducible apply step_pure c
          exact hQ)
  first
  | (iterate 10
        with_reducible apply step_seq c
        · intro Q' hQ
          first | rw [k0_part151_eq_skeleton] | rw [k0_part152_eq_skeleton] | rw [k0_part153_eq_skeleton] | rw [k0_part154_eq_skeleton] | rw [k0_part155_eq_skeleton] | rw [k0_part156_eq_skeleton] | rw [k0_part157_eq_skeleton] | rw [k0_part158_eq_skeleton] | rw [k0_part159_eq_skeleton] | rw [k0_part160_eq_skeleton]
          delta k0_part151_skel k0_part152_skel k0_part153_skel k0_part154_skel k0_part155_skel k0_part156_skel k0_part157_skel k0_part158_skel k0_part159_skel k0_part160_skel
          try dsimp -zetaHave only
          repeat
            try extract_lets jp jp jp jp jp jp jp jp jp jp
            first
            | (with_reducible refine auto_if_gw K Co A c (by decide +kernel) (by decide) _ (by simp only [Nat.reduceMul, Nat.reduceDiv, Nat.reduceAdd, Nat.reduceSub]; rfl) ?_ ?_
               · intro h hj hjp
                 with_reducible apply step_bind c
                 with_reducible refine auto_grc K Co A c hj (by decide +kernel) (by with_unfolding_all rfl) (by decide) _ (by simp only [Nat.reduceMul, Nat.reduceDiv, Nat.reduceAdd, Nat.reduceSub]; rfl) ?_
                 exact hjp
               subst jp
               beta_reduce)
            | (with_reducible apply step_bind c
               first
               | with_reducible refine auto_send K Co A c _ (by rfl) (by with_unfolding_all rfl) (by decide) _ (by simp only [Nat.reduceMul, Nat.reduceDiv, Nat.reduceAdd, Nat.reduceSub]; rfl) ?_
               | with_reducible refine auto_gsn K Co A c _ (by rfl) (by with_unfolding_all rfl) (by decide) _ (by simp only [Nat.reduceMul, Nat.reduceDiv, Nat.reduceAdd, Nat.reduceSub]; rfl) ?_
               | with_reducible refine auto_recv K Co A c _ (by rfl) (by with_unfolding_all rfl) (by decide) _ (by simp only [Nat.reduceMul, Nat.reduceDiv, Nat.reduceAdd, Nat.reduceSub]; rfl) ?_
               | with_reducible refine auto_gather K Co A c (by decide +kernel) (by decide) (by rfl) (by decide +kernel) _ (by simp only [Nat.reduceMul, Nat.reduceDiv, Nat.reduceAdd, Nat.reduceSub]; rfl) ?_
               | with_reducible refine auto_x1_load K Co A c (fun i => doneX_full i) ?_
               | with_reducible refine auto_grp_load K Co A c 0 (by decide) (by decide) ?_
               | with_reducible refine auto_grp_load K Co A c 1 (by decide) (by decide) ?_
               | with_reducible refine auto_grp_load K Co A c 2 (by decide) (by decide) ?_
               | with_reducible refine auto_grp_load K Co A c 3 (by decide) (by decide) ?_
               | with_reducible refine auto_out_store K Co A c (by decide) _ (by simp only [Nat.reduceMul, Nat.reduceDiv, Nat.reduceAdd, Nat.reduceSub]; rfl) (by with_reducible first | exact ok.y0 | exact ok.y1 | exact ok.y2 | exact ok.y3) ?_
               | with_reducible refine auto_out_dead K Co A c fun _ => ?_
               | with_reducible refine auto_own_store K Co A c (by decide +kernel) (by decide) _ _ (by simp only [Nat.reduceMul, Nat.reduceDiv, Nat.reduceAdd, Nat.reduceSub]; rfl) (by simp only [Nat.reduceMul, Nat.reduceDiv, Nat.reduceAdd, Nat.reduceSub]; rfl) (by with_reducible first | exact ok.r0 | exact ok.r1) ?_
               | with_reducible refine auto_own_load K Co A c (by decide +kernel) (by decide) ?_
               | with_reducible refine auto_sls_load K Co A c 3 (by decide) (by decide) ?_)
          with_reducible apply step_pure c
          exact hQ)
  first
  | (iterate 10
        with_reducible apply step_seq c
        · intro Q' hQ
          first | rw [k0_part161_eq_skeleton] | rw [k0_part162_eq_skeleton] | rw [k0_part163_eq_skeleton] | rw [k0_part164_eq_skeleton] | rw [k0_part165_eq_skeleton] | rw [k0_part166_eq_skeleton] | rw [k0_part167_eq_skeleton] | rw [k0_part168_eq_skeleton] | rw [k0_part169_eq_skeleton] | rw [k0_part170_eq_skeleton]
          delta k0_part161_skel k0_part162_skel k0_part163_skel k0_part164_skel k0_part165_skel k0_part166_skel k0_part167_skel k0_part168_skel k0_part169_skel k0_part170_skel
          try dsimp -zetaHave only
          repeat
            try extract_lets jp jp jp jp jp jp jp jp jp jp
            first
            | (with_reducible refine auto_if_gw K Co A c (by decide +kernel) (by decide) _ (by simp only [Nat.reduceMul, Nat.reduceDiv, Nat.reduceAdd, Nat.reduceSub]; rfl) ?_ ?_
               · intro h hj hjp
                 with_reducible apply step_bind c
                 with_reducible refine auto_grc K Co A c hj (by decide +kernel) (by with_unfolding_all rfl) (by decide) _ (by simp only [Nat.reduceMul, Nat.reduceDiv, Nat.reduceAdd, Nat.reduceSub]; rfl) ?_
                 exact hjp
               subst jp
               beta_reduce)
            | (with_reducible apply step_bind c
               first
               | with_reducible refine auto_send K Co A c _ (by rfl) (by with_unfolding_all rfl) (by decide) _ (by simp only [Nat.reduceMul, Nat.reduceDiv, Nat.reduceAdd, Nat.reduceSub]; rfl) ?_
               | with_reducible refine auto_gsn K Co A c _ (by rfl) (by with_unfolding_all rfl) (by decide) _ (by simp only [Nat.reduceMul, Nat.reduceDiv, Nat.reduceAdd, Nat.reduceSub]; rfl) ?_
               | with_reducible refine auto_recv K Co A c _ (by rfl) (by with_unfolding_all rfl) (by decide) _ (by simp only [Nat.reduceMul, Nat.reduceDiv, Nat.reduceAdd, Nat.reduceSub]; rfl) ?_
               | with_reducible refine auto_gather K Co A c (by decide +kernel) (by decide) (by rfl) (by decide +kernel) _ (by simp only [Nat.reduceMul, Nat.reduceDiv, Nat.reduceAdd, Nat.reduceSub]; rfl) ?_
               | with_reducible refine auto_x1_load K Co A c (fun i => doneX_full i) ?_
               | with_reducible refine auto_grp_load K Co A c 0 (by decide) (by decide) ?_
               | with_reducible refine auto_grp_load K Co A c 1 (by decide) (by decide) ?_
               | with_reducible refine auto_grp_load K Co A c 2 (by decide) (by decide) ?_
               | with_reducible refine auto_grp_load K Co A c 3 (by decide) (by decide) ?_
               | with_reducible refine auto_out_store K Co A c (by decide) _ (by simp only [Nat.reduceMul, Nat.reduceDiv, Nat.reduceAdd, Nat.reduceSub]; rfl) (by with_reducible first | exact ok.y0 | exact ok.y1 | exact ok.y2 | exact ok.y3) ?_
               | with_reducible refine auto_out_dead K Co A c fun _ => ?_
               | with_reducible refine auto_own_store K Co A c (by decide +kernel) (by decide) _ _ (by simp only [Nat.reduceMul, Nat.reduceDiv, Nat.reduceAdd, Nat.reduceSub]; rfl) (by simp only [Nat.reduceMul, Nat.reduceDiv, Nat.reduceAdd, Nat.reduceSub]; rfl) (by with_reducible first | exact ok.r0 | exact ok.r1) ?_
               | with_reducible refine auto_own_load K Co A c (by decide +kernel) (by decide) ?_
               | with_reducible refine auto_sls_load K Co A c 3 (by decide) (by decide) ?_)
          with_reducible apply step_pure c
          exact hQ)
  first
  | (iterate 10
        with_reducible apply step_seq c
        · intro Q' hQ
          first | rw [k0_part171_eq_skeleton] | rw [k0_part172_eq_skeleton] | rw [k0_part173_eq_skeleton] | rw [k0_part174_eq_skeleton] | rw [k0_part175_eq_skeleton] | rw [k0_part176_eq_skeleton] | rw [k0_part177_eq_skeleton] | rw [k0_part178_eq_skeleton] | rw [k0_part179_eq_skeleton] | rw [k0_part180_eq_skeleton]
          delta k0_part171_skel k0_part172_skel k0_part173_skel k0_part174_skel k0_part175_skel k0_part176_skel k0_part177_skel k0_part178_skel k0_part179_skel k0_part180_skel
          try dsimp -zetaHave only
          repeat
            try extract_lets jp jp jp jp jp jp jp jp jp jp
            first
            | (with_reducible refine auto_if_gw K Co A c (by decide +kernel) (by decide) _ (by simp only [Nat.reduceMul, Nat.reduceDiv, Nat.reduceAdd, Nat.reduceSub]; rfl) ?_ ?_
               · intro h hj hjp
                 with_reducible apply step_bind c
                 with_reducible refine auto_grc K Co A c hj (by decide +kernel) (by with_unfolding_all rfl) (by decide) _ (by simp only [Nat.reduceMul, Nat.reduceDiv, Nat.reduceAdd, Nat.reduceSub]; rfl) ?_
                 exact hjp
               subst jp
               beta_reduce)
            | (with_reducible apply step_bind c
               first
               | with_reducible refine auto_send K Co A c _ (by rfl) (by with_unfolding_all rfl) (by decide) _ (by simp only [Nat.reduceMul, Nat.reduceDiv, Nat.reduceAdd, Nat.reduceSub]; rfl) ?_
               | with_reducible refine auto_gsn K Co A c _ (by rfl) (by with_unfolding_all rfl) (by decide) _ (by simp only [Nat.reduceMul, Nat.reduceDiv, Nat.reduceAdd, Nat.reduceSub]; rfl) ?_
               | with_reducible refine auto_recv K Co A c _ (by rfl) (by with_unfolding_all rfl) (by decide) _ (by simp only [Nat.reduceMul, Nat.reduceDiv, Nat.reduceAdd, Nat.reduceSub]; rfl) ?_
               | with_reducible refine auto_gather K Co A c (by decide +kernel) (by decide) (by rfl) (by decide +kernel) _ (by simp only [Nat.reduceMul, Nat.reduceDiv, Nat.reduceAdd, Nat.reduceSub]; rfl) ?_
               | with_reducible refine auto_x1_load K Co A c (fun i => doneX_full i) ?_
               | with_reducible refine auto_grp_load K Co A c 0 (by decide) (by decide) ?_
               | with_reducible refine auto_grp_load K Co A c 1 (by decide) (by decide) ?_
               | with_reducible refine auto_grp_load K Co A c 2 (by decide) (by decide) ?_
               | with_reducible refine auto_grp_load K Co A c 3 (by decide) (by decide) ?_
               | with_reducible refine auto_out_store K Co A c (by decide) _ (by simp only [Nat.reduceMul, Nat.reduceDiv, Nat.reduceAdd, Nat.reduceSub]; rfl) (by with_reducible first | exact ok.y0 | exact ok.y1 | exact ok.y2 | exact ok.y3) ?_
               | with_reducible refine auto_out_dead K Co A c fun _ => ?_
               | with_reducible refine auto_own_store K Co A c (by decide +kernel) (by decide) _ _ (by simp only [Nat.reduceMul, Nat.reduceDiv, Nat.reduceAdd, Nat.reduceSub]; rfl) (by simp only [Nat.reduceMul, Nat.reduceDiv, Nat.reduceAdd, Nat.reduceSub]; rfl) (by with_reducible first | exact ok.r0 | exact ok.r1) ?_
               | with_reducible refine auto_own_load K Co A c (by decide +kernel) (by decide) ?_
               | with_reducible refine auto_sls_load K Co A c 3 (by decide) (by decide) ?_)
          with_reducible apply step_pure c
          exact hQ)
  with_reducible apply step_pure c
  exact h _ _ _ _

end Cert.KernelIdealProof

end
-- ==== Proof.KernelIdealBody4.lean ====
/-
The body's end, and the body as a whole.
-/
module

public import proofs.«01_k».proof.Proof.KernelIdealBody1
public import proofs.«01_k».proof.Proof.KernelIdealBody2
public import proofs.«01_k».proof.Proof.KernelIdealBody3

@[expose] public section

noncomputable section

namespace Cert.KernelIdealProof

open Cert.KernelIdeal Cert.KernelIdeal.Gen Cert.Fam

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (K : Dev nD × CellK → ℕ) (Co : Cont F) (A : Args F) (c : Dev nD)

variable (K : Dev nD × CellK → ℕ) {Co : Cont F} {A : Args F} (c : Dev nD)
set_option maxHeartbeats 8000000
set_option pp.maxSteps 400

/-- The last waits. -/
theorem body4 {Q x₁ z₁ z₂ z₃ z₄} (h : ∀ w, St K Co A c ⟨160, 1, 64, 64, 63, 63, 2, 2, 2, 4, 8, 4, 4⟩ ⊢ Q w) :
    St K Co A c ⟨160, 1, 64, 64, 62, 62, 2, 2, 2, 4, 8, 4, 4⟩ ⊢ WP c (k0_part181 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c x₁ z₁ z₂ z₃ z₄) Q := by
  rw [k0_part181_eq_skeleton]
  delta k0_part181_skel
  try dsimp -zetaHave only
  repeat
    try extract_lets jp jp jp jp jp jp jp jp jp jp
    first
    | (with_reducible apply step_bind c
       first
       | with_reducible refine auto_send K Co A c _ (by rfl) (by with_unfolding_all rfl) (by decide) _ (by simp only [Nat.reduceMul, Nat.reduceDiv, Nat.reduceAdd, Nat.reduceSub]; rfl) ?_
       | with_reducible refine auto_gsn K Co A c _ (by rfl) (by with_unfolding_all rfl) (by decide) _ (by simp only [Nat.reduceMul, Nat.reduceDiv, Nat.reduceAdd, Nat.reduceSub]; rfl) ?_)
  with_reducible apply step_pure c
  exact h _

/-- The body of device `c`. -/
theorem body (ok : Ok Co A c) {Q : PUnit → sProp 𝕄} (h : St K Co A c ⟨160, 1, 64, 64, 64, 64, 2, 2, 2, 4, 8, 4, 4⟩ ⊢ Q ⟨⟩) :
    St K Co A c ⟨1, 0, 0, 0, 0, 0, 0, 0, 0, 0, 0, 0, 0⟩ ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q := by
  rw [cc0_body_eq_skeleton]
  delta cc0_body_skel
  beta_reduce
  with_reducible apply step_bind c
  refine body1 K c ok fun x₁ x₂ x₃ x₄ x₅ => ?_
  with_reducible apply step_bind c
  refine body2 K c ok fun y₁ y₂ y₃ => ?_
  with_reducible apply step_bind c
  refine body3 K c ok fun z₁ z₂ z₃ z₄ => ?_
  with_reducible apply step_bind c
  refine body4 K c fun w => ?_
  try dsimp -zetaHave only
  repeat
    try extract_lets jp jp jp jp jp jp jp jp jp jp
    first
    | (with_reducible apply step_bind c
       first
       | with_reducible refine auto_send K Co A c _ (by rfl) (by with_unfolding_all rfl) (by decide) _ (by simp only [Nat.reduceMul, Nat.reduceDiv, Nat.reduceAdd, Nat.reduceSub]; rfl) ?_
       | with_reducible refine auto_gsn K Co A c _ (by rfl) (by with_unfolding_all rfl) (by decide) _ (by simp only [Nat.reduceMul, Nat.reduceDiv, Nat.reduceAdd, Nat.reduceSub]; rfl) ?_)
  with_reducible apply step_pure c
  exact h

end Cert.KernelIdealProof

end
-- ==== Proof.KernelIdealRun.lean ====
/-
The launch: the kernel's body is run on every device from an arbitrary memory, and what it leaves in every array is read back.
-/
module

public import proofs.«01_k».proof.Proof.KernelIdealEnds
public import proofs.«01_k».proof.Proof.KernelIdealBody4
public import proofs.«01_k».proof.Proof.Gen.KernelIdeal.Points
public import Idealize.ShloMosaic.Lib.Quiescent
public import Idealize.ShloMosaic.Lib.Pipeline.CollectiveSegs

@[expose] public section

noncomputable section

namespace Cert.KernelIdealProof

open Cert.KernelIdeal Cert.KernelIdeal.Gen Cert.Fam

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- The first state: memory `m`, every counter zero. -/
def s₀ (m : (l : Loc nD τ sig) → Buf (Elt F) l) (ρ : Dev nD → PrngReg) : MemSt nD τ sig (Elt F) := ⟨m, fun _ => 0, ρ⟩

/-- The argument blocks of device `c`, as its staging buffers hold them. -/
def argsOf (m : (l : Loc nD τ sig) → Buf (Elt F) l) (c : Dev nD) : Args F
  | 0 => (win0_0.blk (0 : Fin 1)).view.read (Elt F) (m ((c : Thread nD τ).loc main_arg0))
  | 1 => (win0_1.blk (0 : Fin 1)).view.read (Elt F) (m ((c : Thread nD τ).loc main_arg1))
  | 2 => (win0_2.blk (0 : Fin 1)).view.read (Elt F) (m ((c : Thread nD τ).loc main_arg2))
  | 3 => (win0_3.blk (0 : Fin 1)).view.read (Elt F) (m ((c : Thread nD τ).loc main_arg3))
  | 4 => (win0_4.blk (0 : Fin 1)).view.read (Elt F) (m ((c : Thread nD τ).loc main_arg4))
  | 5 => (win0_5.blk (0 : Fin 1)).view.read (Elt F) (m ((c : Thread nD τ).loc main_arg5))
  | 6 => (win0_6.blk (0 : Fin 1)).view.read (Elt F) (m ((c : Thread nD τ).loc main_arg6))
  | 7 => (win0_7.blk (0 : Fin 1)).view.read (Elt F) (m ((c : Thread nD τ).loc main_arg7))
  | 8 => (win0_8.blk (0 : Fin 1)).view.read (Elt F) (m ((c : Thread nD τ).loc main_arg8))

section
variable (m : (l : Loc nD τ sig) → Buf (Elt F) l) (ρ : Dev nD → PrngReg) (V : Vals F)
  (Co : Dev nD → Cont F) (hV : ∀ c, (Co c).V = V) (ok : ∀ c, Ok (Co c) (argsOf m c) c)

/-- The scratch buffers of device `c`. -/
def scr (c : Dev nD) : sProp 𝕄 := iprop(anyP c cc0_scratch0 ∗ anyP c cc0_scratch1 ∗ anyP c cc0_scratch2 ∗ anyP c cc0_scratch3)
def start (c : Dev nD) : sProp 𝕄 := iprop(G' V c ∗ Lev ∗ Pipeline.launchCred (fun d => O d 0) c)
def Φ₀ (c : Dev nD) : sProp 𝕄 := iprop(start V c ∗ scr c)
def Φ₁ (c : Dev nD) : sProp 𝕄 :=
  iprop(unscopedSems0 c ∗ Pipeline.ownSems0 (Ix := ℕ) (Name := ℕ) (U := UU) (Lvl := ℕ) (Val := Elt F) (τ := τ) osem c ∗ scr c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => argsOf m c 0
    | ⟨1, _⟩ => argsOf m c 1
    | ⟨2, _⟩ => argsOf m c 2
    | ⟨3, _⟩ => argsOf m c 3
    | ⟨4, _⟩ => argsOf m c 4
    | ⟨5, _⟩ => argsOf m c 5
    | ⟨6, _⟩ => argsOf m c 6
    | ⟨7, _⟩ => argsOf m c 7
    | ⟨8, _⟩ => argsOf m c 8
    | ⟨9, _⟩ => (Co c).Y
  Φ t := match t with
    | ⟨0, _⟩ => Φ₀ V c
    | ⟨_ + 1, _⟩ => Φ₁ c
  q _ := fullShare
  owed t := match t with
    | ⟨0, _⟩ => O c 0
    | ⟨_ + 1, _⟩ => 0

/-- Owning the whole of a buffer is holding its elements, -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- as a staging buffer's are. -/
theorem stg_buf (c : Dev nD) (b : Ref sig .tc) (X : b.ty.Contents (Elt F)) : stg c b X = bufP c b X := by
  refine equiv_eq ⟨?_, ?_⟩
  · unfold stg bufP; iintro ⟨%f, %h, H⟩; subst h; iexact H
  · unfold stg bufP; iintro H; iexists X; isplitr
    · ipureintro; rfl
    · iexact H

def bodyPre (c : Dev nD) : sProp 𝕄 :=
  iprop(Φ₀ V c ∗ (dats m ρ V Co 0 c).owesAt (0 : ℕ) t0_0.castSucc
    ∗ (∃ d, stg c cc0_stg0_0 ((dats m ρ V Co 0 c).before (0 : Fin 10) t0_0 d))
    ∗ (∃ d, stg c cc0_stg1_0 ((dats m ρ V Co 0 c).before (1 : Fin 10) t0_0 d))
    ∗ (∃ d, stg c cc0_stg2_0 ((dats m ρ V Co 0 c).before (2 : Fin 10) t0_0 d))
    ∗ (∃ d, stg c cc0_stg3_0 ((dats m ρ V Co 0 c).before (3 : Fin 10) t0_0 d))
    ∗ (∃ d, stg c cc0_stg4_0 ((dats m ρ V Co 0 c).before (4 : Fin 10) t0_0 d))
    ∗ (∃ d, stg c cc0_stg5_0 ((dats m ρ V Co 0 c).before (5 : Fin 10) t0_0 d))
    ∗ (∃ d, stg c cc0_stg6_0 ((dats m ρ V Co 0 c).before (6 : Fin 10) t0_0 d))
    ∗ (∃ d, stg c cc0_stg7_0 ((dats m ρ V Co 0 c).before (7 : Fin 10) t0_0 d))
    ∗ (∃ d, stg c cc0_stg8_0 ((dats m ρ V Co 0 c).before (8 : Fin 10) t0_0 d))
    ∗ (∃ d, stg c cc0_stg9_0 ((dats m ρ V Co 0 c).before (9 : Fin 10) t0_0 d)))

def bodyPost (c : Dev nD) : sProp 𝕄 :=
  iprop(Φ₁ c ∗ (dats m ρ V Co 0 c).owesAt (0 : ℕ) t0_0.succ
    ∗ stg c cc0_stg0_0 (argsOf m c 0) ∗ stg c cc0_stg1_0 (argsOf m c 1) ∗ stg c cc0_stg2_0 (argsOf m c 2)
    ∗ stg c cc0_stg3_0 (argsOf m c 3) ∗ stg c cc0_stg4_0 (argsOf m c 4) ∗ stg c cc0_stg5_0 (argsOf m c 5)
    ∗ stg c cc0_stg6_0 (argsOf m c 6) ∗ stg c cc0_stg7_0 (argsOf m c 7) ∗ stg c cc0_stg8_0 (argsOf m c 8)
    ∗ stg c cc0_stg9_0 (Co c).Y)

/-- Argument 0 is in its buffer when the body starts. -/
theorem before_0 (c : Dev nD) (d) : (dats m ρ V Co 0 c).before (0 : Fin 10) t0_0 d = argsOf m c 0 := by
  unfold Dat.before; rw [if_pos (fetch0_0 _)]; rfl
/-- Argument 1 is in its buffer when the body starts. -/
theorem before_1 (c : Dev nD) (d) : (dats m ρ V Co 0 c).before (1 : Fin 10) t0_0 d = argsOf m c 1 := by
  unfold Dat.before; rw [if_pos (fetch0_1 _)]; rfl
/-- Argument 2 is in its buffer when the body starts. -/
theorem before_2 (c : Dev nD) (d) : (dats m ρ V Co 0 c).before (2 : Fin 10) t0_0 d = argsOf m c 2 := by
  unfold Dat.before; rw [if_pos (fetch0_2 _)]; rfl
/-- Argument 3 is in its buffer when the body starts. -/
theorem before_3 (c : Dev nD) (d) : (dats m ρ V Co 0 c).before (3 : Fin 10) t0_0 d = argsOf m c 3 := by
  unfold Dat.before; rw [if_pos (fetch0_3 _)]; rfl
/-- Argument 4 is in its buffer when the body starts. -/
theorem before_4 (c : Dev nD) (d) : (dats m ρ V Co 0 c).before (4 : Fin 10) t0_0 d = argsOf m c 4 := by
  unfold Dat.before; rw [if_pos (fetch0_4 _)]; rfl
/-- Argument 5 is in its buffer when the body starts. -/
theorem before_5 (c : Dev nD) (d) : (dats m ρ V Co 0 c).before (5 : Fin 10) t0_0 d = argsOf m c 5 := by
  unfold Dat.before; rw [if_pos (fetch0_5 _)]; rfl
/-- Argument 6 is in its buffer when the body starts. -/
theorem before_6 (c : Dev nD) (d) : (dats m ρ V Co 0 c).before (6 : Fin 10) t0_0 d = argsOf m c 6 := by
  unfold Dat.before; rw [if_pos (fetch0_6 _)]; rfl
/-- Argument 7 is in its buffer when the body starts. -/
theorem before_7 (c : Dev nD) (d) : (dats m ρ V Co 0 c).before (7 : Fin 10) t0_0 d = argsOf m c 7 := by
  unfold Dat.before; rw [if_pos (fetch0_7 _)]; rfl
/-- Argument 8 is in its buffer when the body starts. -/
theorem before_8 (c : Dev nD) (d) : (dats m ρ V Co 0 c).before (8 : Fin 10) t0_0 d = argsOf m c 8 := by
  unfold Dat.before; rw [if_pos (fetch0_8 _)]; rfl

/-- The nine arguments, one by one. -/
theorem args_eq (c : Dev nD) (A : Args F) : argsP c A
    = iprop(bufP c cc0_stg0_0 (A 0) ∗ bufP c cc0_stg1_0 (A 1) ∗ bufP c cc0_stg2_0 (A 2) ∗ bufP c cc0_stg3_0 (A 3) ∗ bufP c cc0_stg4_0 (A 4)
      ∗ bufP c cc0_stg5_0 (A 5) ∗ bufP c cc0_stg6_0 (A 6) ∗ bufP c cc0_stg7_0 (A 7) ∗ bufP c cc0_stg8_0 (A 8)) := by
  unfold argsP
  exact bigSep_univ_eq_bigSepL [0, 1, 2, 3, 4, 5, 6, 7, 8] (by decide) (by decide) fun i : Fin 9 => bufP c (argB i) (A i)

/-- A buffer at given contents is at some. -/
theorem anyP_of (c : Dev nD) (b : Ref sig .tc) (X : b.ty.Contents (Elt F)) : bufP c b X ⊢ anyP c b := by
  unfold anyP; iintro H; iexists X; iexact H

include hV ok in
/-- The body's obligation on device `c`, in the words of the state of the body's own proof. -/
theorem body_run (c : Dev nD) : bodyPre m ρ V Co c ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7)
      (fun _ => bodyPost m ρ V Co c) := by
  have hout (K) : St K (Co c) (argsOf m c) c ctrN ⊢ |={Set.univ}=> bodyPost m ρ V Co c := by
    refine (leave K (Co c) (argsOf m c) c).trans (fupd_mono ?_)
    have h : iprop((∃ W, owes (c : Thread nD τ) (0 : CellTallies nD τ sig ℕ) W) ∗ unscopedSems0 c
        ∗ Pipeline.ownSems0 (Ix := ℕ) (Name := ℕ) (U := UU) (Lvl := ℕ) (Val := Elt F) (τ := τ) osem c
        ∗ (anyP c cc0_scratch0 ∗ anyP c cc0_scratch1 ∗ anyP c cc0_scratch2 ∗ anyP c cc0_scratch3) ∗ bufP c cc0_stg9_0 (Co c).Y ∗ argsP c (argsOf m c))
        ⊢ bodyPost m ρ V Co c := by
      rw [args_eq]
      unfold bodyPost Φ₁ scr Dat.owesAt Pipeline.owesWithin
      rw [show (dats m ρ V Co 0 c).owed t0_0.succ = 0 from rfl]
      simp only [stg_buf]
      iintro ⟨⟨%W, Ho⟩, Hu, Hs, Hscr, Hy, Ha⟩
      isplitl [Hu Hs Hscr]
      · isplitl [Hu]; · iexact Hu
        isplitl [Hs] <;> iassumption
      isplitl [Ho]
      · iexists W; isplitr; · ipureintro; exact fun _ _ => Or.inl trivial
        iexact Ho
      icases Ha with ⟨H0, H1, H2, H3, H4, H5, H6, H7, H8⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8] <;> iassumption
    exact h
  have hin : bodyPre m ρ V Co c ⊢ iprop(∃ K, St K (Co c) (argsOf m c) c ctr0) := by
    unfold bodyPre Φ₀ start G' Dat.owesAt Pipeline.owesWithin
    rw [show (dats m ρ V Co 0 c).owed t0_0.castSucc = O c 0 from rfl]
    simp only [stg_buf, before_0, before_1, before_2, before_3, before_4, before_5, before_6, before_7, before_8]
    iintro ⟨⟨⟨⟨%K, Hrec, Hpt⟩, Hlev, Hcr⟩, Hscr⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iexists K
    have he := enter (W := W) K (Co c) (argsOf m c) c
    rw [args_eq, hV c] at he
    iapply he
    isplitl [Hrec]; · iexact Hrec
    isplitl [Hpt]; · iexact Hpt
    isplitl [Hlev]; · iexact Hlev
    isplitl [Hcr]; · iexact Hcr
    isplitl [HO]; · iexact HO
    isplitl [Hscr]; · unfold scr; iexact Hscr
    isplitl [H9]
    · iapply (anyP_of c cc0_stg9_0 _) $$ H9
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption
  refine hin.trans (exists_elim fun K => ?_)
  exact (body K c (ok c) (Q := fun _ => iprop(|={Set.univ}=> bodyPost m ρ V Co c)) (hout K)).trans (wp_fupd _ _ _ _ _)

set_option maxRecDepth 8000 in
include hV ok in
/-- The library's body obligation on device `c`. -/
theorem body_obligation (c : Dev nD) : BodyObligation (dats (F := F) m ρ V Co 0 c) (defs₀ (F := F)) 𝒱₀ (0 : ℕ) Set.univ := fun t => by
  rw [fin_N0 t]
  rw [bigSep_W0, bigSep_W0]
  simp only [owns_whole_eq]
  exact body_run m ρ V Co hV ok c

/-! ## The launch -/

/-- The staging semaphores come before the kernel's own, -/
theorem stage_sem : ∀ (w : Fin cfg0.W) (s : Fin ((cfg0.win w).nbuf)), ((cfg0.win w).sem s).val < 10 := by decide +kernel

/-- which nothing else uses. -/
theorem ownSemFacts : Pipeline.OwnSemFacts cfg0.spec osem where
  isScoped := by decide +kernel
  inj a b h := by
    have := dsem_inj (SemLoc.dma.inj h)
    exact Prod.ext this.1 this.2
  disj k w s h := by
    have h1 : dsem k.1 k.2 = (win0 w).sem s := SemLoc.dma.inj h
    have h2 : ((win0 w).sem s).val < 10 := stage_sem w s
    rw [← h1] at h2
    dsimp only [dsem] at h2
    omega

/-- The body holds its windows in full. -/
theorem share_eq (c : Dev nD) (w : Fin cfg0.W) : (dats m ρ V Co 0 c).share w = fullShare := by
  unfold Dat.share; split <;> rfl

/-- The launch gives a device what the protocol starts from. -/
theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' V c)
      ⊢ |={Set.univ}=> iprop(start V c ∗ emp) := by
  iintro ⟨-, Hlev, Hcr, -, HG⟩
  ihave Hl := (Lev_intro (F := F)) $$ Hlev
  imodintro
  unfold start
  isplitl
  · isplitl [HG]; · iexact HG
    isplitl [Hl] <;> iassumption
  · iempintro

/-- The scratch buffers are those the call allocates. -/
theorem scr_scoped (c : Dev nD) : scr (F := F) c = Pipeline.scopedRest cfg0.spec c := by
  rw [scopedRest0_eq]; rfl

/-- What the body is entered with, -/
theorem phi0_intro (c : Dev nD) :
    iprop(start V c ∗ Pipeline.prefHeld Pipeline.Prefetch.none c (fun _ => fullShare.right) (fun k => k.elim0) ∗ Pipeline.scopedRest cfg0.spec c)
      ⊢ (dats m ρ V Co 0 c).Φ 0 := by
  rw [show (dats m ρ V Co 0 c).Φ 0 = Φ₀ V c from rfl, ← scr_scoped]
  unfold Φ₀
  iintro ⟨Hs, -, Hr⟩
  isplitl [Hs] <;> iassumption

/-- and what it gives back. -/
theorem phi1_exit (c : Dev nD) :
    (dats m ρ V Co 0 c).Φ (Fin.last cfg0.N) ⊢ iprop(unscopedSems0 c ∗ Pipeline.ownSems0 osem c ∗ Pipeline.scopedRest cfg0.spec c) := by
  rw [show (dats m ρ V Co 0 c).Φ (Fin.last cfg0.N) = Φ₁ c from rfl, ← scr_scoped]
  unfold Φ₁
  exact .rfl

/-- The pipeline's own waits come before everything the protocol owes. -/
theorem waits (c : Dev nD) : (levAts L lv : sProp 𝕄) ⊢ Pipeline.cellsWaits cfgs (dats m ρ V Co) (0 : ℕ) 0 c :=
  Pipeline.cellsWaits_intro cfgs (dats m ρ V Co) (0 : ℕ) 0 c fun w s t => by
    rcases t with ⟨_ | _, ht⟩
    · refine mayWait c _ 0 0 (by omega) ?_
      dsimp only [lv]; rw [if_pos (stage_sem w s)]; omega
    · rw [show (dats m ρ V Co 0 c).owed ⟨_ + 1, ht⟩ = 0 from rfl, MayWait_zero]
      iintro -; iempintro

/-! ## The run -/

def finalA (c : Dev nD) (w : Fin cfg0.W) : Buf (Elt F) ((cfg0.win w).arr.view.loc (c : Thread nD τ)) := (dats m ρ V Co 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ V Co c w

set_option maxRecDepth 8000 in
include hV ok in
/-- From any memory with every counter zero, the launch of the kernel on all the devices ends, every array as computed and every
counter zero. -/
theorem run_main : θ_run defs (onTc (τ := τ) (main (F := F))) (s₀ m ρ) (fun r => QC m ρ V Co r ∧ r.2.sem = fun _ => 0) :=
  Pipeline.θ_run_region_owing_glob_pf (fun p => (cfgs p).toPCfg) (fun p => (cfgs p).toPCfg_adm) (dats m ρ V Co) (0 : ℕ) cellOf_inj (0 : Fin 1)
    winFacts0.to₀ ownSemFacts (Pipeline.PreFacts.none _) EP defs₀ 𝒱₀ m ρ main
    (hmain := fun _ => rfl)
    (hbody := body_obligation m ρ V Co hV ok) (hne := fun w => by fin_cases w <;> exact Nat.succ_pos _) (harr := arr_whole0) (hstage := stage_whole0) (hshare := share_eq m ρ V Co)
    (hdistinct := winFacts0.arr_inj)
    (O₀ := fun d => O d 0) (howed₀ := fun _ => rfl) (howedN := fun _ => rfl)
    (L := L) (lv := lv) (hL := L_of_ne) (hwaits := waits m ρ V Co)
    (G := G V) (G' := G' V) (u₀ := u₀)
    (hu₀ := by
      unfold u₀
      iintro Hu
      ihave H := (ownU_pair _ _) $$ Hu
      icases H with ⟨HP, HX⟩
      imod (fund_cells V) $$ HX with HG
      imodintro
      isplitl [HP] <;> iassumption)
    (hglob := glob V)
    (hA := fun _ _ => rfl) (hpf := fun _ k => k.elim0)
    (X := start V) (Y := fun c => unscopedSems0 c) (Z := fun _ => iprop(emp))
    (hX := start_intro m ρ V) (hin := phi0_intro m ρ V Co) (hout := phi1_exit m ρ V Co)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run is what it was. -/
theorem finalA_in (c : Dev nD) (w : Fin cfg0.W) (hw : w.val < 9) : finalA m ρ V Co c w = m ((cfg0.win w).arr.view.loc (c : Thread nD τ)) := by
  obtain ⟨w, h⟩ := w
  match w, h with
  | 0, _ | 1, _ | 2, _ | 3, _ | 4, _ | 5, _ | 6, _ | 7, _ | 8, _ => exact (dats m ρ V Co 0 c).arrAt_in _ rfl _
  | n + 9, _ => exact absurd hw (by simp)

/-- The result's array after the run holds what the body left in the result's buffer. -/
theorem finalA_out (c : Dev nD) : (win0_9.blk (0 : Fin 1)).view.read (Elt F) (finalA m ρ V Co c (9 : Fin 10)) = (Co c).Y := by
  unfold finalA
  rw [show cfg0.N = ((0 : Fin 1) : Fin cfg0.N).val + 1 from rfl, (dats m ρ V Co 0 c).arrAt_succ (9 : Fin 10) (0 : Fin 1)]
  rw [show (cfg0.win (9 : Fin 10)).flush (0 : Fin 1) = true from flush0_9 _, if_pos rfl]
  exact View.read_write_univ _ _

end

end Cert.KernelIdealProof

end
-- ==== Proof.KernelIdealVals.lean ====
/-
The contents the kernel computes, from every device's arguments: each buffer is glued from the tiles its stores write, and the
glued contents are shown to agree with every load and store of the body.
-/
module

public import proofs.«01_k».proof.Proof.KernelIdealOk
public import Idealize.ShloMosaic.Lib.Pipeline.Value

@[expose] public section

noncomputable section

namespace Cert.KernelIdealProof

open Cert.KernelIdeal Cert.KernelIdeal.Gen Cert.Fam

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Contents glued from tiles -/

/-- A remainder is below its divisor. -/
theorem hmod {m i : ℕ} (hm : 0 < m) : i % m < m := Nat.mod_lt _ hm

/-- A 512-row array glued from `m`-row pieces of full width. -/
def glued {α : Type} (m : ℕ) (hm : 0 < m) (w : ℕ → Shape.Idx ⟨2, ![m, 512]⟩ → α) : Shape.Idx S512x512 → α := fun i =>
  w ((i 0).val / m) (ix2 (n0 := m) (n1 := 512) ⟨(i 0).val % m, hmod hm⟩ ⟨(i 1).val, (i 1).isLt⟩)

/-- A piece of the glued array is the piece. -/
theorem glued_at {α : Type} {m : ℕ} (hm : 0 < m) (w : ℕ → Shape.Idx ⟨2, ![m, 512]⟩ → α) (k : ℕ) (i : Shape.Idx S512x512) (x : Shape.Idx ⟨2, ![m, 512]⟩)
    (h0 : (i 0).val = m * k + (x 0).val) (h1 : (i 1).val = (x 1).val) : glued m hm w i = w k x := by
  have hx : (x 0).val < m := (x 0).isLt
  unfold glued
  have hd : (i 0).val / m = k := by rw [h0, Nat.mul_add_div hm, Nat.div_eq_of_lt hx, Nat.add_zero]
  have hr : (i 0).val % m = (x 0).val := by rw [h0, Nat.mul_add_mod, Nat.mod_eq_of_lt hx]
  rw [hd]
  refine congrArg (w k) (funext fun a => ?_)
  match a with
  | 0 => exact Fin.ext hr
  | 1 => exact Fin.ext h1

/-- The attention buffer glued from its eight tiles. -/
def tiles {α : Type} (w : ℕ → ℕ → Shape.Idx S256x64 → α) : Shape.Idx S512x256 → α := fun i =>
  w ((i 0).val / 256) ((i 1).val / 64) (ix2 (n0 := 256) (n1 := 64) ⟨(i 0).val % 256, hmod (by decide)⟩ ⟨(i 1).val % 64, hmod (by decide)⟩)

/-- An entry of an array put together of tiles, -/
theorem tiles_at {α : Type} (w : ℕ → ℕ → Shape.Idx S256x64 → α) (k l : ℕ) (i : Shape.Idx S512x256) (x : Shape.Idx S256x64)
    (h0 : (i 0).val = 256 * k + (x 0).val) (h1 : (i 1).val = 64 * l + (x 1).val) : tiles w i = w k l x := by
  have hx : (x 0).val < 256 := (x 0).isLt
  have hy : (x 1).val < 64 := (x 1).isLt
  unfold tiles
  rw [show (i 0).val / 256 = k by omega, show (i 1).val / 64 = l by omega]
  refine congrArg (w k l) (funext fun a => ?_)
  match a with
  | 0 => exact Fin.ext (show (i 0).val % 256 = _ by omega)
  | 1 => exact Fin.ext (show (i 1).val % 64 = _ by omega)

/-- The result glued from its four pieces of 128 rows. -/
def quads {α : Type} (w : ℕ → Shape.Idx S1x128x512 → α) : Shape.Idx S2x256x512 → α := fun i =>
  w (2 * (i 0).val + (i 1).val / 128) (ix3 (n0 := 1) (n1 := 128) (n2 := 512) 0 ⟨(i 1).val % 128, hmod (by decide)⟩ ⟨(i 2).val, (i 2).isLt⟩)

/-- or of quarters. -/
theorem quads_at {α : Type} (w : ℕ → Shape.Idx S1x128x512 → α) (k l : ℕ) (i : Shape.Idx S2x256x512) (x : Shape.Idx S1x128x512)
    (h0 : (i 0).val = k) (h1 : (i 1).val = 128 * l + (x 1).val) (h2 : (i 2).val = (x 2).val) : quads w i = w (2 * k + l) x := by
  have hx : (x 0).val < 1 := (x 0).isLt
  have hy : (x 1).val < 128 := (x 1).isLt
  unfold quads
  rw [show 2 * (i 0).val + (i 1).val / 128 = 2 * k + l by omega]
  refine congrArg (w (2 * k + l)) (funext fun a => ?_)
  match a with
  | 0 => exact Fin.ext (show 0 = (x 0).val by omega)
  | 1 => exact Fin.ext (show (i 1).val % 128 = _ by omega)
  | 2 => exact Fin.ext h2

/-- A read of the glued contents through a rectangle. -/
theorem rdA_rows {m k : ℕ} (hm : 0 < m) (w : ℕ → Shape.Idx ⟨2, ![m, 512]⟩ → Elt F .bf16) {off : Fin 2 → ℕ} (h0 : off 0 = m * k) (h1 : off 1 = 0)
    (inb : ∀ a, off a + (![m, 512] : Fin 2 → ℕ) a ≤ S512x512.size a) :
    rdA (Rect.unit (s := S512x512) off ![m, 512] inb) (glued m hm w) = w k := by
  funext x
  refine (View.read_apply _ _).trans ((_root_.cast_eq _ _).trans ?_)
  refine glued_at hm w k _ x ?_ ?_
  · show off 0 + 1 * (x 0).val = _; omega
  · show off 1 + 1 * (x 1).val = _; omega

/-- A group of rows of an array put together of such groups, -/
theorem rdX_rows {m k : ℕ} (hm : 0 < m) (w : ℕ → Shape.Idx ⟨2, ![m, 512]⟩ → Elt F .f32) {off : Fin 2 → ℕ} (h0 : off 0 = m * k) (h1 : off 1 = 0)
    (inb : ∀ a, off a + (![m, 512] : Fin 2 → ℕ) a ≤ S512x512.size a) :
    rdX (Rect.unit (s := S512x512) off ![m, 512] inb) (glued m hm w) = w k := by
  funext x
  refine (View.read_apply _ _).trans ((_root_.cast_eq _ _).trans ?_)
  refine glued_at hm w k _ x ?_ ?_
  · show off 0 + 1 * (x 0).val = _; omega
  · show off 1 + 1 * (x 1).val = _; omega

/-- a tile of one put together of tiles, -/
theorem rdT_tiles {k l : ℕ} (w : ℕ → ℕ → Shape.Idx S256x64 → Elt F .f32) {off : Fin 2 → ℕ} (h0 : off 0 = 256 * k) (h1 : off 1 = 64 * l) (inb) :
    rdT (Rect.unit (s := S512x256) off S256x64.size inb) (tiles w) = w k l := by
  funext x
  refine (View.read_apply _ _).trans ((_root_.cast_eq _ _).trans ?_)
  refine tiles_at w k l _ x ?_ ?_
  · show off 0 + 1 * (x 0).val = _; omega
  · show off 1 + 1 * (x 1).val = _; omega

/-- and a quarter of one put together of quarters. -/
theorem rdY_quads {k l n : ℕ} (hn : 2 * k + l = n) (w : ℕ → Shape.Idx S1x128x512 → Elt F .f32) {off : Fin 3 → ℕ} (h0 : off 0 = k) (h1 : off 1 = 128 * l) (h2 : off 2 = 0) (inb) :
    rdY (Rect.unit (s := S2x256x512) off S1x128x512.size inb) (quads w) = w n := by
  subst hn
  funext x
  have hx : (x 0).val < 1 := (x 0).isLt
  refine (View.read_apply _ _).trans ((_root_.cast_eq _ _).trans ?_)
  refine quads_at w k l _ x ?_ ?_ ?_
  · show off 0 + 1 * (x 0).val = _; omega
  · show off 1 + 1 * (x 1).val = _; omega
  · show off 2 + 1 * (x 2).val = _; omega

/-- Where a device's own block starts. -/
theorem off65 (c : Dev nD) : k0_off65 c = ![16 * c.val, 0] := by revert c; decide +kernel

/-- Slot zero of a device's exchange buffer is its own block. -/
theorem own_slot (p : Dev nD → Acc F) (c : Dev nD) (h : S16x512.ShapeCasts S1x16x512) :
    rdS (Rect.unit (s := S32x16x512) ![0, 0, 0] S1x16x512.size inb_S32x16x512_S1x16x512_0_0_0) (slotC p c)
      = shapeCast S1x16x512 (rdA (Rect.unit (s := S512x512) (k0_off65 c) S16x512.size (k0_off65_inb c)) (p c)) h := by
  funext x
  have hx0 : (x 0).val < 1 := (x 0).isLt
  have hx1 : (x 1).val < 16 := (x 1).isLt
  have hx2 : (x 2).val < 512 := (x 2).isLt
  have hc : c.val < 32 := c.isLt
  rw [shapeCast_apply _ h x (ix2 (n0 := 16) (n1 := 512) ⟨(x 1).val, hx1⟩ ⟨(x 2).val, hx2⟩) (by
    rw [Shape.rowMajor_val_three, Shape.rowMajor_val_two]
    show (x 1).val * 512 + (x 2).val = ((x 0).val * 16 + (x 1).val) * 512 + (x 2).val
    omega)]
  refine (View.read_apply _ _).trans ((_root_.cast_eq _ _).trans (Eq.symm ((View.read_apply _ _).trans ((_root_.cast_eq _ _).trans (Eq.symm ?_)))))
  unfold slotC
  refine congr (congrArg p (Fin.ext ?_)) (funext fun a => ?_)
  · rw [sub_val]
    show (32 - (0 + 1 * (x 0).val) + c.val) % 32 = c.val
    omega
  · have ho : k0_off65 c = ![16 * c.val, 0] := off65 c
    match a with
    | 0 => exact Fin.ext (by
        show 16 * c.val + (0 + 1 * (x 1).val) = k0_off65 c 0 + 1 * (x 1).val
        rw [ho]; show _ = 16 * c.val + 1 * (x 1).val; omega)
    | 1 => exact Fin.ext (by
        show 0 + 1 * (x 2).val = k0_off65 c 1 + 1 * (x 2).val
        rw [ho]; show _ = 0 + 1 * (x 2).val; omega)

/-! ## The kernel's contents -/

section Contents
variable (As : Dev nD → Args F)

/-- The attention of a device's heads, tile by tile; -/
def tileW (A : Args F) (k l : ℕ) : FVec F S256x64 .f32 := match k, l with
  | 0, 0 => tile0 A | 0, 1 => tile1 A | 0, 2 => tile2 A | 0, _ => tile3 A
  | _, 0 => tile4 A | _, 1 => tile5 A | _, 2 => tile6 A | _, _ => tile7 A
def attT (A : Args F) : (cc0_scratch0 : Ref sig .tc).ty.Contents (Elt F) := tiles (tileW A)

/-- its product with the device's rows of the output projection. -/
def attW (A : Args F) (k : ℕ) : FVec F S256x512 .bf16 := match k with
  | 0 => k0_pay24 (v463 A) (rdT (Rect.unit (s := S512x256) ![0, 0] S256x256.size inb_S512x256_S256x256_0_0) (attT A))
  | _ => k0_pay34 (v463 A) (rdT (Rect.unit (s := S512x256) ![256, 0] S256x256.size inb_S512x256_S256x256_256_0) (attT A))

def part0 (A : Args F) : Acc F := glued 256 (by decide) (attW A)

def dev (k : ℕ) : Dev nD := ⟨k % 32, Nat.mod_lt _ (by decide)⟩

/-- The blocks reduced over all devices, gathered: block `k` is what device `k` reduces. -/
def blk0 (j : Dev nD) : FVec F S16x512 .bf16 := redV
  (rdS (Rect.unit (s := S32x16x512) ![0, 0, 0] S8x16x512.size inb_S32x16x512_S8x16x512_0_0_0) (slotC (fun d => part0 (As d)) j))
  (rdS (Rect.unit (s := S32x16x512) ![8, 0, 0] S8x16x512.size inb_S32x16x512_S8x16x512_8_0_0) (slotC (fun d => part0 (As d)) j))
  (rdS (Rect.unit (s := S32x16x512) ![16, 0, 0] S8x16x512.size inb_S32x16x512_S8x16x512_16_0_0) (slotC (fun d => part0 (As d)) j))
  (rdS (Rect.unit (s := S32x16x512) ![24, 0, 0] S8x16x512.size inb_S32x16x512_S8x16x512_24_0_0) (slotC (fun d => part0 (As d)) j))
def red0 : Acc F := glued 16 (by decide) fun k => blk0 As (dev k)

/-- Rows `128 g, …` of an accumulator. -/
abbrev qtr0 (f : Acc F) : FVec F S128x512 .bf16 := rdA (Rect.unit (s := S512x512) ![0, 0] S128x512.size inb_S512x512_S128x512_0_0) f
abbrev qtr1 (f : Acc F) : FVec F S128x512 .bf16 := rdA (Rect.unit (s := S512x512) ![128, 0] S128x512.size inb_S512x512_S128x512_128_0) f
abbrev qtr2 (f : Acc F) : FVec F S128x512 .bf16 := rdA (Rect.unit (s := S512x512) ![256, 0] S128x512.size inb_S512x512_S128x512_256_0) f
abbrev qtr3 (f : Acc F) : FVec F S128x512 .bf16 := rdA (Rect.unit (s := S512x512) ![384, 0] S128x512.size inb_S512x512_S128x512_384_0) f

/-- The residual rows of device `c`, -/
def resW (A : Args F) (f : Acc F) (k : ℕ) : FVec F S128x512 .f32 := match k with
  | 0 => resV0 A (qtr0 f) | 1 => resV1 A (qtr1 f) | 2 => resV2 A (qtr2 f) | _ => resV3 A (qtr3 f)

/-- its feed-forward partial sums, -/
def ffW (A : Args F) (f : Acc F) (k : ℕ) : FVec F S128x512 .bf16 := match k with
  | 0 => ffV0 A (qtr0 f) | 1 => ffV1 A (qtr1 f) | 2 => ffV2 A (qtr2 f) | _ => ffV3 A (qtr3 f)

def resX (A : Args F) (f : Acc F) : (cc0_scratch2 : Ref sig .tc).ty.Contents (Elt F) := glued 128 (by decide) (resW A f)
def part1 (A : Args F) (f : Acc F) : Acc F := glued 128 (by decide) (ffW A f)

/-- the feed-forward blocks reduced over all devices, -/
def blk1 (j : Dev nD) : FVec F S16x512 .bf16 := redV'
  (rdS (Rect.unit (s := S32x16x512) ![0, 0, 0] S8x16x512.size inb_S32x16x512_S8x16x512_0_0_0) (slotC (fun d => part1 (As d) (red0 As)) j))
  (rdS (Rect.unit (s := S32x16x512) ![8, 0, 0] S8x16x512.size inb_S32x16x512_S8x16x512_8_0_0) (slotC (fun d => part1 (As d) (red0 As)) j))
  (rdS (Rect.unit (s := S32x16x512) ![16, 0, 0] S8x16x512.size inb_S32x16x512_S8x16x512_16_0_0) (slotC (fun d => part1 (As d) (red0 As)) j))
  (rdS (Rect.unit (s := S32x16x512) ![24, 0, 0] S8x16x512.size inb_S32x16x512_S8x16x512_24_0_0) (slotC (fun d => part1 (As d) (red0 As)) j))
def red1 : Acc F := glued 16 (by decide) fun k => blk1 As (dev k)

/-- and its result. -/
def outW (A : Args F) (x : (cc0_scratch2 : Ref sig .tc).ty.Contents (Elt F)) (f : Acc F) (k : ℕ) : FVec F S1x128x512 .f32 := match k with
  | 0 => outV0 A (rdX (Rect.unit (s := S512x512) ![0, 0] S128x512.size inb_S512x512_S128x512_0_0) x) (qtr0 f)
  | 1 => outV1 A (rdX (Rect.unit (s := S512x512) ![128, 0] S128x512.size inb_S512x512_S128x512_128_0) x) (qtr1 f)
  | 2 => outV2 A (rdX (Rect.unit (s := S512x512) ![256, 0] S128x512.size inb_S512x512_S128x512_256_0) x) (qtr2 f)
  | _ => outV3 A (rdX (Rect.unit (s := S512x512) ![384, 0] S128x512.size inb_S512x512_S128x512_384_0) x) (qtr3 f)

def outY (A : Args F) (x : (cc0_scratch2 : Ref sig .tc).ty.Contents (Elt F)) (f : Acc F) : (cc0_stg9_0 : Ref sig .tc).ty.Contents (Elt F) := quads (outW A x f)

/-- The exchanged contents: everybody's partial sums and their reductions. -/
def vals : Vals F where
  part k d := match k with
    | 0 => part0 (As d)
    | _ => part1 (As d) (red0 As)
  red k := match k with
    | 0 => red0 As
    | _ => red1 As

/-- All the contents of device `c`. -/
def conts (c : Dev nD) : Cont F where
  V := vals As
  T := attT (As c)
  X := resX (As c) (red0 As)
  Y := outY (As c) (resX (As c) (red0 As)) (red1 As)

/-- A device's number names it. -/
theorem dev_val (c : Dev nD) : dev c.val = c := Fin.ext (Nat.mod_eq_of_lt c.isLt)

/-- The device's own block of the first reduced sums, -/
theorem red0_at (c : Dev nD) (inb) : rdA (Rect.unit (s := S512x512) (k0_off65 c) S16x512.size inb) (red0 As) = blk0 As c :=
  (rdA_rows (m := 16) (k := c.val) (by decide) (fun k => blk0 As (dev k)) (congrFun (off65 c) 0) (congrFun (off65 c) 1) inb).trans
    (congrArg (blk0 As) (dev_val c))

/-- and of the second. -/
theorem red1_at (c : Dev nD) (inb) : rdA (Rect.unit (s := S512x512) (k0_off65 c) S16x512.size inb) (red1 As) = blk1 As c :=
  (rdA_rows (m := 16) (k := c.val) (by decide) (fun k => blk1 As (dev k)) (congrFun (off65 c) 0) (congrFun (off65 c) 1) inb).trans
    (congrArg (blk1 As) (dev_val c))

set_option maxHeartbeats 4000000 in
/-- The contents agree with every load and store of the body, on every device. -/
theorem conts_ok (c : Dev nD) : Ok (conts As c) (As c) c where
  t0 := (rdT_tiles (k := 0) (l := 0) (tileW (As c)) rfl rfl _).trans (by rfl)
  t1 := (rdT_tiles (k := 0) (l := 1) (tileW (As c)) rfl rfl _).trans (by rfl)
  t2 := (rdT_tiles (k := 0) (l := 2) (tileW (As c)) rfl rfl _).trans (by rfl)
  t3 := (rdT_tiles (k := 0) (l := 3) (tileW (As c)) rfl rfl _).trans (by rfl)
  t4 := (rdT_tiles (k := 1) (l := 0) (tileW (As c)) rfl rfl _).trans (by rfl)
  t5 := (rdT_tiles (k := 1) (l := 1) (tileW (As c)) rfl rfl _).trans (by rfl)
  t6 := (rdT_tiles (k := 1) (l := 2) (tileW (As c)) rfl rfl _).trans (by rfl)
  t7 := (rdT_tiles (k := 1) (l := 3) (tileW (As c)) rfl rfl _).trans (by rfl)
  p0 := (rdA_rows (m := 256) (k := 0) (by decide) (attW (As c)) rfl rfl _).trans (by rfl)
  p1 := (rdA_rows (m := 256) (k := 1) (by decide) (attW (As c)) rfl rfl _).trans (by rfl)
  s0 := own_slot _ c _
  s1 := own_slot _ c _
  r0 := red0_at As c _
  r1 := red1_at As c _
  x0 := (rdX_rows (m := 128) (k := 0) (by decide) (resW (As c) (red0 As)) rfl rfl _).trans (by rfl)
  f0 := (rdA_rows (m := 128) (k := 0) (by decide) (ffW (As c) (red0 As)) rfl rfl _).trans (by rfl)
  y0 := (rdY_quads (k := 0) (l := 0) (n := 0) rfl (outW (As c) (resX (As c) (red0 As)) (red1 As)) rfl rfl rfl _).trans (by rfl)
  x1 := (rdX_rows (m := 128) (k := 1) (by decide) (resW (As c) (red0 As)) rfl rfl _).trans (by rfl)
  f1 := (rdA_rows (m := 128) (k := 1) (by decide) (ffW (As c) (red0 As)) rfl rfl _).trans (by rfl)
  y1 := (rdY_quads (k := 0) (l := 1) (n := 1) rfl (outW (As c) (resX (As c) (red0 As)) (red1 As)) rfl rfl rfl _).trans (by rfl)
  x2 := (rdX_rows (m := 128) (k := 2) (by decide) (resW (As c) (red0 As)) rfl rfl _).trans (by rfl)
  f2 := (rdA_rows (m := 128) (k := 2) (by decide) (ffW (As c) (red0 As)) rfl rfl _).trans (by rfl)
  y2 := (rdY_quads (k := 1) (l := 0) (n := 2) rfl (outW (As c) (resX (As c) (red0 As)) (red1 As)) rfl rfl rfl _).trans (by rfl)
  x3 := (rdX_rows (m := 128) (k := 3) (by decide) (resW (As c) (red0 As)) rfl rfl _).trans (by rfl)
  f3 := (rdA_rows (m := 128) (k := 3) (by decide) (ffW (As c) (red0 As)) rfl rfl _).trans (by rfl)
  y3 := (rdY_quads (k := 1) (l := 1) (n := 3) rfl (outW (As c) (resX (As c) (red0 As)) (red1 As)) rfl rfl rfl _).trans (by rfl)

end Contents

end Cert.KernelIdealProof

end
-- ==== Proof.KernelIdealAll.lean ====
/-
The kernel's run with its computed contents, and the claim that it ends with its arguments unchanged and every counter at zero.
-/
module

public import proofs.«01_k».proof.Proof.KernelIdealRun
public import proofs.«01_k».proof.Proof.KernelIdealVals

@[expose] public section

noncomputable section

namespace Cert.KernelIdealProof

open Cert.KernelIdeal Cert.KernelIdeal.Gen Cert.Fam

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- From any memory with every counter zero, the launch ends with the result of every device as computed, every argument unchanged and
every counter zero. -/
theorem run_all (m : (l : Loc nD τ sig) → Buf (Elt F) l) (ρ : Dev nD → PrngReg) :
    θ_run defs (onTc (τ := τ) (main (F := F))) (s₀ m ρ) (fun r => (∀ c : Dev nD,
      (win0_9.blk (0 : Fin 1)).view.read (Elt F) (r.2.mem ((c.tc : Thread nD τ).loc main_v1)) = (conts (argsOf m) c).Y
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    ⟨(congrArg _ (h.1 c (9 : Fin 10))).trans (finalA_out m ρ (vals (argsOf m)) (conts (argsOf m)) c),
     (h.1 c (0 : Fin 10)).trans (finalA_in m ρ (vals (argsOf m)) (conts (argsOf m)) c (0 : Fin 10) (by decide)),
     (h.1 c (1 : Fin 10)).trans (finalA_in m ρ (vals (argsOf m)) (conts (argsOf m)) c (1 : Fin 10) (by decide)),
     (h.1 c (2 : Fin 10)).trans (finalA_in m ρ (vals (argsOf m)) (conts (argsOf m)) c (2 : Fin 10) (by decide)),
     (h.1 c (3 : Fin 10)).trans (finalA_in m ρ (vals (argsOf m)) (conts (argsOf m)) c (3 : Fin 10) (by decide)),
     (h.1 c (4 : Fin 10)).trans (finalA_in m ρ (vals (argsOf m)) (conts (argsOf m)) c (4 : Fin 10) (by decide)),
     (h.1 c (5 : Fin 10)).trans (finalA_in m ρ (vals (argsOf m)) (conts (argsOf m)) c (5 : Fin 10) (by decide)),
     (h.1 c (6 : Fin 10)).trans (finalA_in m ρ (vals (argsOf m)) (conts (argsOf m)) c (6 : Fin 10) (by decide)),
     (h.1 c (7 : Fin 10)).trans (finalA_in m ρ (vals (argsOf m)) (conts (argsOf m)) c (7 : Fin 10) (by decide)),
     (h.1 c (8 : Fin 10)).trans (finalA_in m ρ (vals (argsOf m)) (conts (argsOf m)) c (8 : Fin 10) (by decide))⟩, h.2⟩)
    (run_main m ρ (vals (argsOf m)) (conts (argsOf m)) (fun _ => rfl) (conts_ok (argsOf m)))

end Cert.KernelIdealProof

end
-- ==== Proof.Mathematics.lean ====
module
public import Idealize.ShloMosaic.Lib.Pointwise
@[expose] public section
noncomputable section

/-! The operations of one transformer block, row by row, over the extended reals. -/

namespace Cert.Maths
open Idealize.ShloMosaic

/-- The mean of a row; -/
def avg (h : Fin 512 → EReal) : EReal := Ideal.div (∑ k, h k) (Ideal.ofBits .f32 0x44000000#32)

/-- its variance; -/
def spread (h : Fin 512 → EReal) : EReal :=
  Ideal.div (∑ k, (h k - avg h) * (h k - avg h)) (Ideal.ofBits .f32 0x44000000#32)

/-- the row normalised, scaled by `1 + g` and shifted by `s`. -/
def lnm (e : EReal) (h g s : Fin 512 → EReal) (j : Fin 512) : EReal :=
  (h j - avg h) * Ideal.rsqrt (spread h + e) * (1 + g j) + s j

/-- A row times a matrix. -/
def proj {m n : ℕ} (h : Fin m → EReal) (W : Fin m → Fin n → EReal) (c : Fin n) : EReal := ∑ k, h k * W k c

/-- The scores of a query against every key, -/
def score (q : Fin 64 → EReal) (K : Fin 256 → Fin 64 → EReal) (j : Fin 256) : EReal :=
  (∑ d, q d * K j d) * Ideal.ofBits .f32 0x3E000000#32

/-- their exponentials below the greatest, -/
def expo (s : Fin 256 → EReal) (j : Fin 256) : EReal :=
  Ideal.exp (s j - Finset.univ.fold max (Ideal.ofBits .f32 0xFF800000#32) s)

/-- and the mean of the values these weigh. -/
def head (q : Fin 64 → EReal) (K V : Fin 256 → Fin 64 → EReal) (d : Fin 64) : EReal :=
  ∑ j, Ideal.div (expo (score q K) j) (∑ i, expo (score q K) i) * V j d

/-- One attention head over the normalised rows `N` of one batch. -/
def att (N : Fin 256 → Fin 512 → EReal) (wq wk wv : Fin 512 → Fin 64 → EReal) (r : Fin 256) (d : Fin 64) : EReal :=
  head (proj (N r) wq) (fun j => proj (N j) wk) (fun j => proj (N j) wv) d

/-- The sigmoid-weighted unit. -/
def silu (h : EReal) : EReal := h * Ideal.div 1 (1 + Ideal.exp (0 - h))

/-- The hidden layer of the feed-forward part. -/
def layer1 {n : ℕ} (h : Fin 512 → EReal) (w : Fin 512 → Fin n → EReal) (c : Fin n) : EReal := silu (proj h w c)

/-- Batch and row of one of the 512 rows. -/
def bat (R : Fin 512) : Fin 2 := ⟨R.val / 256, by omega⟩
def pos (R : Fin 512) : Fin 256 := ⟨R.val % 256, by omega⟩
def row (b : Fin 2) (r : Fin 256) : Fin 512 := ⟨256 * b.val + r.val, by omega⟩

end Cert.Maths
end
end
-- ==== Proof.KernelIdealReads.lean ====
module
public import proofs.«01_k».proof.Proof.KernelIdealVals
public import proofs.«01_k».proof.Proof.Mathematics
@[expose] public section
noncomputable section

/-! What a device computes, index by index over the extended reals. -/

namespace Cert.KernelIdealProof
open Cert.KernelIdeal Cert.KernelIdeal.Gen Cert.Fam
open Idealize.ShloMosaic Cert.Maths
variable (A : Args Ideal)

/-- The six vectors that scale and shift: column `512 p + j` of the modulation. -/
def mods (b : Fin 2) (p : Fin 6) (j : Fin 512) : EReal :=
  ∑ k : Fin 128, arg5 A (ix2 b k) * arg6 A (ix2 k ⟨512 * p.val + j.val, by omega⟩)

/-- The modulation is the embedding times its matrix; -/
theorem mod_at (T : Vec Ideal S2x128 .bf16) (W : Vec Ideal S128x3072 .bf16) (b : Fin 2) (c : Fin 3072) :
    k0_pay1 T W (ix2 b c) = ∑ k : Fin 128, T (ix2 b k) * W (ix2 k c) := by
  pointwise [k0_pay1]

/-- its six parts: the first scale, -/
theorem sa_at (b : Fin 2) (j : Fin 512) : v412 A (ix2 b j) = mods A b 0 j := by
  unfold mods; pointwise [k0_pay2, mod_at]
/-- the first shift, -/
theorem sha_at (b : Fin 2) (j : Fin 512) : v413 A (ix2 b j) = mods A b 1 j := by
  unfold mods; pointwise [k0_pay3, mod_at]
/-- the first gate, -/
theorem ga_at (b : Fin 2) (j : Fin 512) : v414 A (ix2 b j) = mods A b 2 j := by
  unfold mods; pointwise [k0_pay4, mod_at]
/-- the second scale, -/
theorem sm_at (b : Fin 2) (j : Fin 512) : v415 A (ix2 b j) = mods A b 3 j := by
  unfold mods; pointwise [k0_pay5, mod_at]
/-- the second shift -/
theorem shm_at (b : Fin 2) (j : Fin 512) : v416 A (ix2 b j) = mods A b 4 j := by
  unfold mods; pointwise [k0_pay6, mod_at]
/-- and the second gate. -/
theorem gm_at (b : Fin 2) (j : Fin 512) : v417 A (ix2 b j) = mods A b 5 j := by
  unfold mods; pointwise [k0_pay7, mod_at]

/-- Row `r` of batch `b`, -/
def inp (b : Fin 2) (r : Fin 256) (j : Fin 512) : EReal := arg0 A (ix3 b r j)

/-- normalised. -/
def nrm (b : Fin 2) (r : Fin 256) : Fin 512 → EReal :=
  lnm (Ideal.ofBits .bf16 0x3728#16) (inp A b r) (mods A b 0) (mods A b 1)

/-- The input. -/
theorem x_at (b : Fin 2) (r : Fin 256) (j : Fin 512) : v419 A (ix3 b r j) = inp A b r j := by
  unfold inp; pointwise [k0_pay8]

/-- The mean of a row of the input. -/
theorem mean_at (b : Fin 2) (r : Fin 256) : v425 A (ix3 b r (0 : Fin 1)) = avg (inp A b r) := by
  unfold avg inp; pointwise [k0_pay9, k0_pay8]

/-- A normalised row, whatever holds its mean; -/
theorem norm_at (g s : FVec Ideal S2x512 .f32) (x : FVec Ideal S2x256x512 .bf16) (m : FVec Ideal S2x256x1 .bf16)
    (hm : ∀ b r, m (ix3 b r (0 : Fin 1)) = avg fun j => x (ix3 b r j)) (b : Fin 2) (r : Fin 256) (j : Fin 512) :
    k0_pay10 g s x m (ix2 (row b r) j)
      = lnm (Ideal.ofBits .bf16 0x3728#16) (fun j => x (ix3 b r j)) (fun j => g (ix2 b j)) (fun j => s (ix2 b j)) j := by
  have hb : (⟨(row b r).val / 256, by omega⟩ : Fin 2) = b := Fin.ext (by show (256 * b.val + r.val) / 256 = b.val; omega)
  have hr : (⟨(row b r).val % 256, by omega⟩ : Fin 256) = r := Fin.ext (by show (256 * b.val + r.val) % 256 = r.val; omega)
  unfold lnm spread
  pointwise [k0_pay10, hb, hr, hm]

/-- that of the input. -/
theorem nrm_at (b : Fin 2) (r : Fin 256) (j : Fin 512) :
    k0_pay10 (v412 A) (v413 A) (v419 A) (v425 A) (ix2 (row b r) j) = nrm A b r j := by
  rw [norm_at _ _ _ _ (fun b r => (mean_at A b r).trans (congrArg avg (funext fun j => (x_at A b r j).symm)))]
  unfold nrm
  congr 1 <;> funext j
  · exact x_at A b r j
  · exact sa_at A b j
  · exact sha_at A b j

/-- The queries, -/
theorem q_at (b : Fin 2) (r : Fin 256) (c : Fin 256) :
    v455 A (ix2 (row b r) c) = proj (nrm A b r) (fun k c => arg1 A (ix2 k c)) c := by
  unfold proj; pointwise [k0_pay11, nrm_at]
/-- the keys -/
theorem k_at (b : Fin 2) (r : Fin 256) (c : Fin 256) :
    v458 A (ix2 (row b r) c) = proj (nrm A b r) (fun k c => arg2 A (ix2 k c)) c := by
  unfold proj; pointwise [k0_pay12, nrm_at]
/-- and the values of a device's heads. -/
theorem v_at (b : Fin 2) (r : Fin 256) (c : Fin 256) :
    v461 A (ix2 (row b r) c) = proj (nrm A b r) (fun k c => arg3 A (ix2 k c)) c := by
  unfold proj; pointwise [k0_pay13, nrm_at]

/-- Columns `64 l, …` of a device's block of a projection. -/
def cols (W : Fin 512 → Fin 256 → EReal) (l : Fin 4) (k : Fin 512) (d : Fin 64) : EReal := W k ⟨64 * l.val + d.val, by omega⟩

/-- A device's head `l` on batch `b`. -/
def atth (b : Fin 2) (l : Fin 4) : Fin 256 → Fin 64 → EReal :=
  att (nrm A b) (cols (fun k c => arg1 A (ix2 k c)) l) (cols (fun k c => arg2 A (ix2 k c)) l) (cols (fun k c => arg3 A (ix2 k c)) l)

/-- A head of these is the attention head of the mathematics. -/
theorem head_of (b : Fin 2) (l : Fin 4) (r : Fin 256) (d : Fin 64) :
    head (fun d => v455 A (ix2 (row b r) ⟨64 * l.val + d.val, by omega⟩)) (fun j d => v458 A (ix2 (row b j) ⟨64 * l.val + d.val, by omega⟩))
      (fun j d => v461 A (ix2 (row b j) ⟨64 * l.val + d.val, by omega⟩)) d = atth A b l r d := by
  unfold atth att
  congr 1
  · funext d; exact q_at A b r _
  · funext j d; exact k_at A b j _
  · funext j d; exact v_at A b j _

/-- A tile of the heads' buffer, -/
theorem tile_at (b : Fin 2) (l : Fin 4) (r : Fin 256) (d : Fin 64) :
    tileW A b.val l.val (ix2 r d) = atth A b l r d := by
  rw [← head_of]
  unfold head expo score row
  match b, l with
  | 0, 0 => pointwise [tileW, k0_pay15, k0_pay16, k0_pay17, k0_pay18]
  | 0, 1 => pointwise [tileW, k0_pay19]
  | 0, 2 => pointwise [tileW, k0_pay20, k0_pay21, k0_pay22]
  | 0, 3 => pointwise [tileW, k0_pay23]
  | 1, 0 => pointwise [tileW, k0_pay25, k0_pay26, k0_pay27, k0_pay28]
  | 1, 1 => pointwise [tileW, k0_pay29]
  | 1, 2 => pointwise [tileW, k0_pay30, k0_pay31, k0_pay32]
  | 1, 3 => pointwise [tileW, k0_pay33]

/-! ## The attention's partial sums -/

/-- and an entry of it. -/
theorem attT_at (b : Fin 2) (r : Fin 256) (k : Fin 256) :
    attT A (ix2 (row b r) k) = atth A b ⟨k.val / 64, by omega⟩ r ⟨k.val % 64, by omega⟩ :=
  (tiles_at (tileW A) b.val (k.val / 64) _ (ix2 r (⟨k.val % 64, by omega⟩ : Fin 64)) rfl (Nat.div_add_mod k.val 64).symm).trans
    (tile_at A b ⟨k.val / 64, by omega⟩ r _)

/-- A read of the attention buffer's rows of one batch. -/
theorem rdT_at (b : Fin 2) {off : Fin 2 → ℕ} (h0 : off 0 = 256 * b.val) (h1 : off 1 = 0) (inb) (r : Fin 256) (k : Fin 256) :
    rdT (Rect.unit (s := S512x256) off S256x256.size inb) (attT A) (ix2 r k) = attT A (ix2 (row b r) k) := by
  refine (View.read_apply _ _).trans ((_root_.cast_eq _ _).trans ?_)
  refine congrArg (attT A) (funext fun a => ?_)
  match a with
  | 0 => exact Fin.ext (show off 0 + 1 * r.val = 256 * b.val + r.val by omega)
  | 1 => exact Fin.ext (show off 1 + 1 * k.val = k.val by omega)

/-- A device's share of the attention's output projection. -/
def share0 (b : Fin 2) (r : Fin 256) (n : Fin 512) : EReal :=
  ∑ k : Fin 256, atth A b ⟨k.val / 64, by omega⟩ r ⟨k.val % 64, by omega⟩ * arg4 A (ix2 k n)

/-- A half of the partial sums of the output projection, -/
theorem attW_at (b : Fin 2) (r : Fin 256) (n : Fin 512) : attW A b.val (ix2 r n) = share0 A b r n := by
  unfold share0
  match b with
  | 0 =>
    pointwise [attW, k0_pay24, k0_pay14]
    exact Finset.sum_congr rfl fun k _ => congrArg (· * _) ((rdT_at A 0 rfl rfl _ r k).trans (attT_at A 0 r k))
  | 1 =>
    pointwise [attW, k0_pay34, k0_pay14]
    exact Finset.sum_congr rfl fun k _ => congrArg (· * _) ((rdT_at A 1 rfl rfl _ r k).trans (attT_at A 1 r k))

/-- An entry of an accumulator. -/
def ent (f : Acc Ideal) (R n : Fin 512) : EReal := f (ix2 R n)

/-- and an entry of all of them. -/
theorem part0_at (b : Fin 2) (r : Fin 256) (n : Fin 512) : ent (part0 A) (row b r) n = share0 A b r n :=
  (glued_at (m := 256) (by decide) (attW A) b.val _ (ix2 r n) rfl rfl).trans (attW_at A b r n)

/-! ## The sum over the devices -/

/-- Thirty-two summands in four groups of eight. -/
theorem sum_groups (f : Fin 32 → EReal) :
    (∑ x : Fin 8, f ⟨x.val, by omega⟩) + (∑ x : Fin 8, f ⟨8 + x.val, by omega⟩) + (∑ x : Fin 8, f ⟨16 + x.val, by omega⟩)
      + (∑ x : Fin 8, f ⟨24 + x.val, by omega⟩) = ∑ x, f x := by
  rw [Fin.sum_univ_add (a := 24) (b := 8) f, Fin.sum_univ_add (a := 16) (b := 8), Fin.sum_univ_add (a := 8) (b := 8)]
  rfl

/-- Row `r` of block `j`. -/
def brow (j : Dev nD) (r : Fin 16) : Fin 512 := ⟨16 * j.val + r.val, by have := j.isLt; show 16 * j.val + r.val < 512; unfold nD at *; omega⟩

/-- Eight slots of the exchange buffer hold the blocks of eight devices. -/
theorem rdS_at (p : Dev nD → Acc Ideal) (j : Dev nD) {off : Fin 3 → ℕ} {o : ℕ} (ho : o + 8 ≤ 32) (h0 : off 0 = o) (h1 : off 1 = 0) (h2 : off 2 = 0) (inb)
    (x : Fin 8) (r : Fin 16) (n : Fin 512) :
    rdS (Rect.unit (s := S32x16x512) off S8x16x512.size inb) (slotC p j) (ix3 x r n)
      = ent (p (j - (⟨o + x.val, by omega⟩ : Fin 32))) (brow j r) n := by
  refine (View.read_apply _ _).trans ((_root_.cast_eq _ _).trans ?_)
  unfold slotC
  refine congr (congrArg p (congrArg (j - ·) (Fin.ext ?_))) (funext fun a => ?_)
  · show off 0 + 1 * x.val = o + x.val; omega
  · match a with
    | 0 => exact Fin.ext (show 16 * j.val + (off 1 + 1 * r.val) = 16 * j.val + r.val by omega)
    | 1 => exact Fin.ext (show off 2 + 1 * n.val = n.val by omega)

/-- The four groups of eight slots together sum over all devices. -/
theorem sum_all (p : Dev nD → Acc Ideal) (j : Dev nD) (r : Fin 16) (n : Fin 512) (inb0) (inb1) (inb2) (inb3) :
    (∑ x, rdS (Rect.unit (s := S32x16x512) ![0, 0, 0] S8x16x512.size inb0) (slotC p j) (ix3 x r n))
      + (∑ x, rdS (Rect.unit (s := S32x16x512) ![8, 0, 0] S8x16x512.size inb1) (slotC p j) (ix3 x r n))
      + (∑ x, rdS (Rect.unit (s := S32x16x512) ![16, 0, 0] S8x16x512.size inb2) (slotC p j) (ix3 x r n))
      + (∑ x, rdS (Rect.unit (s := S32x16x512) ![24, 0, 0] S8x16x512.size inb3) (slotC p j) (ix3 x r n))
      = ∑ d, ent (p d) (brow j r) n := by
  refine Eq.trans ?_ ((sum_groups fun x => ent (p (j - x)) (brow j r) n).trans (Equiv.sum_comp (Equiv.subLeft j) fun d => ent (p d) (brow j r) n))
  refine congr (congrArg HAdd.hAdd (congr (congrArg HAdd.hAdd (congr (congrArg HAdd.hAdd ?_) ?_)) ?_)) ?_
  · refine Finset.sum_congr rfl fun x _ => (rdS_at p j (o := 0) (by decide) rfl rfl rfl inb0 x r n).trans ?_
    exact congrArg (fun y => ent (p (j - y)) (brow j r) n) (Fin.ext (Nat.zero_add x.val))
  · exact Finset.sum_congr rfl fun x _ => rdS_at p j (o := 8) (by decide) rfl rfl rfl inb1 x r n
  · exact Finset.sum_congr rfl fun x _ => rdS_at p j (o := 16) (by decide) rfl rfl rfl inb2 x r n
  · exact Finset.sum_congr rfl fun x _ => rdS_at p j (o := 24) (by decide) rfl rfl rfl inb3 x r n

/-- The first reduction sums its four groups of slots, -/
theorem redV_at (a b c d : Vec Ideal S8x16x512 .bf16) (r : Fin 16) (n : Fin 512) :
    redV a b c d (ix2 r n) = ∑ x, a (ix3 x r n) + ∑ x, b (ix3 x r n) + ∑ x, c (ix3 x r n) + ∑ x, d (ix3 x r n) := by
  pointwise [k0_pay36, k0_pay37, k0_pay38, k0_pay39]

/-- and so does the second. -/
theorem redV'_at (a b c d : Vec Ideal S8x16x512 .bf16) (r : Fin 16) (n : Fin 512) :
    redV' a b c d (ix2 r n) = ∑ x, a (ix3 x r n) + ∑ x, b (ix3 x r n) + ∑ x, c (ix3 x r n) + ∑ x, d (ix3 x r n) := by
  pointwise [k0_pay63, k0_pay64, k0_pay65, k0_pay66]

variable (As : Dev nD → Args Ideal)

/-- Row and block of one of the 512 rows. -/
theorem brow_eq (R : Fin 512) : brow (dev (R.val / 16)) ⟨R.val % 16, by omega⟩ = R :=
  Fin.ext (show 16 * ((R.val / 16) % 32) + R.val % 16 = R.val by omega)

/-- The first reduction sums the devices' partial sums, -/
theorem red0_sum (R n : Fin 512) : red0 As (ix2 R n) = ∑ d, ent (part0 (As d)) R n :=
  (glued_at (m := 16) (by decide) (fun k => blk0 As (dev k)) (R.val / 16) _ (ix2 (⟨R.val % 16, by omega⟩ : Fin 16) n)
    (Nat.div_add_mod R.val 16).symm rfl).trans
  ((redV_at _ _ _ _ _ n).trans ((sum_all (fun d => part0 (As d)) _ _ n _ _ _ _).trans (by rw [brow_eq])))

/-- and so does the second. -/
theorem red1_sum (R n : Fin 512) : red1 As (ix2 R n) = ∑ d, ent (part1 (As d) (red0 As)) R n :=
  (glued_at (m := 16) (by decide) (fun k => blk1 As (dev k)) (R.val / 16) _ (ix2 (⟨R.val % 16, by omega⟩ : Fin 16) n)
    (Nat.div_add_mod R.val 16).symm rfl).trans
  ((redV'_at _ _ _ _ _ n).trans ((sum_all (fun d => part1 (As d) (red0 As)) _ _ n _ _ _ _).trans (by rw [brow_eq])))

/-! ## The residual rows, the feed-forward part and the result -/

/-- Batch of a 128-row quarter, and its row there. -/
def qb (g : Fin 4) : Fin 2 := ⟨g.val / 2, by omega⟩
def qr (g : Fin 4) (r : Fin 128) : Fin 256 := ⟨128 * (g.val % 2) + r.val, by omega⟩
def qR (g : Fin 4) (r : Fin 128) : Fin 512 := ⟨128 * g.val + r.val, by omega⟩
/-- Row `r` of quarter `g` is a row of a batch: -/
theorem qR_eq (g : Fin 4) (r : Fin 128) : qR g r = row (qb g) (qr g r) :=
  Fin.ext (show 128 * g.val + r.val = 256 * (g.val / 2) + (128 * (g.val % 2) + r.val) by omega)

/-- quarter 0 is of the first, -/
theorem qb0 : qb 0 = 0 := rfl
/-- quarter 1 too, -/
theorem qb1 : qb 1 = 0 := rfl
/-- quarter 2 of the second, -/
theorem qb2 : qb 2 = 1 := rfl
/-- quarter 3 too. -/
theorem qb3 : qb 3 = 1 := rfl

/-- A quarter of the accumulator, -/
theorem rdA_at (f : Acc Ideal) (g : Fin 4) {off : Fin 2 → ℕ} (h0 : off 0 = 128 * g.val) (h1 : off 1 = 0) (inb) (r : Fin 128) (n : Fin 512) :
    rdA (Rect.unit (s := S512x512) off S128x512.size inb) f (ix2 r n) = f (ix2 (qR g r) n) := by
  refine (View.read_apply _ _).trans ((_root_.cast_eq _ _).trans ?_)
  refine congrArg f (funext fun a => ?_)
  match a with
  | 0 => exact Fin.ext (show off 0 + 1 * r.val = 128 * g.val + r.val by omega)
  | 1 => exact Fin.ext (show off 1 + 1 * n.val = n.val by omega)

/-- and of the residual. -/
theorem rdX_at (f : (cc0_scratch2 : Ref sig .tc).ty.Contents (Elt Ideal)) (g : Fin 4) {off : Fin 2 → ℕ} (h0 : off 0 = 128 * g.val) (h1 : off 1 = 0) (inb) (r : Fin 128) (n : Fin 512) :
    rdX (Rect.unit (s := S512x512) off S128x512.size inb) f (ix2 r n) = f (ix2 (qR g r) n) := by
  refine (View.read_apply _ _).trans ((_root_.cast_eq _ _).trans ?_)
  refine congrArg f (funext fun a => ?_)
  match a with
  | 0 => exact Fin.ext (show off 0 + 1 * r.val = 128 * g.val + r.val by omega)
  | 1 => exact Fin.ext (show off 1 + 1 * n.val = n.val by omega)

/-- A row after the attention's part is added. -/
def res (f : Acc Ideal) (b : Fin 2) (r : Fin 256) (n : Fin 512) : EReal :=
  inp A b r n + mods A b 2 n * f (ix2 (row b r) n)

/-- Row `r` of quarter `g` of the input, -/
theorem xq_at (g : Fin 4) (r : Fin 128) (n : Fin 512) (h0) (h1) :
    inp A ⟨(128 * g.val + r.val) / 256, h0⟩ ⟨(128 * g.val + r.val) % 256, h1⟩ n = inp A (qb g) (qr g r) n :=
  congr (congr (congrArg (inp A) (Fin.ext (show (128 * g.val + r.val) / 256 = g.val / 2 by omega)))
    (Fin.ext (show (128 * g.val + r.val) % 256 = 128 * (g.val % 2) + r.val by omega))) rfl

/-- and the residual row on it, whichever way it is spelt. -/
theorem res_of (f : Acc Ideal) (g : Fin 4) (r : Fin 128) (n : Fin 512) {off : Fin 2 → ℕ} (h0 : off 0 = 128 * g.val) (h1 : off 1 = 0) (inb) :
    inp A (qb g) (qr g r) n + mods A (qb g) 2 n * rdA (Rect.unit (s := S512x512) off S128x512.size inb) f (ix2 r n)
      = res A f (qb g) (qr g r) n := by
  rw [rdA_at f g h0 h1]; unfold res; rw [← qR_eq]

/-- The residual: its first quarter, -/
theorem x1_0 (f : Acc Ideal) (r : Fin 128) (n : Fin 512) : k0_pay43 (v414 A) (v2033 A) (qtr0 f) (ix2 r n) = res A f (qb 0) (qr 0 r) n := by
  rw [← res_of A f 0 r n (off := ![0, 0]) rfl rfl inb_S512x512_S128x512_0_0, ← xq_at A 0 r n (by show (128 * 0 + r.val) / 256 < 2; omega) (by omega)]
  pointwise [k0_pay43, k0_pay40, x_at, ga_at]
  rfl

/-- its second, -/
theorem x1_1 (f : Acc Ideal) (r : Fin 128) (n : Fin 512) : k0_pay50 (v414 A) (v2033 A) (qtr1 f) (ix2 r n) = res A f (qb 1) (qr 1 r) n := by
  rw [← res_of A f 1 r n (off := ![128, 0]) rfl rfl inb_S512x512_S128x512_128_0, ← xq_at A 1 r n (by show (128 * 1 + r.val) / 256 < 2; omega) (by omega)]
  pointwise [k0_pay50, k0_pay40, x_at, ga_at]
  rfl

/-- its third -/
theorem x1_2 (f : Acc Ideal) (r : Fin 128) (n : Fin 512) : k0_pay53 (v414 A) (v2033 A) (qtr2 f) (ix2 r n) = res A f (qb 2) (qr 2 r) n := by
  rw [← res_of A f 2 r n (off := ![256, 0]) rfl rfl inb_S512x512_S128x512_256_0, ← xq_at A 2 r n (by show (128 * 2 + r.val) / 256 < 2; omega) (by omega)]
  pointwise [k0_pay53, k0_pay40, x_at, ga_at]
  rfl

/-- and its fourth, -/
theorem x1_3 (f : Acc Ideal) (r : Fin 128) (n : Fin 512) : k0_pay58 (v414 A) (v2033 A) (qtr3 f) (ix2 r n) = res A f (qb 3) (qr 3 r) n := by
  rw [← res_of A f 3 r n (off := ![384, 0]) rfl rfl inb_S512x512_S128x512_384_0, ← xq_at A 3 r n (by show (128 * 3 + r.val) / 256 < 2; omega) (by omega)]
  pointwise [k0_pay58, k0_pay40, x_at, ga_at]
  rfl

/-- and any one of them. -/
theorem resW_at (f : Acc Ideal) (g : Fin 4) (r : Fin 128) (n : Fin 512) :
    resW A f g.val (ix2 r n) = res A f (qb g) (qr g r) n := by
  match g with
  | 0 => rw [← x1_0]; pointwise [resW, k0_pay44]
  | 1 => rw [← x1_1]; pointwise [resW, k0_pay51]
  | 2 => rw [← x1_2]; pointwise [resW, k0_pay54]
  | 3 => rw [← x1_3]; pointwise [resW, k0_pay59]

/-- A device's share of the feed-forward part. -/
def share1 (f : Acc Ideal) (b : Fin 2) (r : Fin 256) (n : Fin 512) : EReal :=
  ∑ c : Fin 64, layer1 (lnm (Ideal.ofBits .f32 0x3727C5AC#32) (res A f b r) (mods A b 3) (mods A b 4)) (fun k c => arg7 A (ix2 k c)) c
    * arg8 A (ix2 c n)

/-- A quarter of the partial sums of the feed-forward part. -/
theorem ffW_at (f : Acc Ideal) (g : Fin 4) (r : Fin 128) (n : Fin 512) :
    ffW A f g.val (ix2 r n) = share1 A f (qb g) (qr g r) n := by
  unfold share1 layer1 silu proj lnm spread avg
  match g with
  | 0 => pointwise [ffW, k0_pay45, k0_pay46, k0_pay47, k0_pay48, k0_pay49, k0_pay41, k0_pay42, x1_0, sm_at, shm_at, qb0]
  | 1 => pointwise [ffW, k0_pay52, k0_pay41, k0_pay42, x1_1, sm_at, shm_at, qb1]
  | 2 => pointwise [ffW, k0_pay55, k0_pay56, k0_pay57, k0_pay41, k0_pay42, x1_2, sm_at, shm_at, qb2]
  | 3 => pointwise [ffW, k0_pay60, k0_pay61, k0_pay41, k0_pay42, x1_3, sm_at, shm_at, qb3]

/-- Quarter and row of one of the 512 rows. -/
def qg (R : Fin 512) : Fin 4 := ⟨R.val / 128, by omega⟩
def qs (R : Fin 512) : Fin 128 := ⟨R.val % 128, by omega⟩

/-- A row is found again in its quarter. -/
theorem qrow (b : Fin 2) (r : Fin 256) : qb (qg (row b r)) = b ∧ qr (qg (row b r)) (qs (row b r)) = r :=
  ⟨Fin.ext (show (256 * b.val + r.val) / 128 / 2 = b.val by omega),
   Fin.ext (show 128 * ((256 * b.val + r.val) / 128 % 2) + (256 * b.val + r.val) % 128 = r.val by omega)⟩

/-- An entry of the residual. -/
theorem resX_at (f : Acc Ideal) (b : Fin 2) (r : Fin 256) (n : Fin 512) : resX A f (ix2 (row b r) n) = res A f b r n :=
  (glued_at (m := 128) (by decide) (resW A f) (qg (row b r)).val _ (ix2 (qs (row b r)) n) (Nat.div_add_mod _ 128).symm rfl).trans
    ((resW_at A f _ _ n).trans (by rw [(qrow b r).1, (qrow b r).2]))

/-- An entry of the second partial sums. -/
theorem part1_at (f : Acc Ideal) (b : Fin 2) (r : Fin 256) (n : Fin 512) : ent (part1 A f) (row b r) n = share1 A f b r n :=
  (glued_at (m := 128) (by decide) (ffW A f) (qg (row b r)).val _ (ix2 (qs (row b r)) n) (Nat.div_add_mod _ 128).symm rfl).trans
    ((ffW_at A f _ _ n).trans (by rw [(qrow b r).1, (qrow b r).2]))

/-- An entry of the residual rows. -/
def entX (f : (cc0_scratch2 : Ref sig .tc).ty.Contents (Elt Ideal)) (R n : Fin 512) : EReal := f (ix2 R n)

/-- A quarter of the result from those of the residual and of the second sums: -/
theorem out_of (x : (cc0_scratch2 : Ref sig .tc).ty.Contents (Elt Ideal)) (f : Acc Ideal) (g : Fin 4) (r : Fin 128) (n : Fin 512)
    {off : Fin 2 → ℕ} (h0 : off 0 = 128 * g.val) (h1 : off 1 = 0) (inb) :
    (rdX (Rect.unit (s := S512x512) off S128x512.size inb) x (ix2 r n) : EReal)
      + mods A (qb g) 5 n * rdA (Rect.unit (s := S512x512) off S128x512.size inb) f (ix2 r n)
      = entX x (qR g r) n + mods A (qb g) 5 n * ent f (qR g r) n := by
  rw [rdA_at f g h0 h1, rdX_at x g h0 h1]; rfl

/-- as the kernel stores it, -/
theorem outW_at (x : (cc0_scratch2 : Ref sig .tc).ty.Contents (Elt Ideal)) (f : Acc Ideal) (g : Fin 4) (r : Fin 128) (n : Fin 512) :
    outW A x f g.val (ix3 0 r n) = entX x (qR g r) n + mods A (qb g) 5 n * ent f (qR g r) n := by
  match g with
  | 0 => rw [← out_of A x f 0 r n (off := ![0, 0]) rfl rfl inb_S512x512_S128x512_0_0]; pointwise [outW, k0_pay67, k0_pay68, gm_at, qb0]
  | 1 => rw [← out_of A x f 1 r n (off := ![128, 0]) rfl rfl inb_S512x512_S128x512_128_0]; pointwise [outW, k0_pay69, k0_pay70, gm_at, qb1]
  | 2 => rw [← out_of A x f 2 r n (off := ![256, 0]) rfl rfl inb_S512x512_S128x512_256_0]; pointwise [outW, k0_pay71, k0_pay72, gm_at, qb2]
  | 3 => rw [← out_of A x f 3 r n (off := ![384, 0]) rfl rfl inb_S512x512_S128x512_384_0]; pointwise [outW, k0_pay73, gm_at, qb3]

/-- and in the whole result. -/
theorem outY_at (x : (cc0_scratch2 : Ref sig .tc).ty.Contents (Elt Ideal)) (f : Acc Ideal) (b : Fin 2) (r : Fin 256) (n : Fin 512) :
    outY A x f (ix3 b r n) = entX x (row b r) n + mods A b 5 n * ent f (row b r) n := by
  have hg : (qg (row b r)).val = 2 * b.val + r.val / 128 := show (256 * b.val + r.val) / 128 = _ by omega
  have hs : (qs (row b r)).val = r.val % 128 := show (256 * b.val + r.val) % 128 = _ by omega
  have h := (quads_at (outW A x f) b.val (r.val / 128) (ix3 b r n) (ix3 0 (qs (row b r)) n) rfl
    (show r.val = 128 * (r.val / 128) + (qs (row b r)).val by omega) rfl)
  rw [← hg] at h
  refine (h.trans (outW_at A x f (qg (row b r)) (qs (row b r)) n)).trans ?_
  rw [qR_eq, (qrow b r).1, (qrow b r).2]

/-- The kernel's result on device `c`, entry by entry. -/
theorem conts_at (c : Dev nD) (b : Fin 2) (r : Fin 256) (n : Fin 512) :
    (conts As c).Y (ix3 b r n) = res (As c) (red0 As) b r n + mods (As c) b 5 n * ∑ d, share1 (As d) (red0 As) b r n := by
  have h1 : entX (resX (As c) (red0 As)) (row b r) n = res (As c) (red0 As) b r n := resX_at (As c) _ b r n
  have h2 : ent (red1 As) (row b r) n = ∑ d, share1 (As d) (red0 As) b r n :=
    (red1_sum As (row b r) n).trans (Finset.sum_congr (M := EReal) rfl fun d _ => part1_at (As d) _ b r n)
  have h := outY_at (As c) (resX (As c) (red0 As)) (red1 As) b r n
  rw [h1, h2] at h
  exact h

/-- The first reduction at a row of a batch. -/
theorem red0_at_row (b : Fin 2) (r : Fin 256) (n : Fin 512) : ent (red0 As) (row b r) n = ∑ d, share0 (As d) b r n :=
  (red0_sum As (row b r) n).trans (Finset.sum_congr (M := EReal) rfl fun d _ => part0_at (As d) b r n)

end Cert.KernelIdealProof
end
end
-- ==== Proof.ReferenceReads.lean ====
module
public import proofs.«01_k».proof.Proof.Mathematics
public import proofs.«01_k».proof.Proof.Gen.ReferenceIdeal.Run
@[expose] public section
noncomputable section

/-! The reference's result, entry by entry over the extended reals. -/

namespace Cert.ReferenceProof
open Cert.ReferenceIdeal Cert.ReferenceIdeal.Gen Cert.ReferenceIdeal.Value
open Idealize.ShloMosaic Idealize.ShloMosaic.TcCoe Cert.Maths

/-- The constants: 512 and the two small shifts. -/
theorem width : Ideal.ofBits .f32 0x44000000#32 = ((512 : ℝ) : EReal) := by
  norm_num [Ideal.ofBits, Ideal.ieee, Nat.shiftRight_eq_div_pow, show (BitVec.extractLsb' 31 1 1140850688#32 = 1#1) = False from by decide]
/-- The constants added to the variance are positive, -/
theorem eps_bf16 : 0 < Ideal.ofBits .bf16 0x3728#16 := by
  norm_num [Ideal.ofBits, Ideal.ieee, Nat.shiftRight_eq_div_pow, show (BitVec.extractLsb' 15 1 14120#16 = 1#1) = False from by decide]
/-- in both formats. -/
theorem eps_f32 : 0 < Ideal.ofBits .f32 0x3727C5AC#32 := by
  norm_num [Ideal.ofBits, Ideal.ieee, Nat.shiftRight_eq_div_pow, show (BitVec.extractLsb' 31 1 925353388#32 = 1#1) = False from by decide]

/-- The variance's divisor, with no degree of freedom taken away, is the width, -/
theorem width_sub : Ideal.ofBits .f32 0x44000000#32 - (FloatOps.sitofp (F := Ideal) .f32 (0#32) : EReal) = Ideal.ofBits .f32 0x44000000#32 := by
  show Ideal.ofBits .f32 0x44000000#32 - (((0#32).toInt : ℝ) : EReal) = _
  simp

/-- which is positive. -/
theorem width_pos : 0 < Ideal.ofBits .f32 0x44000000#32 := by
  rw [width]; exact_mod_cast (by norm_num : (0:ℝ) < 512)

/-- Division by a root is multiplication by the inverse root, above zero. -/
theorem div_root (a y : EReal) (hy : 0 < y) : Ideal.div a (Ideal.sqrt y) = a * Ideal.rsqrt y := by
  induction y with
  | bot => simp at hy
  | top => simp [Ideal.div]
  | coe y =>
    have hy' : (0 : ℝ) < y := by exact_mod_cast hy
    have hs : Real.sqrt y ≠ 0 := (Real.sqrt_pos.mpr hy').ne'
    rw [Ideal.sqrt_coe, Ideal.rsqrt_coe, if_neg (not_lt.mpr hy'.le), if_neg (not_lt.mpr hy'.le), if_neg hy'.ne', Ideal.div_coe hs, one_div]

/-- A square is not negative, -/
theorem sq_nonneg' (a : EReal) : 0 ≤ a * a := by
  rcases le_total 0 a with h | h
  · exact mul_nonneg h h
  · induction a with
    | bot => simp
    | top => simp
    | coe a => exact_mod_cast mul_self_nonneg a

/-- so a variance is not. -/
theorem spread_nonneg (h : Fin 512 → EReal) : 0 ≤ spread h := by
  unfold spread
  rw [width]
  have : (∑ k, (h k - avg h) * (h k - avg h)) ≥ 0 := Finset.sum_nonneg fun k _ => sq_nonneg' _
  rw [Ideal.div_coe (by norm_num)]
  exact mul_nonneg this (by exact_mod_cast (by norm_num : (0:ℝ) ≤ 1 / 512))

/-- A row normalised by a division. -/
theorem lnm_div (e : EReal) (he : 0 < e) (h g s : Fin 512 → EReal) (j : Fin 512) :
    Ideal.div (h j - avg h) (Ideal.sqrt (spread h + e)) * (1 + g j) + s j = lnm e h g s j := by
  rw [div_root _ _ (lt_of_lt_of_le he (le_add_of_nonneg_left (spread_nonneg h)))]
  rfl

/-- The sigmoid-weighted unit as a quotient. -/
theorem silu_div (h : EReal) : Ideal.div h (1 + Ideal.exp (-h)) = silu h := by
  have hp : (1 + Ideal.exp (-h)) ≠ 0 := by
    have : (0 : EReal) ≤ Ideal.exp (-h) := by
      generalize -h = x
      induction x with
      | bot => simp
      | top => simp
      | coe x => rw [Ideal.exp_coe]; exact_mod_cast (Real.exp_pos x).le
    exact (lt_of_lt_of_le (by norm_num : (0:EReal) < 1) (le_add_of_nonneg_right this)).ne'
  unfold silu
  rw [zero_sub]
  unfold Ideal.div
  rw [if_neg hp, if_neg hp, one_mul]

variable (V : Valuation τ sig (Elt Ideal))

def a0 (b : Fin 2) (r : Fin 256) (j : Fin 512) : EReal := V (Proc.devRef .tc main_arg0) (ix3 b r j)
def a1 (k : Fin 512) (c : Fin 8192) : EReal := V (Proc.devRef .tc main_arg1) (ix2 k c)
def a2 (k : Fin 512) (c : Fin 8192) : EReal := V (Proc.devRef .tc main_arg2) (ix2 k c)
def a3 (k : Fin 512) (c : Fin 8192) : EReal := V (Proc.devRef .tc main_arg3) (ix2 k c)
def a4 (k : Fin 8192) (c : Fin 512) : EReal := V (Proc.devRef .tc main_arg4) (ix2 k c)
def a7 (k : Fin 512) (c : Fin 2048) : EReal := V (Proc.devRef .tc main_arg7) (ix2 k c)
def a8 (k : Fin 2048) (c : Fin 512) : EReal := V (Proc.devRef .tc main_arg8) (ix2 k c)

/-- The six vectors that scale and shift: column `512 p + j` of the modulation. -/
def mods (b : Fin 2) (p : Fin 6) (j : Fin 512) : EReal :=
  ∑ k : Fin 128, @HMul.hMul EReal EReal EReal _ (V (Proc.devRef .tc main_arg5) (ix2 b k)) (V (Proc.devRef .tc main_arg6) (ix2 k ⟨512 * p.val + j.val, by omega⟩))

/-- The parts of the reference's modulation, -/
theorem mod_at (b : Fin 2) (p : Fin 6) (j : Fin 512) (n : ℕ) (hn : n = 512 * p.val) (h) : @Eq EReal (res_main_v0 V (ix2 b ⟨n + j.val, h⟩)) (mods V b p j) := by
  subst hn
  unfold mods
  pointwise [res_main_v0]

/-- and the first of them. -/
theorem mod_at0 (b : Fin 2) (j : Fin 512) (h) : @Eq EReal (res_main_v0 V (ix2 b ⟨j.val, h⟩)) (mods V b 0 j) := by
  refine Eq.trans ?_ (mod_at V b 0 j 0 rfl (by omega))
  exact congrArg (fun x => res_main_v0 V (ix2 b x)) (Fin.ext (Nat.zero_add _).symm)

def nrm (b : Fin 2) (r : Fin 256) : Fin 512 → EReal :=
  lnm (Ideal.ofBits .bf16 0x3728#16) (a0 V b r) (mods V b 0) (mods V b 1)

/-- The reference's normalised rows, -/
theorem norm_at (b : Fin 2) (r : Fin 256) (j : Fin 512) : @Eq EReal (res_main_v34 V (ix3 b r j)) (nrm V b r j) := by
  unfold nrm
  rw [← lnm_div _ eps_bf16, ← mod_at0 V b j (by omega), ← mod_at V b 1 j 512 rfl (by omega)]
  unfold spread avg a0
  pointwise [res_main_v34, res_main_call0_v9, res_main_call0_v6, res_main_call0_v0, width_sub, width_pos]

/-- Columns `64 h, …` of a projection. -/
def cols (W : Fin 512 → Fin 8192 → EReal) (h : Fin 128) (k : Fin 512) (d : Fin 64) : EReal := W k ⟨h.val * 64 + d.val, by omega⟩

/-- Head `h` on batch `b`. -/
def atth (b : Fin 2) (h : Fin 128) : Fin 256 → Fin 64 → EReal := att (nrm V b) (cols (a1 V) h) (cols (a2 V) h) (cols (a3 V) h)

/-- its scores, -/
theorem s_at (b : Fin 2) (h : Fin 128) (r k : Fin 256)  :
    @Eq EReal (res_main_v48 V (ix4 b h r k)) (score (proj (nrm V b r) (cols (a1 V) h)) (fun j => proj (nrm V b j) (cols (a2 V) h)) k) := by
  unfold score proj cols a1 a2
  pointwise [res_main_v48, norm_at]

/-- and their exponentials. -/
theorem p_at (b : Fin 2) (h : Fin 128) (r k : Fin 256)  :
    @Eq EReal (res_main_v53 V (ix4 b h r k)) (expo (score (proj (nrm V b r) (cols (a1 V) h)) (fun j => proj (nrm V b j) (cols (a2 V) h))) k) := by
  unfold expo
  pointwise [res_main_v53, s_at]
  refine congrArg Ideal.exp (congrArg (HSub.hSub _) ?_)
  have hr : S2x128x256x256.Reduces [3] S2x128x256 := by decide
  rw [Shape.ReducesTo.drop_eq_drop reducesTo_S2x128x256x256_S2x128x256_d3 hr]
  refine (hr.fold_filter_drop_single (α := EReal) max _ _ _).trans ?_
  refine congrArg (fun f => Finset.univ.fold max _ f) (funext fun k => Eq.trans ?_ (s_at V b h r k))
  exact congrArg (res_main_v48 V) (funext fun a => match a with | 0 => rfl | 1 => rfl | 2 => rfl | 3 => rfl)

/-- The attended rows' column `c`. -/
def attn (b : Fin 2) (r : Fin 256) (c : Fin 8192) : EReal := atth V b ⟨c.val / 64, by omega⟩ r ⟨c.val % 64, by omega⟩

/-- A row after the attention's part is added. -/
def res (b : Fin 2) (r : Fin 256) (n : Fin 512) : EReal := a0 V b r n + mods V b 2 n * ∑ c, attn V b r c * a4 V c n

/-- The values weighed by the exponentials over their sum are the attention heads. -/
theorem attn_of (b : Fin 2) (r : Fin 256) (c : Fin 8192) :
    (∑ j : Fin 256, (∑ k : Fin 512, nrm V b j k * a3 V k c) *
      Ideal.div (expo (score (proj (nrm V b r) (cols (a1 V) ⟨c.val / 64, by omega⟩)) (fun j => proj (nrm V b j) (cols (a2 V) ⟨c.val / 64, by omega⟩))) j)
        (∑ i, expo (score (proj (nrm V b r) (cols (a1 V) ⟨c.val / 64, by omega⟩)) (fun j => proj (nrm V b j) (cols (a2 V) ⟨c.val / 64, by omega⟩))) i))
      = attn V b r c := by
  unfold attn atth att head
  refine Finset.sum_congr rfl fun j _ => (mul_comm _ _).trans (congrArg _ ?_)
  unfold proj cols
  refine Finset.sum_congr rfl fun k _ => congrArg _ (congrArg (a3 V k) (Fin.ext ?_))
  show c.val = c.val / 64 * 64 + c.val % 64
  omega

/-- The reference's residual, -/
theorem x_at (b : Fin 2) (r : Fin 256) (j : Fin 512) : @Eq EReal (res_main_v67 V (ix3 b r j)) (res V b r j) := by
  unfold res
  simp only [← attn_of]
  rw [← mod_at V b 2 j 1024 rfl (by omega)]
  unfold a0 a3 a4
  pointwise [res_main_v67, p_at, norm_at]

/-- and its hidden layer. -/
theorem h_at (b : Fin 2) (r : Fin 256) (c : Fin 2048) : @Eq EReal (res_main_v90 V (ix3 b r c))
    (proj (lnm (Ideal.ofBits .f32 0x3727C5AC#32) (res V b r) (mods V b 3) (mods V b 4)) (a7 V) c) := by
  unfold proj
  simp only [← lnm_div _ eps_f32]
  have h3 : ∀ j : Fin 512, mods V b 3 j = res_main_v0 V (ix2 b ⟨1536 + j.val, by omega⟩) := fun j => (mod_at V b 3 j 1536 rfl (by omega)).symm
  have h4 : ∀ j : Fin 512, mods V b 4 j = res_main_v0 V (ix2 b ⟨2048 + j.val, by omega⟩) := fun j => (mod_at V b 4 j 2048 rfl (by omega)).symm
  simp only [h3, h4]
  unfold spread avg a7
  pointwise [res_main_v90,res_main_call1_v5, res_main_call1_v8, x_at, width_sub, width_pos]

/-- The result. -/
def result (b : Fin 2) (r : Fin 256) (n : Fin 512) : EReal :=
  res V b r n + mods V b 5 n * ∑ c, layer1 (lnm (Ideal.ofBits .f32 0x3727C5AC#32) (res V b r) (mods V b 3) (mods V b 4)) (a7 V) c * a8 V c n

/-- The array the reference leaves, -/
def out : FVec Ideal S2x256x512 .f32 :=
  addf (res_main_v67 V) (mulf (broadcastInDim S2x256x512 ![0, 1, 2] bcast_S2x1x512_S2x256x512_0_1_2 (extf .f32 (broadcastInDim S2x1x512 ![0, 2] bcast_S2x512_S2x1x512_0_2 (truncf .bf16 (extractStridedSlice S2x512 ![0, 2560] (res_main_v0 V) slices_S2x3072_S2x512_0_2560) bitsLt_bf16_f32)) bitsLt_bf16_f32)) (Host.dotGeneral (φ₂ := .bf16) dot_S2x256x2048_S2048x512_S2x256x512_2_0_01_1_n_n none (Host.divf (res_main_v90 V) (addf (broadcastInDim S2x256x2048 ![] bcast_S_S2x256x2048 (constant S_ .f32 0x3F800000#32)) (Host.exp (Host.negf (res_main_v90 V))))) (V (Proc.devRef .tc main_arg8))))

/-- entry by entry. -/
theorem out_at (b : Fin 2) (r : Fin 256) (n : Fin 512) : @Eq EReal (out V (ix3 b r n)) (result V b r n) := by
  unfold result layer1
  simp only [← silu_div]
  rw [← mod_at V b 5 n 2560 rfl (by omega)]
  unfold a8
  pointwise [out, x_at, h_at]

end Cert.ReferenceProof
end
end
-- ==== Proof.KernelIdealValue.lean ====
module
public import proofs.«01_k».proof.Proof.KernelIdealReads
public import proofs.«01_k».proof.Proof.KernelIdealRun
public import proofs.«01_k».proof.Proof.ReferenceReads
public import Idealize.ShloMosaic.Lib.Layout
@[expose] public section
noncomputable section

/-! The kernel's result on every device is the reference's. -/

namespace Cert.KernelIdealProof
open Cert.KernelIdeal Cert.KernelIdeal.Gen Cert.Fam
open Idealize.ShloMosaic Idealize.ShloMosaic.TcCoe Cert.Maths

/-- A sum over 32 blocks is the sum over the whole. -/
theorem sum_blocks (m : ℕ) (f : ℕ → EReal) : (∑ d : Fin 32, ∑ k : Fin m, f (m * d.val + k.val)) = ∑ x : Fin (32 * m), f x.val := by
  rw [← Fintype.sum_prod_type' (f := fun (d : Fin 32) (k : Fin m) => f (m * d.val + k.val))]
  exact Fintype.sum_equiv finProdFinEquiv _ (fun x => f x.val) fun p => congrArg f (Nat.add_comm _ _)

variable (As : Dev nD → Args Ideal) (V : Valuation Cert.ReferenceIdeal.τ Cert.ReferenceIdeal.sig (Elt Ideal))

/-- The devices' arguments are the blocks of the reference's. -/
structure Agrees : Prop where
  h0 : ∀ (d : Dev nD) (b : Fin 2) (r : Fin 256) (j : Fin 512), @Eq EReal (arg0 (As d) (ix3 b r j)) (ReferenceProof.a0 V b r j)
  h1 : ∀ (d : Fin 32) (k : Fin 512) (c : Fin 256), @Eq EReal (arg1 (As d) (ix2 k c)) (ReferenceProof.a1 V k ⟨256 * d.val + c.val, by omega⟩)
  h2 : ∀ (d : Fin 32) (k : Fin 512) (c : Fin 256), @Eq EReal (arg2 (As d) (ix2 k c)) (ReferenceProof.a2 V k ⟨256 * d.val + c.val, by omega⟩)
  h3 : ∀ (d : Fin 32) (k : Fin 512) (c : Fin 256), @Eq EReal (arg3 (As d) (ix2 k c)) (ReferenceProof.a3 V k ⟨256 * d.val + c.val, by omega⟩)
  h4 : ∀ (d : Fin 32) (k : Fin 256) (c : Fin 512), @Eq EReal (arg4 (As d) (ix2 k c)) (ReferenceProof.a4 V ⟨256 * d.val + k.val, by omega⟩ c)
  h5 : ∀ (d : Dev nD) (b : Fin 2) (k : Fin 128), @Eq EReal (arg5 (As d) (ix2 b k)) (V (Proc.devRef .tc Cert.ReferenceIdeal.main_arg5) (ix2 b k))
  h6 : ∀ (d : Dev nD) (k : Fin 128) (c : Fin 3072), @Eq EReal (arg6 (As d) (ix2 k c)) (V (Proc.devRef .tc Cert.ReferenceIdeal.main_arg6) (ix2 k c))
  h7 : ∀ (d : Fin 32) (k : Fin 512) (c : Fin 64), @Eq EReal (arg7 (As d) (ix2 k c)) (ReferenceProof.a7 V k ⟨64 * d.val + c.val, by omega⟩)
  h8 : ∀ (d : Fin 32) (k : Fin 64) (c : Fin 512), @Eq EReal (arg8 (As d) (ix2 k c)) (ReferenceProof.a8 V ⟨64 * d.val + k.val, by omega⟩ c)

variable {As V} (H : Agrees As V)
include H

/-- Every device's modulation is the reference's, -/
theorem mods_eq (d : Dev nD) (b : Fin 2) (p : Fin 6) : mods (As d) b p = ReferenceProof.mods V b p := by
  funext j
  unfold mods ReferenceProof.mods
  exact Finset.sum_congr rfl fun k _ => congr (congrArg HMul.hMul (H.h5 d b k)) (H.h6 d k _)

/-- so are its input -/
theorem inp_eq (d : Dev nD) (b : Fin 2) (r : Fin 256) : inp (As d) b r = ReferenceProof.a0 V b r := funext fun j => H.h0 d b r j

/-- and its normalised rows. -/
theorem nrm_eq (d : Dev nD) (b : Fin 2) (r : Fin 256) : nrm (As d) b r = ReferenceProof.nrm V b r := by
  unfold nrm ReferenceProof.nrm
  rw [inp_eq H, mods_eq H, mods_eq H]

/-- Head `l` of device `d` is head `4 d + l`. -/
theorem cols_eq {W : Fin 512 → Fin 256 → EReal} {U : Fin 512 → Fin 8192 → EReal} (d : Fin 32)
    (h : ∀ k c, W k c = U k ⟨256 * d.val + c.val, by omega⟩) (l : Fin 4) :
    cols W l = ReferenceProof.cols U ⟨4 * d.val + l.val, by omega⟩ := by
  funext k x
  refine (h k _).trans (congrArg (U k) (Fin.ext ?_))
  show 256 * d.val + (64 * l.val + x.val) = (4 * d.val + l.val) * 64 + x.val
  omega

/-- Head `l` of device `d` is the reference's head `4 d + l`. -/
theorem atth_eq (d : Fin 32) (b : Fin 2) (l : Fin 4) : atth (As d) b l = ReferenceProof.atth V b ⟨4 * d.val + l.val, by omega⟩ := by
  unfold atth ReferenceProof.atth
  rw [cols_eq H d (H.h1 d), cols_eq H d (H.h2 d), cols_eq H d (H.h3 d), funext (nrm_eq H d b)]

/-- The first reduced sums are the reference's output projection, -/
theorem red_eq (b : Fin 2) (r : Fin 256) (n : Fin 512) :
    ent (red0 As) (row b r) n = ∑ c, ReferenceProof.attn V b r c * ReferenceProof.a4 V c n := by
  rw [red0_at_row]
  let f : ℕ → EReal := fun x => if h : x < 8192 then ReferenceProof.attn V b r ⟨x, h⟩ * ReferenceProof.a4 V ⟨x, h⟩ n else 0
  refine Eq.trans (Finset.sum_congr rfl fun d _ => ?_) ((sum_blocks 256 f).trans (Finset.sum_congr rfl fun x _ => dif_pos x.isLt))
  unfold share0
  refine Finset.sum_congr rfl fun k _ => ?_
  have hd : d.val < 32 := d.isLt
  have hx : 256 * d.val + k.val < 8192 := by omega
  refine Eq.trans ?_ (dif_pos hx).symm
  refine congr (congrArg HMul.hMul ?_) (H.h4 d k n)
  rw [atth_eq H d]
  unfold ReferenceProof.attn
  have e1 : (⟨4 * d.val + k.val / 64, by omega⟩ : Fin 128) = ⟨(256 * d.val + k.val) / 64, by omega⟩ := Fin.ext (by show 4 * d.val + k.val / 64 = (256 * d.val + k.val) / 64; omega)
  have e2 : (⟨k.val % 64, by omega⟩ : Fin 64) = ⟨(256 * d.val + k.val) % 64, by omega⟩ := Fin.ext (by show k.val % 64 = (256 * d.val + k.val) % 64; omega)
  exact congr (congrArg (fun h => ReferenceProof.atth V b h r) e1) e2

/-- so the residual is the reference's. -/
theorem res_eq (d : Dev nD) (b : Fin 2) (r : Fin 256) : res (As d) (red0 As) b r = ReferenceProof.res V b r := by
  funext n
  unfold res ReferenceProof.res
  rw [inp_eq H, mods_eq H]
  exact congrArg _ (congrArg _ (red_eq H b r n))

/-- A device's share of the feed-forward part is the reference's sum over the device's part of the hidden layer. -/
theorem share1_eq (d : Fin 32) (b : Fin 2) (r : Fin 256) (n : Fin 512) :
    share1 (As d) (red0 As) b r n = ∑ c : Fin 64,
      layer1 (lnm (Ideal.ofBits .f32 0x3727C5AC#32) (ReferenceProof.res V b r) (ReferenceProof.mods V b 3) (ReferenceProof.mods V b 4)) (ReferenceProof.a7 V) ⟨64 * d.val + c.val, by omega⟩
        * ReferenceProof.a8 V ⟨64 * d.val + c.val, by omega⟩ n := by
  unfold share1
  rw [res_eq H, mods_eq H, mods_eq H]
  refine Finset.sum_congr rfl fun c _ => congr (congrArg HMul.hMul (congrArg silu ?_)) (H.h8 d c n)
  exact Finset.sum_congr rfl fun k _ => congrArg _ (H.h7 d k c)

/-- Every entry of a device's result is the reference's. -/
theorem conts_eq_at (c : Dev nD) (b : Fin 2) (r : Fin 256) (n : Fin 512) : @Eq EReal ((conts As c).Y (ix3 b r n)) (ReferenceProof.out V (ix3 b r n)) := by
  refine (conts_at As c _ _ _).trans (Eq.trans ?_ (ReferenceProof.out_at V _ _ _).symm)
  unfold ReferenceProof.result
  rw [res_eq H, mods_eq H]
  refine congrArg _ (congrArg _ ?_)
  let f : ℕ → EReal := fun x => if h : x < 2048 then layer1 (lnm (Ideal.ofBits .f32 0x3727C5AC#32) (ReferenceProof.res V b r) (ReferenceProof.mods V b 3) (ReferenceProof.mods V b 4)) (ReferenceProof.a7 V) ⟨x, h⟩ * ReferenceProof.a8 V ⟨x, h⟩ n else 0
  refine Eq.trans (Finset.sum_congr rfl fun d _ => (share1_eq H d b r n).trans ?_) ((sum_blocks 64 f).trans (Finset.sum_congr rfl fun x _ => dif_pos x.isLt))
  refine Finset.sum_congr rfl fun k _ => ?_
  have hd : d.val < 32 := d.isLt
  have hx : 64 * d.val + k.val < 2048 := by omega
  have hf : f (64 * d.val + k.val) = _ := dif_pos hx
  exact hf.symm

/-- Every device's result is the reference's array. -/
theorem conts_eq (c : Dev nD) : @Eq (S2x256x512.Idx → EReal) (conts As c).Y (ReferenceProof.out V) := by
  funext i
  have hi : i = ix3 (n0 := 2) (n1 := 256) (n2 := 512) (i 0) (i 1) (i 2) := eq_ix3 i
  rw [hi]
  exact conts_eq_at H c _ _ _

omit H

/-! ## The arguments of the launch -/

/-- An entry of a device's block of columns, or of rows. -/
theorem at_cols {p q n : ℕ} (v : Shape.Idx ⟨2, ![p, n]⟩ → EReal) (d : Fin 32) (h : Layout.Tiles ⟨2, ![p, q]⟩ ⟨2, ![p, n]⟩ 1 32) (k : Fin p) (c : Fin q)
    (hc : q * d.val + c.val < n) : Layout.block ⟨2, ![p, q]⟩ ⟨2, ![p, n]⟩ 1 32 d v h (ix2 k c) = v (ix2 k ⟨q * d.val + c.val, hc⟩) := by
  refine congrArg v (funext fun a => ?_)
  match a with
  | 0 => rfl
  | 1 => exact Fin.ext (show d.val * q + c.val = q * d.val + c.val by rw [Nat.mul_comm])

/-- An entry of a device's block of rows. -/
theorem at_rows {p q n : ℕ} (v : Shape.Idx ⟨2, ![n, q]⟩ → EReal) (d : Fin 32) (h : Layout.Tiles ⟨2, ![p, q]⟩ ⟨2, ![n, q]⟩ 0 32) (k : Fin p) (c : Fin q)
    (hk : p * d.val + k.val < n) : Layout.block ⟨2, ![p, q]⟩ ⟨2, ![n, q]⟩ 0 32 d v h (ix2 k c) = v (ix2 ⟨p * d.val + k.val, hk⟩ c) := by
  refine congrArg v (funext fun a => ?_)
  match a with
  | 0 => exact Fin.ext (show d.val * p + k.val = p * d.val + k.val by rw [Nat.mul_comm])
  | 1 => rfl

/-- The window of argument 0 is the whole of it. -/
theorem whole0 (g : (main_arg0 : Ref sig .tc).ty.Contents (Elt Ideal)) : (win0_0.blk (0 : Fin 1)).view.read (Elt Ideal) g = g := by
  funext x
  refine (View.read_apply _ _).trans ((_root_.cast_eq _ _).trans (congrArg g (funext fun a => ?_)))
  match a with
  | 0 => exact Fin.ext (show 0 + 1 * (x 0).val = (x 0).val by omega)
  | 1 => exact Fin.ext (show 0 + 1 * (x 1).val = (x 1).val by omega)
  | 2 => exact Fin.ext (show 0 + 1 * (x 2).val = (x 2).val by omega)
/-- The window of argument 1 is the whole of it. -/
theorem whole1 (g : (main_arg1 : Ref sig .tc).ty.Contents (Elt Ideal)) : (win0_1.blk (0 : Fin 1)).view.read (Elt Ideal) g = g := by
  funext x
  refine (View.read_apply _ _).trans ((_root_.cast_eq _ _).trans (congrArg g (funext fun a => ?_)))
  match a with
  | 0 => exact Fin.ext (show 0 + 1 * (x 0).val = (x 0).val by omega)
  | 1 => exact Fin.ext (show 0 + 1 * (x 1).val = (x 1).val by omega)
/-- The window of argument 2 is the whole of it. -/
theorem whole2 (g : (main_arg2 : Ref sig .tc).ty.Contents (Elt Ideal)) : (win0_2.blk (0 : Fin 1)).view.read (Elt Ideal) g = g := by
  funext x
  refine (View.read_apply _ _).trans ((_root_.cast_eq _ _).trans (congrArg g (funext fun a => ?_)))
  match a with
  | 0 => exact Fin.ext (show 0 + 1 * (x 0).val = (x 0).val by omega)
  | 1 => exact Fin.ext (show 0 + 1 * (x 1).val = (x 1).val by omega)
/-- The window of argument 3 is the whole of it. -/
theorem whole3 (g : (main_arg3 : Ref sig .tc).ty.Contents (Elt Ideal)) : (win0_3.blk (0 : Fin 1)).view.read (Elt Ideal) g = g := by
  funext x
  refine (View.read_apply _ _).trans ((_root_.cast_eq _ _).trans (congrArg g (funext fun a => ?_)))
  match a with
  | 0 => exact Fin.ext (show 0 + 1 * (x 0).val = (x 0).val by omega)
  | 1 => exact Fin.ext (show 0 + 1 * (x 1).val = (x 1).val by omega)
/-- The window of argument 4 is the whole of it. -/
theorem whole4 (g : (main_arg4 : Ref sig .tc).ty.Contents (Elt Ideal)) : (win0_4.blk (0 : Fin 1)).view.read (Elt Ideal) g = g := by
  funext x
  refine (View.read_apply _ _).trans ((_root_.cast_eq _ _).trans (congrArg g (funext fun a => ?_)))
  match a with
  | 0 => exact Fin.ext (show 0 + 1 * (x 0).val = (x 0).val by omega)
  | 1 => exact Fin.ext (show 0 + 1 * (x 1).val = (x 1).val by omega)
/-- The window of argument 5 is the whole of it. -/
theorem whole5 (g : (main_arg5 : Ref sig .tc).ty.Contents (Elt Ideal)) : (win0_5.blk (0 : Fin 1)).view.read (Elt Ideal) g = g := by
  funext x
  refine (View.read_apply _ _).trans ((_root_.cast_eq _ _).trans (congrArg g (funext fun a => ?_)))
  match a with
  | 0 => exact Fin.ext (show 0 + 1 * (x 0).val = (x 0).val by omega)
  | 1 => exact Fin.ext (show 0 + 1 * (x 1).val = (x 1).val by omega)
/-- The window of argument 6 is the whole of it. -/
theorem whole6 (g : (main_arg6 : Ref sig .tc).ty.Contents (Elt Ideal)) : (win0_6.blk (0 : Fin 1)).view.read (Elt Ideal) g = g := by
  funext x
  refine (View.read_apply _ _).trans ((_root_.cast_eq _ _).trans (congrArg g (funext fun a => ?_)))
  match a with
  | 0 => exact Fin.ext (show 0 + 1 * (x 0).val = (x 0).val by omega)
  | 1 => exact Fin.ext (show 0 + 1 * (x 1).val = (x 1).val by omega)
/-- The window of argument 7 is the whole of it. -/
theorem whole7 (g : (main_arg7 : Ref sig .tc).ty.Contents (Elt Ideal)) : (win0_7.blk (0 : Fin 1)).view.read (Elt Ideal) g = g := by
  funext x
  refine (View.read_apply _ _).trans ((_root_.cast_eq _ _).trans (congrArg g (funext fun a => ?_)))
  match a with
  | 0 => exact Fin.ext (show 0 + 1 * (x 0).val = (x 0).val by omega)
  | 1 => exact Fin.ext (show 0 + 1 * (x 1).val = (x 1).val by omega)
/-- The window of argument 8 is the whole of it. -/
theorem whole8 (g : (main_arg8 : Ref sig .tc).ty.Contents (Elt Ideal)) : (win0_8.blk (0 : Fin 1)).view.read (Elt Ideal) g = g := by
  funext x
  refine (View.read_apply _ _).trans ((_root_.cast_eq _ _).trans (congrArg g (funext fun a => ?_)))
  match a with
  | 0 => exact Fin.ext (show 0 + 1 * (x 0).val = (x 0).val by omega)
  | 1 => exact Fin.ext (show 0 + 1 * (x 1).val = (x 1).val by omega)
/-- The window of the result is the whole of it. -/
theorem whole9 (g : (main_v1 : Ref sig .tc).ty.Contents (Elt Ideal)) : (win0_9.blk (0 : Fin 1)).view.read (Elt Ideal) g = g := by
  funext x
  refine (View.read_apply _ _).trans ((_root_.cast_eq _ _).trans (congrArg g (funext fun a => ?_)))
  match a with
  | 0 => exact Fin.ext (show 0 + 1 * (x 0).val = (x 0).val by omega)
  | 1 => exact Fin.ext (show 0 + 1 * (x 1).val = (x 1).val by omega)
  | 2 => exact Fin.ext (show 0 + 1 * (x 2).val = (x 2).val by omega)

/-- The launch gives every device its blocks. -/
theorem agrees (m : (l : Loc nD τ sig) → Buf (Elt Ideal) l)
    (m' : (l : Loc Cert.ReferenceIdeal.nD Cert.ReferenceIdeal.τ Cert.ReferenceIdeal.sig) → Buf (Elt Ideal) l)
    (h : ∀ c : Dev nD,
      m ((c : Thread nD τ).loc main_arg0) = m' (((0 : Dev Cert.ReferenceIdeal.nD).tc : Thread Cert.ReferenceIdeal.nD Cert.ReferenceIdeal.τ).loc Cert.ReferenceIdeal.main_arg0)
      ∧ m ((c : Thread nD τ).loc main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c : Thread nD τ).loc main_arg2) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg2))
      ∧ m ((c : Thread nD τ).loc main_arg3) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg3))
      ∧ m ((c : Thread nD τ).loc main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))
      ∧ m ((c : Thread nD τ).loc main_arg5) = m' (((0 : Dev Cert.ReferenceIdeal.nD).tc : Thread Cert.ReferenceIdeal.nD Cert.ReferenceIdeal.τ).loc Cert.ReferenceIdeal.main_arg5)
      ∧ m ((c : Thread nD τ).loc main_arg6) = m' (((0 : Dev Cert.ReferenceIdeal.nD).tc : Thread Cert.ReferenceIdeal.nD Cert.ReferenceIdeal.τ).loc Cert.ReferenceIdeal.main_arg6)
      ∧ m ((c : Thread nD τ).loc main_arg7) = Layout.block ⟨2, ![512, 64]⟩ ⟨2, ![512, 2048]⟩ 1 32 c (m' (((0 : Dev Cert.ReferenceIdeal.nD).tc : Thread Cert.ReferenceIdeal.nD Cert.ReferenceIdeal.τ).loc Cert.ReferenceIdeal.main_arg7))
      ∧ m ((c : Thread nD τ).loc main_arg8) = Layout.block ⟨2, ![64, 512]⟩ ⟨2, ![2048, 512]⟩ 0 32 c (m' (((0 : Dev Cert.ReferenceIdeal.nD).tc : Thread Cert.ReferenceIdeal.nD Cert.ReferenceIdeal.τ).loc Cert.ReferenceIdeal.main_arg8))) :
    Agrees (argsOf m) (StableHlo.launchContents m' 0) where
  h0 d b r j := congrFun ((whole0 _).trans (h d).1) (ix3 b r j)
  h1 d k c := (congrFun ((whole1 _).trans (h d).2.1) (ix2 k c)).trans (at_cols _ d _ k c _)
  h2 d k c := (congrFun ((whole2 _).trans (h d).2.2.1) (ix2 k c)).trans (at_cols _ d _ k c _)
  h3 d k c := (congrFun ((whole3 _).trans (h d).2.2.2.1) (ix2 k c)).trans (at_cols _ d _ k c _)
  h4 d k c := (congrFun ((whole4 _).trans (h d).2.2.2.2.1) (ix2 k c)).trans (at_rows _ d _ k c _)
  h5 d b k := congrFun ((whole5 _).trans (h d).2.2.2.2.2.1) (ix2 b k)
  h6 d k c := congrFun ((whole6 _).trans (h d).2.2.2.2.2.2.1) (ix2 k c)
  h7 d k c := (congrFun ((whole7 _).trans (h d).2.2.2.2.2.2.2.1) (ix2 k c)).trans (at_cols _ d _ k c _)
  h8 d k c := (congrFun ((whole8 _).trans (h d).2.2.2.2.2.2.2.2) (ix2 k c)).trans (at_rows _ d _ k c _)

end Cert.KernelIdealProof
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import proofs.«01_k».proof.Proof.KernelIdealAll
public import proofs.«01_k».proof.Proof.KernelIdealValue
public import Idealize.ShloMosaic.Lib.Quiescent
public import Idealize.ShloMosaic.Init

@[expose] public section

noncomputable section

namespace Cert.Proof

open Idealize.ShloMosaic Idealize.SL.Sem Cert.Kernel

/-- The kernel and its idealization are one program: nothing was rewritten. Their bodies agree, -/
theorem body_eq : Cert.Kernel.cc0_body (F := Bits) = Cert.KernelIdeal.cc0_body (F := Bits) := rfl

/-- so do the tables of the bodies, -/
theorem defs₀_eq : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig)) (funext fun l => funext fun a => ?_)
  match l, a with
  | 0, (t, s) => rfl
  | ⟨_ + 1, h⟩, _ => exact absurd h (Nat.not_lt.2 (Nat.le_add_left _ _))

/-- and the tables of the whole programs. -/
theorem defs_eq : Cert.Kernel.defs (F := Bits) = Cert.KernelIdeal.defs (F := Bits) :=
  congrArg (Pipeline.defs (Cert.KernelIdeal.pcfgs (F := Bits))) defs₀_eq

/-- The kernel ends with its arguments unchanged and every counter at zero, -/
theorem frame_k : Cert.quiescent_Kernel := fun m ρ _ => by
  have h := Cert.KernelIdealProof.run_all (F := Bits) m ρ
  rw [← defs_eq] at h
  exact (θ_run Cert.Kernel.defs _ _).mono (fun _ h => ⟨fun c => (h.1 c).2, h.2⟩) h

/-- so does its idealization, -/
theorem frame_i : Cert.quiescent_KernelIdeal := fun m ρ _ =>
  (θ_run Cert.KernelIdeal.defs _ _).mono (fun _ h => ⟨fun c => (h.1 c).2, h.2⟩) (Cert.KernelIdealProof.run_all (F := Ideal) m ρ)

/-- and the reference. -/
theorem frame_r : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals every device's result is the reference's array. -/
theorem value : Cert.algebraic_KernelIdeal_ReferenceIdeal := fun m g m' g' _ h =>
  ⟨Cert.ReferenceProof.out (StableHlo.launchContents m' 0),
    (θ_run Cert.KernelIdeal.defs _ _).mono
      (fun _ hr c => ⟨(Cert.KernelIdealProof.whole9 _).symm.trans ((hr.1 c).1.trans
        (Cert.KernelIdealProof.conts_eq (Cert.KernelIdealProof.agrees m m' h) c)), (hr.1 c).2⟩)
      (Cert.KernelIdealProof.run_all (F := Ideal) m g),
    (θ_run Cert.ReferenceIdeal.defs _ _).mono (fun _ hr => hr 0) (Cert.ReferenceIdeal.Value.run (F := Ideal) m' g')⟩

/-- All of it. -/
theorem claim : Cert.Claim := ⟨Cert.Kernel.Gen.facts, Cert.KernelIdeal.Gen.facts, Cert.ReferenceIdeal.Gen.facts, frame_k, frame_i, frame_r, trivial, value⟩

end Cert.Proof

end
